-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fox_args_finite [hPre_fox_args_finite : Cert.Pre_fox_args_finite.Facts] (m : (ℓ : Loc Cert.KernelIdeal.nD Cert.KernelIdeal.τ Cert.KernelIdeal.sig) → Buf (Elt Ideal) ℓ) : Prop :=
  ∀ c : Dev Cert.KernelIdeal.nD,
    (Cert.Pre_fox_args_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fox_args_finite [hPre_fox_args_finite : Cert.Pre_fox_args_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fox_args_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_prompt_args_finite [hPre_prompt_args_finite : Cert.Pre_prompt_args_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_prompt_args_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_prompt_args_finite [hPre_prompt_args_finite : Cert.Pre_prompt_args_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_prompt_args_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_sample_args_finite [hPre_sample_args_finite : Cert.Pre_sample_args_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_sample_args_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_sample_args_finite [hPre_sample_args_finite : Cert.Pre_sample_args_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_sample_args_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_experts_in_range : Cert.Pre_experts_in_range.Facts] (m : (ℓ : Loc Cert.Kernel5.nD Cert.Kernel5.τ Cert.Kernel5.sig) → Buf (Elt Bits) ℓ) : Prop :=
  ∀ c : Dev Cert.Kernel5.nD,
    (Cert.Pre_experts_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))) = (fun _ => 1#1)

def Pre_Kernel5Ideal [hPre_experts_in_range : Cert.Pre_experts_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal [hPre_experts_in_range : Cert.Pre_experts_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_logf_below_inf [hPre_logf_below_inf : Cert.Pre_logf_below_inf.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_logf_below_inf.fn (F := Ideal) (m ((c.tc : Thread Cert.Kernel6Ideal.nD Cert.Kernel6Ideal.τ).loc Cert.Kernel6Ideal.main_arg0))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_logf_below_inf [hPre_logf_below_inf : Cert.Pre_logf_below_inf.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_logf_below_inf.fn (F := Ideal) (m ((c.tc : Thread Cert.Reference6Ideal.nD Cert.Reference6Ideal.τ).loc Cert.Reference6Ideal.main_arg0))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_sample_logf_below_inf [hPre_sample_logf_below_inf : Cert.Pre_sample_logf_below_inf.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_sample_logf_below_inf.fn (F := Ideal) (m ((c.tc : Thread Cert.Kernel9Ideal.nD Cert.Kernel9Ideal.τ).loc Cert.Kernel9Ideal.main_arg0))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_sample_logf_below_inf [hPre_sample_logf_below_inf : Cert.Pre_sample_logf_below_inf.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_sample_logf_below_inf.fn (F := Ideal) (m ((c.tc : Thread Cert.Reference9Ideal.nD Cert.Reference9Ideal.τ).loc Cert.Reference9Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fox_args_finite [hKernelIdeal : Cert.KernelIdeal.Facts] [hPre_fox_args_finite : Cert.Pre_fox_args_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fox_args_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fox_args_finite [hReferenceIdeal : Cert.ReferenceIdeal.Facts] [hPre_fox_args_finite : Cert.Pre_fox_args_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fox_args_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_prompt_args_finite [hKernel2Ideal : Cert.Kernel2Ideal.Facts] [hPre_prompt_args_finite : Cert.Pre_prompt_args_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_prompt_args_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_prompt_args_finite [hReference2Ideal : Cert.Reference2Ideal.Facts] [hPre_prompt_args_finite : Cert.Pre_prompt_args_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_prompt_args_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_sample_args_finite [hKernel3Ideal : Cert.Kernel3Ideal.Facts] [hPre_sample_args_finite : Cert.Pre_sample_args_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_sample_args_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_sample_args_finite [hReference3Ideal : Cert.Reference3Ideal.Facts] [hPre_sample_args_finite : Cert.Pre_sample_args_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_sample_args_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] [hPre_experts_in_range : Cert.Pre_experts_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] [hPre_experts_in_range : Cert.Pre_experts_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] [hPre_experts_in_range : Cert.Pre_experts_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Kernel6Ideal_pre_logf_below_inf [hKernel6Ideal : Cert.Kernel6Ideal.Facts] [hPre_logf_below_inf : Cert.Pre_logf_below_inf.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_logf_below_inf m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Reference6Ideal_pre_logf_below_inf [hReference6Ideal : Cert.Reference6Ideal.Facts] [hPre_logf_below_inf : Cert.Pre_logf_below_inf.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_logf_below_inf m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Kernel9Ideal_pre_sample_logf_below_inf [hKernel9Ideal : Cert.Kernel9Ideal.Facts] [hPre_sample_logf_below_inf : Cert.Pre_sample_logf_below_inf.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_sample_logf_below_inf m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Reference9Ideal_pre_sample_logf_below_inf [hReference9Ideal : Cert.Reference9Ideal.Facts] [hPre_sample_logf_below_inf : Cert.Pre_sample_logf_below_inf.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_sample_logf_below_inf m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def preserves_Kernel_KernelIdeal : Prop :=
  True

def algebraic_KernelIdeal_ReferenceIdeal_pre_fox_args_finite [hKernelIdeal : Cert.KernelIdeal.Facts] [hReferenceIdeal : Cert.ReferenceIdeal.Facts] [hPre_fox_args_finite : Cert.Pre_fox_args_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fox_args_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_prompt_args_finite [hKernel2Ideal : Cert.Kernel2Ideal.Facts] [hReference2Ideal : Cert.Reference2Ideal.Facts] [hPre_prompt_args_finite : Cert.Pre_prompt_args_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_prompt_args_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v49_0)) (v1 : (c : Dev Cert.Kernel2Ideal.nD) → Buf (Elt Ideal) ((c.tc : Thread Cert.Kernel2Ideal.nD Cert.Kernel2Ideal.τ).loc Cert.Kernel2Ideal.main_v49_1)) (v2 : (c : Dev Cert.Kernel2Ideal.nD) → Buf (Elt Ideal) ((c.tc : Thread Cert.Kernel2Ideal.nD Cert.Kernel2Ideal.τ).loc Cert.Kernel2Ideal.main_v49_2)) (v3 : (c : Dev Cert.Kernel2Ideal.nD) → Buf (Elt Ideal) ((c.tc : Thread Cert.Kernel2Ideal.nD Cert.Kernel2Ideal.τ).loc Cert.Kernel2Ideal.main_v49_3)) (v4 : (c : Dev Cert.Kernel2Ideal.nD) → Buf (Elt Ideal) ((c.tc : Thread Cert.Kernel2Ideal.nD Cert.Kernel2Ideal.τ).loc Cert.Kernel2Ideal.main_v49_4)) (v5 : (c : Dev Cert.Kernel2Ideal.nD) → Buf (Elt Ideal) ((c.tc : Thread Cert.Kernel2Ideal.nD Cert.Kernel2Ideal.τ).loc Cert.Kernel2Ideal.main_v49_5)) (v6 : (c : Dev Cert.Kernel2Ideal.nD) → Buf (Elt Ideal) ((c.tc : Thread Cert.Kernel2Ideal.nD Cert.Kernel2Ideal.τ).loc Cert.Kernel2Ideal.main_v49_6)) (v7 : (c : Dev Cert.Kernel2Ideal.nD) → Buf (Elt Ideal) ((c.tc : Thread Cert.Kernel2Ideal.nD Cert.Kernel2Ideal.τ).loc Cert.Kernel2Ideal.main_v49_7)) (v8 : (c : Dev Cert.Kernel2Ideal.nD) → Buf (Elt Ideal) ((c.tc : Thread Cert.Kernel2Ideal.nD Cert.Kernel2Ideal.τ).loc Cert.Kernel2Ideal.main_v49_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v49_0) = v0 c
          ∧ r.2.mem ((c.tc : Thread Cert.Kernel2Ideal.nD Cert.Kernel2Ideal.τ).loc Cert.Kernel2Ideal.main_v49_1) = v1 c
          ∧ r.2.mem ((c.tc : Thread Cert.Kernel2Ideal.nD Cert.Kernel2Ideal.τ).loc Cert.Kernel2Ideal.main_v49_2) = v2 c
          ∧ r.2.mem ((c.tc : Thread Cert.Kernel2Ideal.nD Cert.Kernel2Ideal.τ).loc Cert.Kernel2Ideal.main_v49_3) = v3 c
          ∧ r.2.mem ((c.tc : Thread Cert.Kernel2Ideal.nD Cert.Kernel2Ideal.τ).loc Cert.Kernel2Ideal.main_v49_4) = v4 c
          ∧ r.2.mem ((c.tc : Thread Cert.Kernel2Ideal.nD Cert.Kernel2Ideal.τ).loc Cert.Kernel2Ideal.main_v49_5) = v5 c
          ∧ r.2.mem ((c.tc : Thread Cert.Kernel2Ideal.nD Cert.Kernel2Ideal.τ).loc Cert.Kernel2Ideal.main_v49_6) = v6 c
          ∧ r.2.mem ((c.tc : Thread Cert.Kernel2Ideal.nD Cert.Kernel2Ideal.τ).loc Cert.Kernel2Ideal.main_v49_7) = v7 c
          ∧ r.2.mem ((c.tc : Thread Cert.Kernel2Ideal.nD Cert.Kernel2Ideal.τ).loc Cert.Kernel2Ideal.main_v49_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_v95) = v1 c
          ∧ r.2.mem ((c.tc : Thread Cert.Reference2Ideal.nD Cert.Reference2Ideal.τ).loc Cert.Reference2Ideal.main_v96) = v2 c
          ∧ r.2.mem ((c.tc : Thread Cert.Reference2Ideal.nD Cert.Reference2Ideal.τ).loc Cert.Reference2Ideal.main_v97) = v3 c
          ∧ r.2.mem ((c.tc : Thread Cert.Reference2Ideal.nD Cert.Reference2Ideal.τ).loc Cert.Reference2Ideal.main_v101) = v4 c
          ∧ r.2.mem ((c.tc : Thread Cert.Reference2Ideal.nD Cert.Reference2Ideal.τ).loc Cert.Reference2Ideal.main_v102) = v5 c
          ∧ r.2.mem ((c.tc : Thread Cert.Reference2Ideal.nD Cert.Reference2Ideal.τ).loc Cert.Reference2Ideal.main_v103) = v6 c
          ∧ r.2.mem ((c.tc : Thread Cert.Reference2Ideal.nD Cert.Reference2Ideal.τ).loc Cert.Reference2Ideal.main_v110) = v7 c
          ∧ r.2.mem ((c.tc : Thread Cert.Reference2Ideal.nD Cert.Reference2Ideal.τ).loc Cert.Reference2Ideal.main_v117) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_sample_args_finite [hKernel3Ideal : Cert.Kernel3Ideal.Facts] [hReference3Ideal : Cert.Reference3Ideal.Facts] [hPre_sample_args_finite : Cert.Pre_sample_args_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_sample_args_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v49_0)) (v1 : (c : Dev Cert.Kernel3Ideal.nD) → Buf (Elt Ideal) ((c.tc : Thread Cert.Kernel3Ideal.nD Cert.Kernel3Ideal.τ).loc Cert.Kernel3Ideal.main_v49_1)) (v2 : (c : Dev Cert.Kernel3Ideal.nD) → Buf (Elt Ideal) ((c.tc : Thread Cert.Kernel3Ideal.nD Cert.Kernel3Ideal.τ).loc Cert.Kernel3Ideal.main_v49_2)) (v3 : (c : Dev Cert.Kernel3Ideal.nD) → Buf (Elt Ideal) ((c.tc : Thread Cert.Kernel3Ideal.nD Cert.Kernel3Ideal.τ).loc Cert.Kernel3Ideal.main_v49_3)) (v4 : (c : Dev Cert.Kernel3Ideal.nD) → Buf (Elt Ideal) ((c.tc : Thread Cert.Kernel3Ideal.nD Cert.Kernel3Ideal.τ).loc Cert.Kernel3Ideal.main_v49_4)) (v5 : (c : Dev Cert.Kernel3Ideal.nD) → Buf (Elt Ideal) ((c.tc : Thread Cert.Kernel3Ideal.nD Cert.Kernel3Ideal.τ).loc Cert.Kernel3Ideal.main_v49_5)) (v6 : (c : Dev Cert.Kernel3Ideal.nD) → Buf (Elt Ideal) ((c.tc : Thread Cert.Kernel3Ideal.nD Cert.Kernel3Ideal.τ).loc Cert.Kernel3Ideal.main_v49_6)) (v7 : (c : Dev Cert.Kernel3Ideal.nD) → Buf (Elt Ideal) ((c.tc : Thread Cert.Kernel3Ideal.nD Cert.Kernel3Ideal.τ).loc Cert.Kernel3Ideal.main_v49_7)) (v8 : (c : Dev Cert.Kernel3Ideal.nD) → Buf (Elt Ideal) ((c.tc : Thread Cert.Kernel3Ideal.nD Cert.Kernel3Ideal.τ).loc Cert.Kernel3Ideal.main_v49_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v49_0) = v0 c
          ∧ r.2.mem ((c.tc : Thread Cert.Kernel3Ideal.nD Cert.Kernel3Ideal.τ).loc Cert.Kernel3Ideal.main_v49_1) = v1 c
          ∧ r.2.mem ((c.tc : Thread Cert.Kernel3Ideal.nD Cert.Kernel3Ideal.τ).loc Cert.Kernel3Ideal.main_v49_2) = v2 c
          ∧ r.2.mem ((c.tc : Thread Cert.Kernel3Ideal.nD Cert.Kernel3Ideal.τ).loc Cert.Kernel3Ideal.main_v49_3) = v3 c
          ∧ r.2.mem ((c.tc : Thread Cert.Kernel3Ideal.nD Cert.Kernel3Ideal.τ).loc Cert.Kernel3Ideal.main_v49_4) = v4 c
          ∧ r.2.mem ((c.tc : Thread Cert.Kernel3Ideal.nD Cert.Kernel3Ideal.τ).loc Cert.Kernel3Ideal.main_v49_5) = v5 c
          ∧ r.2.mem ((c.tc : Thread Cert.Kernel3Ideal.nD Cert.Kernel3Ideal.τ).loc Cert.Kernel3Ideal.main_v49_6) = v6 c
          ∧ r.2.mem ((c.tc : Thread Cert.Kernel3Ideal.nD Cert.Kernel3Ideal.τ).loc Cert.Kernel3Ideal.main_v49_7) = v7 c
          ∧ r.2.mem ((c.tc : Thread Cert.Kernel3Ideal.nD Cert.Kernel3Ideal.τ).loc Cert.Kernel3Ideal.main_v49_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v94) = v0 c
          ∧ r.2.mem ((c.tc : Thread Cert.Reference3Ideal.nD Cert.Reference3Ideal.τ).loc Cert.Reference3Ideal.main_v95) = v1 c
          ∧ r.2.mem ((c.tc : Thread Cert.Reference3Ideal.nD Cert.Reference3Ideal.τ).loc Cert.Reference3Ideal.main_v96) = v2 c
          ∧ r.2.mem ((c.tc : Thread Cert.Reference3Ideal.nD Cert.Reference3Ideal.τ).loc Cert.Reference3Ideal.main_v97) = v3 c
          ∧ r.2.mem ((c.tc : Thread Cert.Reference3Ideal.nD Cert.Reference3Ideal.τ).loc Cert.Reference3Ideal.main_v101) = v4 c
          ∧ r.2.mem ((c.tc : Thread Cert.Reference3Ideal.nD Cert.Reference3Ideal.τ).loc Cert.Reference3Ideal.main_v102) = v5 c
          ∧ r.2.mem ((c.tc : Thread Cert.Reference3Ideal.nD Cert.Reference3Ideal.τ).loc Cert.Reference3Ideal.main_v103) = v6 c
          ∧ r.2.mem ((c.tc : Thread Cert.Reference3Ideal.nD Cert.Reference3Ideal.τ).loc Cert.Reference3Ideal.main_v110) = v7 c
          ∧ r.2.mem ((c.tc : Thread Cert.Reference3Ideal.nD Cert.Reference3Ideal.τ).loc Cert.Reference3Ideal.main_v117) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] [hPre_experts_in_range : Cert.Pre_experts_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_logf_below_inf [hKernel6Ideal : Cert.Kernel6Ideal.Facts] [hReference6Ideal : Cert.Reference6Ideal.Facts] [hPre_logf_below_inf : Cert.Pre_logf_below_inf.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_logf_below_inf m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v3) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)) (v2 : (c : Dev Cert.Kernel8Ideal.nD) → Buf (Elt Ideal) ((c.tc : Thread Cert.Kernel8Ideal.nD Cert.Kernel8Ideal.τ).loc Cert.Kernel8Ideal.main_v14_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_v14_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v33) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  True

def algebraic_Kernel9Ideal_Reference9Ideal_pre_sample_logf_below_inf [hKernel9Ideal : Cert.Kernel9Ideal.Facts] [hReference9Ideal : Cert.Reference9Ideal.Facts] [hPre_sample_logf_below_inf : Cert.Pre_sample_logf_below_inf.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_sample_logf_below_inf m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_fox_args_finite : Cert.Pre_fox_args_finite.Facts) (hPre_prompt_args_finite : Cert.Pre_prompt_args_finite.Facts) (hPre_sample_args_finite : Cert.Pre_sample_args_finite.Facts) (hPre_experts_in_range : Cert.Pre_experts_in_range.Facts) (hPre_logf_below_inf : Cert.Pre_logf_below_inf.Facts) (hPre_sample_logf_below_inf : Cert.Pre_sample_logf_below_inf.Facts),
    quiescent_Kernel (hKernel := hKernel)
    ∧ quiescent_KernelIdeal (hKernelIdeal := hKernelIdeal)
    ∧ quiescent_KernelIdeal_pre_fox_args_finite (hKernelIdeal := hKernelIdeal) (hPre_fox_args_finite := hPre_fox_args_finite)
    ∧ quiescent_ReferenceIdeal (hReferenceIdeal := hReferenceIdeal)
    ∧ quiescent_ReferenceIdeal_pre_fox_args_finite (hReferenceIdeal := hReferenceIdeal) (hPre_fox_args_finite := hPre_fox_args_finite)
    ∧ quiescent_Kernel2 (hKernel2 := hKernel2)
    ∧ quiescent_Kernel2Ideal (hKernel2Ideal := hKernel2Ideal)
    ∧ quiescent_Kernel2Ideal_pre_prompt_args_finite (hKernel2Ideal := hKernel2Ideal) (hPre_prompt_args_finite := hPre_prompt_args_finite)
    ∧ quiescent_Reference2Ideal (hReference2Ideal := hReference2Ideal)
    ∧ quiescent_Reference2Ideal_pre_prompt_args_finite (hReference2Ideal := hReference2Ideal) (hPre_prompt_args_finite := hPre_prompt_args_finite)
    ∧ quiescent_Kernel3 (hKernel3 := hKernel3)
    ∧ quiescent_Kernel3Ideal (hKernel3Ideal := hKernel3Ideal)
    ∧ quiescent_Kernel3Ideal_pre_sample_args_finite (hKernel3Ideal := hKernel3Ideal) (hPre_sample_args_finite := hPre_sample_args_finite)
    ∧ quiescent_Reference3Ideal (hReference3Ideal := hReference3Ideal)
    ∧ quiescent_Reference3Ideal_pre_sample_args_finite (hReference3Ideal := hReference3Ideal) (hPre_sample_args_finite := hPre_sample_args_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_experts_in_range := hPre_experts_in_range)
    ∧ quiescent_Kernel5Ideal (hKernel5Ideal := hKernel5Ideal) (hPre_experts_in_range := hPre_experts_in_range)
    ∧ quiescent_Reference5Ideal (hReference5Ideal := hReference5Ideal) (hPre_experts_in_range := hPre_experts_in_range)
    ∧ quiescent_Kernel6 (hKernel6 := hKernel6)
    ∧ quiescent_Kernel6Ideal (hKernel6Ideal := hKernel6Ideal)
    ∧ quiescent_Kernel6Ideal_pre_logf_below_inf (hKernel6Ideal := hKernel6Ideal) (hPre_logf_below_inf := hPre_logf_below_inf)
    ∧ quiescent_Reference6Ideal (hReference6Ideal := hReference6Ideal)
    ∧ quiescent_Reference6Ideal_pre_logf_below_inf (hReference6Ideal := hReference6Ideal) (hPre_logf_below_inf := hPre_logf_below_inf)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_sample_logf_below_inf (hKernel9Ideal := hKernel9Ideal) (hPre_sample_logf_below_inf := hPre_sample_logf_below_inf)
    ∧ quiescent_Reference9Ideal (hReference9Ideal := hReference9Ideal)
    ∧ quiescent_Reference9Ideal_pre_sample_logf_below_inf (hReference9Ideal := hReference9Ideal) (hPre_sample_logf_below_inf := hPre_sample_logf_below_inf)
    ∧ preserves_Kernel_KernelIdeal
    ∧ algebraic_KernelIdeal_ReferenceIdeal_pre_fox_args_finite (hKernelIdeal := hKernelIdeal) (hReferenceIdeal := hReferenceIdeal) (hPre_fox_args_finite := hPre_fox_args_finite)
    ∧ preserves_Kernel2_Kernel2Ideal
    ∧ algebraic_Kernel2Ideal_Reference2Ideal_pre_prompt_args_finite (hKernel2Ideal := hKernel2Ideal) (hReference2Ideal := hReference2Ideal) (hPre_prompt_args_finite := hPre_prompt_args_finite)
    ∧ preserves_Kernel3_Kernel3Ideal
    ∧ algebraic_Kernel3Ideal_Reference3Ideal_pre_sample_args_finite (hKernel3Ideal := hKernel3Ideal) (hReference3Ideal := hReference3Ideal) (hPre_sample_args_finite := hPre_sample_args_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_experts_in_range := hPre_experts_in_range)
    ∧ preserves_Kernel6_Kernel6Ideal
    ∧ algebraic_Kernel6Ideal_Reference6Ideal_pre_logf_below_inf (hKernel6Ideal := hKernel6Ideal) (hReference6Ideal := hReference6Ideal) (hPre_logf_below_inf := hPre_logf_below_inf)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_sample_logf_below_inf (hKernel9Ideal := hKernel9Ideal) (hReference9Ideal := hReference9Ideal) (hPre_sample_logf_below_inf := hPre_sample_logf_below_inf)
-- ==== Pre_experts_in_range.lean ====
abbrev S139264x1024 : Shape := ⟨2, ![139264, 1024]⟩
abbrev S544 : Shape := ⟨1, ![544]⟩
abbrev S1 : Shape := ⟨1, ![1]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel

variable [Facts]

def fn {F : FTy → Type} [FloatOps F] (main_arg0 : FVec F S139264x1024 .f32) (main_arg1 : IVec S544 32) (main_arg2 : IVec S1 32) (main_arg3 : FVec F S32x1024x1024 .bf16) (main_arg4 : FVec F S32x1024x1024 .bf16) (main_arg5 : FVec F S32x1x1024 .f32) (main_arg6 : FVec F S32x1x1024 .f32) (main_arg7 : FVec F S32x1024x1024 .bf16) (main_arg8 : FVec F S32x1x1024 .f32) : IVec S_ 1 :=
  let main_c : IVec S_ 32 := constantI S_ 32 0#32
  let main_v0 : IVec S544 32 := broadcastInDim S544 ![] bcast_S_S544 main_c
  let main_v1 : IVec S544 1 := cmpi .sge main_arg1 main_v0
  let main_c_0 : IVec S_ 32 := constantI S_ 32 32#32
  let main_v2 : IVec S544 32 := broadcastInDim S544 ![] bcast_S_S544 main_c_0
  let main_v3 : IVec S544 1 := cmpi .slt main_arg1 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  main_v5
-- ==== Pre_fox_args_finite.lean ====
abbrev S8x4096x512 : Shape := ⟨3, ![8, 4096, 512]⟩
abbrev S8x8x4096 : Shape := ⟨3, ![8, 8, 4096]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x8x4096 : S_.BroadcastsInDim S8x8x4096 (![] : Fin 0 → Fin S8x8x4096.rank)
  reducesTo_S8x8x4096_S_d0_1_2 : S8x8x4096.ReducesTo [0, 1, 2] S_

variable [Facts]

def fn {F : FTy → Type} [FloatOps F] (main_arg0 : FVec F S8x4096x512 .bf16) (main_arg1 : FVec F S8x4096x512 .f32) (main_arg2 : FVec F S8x4096x512 .f32) (main_arg3 : FVec F S8x8x4096 .f32) : IVec S_ 1 :=
  let main_v0 : FVec F S8x4096x512 .bf16 := Host.absf main_arg0
  let main_cst : FVec F S_ .bf16 := constant S_ .bf16 0x7F80#16
  let main_v1 : FVec F S8x4096x512 .bf16 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x8x4096 .f32 := Host.absf main_arg3
  let main_cst_2 : FVec F S_ .f32 := constant S_ .f32 0x7F800000#32
  let main_v10 : FVec F S8x8x4096 .f32 := broadcastInDim S8x8x4096 ![] bcast_S_S8x8x4096 main_cst_2
  let main_v11 : IVec S8x8x4096 1 := cmpf .olt main_v9 main_v10
  let main_c_3 : IVec S_ 1 := constantI S_ 1 1#1
  let main_v12 : IVec S_ 1 := (fun x v => Host.reduce IntOp.andi x v reducesTo_S8x8x4096_S_d0_1_2 h_S_) main_v11 main_c_3
  let main_v13 : IVec S_ 1 := andi main_v8 main_v12
  main_v13
-- ==== Pre_logf_below_inf.lean ====
abbrev S8x4096x8 : Shape := ⟨3, ![8, 4096, 8]⟩
abbrev S_ : Shape := ⟨0, ![]⟩

class Facts : Prop where
  bcast_S_S8x4096x8 : S_.BroadcastsInDim S8x4096x8 (![] : Fin 0 → Fin S8x4096x8.rank)
  reducesTo_S8x4096x8_S_d0_1_2 : S8x4096x8.ReducesTo [0, 1, 2] S_
  h_S_ : 0 < S_.numel

variable [Facts]

def fn {F : FTy → Type} [FloatOps F] (main_arg0 : FVec F S8x4096x8 .f32) : IVec S_ 1 :=
  let main_cst : FVec F S_ .f32 := constant S_ .f32 0x7F800000#32
  let main_v0 : FVec F S8x4096x8 .f32 := broadcastInDim S8x4096x8 ![] bcast_S_S8x4096x8 main_cst
  let main_v1 : IVec S8x4096x8 1 := cmpf .olt main_arg0 main_v0
  let main_c : IVec S_ 1 := constantI S_ 1 1#1
  let main_v2 : IVec S_ 1 := (fun x v => Host.reduce IntOp.andi x v reducesTo_S8x4096x8_S_d0_1_2 h_S_) main_v1 main_c
  main_v2
-- ==== Pre_prompt_args_finite.lean ====
abbrev S8x4096x1024 : Shape := ⟨3, ![8, 4096, 1024]⟩
abbrev S1x1024 : Shape := ⟨2, ![1, 1024]⟩
abbrev S1x1024x5128 : Shape := ⟨3, ![1, 1024, 5128]⟩
abbrev S1x8 : Shape := ⟨2, ![1, 8]⟩
abbrev S1x64 : Shape := ⟨2, ![1, 64]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5128 : S_.BroadcastsInDim S1x1024x5128 (![] : Fin 0 → Fin S1x1024x5128.rank)
  reducesTo_S1x1024x5128_S_d0_1_2 : S1x1024x5128.ReducesTo [0, 1, 2] S_

variable [Facts]

def fn {F : FTy → Type} [FloatOps F] (main_arg0 : FVec F S8x4096x1024 .f32) (main_arg1 : FVec F S1x1024 .f32) (main_arg2 : FVec F S1x1024x5128 .f32) (main_arg3 : FVec F S1x8 .f32) (main_arg4 : FVec F S1x64 .f32) (main_arg5 : FVec F S1x64 .f32) (main_arg6 : FVec F S1x64 .f32) (main_arg7 : FVec F S1x64 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5128 .f32 := Host.absf main_arg2
  let main_cst_2 : FVec F S_ .f32 := constant S_ .f32 0x7F800000#32
  let main_v10 : FVec F S1x1024x5128 .f32 := broadcastInDim S1x1024x5128 ![] bcast_S_S1x1024x5128 main_cst_2
  let main_v11 : IVec S1x1024x5128 1 := cmpf .olt main_v9 main_v10
  let main_c_3 : IVec S_ 1 := constantI S_ 1 1#1
  let main_v12 : IVec S_ 1 := (fun x v => Host.reduce IntOp.andi x v reducesTo_S1x1024x5128_S_d0_1_2 h_S_) main_v11 main_c_3
  let main_v13 : IVec S_ 1 := andi main_v8 main_v12
  main_v13
-- ==== Pre_sample_args_finite.lean ====
abbrev S32x8x1024 : Shape := ⟨3, ![32, 8, 1024]⟩
abbrev S1x1024 : Shape := ⟨2, ![1, 1024]⟩
abbrev S1x1024x5128 : Shape := ⟨3, ![1, 1024, 5128]⟩
abbrev S1x8 : Shape := ⟨2, ![1, 8]⟩
abbrev S1x64 : Shape := ⟨2, ![1, 64]⟩
abbrev S_ : Shape := ⟨0, ![]⟩

class Facts : Prop where
  bcast_S_S32x8x1024 : S_.BroadcastsInDim S32x8x1024 (![] : Fin 0 → Fin S32x8x1024.rank)
  reducesTo_S32x8x1024_S_d0_1_2 : S32x8x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5128 : S_.BroadcastsInDim S1x1024x5128 (![] : Fin 0 → Fin S1x1024x5128.rank)
  reducesTo_S1x1024x5128_S_d0_1_2 : S1x1024x5128.ReducesTo [0, 1, 2] S_

variable [Facts]

def fn {F : FTy → Type} [FloatOps F] (main_arg0 : FVec F S32x8x1024 .f32) (main_arg1 : FVec F S1x1024 .f32) (main_arg2 : FVec F S1x1024x5128 .f32) (main_arg3 : FVec F S1x8 .f32) (main_arg4 : FVec F S1x64 .f32) (main_arg5 : FVec F S1x64 .f32) (main_arg6 : FVec F S1x64 .f32) (main_arg7 : FVec F S1x64 .f32) : IVec S_ 1 :=
  let main_v0 : FVec F S32x8x1024 .f32 := Host.absf main_arg0
  let main_cst : FVec F S_ .f32 := constant S_ .f32 0x7F800000#32
  let main_v1 : FVec F S32x8x1024 .f32 := broadcastInDim S32x8x1024 ![] bcast_S_S32x8x1024 main_cst
  let main_v2 : IVec S32x8x1024 1 := cmpf .olt main_v0 main_v1
  let main_c : IVec S_ 1 := constantI S_ 1 1#1
  let main_v3 : IVec S_ 1 := (fun x v => Host.reduce IntOp.andi x v reducesTo_S32x8x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5128 .f32 := Host.absf main_arg2
  let main_cst_2 : FVec F S_ .f32 := constant S_ .f32 0x7F800000#32
  let main_v10 : FVec F S1x1024x5128 .f32 := broadcastInDim S1x1024x5128 ![] bcast_S_S1x1024x5128 main_cst_2
  let main_v11 : IVec S1x1024x5128 1 := cmpf .olt main_v9 main_v10
  let main_c_3 : IVec S_ 1 := constantI S_ 1 1#1
  let main_v12 : IVec S_ 1 := (fun x v => Host.reduce IntOp.andi x v reducesTo_S1x1024x5128_S_d0_1_2 h_S_) main_v11 main_c_3
  let main_v13 : IVec S_ 1 := andi main_v8 main_v12
  main_v13
-- ==== Pre_sample_logf_below_inf.lean ====
abbrev S32x8x8 : Shape := ⟨3, ![32, 8, 8]⟩
abbrev S_ : Shape := ⟨0, ![]⟩

class Facts : Prop where
  bcast_S_S32x8x8 : S_.BroadcastsInDim S32x8x8 (![] : Fin 0 → Fin S32x8x8.rank)
  reducesTo_S32x8x8_S_d0_1_2 : S32x8x8.ReducesTo [0, 1, 2] S_
  h_S_ : 0 < S_.numel

variable [Facts]

def fn {F : FTy → Type} [FloatOps F] (main_arg0 : FVec F S32x8x8 .f32) : IVec S_ 1 :=
  let main_cst : FVec F S_ .f32 := constant S_ .f32 0x7F800000#32
  let main_v0 : FVec F S32x8x8 .f32 := broadcastInDim S32x8x8 ![] bcast_S_S32x8x8 main_cst
  let main_v1 : IVec S32x8x8 1 := cmpf .olt main_arg0 main_v0
  let main_c : IVec S_ 1 := constantI S_ 1 1#1
  let main_v2 : IVec S_ 1 := (fun x v => Host.reduce IntOp.andi x v reducesTo_S32x8x8_S_d0_1_2 h_S_) main_v1 main_c
  main_v2
-- ==== Kernel.lean ====
abbrev S8x4096x512 : Shape := ⟨3, ![8, 4096, 512]⟩
abbrev S8x8x4096 : Shape := ⟨3, ![8, 8, 4096]⟩
abbrev S8x4096x8 : Shape := ⟨3, ![8, 4096, 8]⟩
abbrev S1x512x512 : Shape := ⟨3, ![1, 512, 512]⟩
abbrev S1x512x8 : Shape := ⟨3, ![1, 512, 8]⟩
abbrev S1x8x512 : Shape := ⟨3, ![1, 8, 512]⟩
abbrev S8x512x128 : Shape := ⟨3, ![8, 512, 128]⟩
abbrev S4x512x128 : Shape := ⟨3, ![4, 512, 128]⟩
abbrev S1x128 : Shape := ⟨2, ![1, 128]⟩
abbrev S1x512x128 : Shape := ⟨3, ![1, 512, 128]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩

abbrev nBuf : Space → Nat
  | .hbm => 6
  | .vmem => 15
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .f32⟩
  | .hbm, ⟨2, _⟩ => ⟨S8x4096x512, .f32⟩
  | .hbm, ⟨3, _⟩ => ⟨S8x8x4096, .f32⟩
  | .hbm, ⟨4, _⟩ => ⟨S8x4096x8, .f32⟩
  | .hbm, ⟨5, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x8, .f32⟩
  | .local _ .vmem, ⟨7, _⟩ => ⟨S1x512x8, .f32⟩
  | .local _ .vmem, ⟨8, _⟩ => ⟨S1x8x512, .f32⟩
  | .local _ .vmem, ⟨9, _⟩ => ⟨S1x8x512, .f32⟩
  | .local _ .vmem, ⟨10, _⟩ => ⟨S1x512x512, .bf16⟩
  | .local _ .vmem, ⟨11, _⟩ => ⟨S1x512x512, .bf16⟩
  | .local _ .vmem, ⟨12, _⟩ => ⟨S8x512x128, .f32⟩
  | .local _ .vmem, ⟨13, _⟩ => ⟨S8x512x128, .f32⟩
  | .local _ .vmem, ⟨14, _⟩ => ⟨S4x512x128, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 8], ![false, false, false]⟩

def k0_cond3 (i : grid0.Coords) : BitVec 1 :=
  let arg2 : BitVec 32 := BitVec.ofNat 32 (i 2).val
  let arg1 : BitVec 32 := BitVec.ofNat 32 (i 1).val
  let v9 : BitVec 1 := Scalar.cmpi .eq arg2 arg1
  let v10 : BitVec 32 := Scalar.extui v9
  let c0_i32_2 : BitVec 32 := 0#32
  let v11 : BitVec 1 := Scalar.cmpi .ne v10 c0_i32_2
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S8x4096x512 : Shape := ⟨3, ![8, 4096, 512]⟩
abbrev S8x8x4096 : Shape := ⟨3, ![8, 8, 4096]⟩
abbrev S8x4096x8x64 : Shape := ⟨4, ![8, 4096, 8, 64]⟩
abbrev S8x8x4096x4096 : Shape := ⟨4, ![8, 8, 4096, 4096]⟩
abbrev S8x8x4096x1 : Shape := ⟨4, ![8, 8, 4096, 1]⟩
abbrev S8x8x1x4096 : Shape := ⟨4, ![8, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S_ : Shape := ⟨0, ![]⟩
abbrev S8x8x64x4096 : Shape := ⟨4, ![8, 8, 64, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .f32⟩
  | .hbm, ⟨2, _⟩ => ⟨S8x4096x512, .f32⟩
  | .hbm, ⟨3, _⟩ => ⟨S8x8x4096, .f32⟩
  | .hbm, ⟨4, _⟩ => ⟨S8x4096x512, .f32⟩
  | .hbm, ⟨5, _⟩ => ⟨S8x4096x8x64, .f32⟩
  | .hbm, ⟨6, _⟩ => ⟨S8x4096x8x64, .f32⟩
  | .hbm, ⟨7, _⟩ => ⟨S8x4096x8x64, .f32⟩
  | .hbm, ⟨8, _⟩ => ⟨S8x8x4096x4096, .f32⟩
  | .hbm, ⟨9, _⟩ => ⟨S8x8x4096x1, .f32⟩
  | .hbm, ⟨10, _⟩ => ⟨S8x8x4096x4096, .f32⟩
  | .hbm, ⟨11, _⟩ => ⟨S8x8x4096x4096, .f32⟩
  | .hbm, ⟨12, _⟩ => ⟨S8x8x1x4096, .f32⟩
  | .hbm, ⟨13, _⟩ => ⟨S8x8x4096x4096, .f32⟩
  | .hbm, ⟨14, _⟩ => ⟨S8x8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x1x4096x4096, .i1⟩
  | .hbm, ⟨22, _⟩ => ⟨S_, .f32⟩
  | .hbm, ⟨23, _⟩ => ⟨S_, .f32⟩
  | .hbm, ⟨24, _⟩ => ⟨S8x8x4096x4096, .i1⟩
  | .hbm, ⟨25, _⟩ => ⟨S8x8x4096x4096, .f32⟩
  | .hbm, ⟨26, _⟩ => ⟨S8x8x4096x4096, .f32⟩
  | .hbm, ⟨27, _⟩ => ⟨S_, .f32⟩
  | .hbm, ⟨28, _⟩ => ⟨S8x8x4096, .f32⟩
  | .hbm, ⟨29, _⟩ => ⟨S_, .f32⟩
  | .hbm, ⟨30, _⟩ => ⟨S8x8x4096, .f32⟩
  | .hbm, ⟨31, _⟩ => ⟨S8x8x4096, .f32⟩
  | .hbm, ⟨32, _⟩ => ⟨S8x8x4096x1, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S_, .f32⟩
  | .hbm, ⟨37, _⟩ => ⟨S8x8x4096, .f32⟩
  | .hbm, ⟨38, _⟩ => ⟨S8x8x4096x1, .f32⟩
  | .hbm, ⟨39, _⟩ => ⟨S8x8x4096x4096, .f32⟩
  | .hbm, ⟨40, _⟩ => ⟨S8x8x4096x4096, .f32⟩
  | .hbm, ⟨41, _⟩ => ⟨S8x8x64x4096, .f32⟩
  | .hbm, ⟨42, _⟩ => ⟨S8x4096x8x64, .f32⟩
  | .hbm, ⟨43, _⟩ => ⟨S8x4096x512, .f32⟩
  | .hbm, ⟨44, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024 : Shape := ⟨2, ![1, 1024]⟩
abbrev S1x1024x5128 : Shape := ⟨3, ![1, 1024, 5128]⟩
abbrev S1x8 : Shape := ⟨2, ![1, 8]⟩
abbrev S1x64 : Shape := ⟨2, ![1, 64]⟩
abbrev S1024x5128 : Shape := ⟨2, ![1024, 5128]⟩
abbrev S1024x512 : Shape := ⟨2, ![1024, 512]⟩
abbrev S1024x8 : Shape := ⟨2, ![1024, 8]⟩
abbrev S1024x1024 : Shape := ⟨2, ![1024, 1024]⟩
abbrev S1024x5120 : Shape := ⟨2, ![1024, 5120]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S64 : Shape := ⟨1, ![64]⟩
abbrev S8x64 : Shape := ⟨2, ![8, 64]⟩
abbrev S4x512 : Shape := ⟨2, ![4, 512]⟩
abbrev S32768x1024 : Shape := ⟨2, ![32768, 1024]⟩
abbrev S1024 : Shape := ⟨1, ![1024]⟩
abbrev S32768x512 : Shape := ⟨2, ![32768, 512]⟩
abbrev S32768x128 : Shape := ⟨2, ![32768, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 87
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5128, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1024x5128, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x8, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x1024, .f32⟩
  | .hbm, ⟨18, _⟩ => ⟨S1024x5120, .f32⟩
  | .hbm, ⟨19, _⟩ => ⟨S1024x5120, .bf16⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1024x128, .bf16⟩
  | .hbm, ⟨24, _⟩ => ⟨S8, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S512, .i32⟩
  | .hbm, ⟨30, _⟩ => ⟨S_, .i32⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S512, .i32⟩
  | .hbm, ⟨39, _⟩ => ⟨S512, .i32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S1x512, .i32⟩
  | .hbm, ⟨50, _⟩ => ⟨S512x512, .i32⟩
  | .hbm, ⟨51, _⟩ => ⟨S512x512, .i32⟩
  | .hbm, ⟨52, _⟩ => ⟨S512x512, .i1⟩
  | .hbm, ⟨53, _⟩ => ⟨S512x512, .bf16⟩
  | .hbm, ⟨54, _⟩ => ⟨S64, .f32⟩
  | .hbm, ⟨55, _⟩ => ⟨S1x64, .f32⟩
  | .hbm, ⟨56, _⟩ => ⟨S8x64, .f32⟩
  | .hbm, ⟨57, _⟩ => ⟨S512, .f32⟩
  | .hbm, ⟨58, _⟩ => ⟨S64, .f32⟩
  | .hbm, ⟨59, _⟩ => ⟨S1x64, .f32⟩
  | .hbm, ⟨60, _⟩ => ⟨S8x64, .f32⟩
  | .hbm, ⟨61, _⟩ => ⟨S512, .f32⟩
  | .hbm, ⟨62, _⟩ => ⟨S64, .f32⟩
  | .hbm, ⟨63, _⟩ => ⟨S1x64, .f32⟩
  | .hbm, ⟨64, _⟩ => ⟨S8x64, .f32⟩
  | .hbm, ⟨65, _⟩ => ⟨S512, .f32⟩
  | .hbm, ⟨66, _⟩ => ⟨S64, .f32⟩
  | .hbm, ⟨67, _⟩ => ⟨S1x64, .f32⟩
  | .hbm, ⟨68, _⟩ => ⟨S8x64, .f32⟩
  | .hbm, ⟨69, _⟩ => ⟨S512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S4x512, .f32⟩
  | .hbm, ⟨75, _⟩ => ⟨S32768x1024, .f32⟩
  | .hbm, ⟨76, _⟩ => ⟨S1024, .f32⟩
  | .hbm, ⟨77, _⟩ => ⟨S1x1024, .f32⟩
  | .hbm, ⟨78, _⟩ => ⟨S32768x512, .bf16⟩
  | .hbm, ⟨79, _⟩ => ⟨S32768x512, .f32⟩
  | .hbm, ⟨80, _⟩ => ⟨S32768x512, .f32⟩
  | .hbm, ⟨81, _⟩ => ⟨S32768x128, .f32⟩
  | .hbm, ⟨82, _⟩ => ⟨S32768x512, .bf16⟩
  | .hbm, ⟨83, _⟩ => ⟨S32768x512, .f32⟩
  | .hbm, ⟨84, _⟩ => ⟨S32768x512, .f32⟩
  | .hbm, ⟨85, _⟩ => ⟨S32768x1024, .f32⟩
  | .hbm, ⟨86, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5120, .bf16⟩
  | .local _ .vmem, ⟨4, _⟩ => ⟨S1024x128, .bf16⟩
  | .local _ .vmem, ⟨5, _⟩ => ⟨S1x128, .f32⟩
  | .local _ .vmem, ⟨6, _⟩ => ⟨S512x512, .bf16⟩
  | .local _ .vmem, ⟨7, _⟩ => ⟨S4x512, .f32⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x128, .f32⟩
  | .local _ .vmem, ⟨15, _⟩ => ⟨S256x128, .f32⟩
  | .local _ .vmem, ⟨16, _⟩ => ⟨S256x512, .bf16⟩
  | .local _ .vmem, ⟨17, _⟩ => ⟨S256x512, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49_0 : Ref sig .tc := ⟨.hbm, 78, rfl⟩
abbrev main_v49_1 : Ref sig .tc := ⟨.hbm, 79, rfl⟩
abbrev main_v49_2 : Ref sig .tc := ⟨.hbm, 80, rfl⟩
abbrev main_v49_3 : Ref sig .tc := ⟨.hbm, 81, rfl⟩
abbrev main_v49_4 : Ref sig .tc := ⟨.hbm, 82, rfl⟩
abbrev main_v49_5 : Ref sig .tc := ⟨.hbm, 83, rfl⟩
abbrev main_v49_6 : Ref sig .tc := ⟨.hbm, 84, rfl⟩
abbrev main_v49_7 : Ref sig .tc := ⟨.hbm, 85, rfl⟩
abbrev main_v49_8 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel2Ideal.lean ====
abbrev S8x4096x1024 : Shape := ⟨3, ![8, 4096, 1024]⟩
abbrev S1x1024 : Shape := ⟨2, ![1, 1024]⟩
abbrev S1x1024x5128 : Shape := ⟨3, ![1, 1024, 5128]⟩
abbrev S1x8 : Shape := ⟨2, ![1, 8]⟩
abbrev S1x64 : Shape := ⟨2, ![1, 64]⟩
abbrev S1024x5128 : Shape := ⟨2, ![1024, 5128]⟩
abbrev S1024x512 : Shape := ⟨2, ![1024, 512]⟩
abbrev S1024x8 : Shape := ⟨2, ![1024, 8]⟩
abbrev S1024x1024 : Shape := ⟨2, ![1024, 1024]⟩
abbrev S1024x5120 : Shape := ⟨2, ![1024, 5120]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S64 : Shape := ⟨1, ![64]⟩
abbrev S8x64 : Shape := ⟨2, ![8, 64]⟩
abbrev S4x512 : Shape := ⟨2, ![4, 512]⟩
abbrev S32768x1024 : Shape := ⟨2, ![32768, 1024]⟩
abbrev S1024 : Shape := ⟨1, ![1024]⟩
abbrev S32768x512 : Shape := ⟨2, ![32768, 512]⟩
abbrev S32768x128 : Shape := ⟨2, ![32768, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 87
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5128, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1024x5128, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x8, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x1024, .f32⟩
  | .hbm, ⟨18, _⟩ => ⟨S1024x5120, .f32⟩
  | .hbm, ⟨19, _⟩ => ⟨S1024x5120, .bf16⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1024x128, .bf16⟩
  | .hbm, ⟨24, _⟩ => ⟨S8, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S512, .i32⟩
  | .hbm, ⟨30, _⟩ => ⟨S_, .i32⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S512, .i32⟩
  | .hbm, ⟨39, _⟩ => ⟨S512, .i32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S1x512, .i32⟩
  | .hbm, ⟨50, _⟩ => ⟨S512x512, .i32⟩
  | .hbm, ⟨51, _⟩ => ⟨S512x512, .i32⟩
  | .hbm, ⟨52, _⟩ => ⟨S512x512, .i1⟩
  | .hbm, ⟨53, _⟩ => ⟨S512x512, .bf16⟩
  | .hbm, ⟨54, _⟩ => ⟨S64, .f32⟩
  | .hbm, ⟨55, _⟩ => ⟨S1x64, .f32⟩
  | .hbm, ⟨56, _⟩ => ⟨S8x64, .f32⟩
  | .hbm, ⟨57, _⟩ => ⟨S512, .f32⟩
  | .hbm, ⟨58, _⟩ => ⟨S64, .f32⟩
  | .hbm, ⟨59, _⟩ => ⟨S1x64, .f32⟩
  | .hbm, ⟨60, _⟩ => ⟨S8x64, .f32⟩
  | .hbm, ⟨61, _⟩ => ⟨S512, .f32⟩
  | .hbm, ⟨62, _⟩ => ⟨S64, .f32⟩
  | .hbm, ⟨63, _⟩ => ⟨S1x64, .f32⟩
  | .hbm, ⟨64, _⟩ => ⟨S8x64, .f32⟩
  | .hbm, ⟨65, _⟩ => ⟨S512, .f32⟩
  | .hbm, ⟨66, _⟩ => ⟨S64, .f32⟩
  | .hbm, ⟨67, _⟩ => ⟨S1x64, .f32⟩
  | .hbm, ⟨68, _⟩ => ⟨S8x64, .f32⟩
  | .hbm, ⟨69, _⟩ => ⟨S512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S4x512, .f32⟩
  | .hbm, ⟨75, _⟩ => ⟨S32768x1024, .f32⟩
  | .hbm, ⟨76, _⟩ => ⟨S1024, .f32⟩
  | .hbm, ⟨77, _⟩ => ⟨S1x1024, .f32⟩
  | .hbm, ⟨78, _⟩ => ⟨S32768x512, .bf16⟩
  | .hbm, ⟨79, _⟩ => ⟨S32768x512, .f32⟩
  | .hbm, ⟨80, _⟩ => ⟨S32768x512, .f32⟩
  | .hbm, ⟨81, _⟩ => ⟨S32768x128, .f32⟩
  | .hbm, ⟨82, _⟩ => ⟨S32768x512, .bf16⟩
  | .hbm, ⟨83, _⟩ => ⟨S32768x512, .f32⟩
  | .hbm, ⟨84, _⟩ => ⟨S32768x512, .f32⟩
  | .hbm, ⟨85, _⟩ => ⟨S32768x1024, .f32⟩
  | .hbm, ⟨86, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5120, .bf16⟩
  | .local _ .vmem, ⟨4, _⟩ => ⟨S1024x128, .bf16⟩
  | .local _ .vmem, ⟨5, _⟩ => ⟨S1x128, .f32⟩
  | .local _ .vmem, ⟨6, _⟩ => ⟨S512x512, .bf16⟩
  | .local _ .vmem, ⟨7, _⟩ => ⟨S4x512, .f32⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x128, .f32⟩
  | .local _ .vmem, ⟨15, _⟩ => ⟨S256x128, .f32⟩
  | .local _ .vmem, ⟨16, _⟩ => ⟨S256x512, .bf16⟩
  | .local _ .vmem, ⟨17, _⟩ => ⟨S256x512, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49_0 : Ref sig .tc := ⟨.hbm, 78, rfl⟩
abbrev main_v49_1 : Ref sig .tc := ⟨.hbm, 79, rfl⟩
abbrev main_v49_2 : Ref sig .tc := ⟨.hbm, 80, rfl⟩
abbrev main_v49_3 : Ref sig .tc := ⟨.hbm, 81, rfl⟩
abbrev main_v49_4 : Ref sig .tc := ⟨.hbm, 82, rfl⟩
abbrev main_v49_5 : Ref sig .tc := ⟨.hbm, 83, rfl⟩
abbrev main_v49_6 : Ref sig .tc := ⟨.hbm, 84, rfl⟩
abbrev main_v49_7 : Ref sig .tc := ⟨.hbm, 85, rfl⟩
abbrev main_v49_8 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S8x4096x1024 : Shape := ⟨3, ![8, 4096, 1024]⟩
abbrev S1x1024 : Shape := ⟨2, ![1, 1024]⟩
abbrev S1x1024x5128 : Shape := ⟨3, ![1, 1024, 5128]⟩
abbrev S1x8 : Shape := ⟨2, ![1, 8]⟩
abbrev S1x64 : Shape := ⟨2, ![1, 64]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5128 : Shape := ⟨2, ![1024, 5128]⟩
abbrev S8x4096x5128 : Shape := ⟨3, ![8, 4096, 5128]⟩
abbrev S8x4096x512 : Shape := ⟨3, ![8, 4096, 512]⟩
abbrev S8x4096x8 : Shape := ⟨3, ![8, 4096, 8]⟩
abbrev S8x4096x8x64 : Shape := ⟨4, ![8, 4096, 8, 64]⟩
abbrev S64 : Shape := ⟨1, ![64]⟩
abbrev S8x4096x8x1 : Shape := ⟨4, ![8, 4096, 8, 1]⟩
abbrev S1x1x1x64 : Shape := ⟨4, ![1, 1, 1, 64]⟩
abbrev S8 : Shape := ⟨1, ![8]⟩
abbrev S1x1x8 : Shape := ⟨3, ![1, 1, 8]⟩
abbrev S8x4096x128 : Shape := ⟨3, ![8, 4096, 128]⟩
abbrev S8x4096x4x2x64 : Shape := ⟨5, ![8, 4096, 4, 2, 64]⟩
abbrev S8x4096x4x2 : Shape := ⟨4, ![8, 4096, 4, 2]⟩
abbrev S8x4096x4x2x1 : Shape := ⟨5, ![8, 4096, 4, 2, 1]⟩
abbrev S1x1x1x1x64 : Shape := ⟨5, ![1, 1, 1, 1, 64]⟩
abbrev S32768x512 : Shape := ⟨2, ![32768, 512]⟩
abbrev S32768x128 : Shape := ⟨2, ![32768, 128]⟩
abbrev S32768x1024 : Shape := ⟨2, ![32768, 1024]⟩

abbrev nBuf : Space → Nat
  | .hbm => 164
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x5128, .f32⟩
  | 3 => ⟨S1x8, .f32⟩
  | 4 => ⟨S1x64, .f32⟩
  | 5 => ⟨S1x64, .f32⟩
  | 6 => ⟨S1x64, .f32⟩
  | 7 => ⟨S1x64, .f32⟩
  | 8 => ⟨S1024, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S1024x5128, .f32⟩
  | 26 => ⟨S8x4096x5128, .f32⟩
  | 27 => ⟨S8x4096x512, .f32⟩
  | 28 => ⟨S8x4096x512, .f32⟩
  | 29 => ⟨S8x4096x512, .f32⟩
  | 30 => ⟨S8x4096x8, .f32⟩
  | 31 => ⟨S8x4096x512, .f32⟩
  | 32 => ⟨S8x4096x512, .f32⟩
  | 33 => ⟨S8x4096x512, .f32⟩
  | 34 => ⟨S8x4096x1024, .f32⟩
  | 35 => ⟨S8x4096x1024, .f32⟩
  | 36 => ⟨S8x4096x8x64, .f32⟩
  | 37 => ⟨S64, .f32⟩
  | 38 => ⟨S8x4096x8x64, .f32⟩
  | 39 => ⟨S_, .f32⟩
  | 40 => ⟨S8x4096x8, .f32⟩
  | 41 => ⟨S8x4096x8x1, .f32⟩
  | 42 => ⟨S_, .f32⟩
  | 43 => ⟨S8x4096x8x1, .f32⟩
  | 44 => ⟨S8x4096x8x1, .f32⟩
  | 45 => ⟨S_, .f32⟩
  | 46 => ⟨S8x4096x8x1, .f32⟩
  | 47 => ⟨S8x4096x8x1, .f32⟩
  | 48 => ⟨S8x4096x8x1, .f32⟩
  | 49 => ⟨S8x4096x8x64, .f32⟩
  | 50 => ⟨S8x4096x8x64, .f32⟩
  | 51 => ⟨S1x1x1x64, .f32⟩
  | 52 => ⟨S8x4096x8x64, .f32⟩
  | 53 => ⟨S8x4096x8x64, .f32⟩
  | 54 => ⟨S8x4096x8x64, .f32⟩
  | 55 => ⟨S64, .f32⟩
  | 56 => ⟨S8x4096x8x64, .f32⟩
  | 57 => ⟨S_, .f32⟩
  | 58 => ⟨S8x4096x8, .f32⟩
  | 59 => ⟨S8x4096x8x1, .f32⟩
  | 60 => ⟨S_, .f32⟩
  | 61 => ⟨S8x4096x8x1, .f32⟩
  | 62 => ⟨S8x4096x8x1, .f32⟩
  | 63 => ⟨S_, .f32⟩
  | 64 => ⟨S8x4096x8x1, .f32⟩
  | 65 => ⟨S8x4096x8x1, .f32⟩
  | 66 => ⟨S8x4096x8x1, .f32⟩
  | 67 => ⟨S8x4096x8x64, .f32⟩
  | 68 => ⟨S8x4096x8x64, .f32⟩
  | 69 => ⟨S1x1x1x64, .f32⟩
  | 70 => ⟨S8x4096x8x64, .f32⟩
  | 71 => ⟨S8x4096x8x64, .f32⟩
  | 72 => ⟨S8, .f32⟩
  | 73 => ⟨S1x1x8, .f32⟩
  | 74 => ⟨S8x4096x8, .f32⟩
  | 75 => ⟨S8x4096x8, .f32⟩
  | 76 => ⟨S_, .i32⟩
  | 77 => ⟨S_, .f32⟩
  | 78 => ⟨S8x4096x128, .f32⟩
  | 79 => ⟨S8x4096x128, .f32⟩
  | 80 => ⟨S_, .f32⟩
  | 81 => ⟨S8x4096x128, .f32⟩
  | 82 => ⟨S8x4096x128, .f32⟩
  | 83 => ⟨S8x4096x128, .f32⟩
  | 84 => ⟨S8x4096x128, .f32⟩
  | 85 => ⟨S8x4096x128, .i1⟩
  | 86 => ⟨S8x4096x128, .f32⟩
  | 87 => ⟨S8x4096x128, .f32⟩
  | 88 => ⟨S8x4096x128, .f32⟩
  | 89 => ⟨S8x4096x128, .f32⟩
  | 90 => ⟨S8x4096x128, .f32⟩
  | 91 => ⟨S8x4096x128, .f32⟩
  | 92 => ⟨S8x4096x128, .f32⟩
  | 93 => ⟨S8x4096x128, .f32⟩
  | 94 => ⟨S8x4096x128, .f32⟩
  | 95 => ⟨S8x4096x4x2x64, .f32⟩
  | 96 => ⟨S64, .f32⟩
  | 97 => ⟨S8x4096x4x2x64, .f32⟩
  | 98 => ⟨S_, .f32⟩
  | 99 => ⟨S8x4096x4x2, .f32⟩
  | 100 => ⟨S8x4096x4x2x1, .f32⟩
  | 101 => ⟨S_, .f32⟩
  | 102 => ⟨S8x4096x4x2x1, .f32⟩
  | 103 => ⟨S8x4096x4x2x1, .f32⟩
  | 104 => ⟨S_, .f32⟩
  | 105 => ⟨S8x4096x4x2x1, .f32⟩
  | 106 => ⟨S8x4096x4x2x1, .f32⟩
  | 107 => ⟨S8x4096x4x2x1, .f32⟩
  | 108 => ⟨S8x4096x4x2x64, .f32⟩
  | 109 => ⟨S8x4096x4x2x64, .f32⟩
  | 110 => ⟨S1x1x1x1x64, .f32⟩
  | 111 => ⟨S8x4096x4x2x64, .f32⟩
  | 112 => ⟨S8x4096x4x2x64, .f32⟩
  | 113 => ⟨S8x4096x4x2x64, .f32⟩
  | 114 => ⟨S64, .f32⟩
  | 115 => ⟨S8x4096x4x2x64, .f32⟩
  | 116 => ⟨S_, .f32⟩
  | 117 => ⟨S8x4096x4x2, .f32⟩
  | 118 => ⟨S8x4096x4x2x1, .f32⟩
  | 119 => ⟨S_, .f32⟩
  | 120 => ⟨S8x4096x4x2x1, .f32⟩
  | 121 => ⟨S8x4096x4x2x1, .f32⟩
  | 122 => ⟨S_, .f32⟩
  | 123 => ⟨S8x4096x4x2x1, .f32⟩
  | 124 => ⟨S8x4096x4x2x1, .f32⟩
  | 125 => ⟨S8x4096x4x2x1, .f32⟩
  | 126 => ⟨S8x4096x4x2x64, .f32⟩
  | 127 => ⟨S8x4096x4x2x64, .f32⟩
  | _ => ⟨S8x4096x1024, .f32⟩

abbrev hbmTy0_1 (i : Nat) : BufTy := match i % 128 with
  | 0 => ⟨S1x1x1x1x64, .f32⟩
  | 1 => ⟨S8x4096x4x2x64, .f32⟩
  | 2 => ⟨S8x4096x4x2x64, .f32⟩
  | 3 => ⟨S32768x512, .f32⟩
  | 4 => ⟨S_, .f32⟩
  | 5 => ⟨S32768x512, .f32⟩
  | 6 => ⟨S32768x512, .f32⟩
  | 7 => ⟨S32768x512, .bf16⟩
  | 8 => ⟨S32768x512, .f32⟩
  | 9 => ⟨S32768x512, .f32⟩
  | 10 => ⟨S32768x128, .f32⟩
  | 11 => ⟨S32768x512, .f32⟩
  | 12 => ⟨S_, .f32⟩
  | 13 => ⟨S32768x512, .f32⟩
  | 14 => ⟨S32768x512, .f32⟩
  | 15 => ⟨S32768x512, .bf16⟩
  | 16 => ⟨S32768x512, .f32⟩
  | 17 => ⟨S32768x512, .f32⟩
  | 18 => ⟨S8x4096x1024, .f32⟩
  | 19 => ⟨S8x4096x1024, .f32⟩
  | 20 => ⟨S_, .f32⟩
  | 21 => ⟨S8x4096x1024, .f32⟩
  | 22 => ⟨S8x4096x1024, .f32⟩
  | 23 => ⟨S_, .f32⟩
  | 24 => ⟨S8x4096x1024, .f32⟩
  | 25 => ⟨S8x4096x1024, .f32⟩
  | 26 => ⟨S32768x1024, .f32⟩
  | 27 => ⟨S8x4096x1024, .f32⟩
  | 28 => ⟨S8x4096x1024, .f32⟩
  | 29 => ⟨S_, .f32⟩
  | 30 => ⟨S8x4096x1024, .f32⟩
  | 31 => ⟨S8x4096x1024, .f32⟩
  | 32 => ⟨S_, .f32⟩
  | 33 => ⟨S8x4096x1024, .f32⟩
  | 34 => ⟨S8x4096x1024, .f32⟩
  | 35 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c : Ref sig .tc := ⟨.hbm, 76, rfl⟩
abbrev main_call0_v0 : Ref sig .tc := ⟨.hbm, 77, rfl⟩
abbrev main_v59 : Ref sig .tc := ⟨.hbm, 78, rfl⟩
abbrev main_call1_v0 : Ref sig .tc := ⟨.hbm, 79, rfl⟩
abbrev main_call1_call0_cst : Ref sig .tc := ⟨.hbm, 80, rfl⟩
abbrev main_call1_call0_v0 : Ref sig .tc := ⟨.hbm, 81, rfl⟩
abbrev main_call1_call0_v1 : Ref sig .tc := ⟨.hbm, 82, rfl⟩
abbrev main_call1_call0_v2 : Ref sig .tc := ⟨.hbm, 83, rfl⟩
abbrev main_call1_call0_v3 : Ref sig .tc := ⟨.hbm, 84, rfl⟩
abbrev main_call1_call0_v4 : Ref sig .tc := ⟨.hbm, 85, rfl⟩
abbrev main_call1_call0_v5 : Ref sig .tc := ⟨.hbm, 86, rfl⟩
abbrev main_call1_call0_v6 : Ref sig .tc := ⟨.hbm, 87, rfl⟩
abbrev main_call1_call0_v7 : Ref sig .tc := ⟨.hbm, 88, rfl⟩
abbrev main_call1_call0_v8 : Ref sig .tc := ⟨.hbm, 89, rfl⟩
abbrev main_call1_call0_v9 : Ref sig .tc := ⟨.hbm, 90, rfl⟩
abbrev main_call1_call0_v10 : Ref sig .tc := ⟨.hbm, 91, rfl⟩
abbrev main_call1_call0_v11 : Ref sig .tc := ⟨.hbm, 92, rfl⟩
abbrev main_call1_v1 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_8 : Ref sig .tc := ⟨.hbm, 98, rfl⟩
abbrev main_v64 : Ref sig .tc := ⟨.hbm, 99, rfl⟩
abbrev main_v65 : Ref sig .tc := ⟨.hbm, 100, rfl⟩
abbrev main_cst_9 : Ref sig .tc := ⟨.hbm, 101, rfl⟩
abbrev main_v66 : Ref sig .tc := ⟨.hbm, 102, rfl⟩
abbrev main_v67 : Ref sig .tc := ⟨.hbm, 103, rfl⟩
abbrev main_cst_10 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_11 : Ref sig .tc := ⟨.hbm, 116, rfl⟩
abbrev main_v79 : Ref sig .tc := ⟨.hbm, 117, rfl⟩
abbrev main_v80 : Ref sig .tc := ⟨.hbm, 118, rfl⟩
abbrev main_cst_12 : Ref sig .tc := ⟨.hbm, 119, rfl⟩
abbrev main_v81 : Ref sig .tc := ⟨.hbm, 120, rfl⟩
abbrev main_v82 : Ref sig .tc := ⟨.hbm, 121, rfl⟩
abbrev main_cst_13 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_14 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_15 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_16 : Ref sig .tc := ⟨.hbm, 148, rfl⟩
abbrev main_v106 : Ref sig .tc := ⟨.hbm, 149, rfl⟩
abbrev main_v107 : Ref sig .tc := ⟨.hbm, 150, rfl⟩
abbrev main_cst_17 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_18 : Ref sig .tc := ⟨.hbm, 157, rfl⟩
abbrev main_v113 : Ref sig .tc := ⟨.hbm, 158, rfl⟩
abbrev main_v114 : Ref sig .tc := ⟨.hbm, 159, rfl⟩
abbrev main_cst_19 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩

abbrev nD : Nat := 1
abbrev τ : Topo := Topo.v7x

variable {F : FTy → Type} [FloatOps F]
-- ==== Kernel3.lean ====
abbrev S32x8x1024 : Shape := ⟨3, ![32, 8, 1024]⟩
abbrev S1x1024 : Shape := ⟨2, ![1, 1024]⟩
abbrev S1x1024x5128 : Shape := ⟨3, ![1, 1024, 5128]⟩
abbrev S1x8 : Shape := ⟨2, ![1, 8]⟩
abbrev S1x64 : Shape := ⟨2, ![1, 64]⟩
abbrev S1024x5128 : Shape := ⟨2, ![1024, 5128]⟩
abbrev S1024x512 : Shape := ⟨2, ![1024, 512]⟩
abbrev S1024x8 : Shape := ⟨2, ![1024, 8]⟩
abbrev S1024x1024 : Shape := ⟨2, ![1024, 1024]⟩
abbrev S1024x5120 : Shape := ⟨2, ![1024, 5120]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S64 : Shape := ⟨1, ![64]⟩
abbrev S8x64 : Shape := ⟨2, ![8, 64]⟩
abbrev S4x512 : Shape := ⟨2, ![4, 512]⟩
abbrev S256x1024 : Shape := ⟨2, ![256, 1024]⟩
abbrev S1024 : Shape := ⟨1, ![1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 87
  | .vmem => 16
  | .smem => 0
  | _ => 0

abbrev bufTy : (tb : Table) → Fin (tcTables nBuf tb) → BufTy
  | .hbm, ⟨0, _⟩ => ⟨S32x8x1024, .f32⟩
  | .hbm, ⟨1, _⟩ => ⟨S1x1024, .f32⟩
  | .hbm, ⟨2, _⟩ => ⟨S1x1024x5128, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1024x5128, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x8, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x1024, .f32⟩
  | .hbm, ⟨18, _⟩ => ⟨S1024x5120, .f32⟩
  | .hbm, ⟨19, _⟩ => ⟨S1024x5120, .bf16⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1024x128, .bf16⟩
  | .hbm, ⟨24, _⟩ => ⟨S8, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S512, .i32⟩
  | .hbm, ⟨30, _⟩ => ⟨S_, .i32⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S512, .i32⟩
  | .hbm, ⟨39, _⟩ => ⟨S512, .i32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S1x512, .i32⟩
  | .hbm, ⟨50, _⟩ => ⟨S512x512, .i32⟩
  | .hbm, ⟨51, _⟩ => ⟨S512x512, .i32⟩
  | .hbm, ⟨52, _⟩ => ⟨S512x512, .i1⟩
  | .hbm, ⟨53, _⟩ => ⟨S512x512, .bf16⟩
  | .hbm, ⟨54, _⟩ => ⟨S64, .f32⟩
  | .hbm, ⟨55, _⟩ => ⟨S1x64, .f32⟩
  | .hbm, ⟨56, _⟩ => ⟨S8x64, .f32⟩
  | .hbm, ⟨57, _⟩ => ⟨S512, .f32⟩
  | .hbm, ⟨58, _⟩ => ⟨S64, .f32⟩
  | .hbm, ⟨59, _⟩ => ⟨S1x64, .f32⟩
  | .hbm, ⟨60, _⟩ => ⟨S8x64, .f32⟩
  | .hbm, ⟨61, _⟩ => ⟨S512, .f32⟩
  | .hbm, ⟨62, _⟩ => ⟨S64, .f32⟩
  | .hbm, ⟨63, _⟩ => ⟨S1x64, .f32⟩
  | .hbm, ⟨64, _⟩ => ⟨S8x64, .f32⟩
  | .hbm, ⟨65, _⟩ => ⟨S512, .f32⟩
  | .hbm, ⟨66, _⟩ => ⟨S64, .f32⟩
  | .hbm, ⟨67, _⟩ => ⟨S1x64, .f32⟩
  | .hbm, ⟨68, _⟩ => ⟨S8x64, .f32⟩
  | .hbm, ⟨69, _⟩ => ⟨S512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S4x512, .f32⟩
  | .hbm, ⟨75, _⟩ => ⟨S256x1024, .f32⟩
  | .hbm, ⟨76, _⟩ => ⟨S1024, .f32⟩
  | .hbm, ⟨77, _⟩ => ⟨S1x1024, .f32⟩
  | .hbm, ⟨78, _⟩ => ⟨S256x512, .bf16⟩
  | .hbm, ⟨79, _⟩ => ⟨S256x512, .f32⟩
  | .hbm, ⟨80, _⟩ => ⟨S256x512, .f32⟩
  | .hbm, ⟨81, _⟩ => ⟨S256x128, .f32⟩
  | .hbm, ⟨82, _⟩ => ⟨S256x512, .bf16⟩
  | .hbm, ⟨83, _⟩ => ⟨S256x512, .f32⟩
  | .hbm, ⟨84, _⟩ => ⟨S256x512, .f32⟩
  | .hbm, ⟨85, _⟩ => ⟨S256x1024, .f32⟩
  | .hbm, ⟨86, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x5120, .bf16⟩
  | .local _ .vmem, ⟨3, _⟩ => ⟨S1024x128, .bf16⟩
  | .local _ .vmem, ⟨4, _⟩ => ⟨S1x128, .f32⟩
  | .local _ .vmem, ⟨5, _⟩ => ⟨S512x512, .bf16⟩
  | .local _ .vmem, ⟨6, _⟩ => ⟨S4x512, .f32⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x1024, .f32⟩
  | .local _ .vmem, ⟨15, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49_0 : Ref sig .tc := ⟨.hbm, 78, rfl⟩
abbrev main_v49_1 : Ref sig .tc := ⟨.hbm, 79, rfl⟩
abbrev main_v49_2 : Ref sig .tc := ⟨.hbm, 80, rfl⟩
abbrev main_v49_3 : Ref sig .tc := ⟨.hbm, 81, rfl⟩
abbrev main_v49_4 : Ref sig .tc := ⟨.hbm, 82, rfl⟩
abbrev main_v49_5 : Ref sig .tc := ⟨.hbm, 83, rfl⟩
abbrev main_v49_6 : Ref sig .tc := ⟨.hbm, 84, rfl⟩
abbrev main_v49_7 : Ref sig .tc := ⟨.hbm, 85, rfl⟩
abbrev main_v49_8 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference3Ideal.lean ====
abbrev S32x8x1024 : Shape := ⟨3, ![32, 8, 1024]⟩
abbrev S1x1024 : Shape := ⟨2, ![1, 1024]⟩
abbrev S1x1024x5128 : Shape := ⟨3, ![1, 1024, 5128]⟩
abbrev S1x8 : Shape := ⟨2, ![1, 8]⟩
abbrev S1x64 : Shape := ⟨2, ![1, 64]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S1024x5128 : Shape := ⟨2, ![1024, 5128]⟩
abbrev S32x8x5128 : Shape := ⟨3, ![32, 8, 5128]⟩
abbrev S32x8x512 : Shape := ⟨3, ![32, 8, 512]⟩
abbrev S32x8x8 : Shape := ⟨3, ![32, 8, 8]⟩
abbrev S32x8x8x64 : Shape := ⟨4, ![32, 8, 8, 64]⟩
abbrev S64 : Shape := ⟨1, ![64]⟩
abbrev S32x8x8x1 : Shape := ⟨4, ![32, 8, 8, 1]⟩
abbrev S1x1x1x64 : Shape := ⟨4, ![1, 1, 1, 64]⟩
abbrev S8 : Shape := ⟨1, ![8]⟩
abbrev S1x1x8 : Shape := ⟨3, ![1, 1, 8]⟩
abbrev S32x8x128 : Shape := ⟨3, ![32, 8, 128]⟩
abbrev S32x8x4x2x64 : Shape := ⟨5, ![32, 8, 4, 2, 64]⟩
abbrev S32x8x4x2 : Shape := ⟨4, ![32, 8, 4, 2]⟩
abbrev S32x8x4x2x1 : Shape := ⟨5, ![32, 8, 4, 2, 1]⟩
abbrev S1x1x1x1x64 : Shape := ⟨5, ![1, 1, 1, 1, 64]⟩
abbrev S256x512 : Shape := ⟨2, ![256, 512]⟩
abbrev S256x128 : Shape := ⟨2, ![256, 128]⟩
abbrev S256x1024 : Shape := ⟨2, ![256, 1024]⟩

abbrev nBuf : Space → Nat
  | .hbm => 164
  | .vmem => 0
  | .smem => 0
  | _ => 0

abbrev hbmTy0_0 (i : Nat) : BufTy := match i % 128 with
  | 0 => ⟨S32x8x1024, .f32⟩
  | 1 => ⟨S1x1024, .f32⟩
  | 2 => ⟨S1x1024x5128, .f32⟩
  | 3 => ⟨S1x8, .f32⟩
  | 4 => ⟨S1x64, .f32⟩
  | 5 => ⟨S1x64, .f32⟩
  | 6 => ⟨S1x64, .f32⟩
  | 7 => ⟨S1x64, .f32⟩
  | 8 => ⟨S1024, .f32⟩
  | 9 => ⟨S32x8x1024, .f32⟩
  | 10 => ⟨S_, .f32⟩
  | 11 => ⟨S32x8, .f32⟩
  | 12 => ⟨S32x8x1, .f32⟩
  | 13 => ⟨S_, .f32⟩
  | 14 => ⟨S32x8x1, .f32⟩
  | 15 => ⟨S32x8x1, .f32⟩
  | 16 => ⟨S_, .f32⟩
  | 17 => ⟨S32x8x1, .f32⟩
  | 18 => ⟨S32x8x1, .f32⟩
  | 19 => ⟨S32x8x1, .f32⟩
  | 20 => ⟨S32x8x1024, .f32⟩
  | 21 => ⟨S32x8x1024, .f32⟩
  | 22 => ⟨S1x1x1024, .f32⟩
  | 23 => ⟨S32x8x1024, .f32⟩
  | 24 => ⟨S32x8x1024, .f32⟩
  | 25 => ⟨S1024x5128, .f32⟩
  | 26 => ⟨S32x8x5128, .f32⟩
  | 27 => ⟨S32x8x512, .f32⟩
  | 28 => ⟨S32x8x512, .f32⟩
  | 29 => ⟨S32x8x512, .f32⟩
  | 30 => ⟨S32x8x8, .f32⟩
  | 31 => ⟨S32x8x512, .f32⟩
  | 32 => ⟨S32x8x512, .f32⟩
  | 33 => ⟨S32x8x512, .f32⟩
  | 34 => ⟨S32x8x1024, .f32⟩
  | 35 => ⟨S32x8x1024, .f32⟩
  | 36 => ⟨S32x8x8x64, .f32⟩
  | 37 => ⟨S64, .f32⟩
  | 38 => ⟨S32x8x8x64, .f32⟩
  | 39 => ⟨S_, .f32⟩
  | 40 => ⟨S32x8x8, .f32⟩
  | 41 => ⟨S32x8x8x1, .f32⟩
  | 42 => ⟨S_, .f32⟩
  | 43 => ⟨S32x8x8x1, .f32⟩
  | 44 => ⟨S32x8x8x1, .f32⟩
  | 45 => ⟨S_, .f32⟩
  | 46 => ⟨S32x8x8x1, .f32⟩
  | 47 => ⟨S32x8x8x1, .f32⟩
  | 48 => ⟨S32x8x8x1, .f32⟩
  | 49 => ⟨S32x8x8x64, .f32⟩
  | 50 => ⟨S32x8x8x64, .f32⟩
  | 51 => ⟨S1x1x1x64, .f32⟩
  | 52 => ⟨S32x8x8x64, .f32⟩
  | 53 => ⟨S32x8x8x64, .f32⟩
  | 54 => ⟨S32x8x8x64, .f32⟩
  | 55 => ⟨S64, .f32⟩
  | 56 => ⟨S32x8x8x64, .f32⟩
  | 57 => ⟨S_, .f32⟩
  | 58 => ⟨S32x8x8, .f32⟩
  | 59 => ⟨S32x8x8x1, .f32⟩
  | 60 => ⟨S_, .f32⟩
  | 61 => ⟨S32x8x8x1, .f32⟩
  | 62 => ⟨S32x8x8x1, .f32⟩
  | 63 => ⟨S_, .f32⟩
  | 64 => ⟨S32x8x8x1, .f32⟩
  | 65 => ⟨S32x8x8x1, .f32⟩
  | 66 => ⟨S32x8x8x1, .f32⟩
  | 67 => ⟨S32x8x8x64, .f32⟩
  | 68 => ⟨S32x8x8x64, .f32⟩
  | 69 => ⟨S1x1x1x64, .f32⟩
  | 70 => ⟨S32x8x8x64, .f32⟩
  | 71 => ⟨S32x8x8x64, .f32⟩
  | 72 => ⟨S8, .f32⟩
  | 73 => ⟨S1x1x8, .f32⟩
  | 74 => ⟨S32x8x8, .f32⟩
  | 75 => ⟨S32x8x8, .f32⟩
  | 76 => ⟨S_, .i32⟩
  | 77 => ⟨S_, .f32⟩
  | 78 => ⟨S32x8x128, .f32⟩
  | 79 => ⟨S32x8x128, .f32⟩
  | 80 => ⟨S_, .f32⟩
  | 81 => ⟨S32x8x128, .f32⟩
  | 82 => ⟨S32x8x128, .f32⟩
  | 83 => ⟨S32x8x128, .f32⟩
  | 84 => ⟨S32x8x128, .f32⟩
  | 85 => ⟨S32x8x128, .i1⟩
  | 86 => ⟨S32x8x128, .f32⟩
  | 87 => ⟨S32x8x128, .f32⟩
  | 88 => ⟨S32x8x128, .f32⟩
  | 89 => ⟨S32x8x128, .f32⟩
  | 90 => ⟨S32x8x128, .f32⟩
  | 91 => ⟨S32x8x128, .f32⟩
  | 92 => ⟨S32x8x128, .f32⟩
  | 93 => ⟨S32x8x128, .f32⟩
  | 94 => ⟨S32x8x128, .f32⟩
  | 95 => ⟨S32x8x4x2x64, .f32⟩
  | 96 => ⟨S64, .f32⟩
  | 97 => ⟨S32x8x4x2x64, .f32⟩
  | 98 => ⟨S_, .f32⟩
  | 99 => ⟨S32x8x4x2, .f32⟩
  | 100 => ⟨S32x8x4x2x1, .f32⟩
  | 101 => ⟨S_, .f32⟩
  | 102 => ⟨S32x8x4x2x1, .f32⟩
  | 103 => ⟨S32x8x4x2x1, .f32⟩
  | 104 => ⟨S_, .f32⟩
  | 105 => ⟨S32x8x4x2x1, .f32⟩
  | 106 => ⟨S32x8x4x2x1, .f32⟩
  | 107 => ⟨S32x8x4x2x1, .f32⟩
  | 108 => ⟨S32x8x4x2x64, .f32⟩
  | 109 => ⟨S32x8x4x2x64, .f32⟩
  | 110 => ⟨S1x1x1x1x64, .f32⟩
  | 111 => ⟨S32x8x4x2x64, .f32⟩
  | 112 => ⟨S32x8x4x2x64, .f32⟩
  | 113 => ⟨S32x8x4x2x64, .f32⟩
  | 114 => ⟨S64, .f32⟩
  | 115 => ⟨S32x8x4x2x64, .f32⟩
  | 116 => ⟨S_, .f32⟩
  | 117 => ⟨S32x8x4x2, .f32⟩
  | 118 => ⟨S32x8x4x2x1, .f32⟩
  | 119 => ⟨S_, .f32⟩
  | 120 => ⟨S32x8x4x2x1, .f32⟩
  | 121 => ⟨S32x8x4x2x1, .f32⟩
  | 122 => ⟨S_, .f32⟩
  | 123 => ⟨S32x8x4x2x1, .f32⟩
  | 124 => ⟨S32x8x4x2x1, .f32⟩
  | 125 => ⟨S32x8x4x2x1, .f32⟩
  | 126 => ⟨S32x8x4x2x64, .f32⟩
  | 127 => ⟨S32x8x4x2x64, .f32⟩
  | _ => ⟨S32x8x1024, .f32⟩

abbrev hbmTy0_1 (i : Nat) : BufTy := match i % 128 with
  | 0 => ⟨S1x1x1x1x64, .f32⟩
  | 1 => ⟨S32x8x4x2x64, .f32⟩
  | 2 => ⟨S32x8x4x2x64, .f32⟩
  | 3 => ⟨S256x512, .f32⟩
  | 4 => ⟨S_, .f32⟩
  | 5 => ⟨S256x512, .f32⟩
  | 6 => ⟨S256x512, .f32⟩
  | 7 => ⟨S256x512, .bf16⟩
  | 8 => ⟨S256x512, .f32⟩
  | 9 => ⟨S256x512, .f32⟩
  | 10 => ⟨S256x128, .f32⟩
  | 11 => ⟨S256x512, .f32⟩
  | 12 => ⟨S_, .f32⟩
  | 13 => ⟨S256x512, .f32⟩
  | 14 => ⟨S256x512, .f32⟩
  | 15 => ⟨S256x512, .bf16⟩
  | 16 => ⟨S256x512, .f32⟩
  | 17 => ⟨S256x512, .f32⟩
  | 18 => ⟨S32x8x1024, .f32⟩
  | 19 => ⟨S32x8x1024, .f32⟩
  | 20 => ⟨S_, .f32⟩
  | 21 => ⟨S32x8x1024, .f32⟩
  | 22 => ⟨S32x8x1024, .f32⟩
  | 23 => ⟨S_, .f32⟩
  | 24 => ⟨S32x8x1024, .f32⟩
  | 25 => ⟨S32x8x1024, .f32⟩
  | 26 => ⟨S256x1024, .f32⟩
  | 27 => ⟨S32x8x1024, .f32⟩
  | 28 => ⟨S32x8x1024, .f32⟩
  | 29 => ⟨S_, .f32⟩
  | 30 => ⟨S32x8x1024, .f32⟩
  | 31 => ⟨S32x8x1024, .f32⟩
  | 32 => ⟨S_, .f32⟩
  | 33 => ⟨S32x8x1024, .f32⟩
  | 34 => ⟨S32x8x1024, .f32⟩
  | 35 => ⟨S256x1024, .f32⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c : Ref sig .tc := ⟨.hbm, 76, rfl⟩
abbrev main_call0_v0 : Ref sig .tc := ⟨.hbm, 77, rfl⟩
abbrev main_v59 : Ref sig .tc := ⟨.hbm, 78, rfl⟩
abbrev main_call1_v0 : Ref sig .tc := ⟨.hbm, 79, rfl⟩
abbrev main_call1_call0_cst : Ref sig .tc := ⟨.hbm, 80, rfl⟩
abbrev main_call1_call0_v0 : Ref sig .tc := ⟨.hbm, 81, rfl⟩
abbrev main_call1_call0_v1 : Ref sig .tc := ⟨.hbm, 82, rfl⟩
abbrev main_call1_call0_v2 : Ref sig .tc := ⟨.hbm, 83, rfl⟩
abbrev main_call1_call0_v3 : Ref sig .tc := ⟨.hbm, 84, rfl⟩
abbrev main_call1_call0_v4 : Ref sig .tc := ⟨.hbm, 85, rfl⟩
abbrev main_call1_call0_v5 : Ref sig .tc := ⟨.hbm, 86, rfl⟩
abbrev main_call1_call0_v6 : Ref sig .tc := ⟨.hbm, 87, rfl⟩
abbrev main_call1_call0_v7 : Ref sig .tc := ⟨.hbm, 88, rfl⟩
abbrev main_call1_call0_v8 : Ref sig .tc := ⟨.hbm, 89, rfl⟩
abbrev main_call1_call0_v9 : Ref sig .tc := ⟨.hbm, 90, rfl⟩
abbrev main_call1_call0_v10 : Ref sig .tc := ⟨.hbm, 91, rfl⟩
abbrev main_call1_call0_v11 : Ref sig .tc := ⟨.hbm, 92, rfl⟩
abbrev main_call1_v1 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_8 : Ref sig .tc := ⟨.hbm, 98, rfl⟩
abbrev main_v64 : Ref sig .tc := ⟨.hbm, 99, rfl⟩
abbrev main_v65 : Ref sig .tc := ⟨.hbm, 100, rfl⟩
abbrev main_cst_9 : Ref sig .tc := ⟨.hbm, 101, rfl⟩
abbrev main_v66 : Ref sig .tc := ⟨.hbm, 102, rfl⟩
abbrev main_v67 : Ref sig .tc := ⟨.hbm, 103, rfl⟩
abbrev main_cst_10 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_11 : Ref sig .tc := ⟨.hbm, 116, rfl⟩
abbrev main_v79 : Ref sig .tc := ⟨.hbm, 117, rfl⟩
abbrev main_v80 : Ref sig .tc := ⟨.hbm, 118, rfl⟩
abbrev main_cst_12 : Ref sig .tc := ⟨.hbm, 119, rfl⟩
abbrev main_v81 : Ref sig .tc := ⟨.hbm, 120, rfl⟩
abbrev main_v82 : Ref sig .tc := ⟨.hbm, 121, rfl⟩
abbrev main_cst_13 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_14 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_15 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_16 : Ref sig .tc := ⟨.hbm, 148, rfl⟩
abbrev main_v106 : Ref sig .tc := ⟨.hbm, 149, rfl⟩
abbrev main_v107 : Ref sig .tc := ⟨.hbm, 150, rfl⟩
abbrev main_cst_17 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_18 : Ref sig .tc := ⟨.hbm, 157, rfl⟩
abbrev main_v113 : Ref sig .tc := ⟨.hbm, 158, rfl⟩
abbrev main_v114 : Ref sig .tc := ⟨.hbm, 159, rfl⟩
abbrev main_cst_19 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S512x1024 : Shape := ⟨2, ![512, 1024]⟩
abbrev S1024x1024 : Shape := ⟨2, ![1024, 1024]⟩
abbrev S1024 : Shape := ⟨1, ![1024]⟩
abbrev S32768x128 : Shape := ⟨2, ![32768, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 32
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x1024, .f32⟩
  | .hbm, ⟨4, _⟩ => ⟨S32768x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S1024x32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S32, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1x128, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x128, .f32⟩
  | .local _ .vmem, ⟨21, _⟩ => ⟨S256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel4Ideal.lean ====
abbrev S32768x1024 : Shape := ⟨2, ![32768, 1024]⟩
abbrev S32768x512 : Shape := ⟨2, ![32768, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S512x1024 : Shape := ⟨2, ![512, 1024]⟩
abbrev S1024x1024 : Shape := ⟨2, ![1024, 1024]⟩
abbrev S1024 : Shape := ⟨1, ![1024]⟩
abbrev S32768x128 : Shape := ⟨2, ![32768, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 32
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x1024, .f32⟩
  | .hbm, ⟨4, _⟩ => ⟨S32768x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S1024x32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S32, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1x128, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x128, .f32⟩
  | .local _ .vmem, ⟨21, _⟩ => ⟨S256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S32768x1024 : Shape := ⟨2, ![32768, 1024]⟩
abbrev S32768x512 : Shape := ⟨2, ![32768, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x32 : Shape := ⟨2, ![1024, 32]⟩
abbrev S1024x128 : Shape := ⟨2, ![1024, 128]⟩
abbrev S32 : Shape := ⟨1, ![32]⟩
abbrev S128 : Shape := ⟨1, ![128]⟩
abbrev S32768x128 : Shape := ⟨2, ![32768, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x1024, .f32⟩
  | .hbm, ⟨4, _⟩ => ⟨S32768x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S32768x512, .f32⟩
  | .hbm, ⟨12, _⟩ => ⟨S512x1024, .f32⟩
  | .hbm, ⟨13, _⟩ => ⟨S32768x1024, .f32⟩
  | .hbm, ⟨14, _⟩ => ⟨S32768x1024, .f32⟩
  | .hbm, ⟨15, _⟩ => ⟨S32768x512, .f32⟩
  | .hbm, ⟨16, _⟩ => ⟨S512x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S1024x1024, .f32⟩
  | .hbm, ⟨21, _⟩ => ⟨S32768x1024, .f32⟩
  | .hbm, ⟨22, _⟩ => ⟨S32768x1024, .f32⟩
  | .hbm, ⟨23, _⟩ => ⟨S1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1024x32, .f32⟩
  | .hbm, ⟨41, _⟩ => ⟨S_, .i32⟩
  | .hbm, ⟨42, _⟩ => ⟨S_, .f32⟩
  | .hbm, ⟨43, _⟩ => ⟨S1024x128, .f32⟩
  | .hbm, ⟨44, _⟩ => ⟨S32, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S32768x128, .f32⟩
  | .hbm, ⟨49, _⟩ => ⟨S1x128, .f32⟩
  | .hbm, ⟨50, _⟩ => ⟨S32768x128, .f32⟩
  | .hbm, ⟨51, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_c_2 : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Kernel5.lean ====
abbrev S139264x1024 : Shape := ⟨2, ![139264, 1024]⟩
abbrev S544 : Shape := ⟨1, ![544]⟩
abbrev S1 : Shape := ⟨1, ![1]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 16
  | .smem => 2
  | _ => 0

abbrev bufTy : (tb : Table) → Fin (tcTables nBuf tb) → BufTy
  | .hbm, ⟨0, _⟩ => ⟨S139264x1024, .f32⟩
  | .hbm, ⟨1, _⟩ => ⟨S32x1024x1024, .bf16⟩
  | .hbm, ⟨2, _⟩ => ⟨S32x1024x1024, .bf16⟩
  | .hbm, ⟨3, _⟩ => ⟨S32x1x1024, .f32⟩
  | .hbm, ⟨4, _⟩ => ⟨S32x1x1024, .f32⟩
  | .hbm, ⟨5, _⟩ => ⟨S32x1024x1024, .bf16⟩
  | .hbm, ⟨6, _⟩ => ⟨S32x1x1024, .f32⟩
  | .hbm, ⟨7, _⟩ => ⟨S139264x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .smem, ⟨0, _⟩ => ⟨S544, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v4 : BitVec 1 := Scalar.cmpi .sge arg0 v0
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S139264x1024 : Shape := ⟨2, ![139264, 1024]⟩
abbrev S544 : Shape := ⟨1, ![544]⟩
abbrev S1 : Shape := ⟨1, ![1]⟩
abbrev S32x1024x1024 : Shape := ⟨3, ![32, 1024, 1024]⟩
abbrev S32x1x1024 : Shape := ⟨3, ![32, 1, 1024]⟩
abbrev S544x256x1024 : Shape := ⟨3, ![544, 256, 1024]⟩
abbrev S_ : Shape := ⟨0, ![]⟩
abbrev S544x1 : Shape := ⟨2, ![544, 1]⟩
abbrev S544x1024x1024 : Shape := ⟨3, ![544, 1024, 1024]⟩
abbrev S544x1x1024 : Shape := ⟨3, ![544, 1, 1024]⟩
abbrev S544x1x1 : Shape := ⟨3, ![544, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S139264x1024, .f32⟩
  | .hbm, ⟨1, _⟩ => ⟨S544, .i32⟩
  | .hbm, ⟨2, _⟩ => ⟨S1, .i32⟩
  | .hbm, ⟨3, _⟩ => ⟨S32x1024x1024, .bf16⟩
  | .hbm, ⟨4, _⟩ => ⟨S32x1024x1024, .bf16⟩
  | .hbm, ⟨5, _⟩ => ⟨S32x1x1024, .f32⟩
  | .hbm, ⟨6, _⟩ => ⟨S32x1x1024, .f32⟩
  | .hbm, ⟨7, _⟩ => ⟨S32x1024x1024, .bf16⟩
  | .hbm, ⟨8, _⟩ => ⟨S32x1x1024, .f32⟩
  | .hbm, ⟨9, _⟩ => ⟨S544x256x1024, .f32⟩
  | .hbm, ⟨10, _⟩ => ⟨S32x1024x1024, .f32⟩
  | .hbm, ⟨11, _⟩ => ⟨S_, .i32⟩
  | .hbm, ⟨12, _⟩ => ⟨S544, .i32⟩
  | .hbm, ⟨13, _⟩ => ⟨S544, .i1⟩
  | .hbm, ⟨14, _⟩ => ⟨S_, .i32⟩
  | .hbm, ⟨15, _⟩ => ⟨S544, .i32⟩
  | .hbm, ⟨16, _⟩ => ⟨S544, .i32⟩
  | .hbm, ⟨17, _⟩ => ⟨S544, .i32⟩
  | .hbm, ⟨18, _⟩ => ⟨S544x1, .i32⟩
  | .hbm, ⟨19, _⟩ => ⟨S544x1024x1024, .f32⟩
  | .hbm, ⟨20, _⟩ => ⟨S32x1024x1024, .f32⟩
  | .hbm, ⟨21, _⟩ => ⟨S_, .i32⟩
  | .hbm, ⟨22, _⟩ => ⟨S544, .i32⟩
  | .hbm, ⟨23, _⟩ => ⟨S544, .i1⟩
  | .hbm, ⟨24, _⟩ => ⟨S_, .i32⟩
  | .hbm, ⟨25, _⟩ => ⟨S544, .i32⟩
  | .hbm, ⟨26, _⟩ => ⟨S544, .i32⟩
  | .hbm, ⟨27, _⟩ => ⟨S544, .i32⟩
  | .hbm, ⟨28, _⟩ => ⟨S544x1, .i32⟩
  | .hbm, ⟨29, _⟩ => ⟨S544x1024x1024, .f32⟩
  | .hbm, ⟨30, _⟩ => ⟨S32x1024x1024, .f32⟩
  | .hbm, ⟨31, _⟩ => ⟨S_, .i32⟩
  | .hbm, ⟨32, _⟩ => ⟨S544, .i32⟩
  | .hbm, ⟨33, _⟩ => ⟨S544, .i1⟩
  | .hbm, ⟨34, _⟩ => ⟨S_, .i32⟩
  | .hbm, ⟨35, _⟩ => ⟨S544, .i32⟩
  | .hbm, ⟨36, _⟩ => ⟨S544, .i32⟩
  | .hbm, ⟨37, _⟩ => ⟨S544, .i32⟩
  | .hbm, ⟨38, _⟩ => ⟨S544x1, .i32⟩
  | .hbm, ⟨39, _⟩ => ⟨S544x1024x1024, .f32⟩
  | .hbm, ⟨40, _⟩ => ⟨S544x256x1024, .f32⟩
  | .hbm, ⟨41, _⟩ => ⟨S_, .i32⟩
  | .hbm, ⟨42, _⟩ => ⟨S544, .i32⟩
  | .hbm, ⟨43, _⟩ => ⟨S544, .i1⟩
  | .hbm, ⟨44, _⟩ => ⟨S_, .i32⟩
  | .hbm, ⟨45, _⟩ => ⟨S544, .i32⟩
  | .hbm, ⟨46, _⟩ => ⟨S544, .i32⟩
  | .hbm, ⟨47, _⟩ => ⟨S544, .i32⟩
  | .hbm, ⟨48, _⟩ => ⟨S544x1, .i32⟩
  | .hbm, ⟨49, _⟩ => ⟨S544x1x1024, .f32⟩
  | .hbm, ⟨50, _⟩ => ⟨S544x256x1024, .f32⟩
  | .hbm, ⟨51, _⟩ => ⟨S544x256x1024, .f32⟩
  | .hbm, ⟨52, _⟩ => ⟨S_, .f32⟩
  | .hbm, ⟨53, _⟩ => ⟨S544x256x1024, .f32⟩
  | .hbm, ⟨54, _⟩ => ⟨S544x256x1024, .f32⟩
  | .hbm, ⟨55, _⟩ => ⟨S544x256x1024, .f32⟩
  | .hbm, ⟨56, _⟩ => ⟨S_, .i32⟩
  | .hbm, ⟨57, _⟩ => ⟨S544, .i32⟩
  | .hbm, ⟨58, _⟩ => ⟨S544, .i1⟩
  | .hbm, ⟨59, _⟩ => ⟨S_, .i32⟩
  | .hbm, ⟨60, _⟩ => ⟨S544, .i32⟩
  | .hbm, ⟨61, _⟩ => ⟨S544, .i32⟩
  | .hbm, ⟨62, _⟩ => ⟨S544, .i32⟩
  | .hbm, ⟨63, _⟩ => ⟨S544x1, .i32⟩
  | .hbm, ⟨64, _⟩ => ⟨S544x1x1024, .f32⟩
  | .hbm, ⟨65, _⟩ => ⟨S544x256x1024, .f32⟩
  | .hbm, ⟨66, _⟩ => ⟨S544x256x1024, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S544x256x1024, .f32⟩
  | .hbm, ⟨71, _⟩ => ⟨S544x256x1024, .f32⟩
  | .hbm, ⟨72, _⟩ => ⟨S_, .f32⟩
  | .hbm, ⟨73, _⟩ => ⟨S544x256x1024, .f32⟩
  | .hbm, ⟨74, _⟩ => ⟨S544x256x1024, .f32⟩
  | .hbm, ⟨75, _⟩ => ⟨S_, .f32⟩
  | .hbm, ⟨76, _⟩ => ⟨S544x256x1024, .f32⟩
  | .hbm, ⟨77, _⟩ => ⟨S544x256x1024, .f32⟩
  | .hbm, ⟨78, _⟩ => ⟨S544x256x1024, .f32⟩
  | .hbm, ⟨79, _⟩ => ⟨S544x256x1024, .f32⟩
  | .hbm, ⟨80, _⟩ => ⟨S_, .f32⟩
  | .hbm, ⟨81, _⟩ => ⟨S544x256x1024, .f32⟩
  | .hbm, ⟨82, _⟩ => ⟨S544x256x1024, .f32⟩
  | .hbm, ⟨83, _⟩ => ⟨S_, .f32⟩
  | .hbm, ⟨84, _⟩ => ⟨S544x256x1024, .f32⟩
  | .hbm, ⟨85, _⟩ => ⟨S544x256x1024, .f32⟩
  | .hbm, ⟨86, _⟩ => ⟨S544x256x1024, .f32⟩
  | .hbm, ⟨87, _⟩ => ⟨S_, .f32⟩
  | .hbm, ⟨88, _⟩ => ⟨S544x256x1024, .f32⟩
  | .hbm, ⟨89, _⟩ => ⟨S544x256x1024, .f32⟩
  | .hbm, ⟨90, _⟩ => ⟨S544x256x1024, .f32⟩
  | .hbm, ⟨91, _⟩ => ⟨S544x256x1024, .f32⟩
  | .hbm, ⟨92, _⟩ => ⟨S_, .i32⟩
  | .hbm, ⟨93, _⟩ => ⟨S544, .i32⟩
  | .hbm, ⟨94, _⟩ => ⟨S544, .i1⟩
  | .hbm, ⟨95, _⟩ => ⟨S_, .i32⟩
  | .hbm, ⟨96, _⟩ => ⟨S544, .i32⟩
  | .hbm, ⟨97, _⟩ => ⟨S544, .i32⟩
  | .hbm, ⟨98, _⟩ => ⟨S544, .i32⟩
  | .hbm, ⟨99, _⟩ => ⟨S544x1, .i32⟩
  | .hbm, ⟨100, _⟩ => ⟨S544x1x1024, .f32⟩
  | .hbm, ⟨101, _⟩ => ⟨S544x256x1024, .f32⟩
  | .hbm, ⟨102, _⟩ => ⟨S544x256x1024, .f32⟩
  | .hbm, ⟨103, _⟩ => ⟨S544, .i32⟩
  | .hbm, ⟨104, _⟩ => ⟨S_, .i32⟩
  | .hbm, ⟨105, _⟩ => ⟨S544, .i32⟩
  | .hbm, ⟨106, _⟩ => ⟨S544, .i1⟩
  | .hbm, ⟨107, _⟩ => ⟨S544x1x1, .i1⟩
  | .hbm, ⟨108, _⟩ => ⟨S_, .f32⟩
  | .hbm, ⟨109, _⟩ => ⟨S_, .f32⟩
  | .hbm, ⟨110, _⟩ => ⟨S544x256x1024, .i1⟩
  | .hbm, ⟨111, _⟩ => ⟨S544x256x1024, .f32⟩
  | .hbm, ⟨112, _⟩ => ⟨S544x256x1024, .f32⟩
  | .hbm, ⟨113, _⟩ => ⟨S139264x1024, .f32⟩
  | _, _ => ⟨S139264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_cst_10 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== Kernel6.lean ====
abbrev S8x4096x8 : Shape := ⟨3, ![8, 4096, 8]⟩
abbrev S8x8x4096 : Shape := ⟨3, ![8, 8, 4096]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x8x512 : Shape := ⟨3, ![1, 8, 512]⟩
abbrev S8x128 : Shape := ⟨2, ![8, 128]⟩
abbrev S8x512 : Shape := ⟨2, ![8, 512]⟩
abbrev S24x512 : Shape := ⟨2, ![24, 512]⟩
abbrev S8x1 : Shape := ⟨2, ![8, 1]⟩

abbrev nBuf : Space → Nat
  | .hbm => 11
  | .vmem => 6
  | .smem => 0
  | _ => 0

abbrev bufTy : (tb : Table) → Fin (tcTables nBuf tb) → BufTy
  | .hbm, ⟨0, _⟩ => ⟨S8x4096x8, .f32⟩
  | .hbm, ⟨1, _⟩ => ⟨S8x8x4096, .f32⟩
  | .hbm, ⟨2, _⟩ => ⟨S512, .i32⟩
  | .hbm, ⟨3, _⟩ => ⟨S512x1, .i32⟩
  | .hbm, ⟨4, _⟩ => ⟨S512, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S512x512, .bf16⟩
  | .hbm, ⟨10, _⟩ => ⟨S8x8x4096, .f32⟩
  | .local _ .vmem, ⟨0, _⟩ => ⟨S1x8x512, .f32⟩
  | .local _ .vmem, ⟨1, _⟩ => ⟨S1x8x512, .f32⟩
  | .local _ .vmem, ⟨2, _⟩ => ⟨S512x512, .bf16⟩
  | .local _ .vmem, ⟨3, _⟩ => ⟨S1x8x512, .f32⟩
  | .local _ .vmem, ⟨4, _⟩ => ⟨S1x8x512, .f32⟩
  | .local _ .vmem, ⟨5, _⟩ => ⟨S8x128, .f32⟩
  | _, _ => ⟨S8x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8x4096x8 : Shape := ⟨3, ![8, 4096, 8]⟩
abbrev S_ : Shape := ⟨0, ![]⟩
abbrev S8x8x4096 : Shape := ⟨3, ![8, 8, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x8, .f32⟩
  | .hbm, ⟨1, _⟩ => ⟨S_, .f32⟩
  | .hbm, ⟨2, _⟩ => ⟨S_, .f32⟩
  | .hbm, ⟨3, _⟩ => ⟨S8x4096x8, .f32⟩
  | .hbm, ⟨4, _⟩ => ⟨S8x8x4096, .f32⟩
  | _, _ => ⟨S8x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S32x1024x2048 : Shape := ⟨3, ![32, 1024, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S32x1024x1024 : Shape := ⟨3, ![32, 1024, 1024]⟩
abbrev S1x1024x512 : Shape := ⟨3, ![1, 1024, 512]⟩
abbrev S1x1024x256 : Shape := ⟨3, ![1, 1024, 256]⟩
abbrev S1024x512 : Shape := ⟨2, ![1024, 512]⟩
abbrev S1024x256 : Shape := ⟨2, ![1024, 256]⟩

abbrev nBuf : Space → Nat
  | .hbm => 75
  | .vmem => 7
  | .smem => 0
  | _ => 0

abbrev bufTy : (tb : Table) → Fin (tcTables nBuf tb) → BufTy
  | .hbm, ⟨0, _⟩ => ⟨S32x1024x2048, .f32⟩
  | .hbm, ⟨1, _⟩ => ⟨S512, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S_, .i32⟩
  | .hbm, ⟨17, _⟩ => ⟨S_, .i1⟩
  | .hbm, ⟨18, _⟩ => ⟨S512, .i1⟩
  | .hbm, ⟨19, _⟩ => ⟨S512, .i1⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S512, .i32⟩
  | .hbm, ⟨36, _⟩ => ⟨S512, .i32⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S512, .i1⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S512, .i32⟩
  | .hbm, ⟨45, _⟩ => ⟨S_, .i32⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S512, .i32⟩
  | .hbm, ⟨50, _⟩ => ⟨S_, .i32⟩
  | .hbm, ⟨51, _⟩ => ⟨S512, .i32⟩
  | .hbm, ⟨52, _⟩ => ⟨S512, .i1⟩
  | .hbm, ⟨53, _⟩ => ⟨S512, .i32⟩
  | .hbm, ⟨54, _⟩ => ⟨S512, .i32⟩
  | .hbm, ⟨55, _⟩ => ⟨S_, .i32⟩
  | .hbm, ⟨56, _⟩ => ⟨S512, .i32⟩
  | .hbm, ⟨57, _⟩ => ⟨S512, .i1⟩
  | .hbm, ⟨58, _⟩ => ⟨S512, .i1⟩
  | .hbm, ⟨59, _⟩ => ⟨S_, .i32⟩
  | .hbm, ⟨60, _⟩ => ⟨S512, .i32⟩
  | .hbm, ⟨61, _⟩ => ⟨S512, .i32⟩
  | .hbm, ⟨62, _⟩ => ⟨S512, .i32⟩
  | .hbm, ⟨63, _⟩ => ⟨S_, .i32⟩
  | .hbm, ⟨64, _⟩ => ⟨S512, .i32⟩
  | .hbm, ⟨65, _⟩ => ⟨S512, .i32⟩
  | .hbm, ⟨66, _⟩ => ⟨S512, .i32⟩
  | .hbm, ⟨67, _⟩ => ⟨S512x1, .i32⟩
  | .hbm, ⟨68, _⟩ => ⟨S1x512, .i32⟩
  | .hbm, ⟨69, _⟩ => ⟨S512x512, .i32⟩
  | .hbm, ⟨70, _⟩ => ⟨S512x512, .i32⟩
  | .hbm, ⟨71, _⟩ => ⟨S512x512, .i1⟩
  | .hbm, ⟨72, _⟩ => ⟨S512x512, .bf16⟩
  | .hbm, ⟨73, _⟩ => ⟨S32x1024x1024, .bf16⟩
  | .hbm, ⟨74, _⟩ => ⟨S32x1024x1024, .bf16⟩
  | .local _ .vmem, ⟨0, _⟩ => ⟨S1x1024x512, .f32⟩
  | .local _ .vmem, ⟨1, _⟩ => ⟨S1x1024x512, .f32⟩
  | .local _ .vmem, ⟨2, _⟩ => ⟨S512x512, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | _, _ => ⟨S32x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_c_1 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v4 : Ref sig .tc := ⟨.hbm, 44, rfl⟩
abbrev main_c_2 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v5 : Ref sig .tc := ⟨.hbm, 62, rfl⟩
abbrev main_c_3 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15_0 : Ref sig .tc := ⟨.hbm, 73, rfl⟩
abbrev main_v15_1 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S32x1024x2048 : Shape := ⟨3, ![32, 1024, 2048]⟩
abbrev S32x1024x1024 : Shape := ⟨3, ![32, 1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32x1024x2048, .f32⟩
  | .hbm, ⟨1, _⟩ => ⟨S32x1024x1024, .f32⟩
  | .hbm, ⟨2, _⟩ => ⟨S32x1024x1024, .bf16⟩
  | .hbm, ⟨3, _⟩ => ⟨S32x1024x1024, .f32⟩
  | .hbm, ⟨4, _⟩ => ⟨S32x1024x1024, .bf16⟩
  | _, _ => ⟨S32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Kernel8.lean ====
abbrev S256x1024 : Shape := ⟨2, ![256, 1024]⟩
abbrev S256x512 : Shape := ⟨2, ![256, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S512x1024 : Shape := ⟨2, ![512, 1024]⟩
abbrev S1024x1024 : Shape := ⟨2, ![1024, 1024]⟩
abbrev S1024 : Shape := ⟨1, ![1024]⟩
abbrev S256x128 : Shape := ⟨2, ![256, 128]⟩
abbrev S256 : Shape := ⟨1, ![256]⟩
abbrev S256x1 : Shape := ⟨2, ![256, 1]⟩

abbrev nBuf : Space → Nat
  | .hbm => 32
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S256x1024, .f32⟩
  | .hbm, ⟨4, _⟩ => ⟨S256x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S1024x32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S32, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S1x1024, .f32⟩
  | .hbm, ⟨29, _⟩ => ⟨S256x1024, .f32⟩
  | .hbm, ⟨30, _⟩ => ⟨S256x1024, .f32⟩
  | .hbm, ⟨31, _⟩ => ⟨S256x128, .f32⟩
  | .local _ .vmem, ⟨0, _⟩ => ⟨S256x1024, .f32⟩
  | .local _ .vmem, ⟨1, _⟩ => ⟨S256x512, .bf16⟩
  | .local _ .vmem, ⟨2, _⟩ => ⟨S256x512, .bf16⟩
  | .local _ .vmem, ⟨3, _⟩ => ⟨S256x1024, .f32⟩
  | .local _ .vmem, ⟨4, _⟩ => ⟨S256x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x128, .bf16⟩
  | .local _ .vmem, ⟨10, _⟩ => ⟨S1x128, .f32⟩
  | .local _ .vmem, ⟨11, _⟩ => ⟨S256x1024, .f32⟩
  | .local _ .vmem, ⟨12, _⟩ => ⟨S256x1024, .f32⟩
  | .local _ .vmem, ⟨13, _⟩ => ⟨S256x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference8Ideal.lean ====
abbrev S256x1024 : Shape := ⟨2, ![256, 1024]⟩
abbrev S256x512 : Shape := ⟨2, ![256, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1024x32 : Shape := ⟨2, ![1024, 32]⟩
abbrev S1024x128 : Shape := ⟨2, ![1024, 128]⟩
abbrev S32 : Shape := ⟨1, ![32]⟩
abbrev S128 : Shape := ⟨1, ![128]⟩
abbrev S256x128 : Shape := ⟨2, ![256, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S256x1024, .f32⟩
  | .hbm, ⟨4, _⟩ => ⟨S256x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S256x512, .f32⟩
  | .hbm, ⟨12, _⟩ => ⟨S512x1024, .f32⟩
  | .hbm, ⟨13, _⟩ => ⟨S256x1024, .f32⟩
  | .hbm, ⟨14, _⟩ => ⟨S256x1024, .f32⟩
  | .hbm, ⟨15, _⟩ => ⟨S256x512, .f32⟩
  | .hbm, ⟨16, _⟩ => ⟨S512x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S1024x1024, .f32⟩
  | .hbm, ⟨21, _⟩ => ⟨S256x1024, .f32⟩
  | .hbm, ⟨22, _⟩ => ⟨S256x1024, .f32⟩
  | .hbm, ⟨23, _⟩ => ⟨S1024, .f32⟩
  | .hbm, ⟨24, _⟩ => ⟨S256x1024, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S1x1024, .f32⟩
  | .hbm, ⟨38, _⟩ => ⟨S256x1024, .f32⟩
  | .hbm, ⟨39, _⟩ => ⟨S256x1024, .f32⟩
  | .hbm, ⟨40, _⟩ => ⟨S1024x32, .f32⟩
  | .hbm, ⟨41, _⟩ => ⟨S_, .i32⟩
  | .hbm, ⟨42, _⟩ => ⟨S_, .f32⟩
  | .hbm, ⟨43, _⟩ => ⟨S1024x128, .f32⟩
  | .hbm, ⟨44, _⟩ => ⟨S32, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S256x128, .f32⟩
  | .hbm, ⟨49, _⟩ => ⟨S1x128, .f32⟩
  | .hbm, ⟨50, _⟩ => ⟨S256x128, .f32⟩
  | .hbm, ⟨51, _⟩ => ⟨S256x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_c_2 : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Kernel9.lean ====
abbrev S32x8x8 : Shape := ⟨3, ![32, 8, 8]⟩
abbrev S_ : Shape := ⟨0, ![]⟩
abbrev S32x8x128 : Shape := ⟨3, ![32, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x8x128 : Shape := ⟨3, ![1, 8, 128]⟩
abbrev S8x128 : Shape := ⟨2, ![8, 128]⟩
abbrev S24x128 : Shape := ⟨2, ![24, 128]⟩
abbrev S8x1 : Shape := ⟨2, ![8, 1]⟩

abbrev nBuf : Space → Nat
  | .hbm => 14
  | .vmem => 6
  | .smem => 0
  | _ => 0

abbrev bufTy : (tb : Table) → Fin (tcTables nBuf tb) → BufTy
  | .hbm, ⟨0, _⟩ => ⟨S32x8x8, .f32⟩
  | .hbm, ⟨1, _⟩ => ⟨S32x8x8, .f32⟩
  | .hbm, ⟨2, _⟩ => ⟨S_, .i32⟩
  | .hbm, ⟨3, _⟩ => ⟨S_, .f32⟩
  | .hbm, ⟨4, _⟩ => ⟨S32x8x128, .f32⟩
  | .hbm, ⟨5, _⟩ => ⟨S128, .i32⟩
  | .hbm, ⟨6, _⟩ => ⟨S128x1, .i32⟩
  | .hbm, ⟨7, _⟩ => ⟨S128, .i32⟩
  | .hbm, ⟨8, _⟩ => ⟨S1x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S128x128, .bf16⟩
  | .hbm, ⟨13, _⟩ => ⟨S32x8x128, .f32⟩
  | .local _ .vmem, ⟨0, _⟩ => ⟨S1x8x128, .f32⟩
  | .local _ .vmem, ⟨1, _⟩ => ⟨S1x8x128, .f32⟩
  | .local _ .vmem, ⟨2, _⟩ => ⟨S128x128, .bf16⟩
  | .local _ .vmem, ⟨3, _⟩ => ⟨S1x8x128, .f32⟩
  | .local _ .vmem, ⟨4, _⟩ => ⟨S1x8x128, .f32⟩
  | .local _ .vmem, ⟨5, _⟩ => ⟨S8x128, .f32⟩
  | _, _ => ⟨S32x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S32x8x8 : Shape := ⟨3, ![32, 8, 8]⟩
abbrev S_ : Shape := ⟨0, ![]⟩
abbrev S32x128x8 : Shape := ⟨3, ![32, 128, 8]⟩
abbrev S32x8x128 : Shape := ⟨3, ![32, 8, 128]⟩

abbrev nBuf : Space → Nat
  | .hbm => 8
  | .vmem => 0
  | .smem => 0
  | _ => 0

abbrev bufTy : (tb : Table) → Fin (tcTables nBuf tb) → BufTy
  | .hbm, ⟨0, _⟩ => ⟨S32x8x8, .f32⟩
  | .hbm, ⟨1, _⟩ => ⟨S_, .i32⟩
  | .hbm, ⟨2, _⟩ => ⟨S_, .f32⟩
  | .hbm, ⟨3, _⟩ => ⟨S32x128x8, .f32⟩
  | .hbm, ⟨4, _⟩ => ⟨S_, .f32⟩
  | .hbm, ⟨5, _⟩ => ⟨S_, .f32⟩
  | .hbm, ⟨6, _⟩ => ⟨S32x128x8, .f32⟩
  | .hbm, ⟨7, _⟩ => ⟨S32x8x128, .f32⟩
  | _, _ => ⟨S32x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_call1_call0_cst : Ref sig .tc := ⟨.hbm, 4, rfl⟩
abbrev main_call1_call0_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.FoxRuns.lean ====
/- The memory the attention call starts from, the assertion it ends in, and the cases its grid points fall in. Follows the text of the library's frame generator, corrected by hand at case B. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- the long axes of the blocks need the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 4).trans (((dats 0 c).arrAt_in 4 rfl _).trans ((hA c 4).trans (V_main_arg3 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 512 := Nat.lt_of_lt_of_eq t.isLt N_0
    have e0 : (grid0.coords t 0).val = t.val / 64 % 8 := Pipeline.Grid.coords_val t 0 (by decide) rfl
    have e1 : (grid0.coords t 1).val = t.val / 8 % 8 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 2).val) (BitVec.ofNat 32 (i 1).val))) 0#32) = 1#1
/-- It holds at the points whose coordinates have i2 + 1 ≤ i1 — decided over the grid. -/
theorem hcond0_1 : ∀ t : Fin cfg0.N, cond0_1 (grid0.coords t) ↔ t.val % 8 + 1 ≤ t.val / 8 % 8 :=
  (by decide +kernel : ∀ t : Fin grid0.N, cond0_1 (grid0.coords t) ↔ t.val % 8 + 1 ≤ t.val / 8 % 8)

/-- The condition of the body's `scf.if` 2 (`k0_h3`), from the grid coordinates (the skeleton's scalar
    chain substituted). -/
abbrev cond0_2 (i : grid0.Coords) : Prop := k0_cond3 i = 1#1
/-- It holds at the points whose coordinates have i1 = i2 — decided over the grid. -/
theorem hcond0_2 : ∀ t : Fin cfg0.N, cond0_2 (grid0.coords t) ↔ t.val / 8 % 8 = t.val % 8 :=
  (by decide +kernel : ∀ t : Fin grid0.N, cond0_2 (grid0.coords t) ↔ t.val / 8 % 8 = t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0xffbf9f8f87838180ffbf9f8f87838180ffbf9f8f87838180ffbf9f8f87838180ffbf9f8f87838180ffbf9f8f87838180ffbf9f8f87838180ffbf9f8f87838180 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → ¬cond0_1 (grid0.coords t) → cond0_2 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → ¬cond0_2 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → ¬cond0_1 (grid0.coords t) → ¬cond0_2 (grid0.coords t) → cfg0.fresh 5 t.val = false := by
  intro t; rw [fresh0_5_eq t]; revert t; decide +kernel
/-- At the points of case C the printed configuration (`Cfg.idle`) calls output 5 idle: the case stores nothing into it. -/
theorem idleAt0_5_C : ∀ t : Fin cfg0.N, cond0_0 (grid0.coords t) → cond0_1 (grid0.coords t) → ¬cond0_2 (grid0.coords t) → cfg0.idle 5 (grid0.coords t) = true := by decide +kernel
/-- At the points of case C the pipeline does not write output 5's block back. -/
theorem noFlush0_5_C : ∀ t : Fin cfg0.N, cond0_0 (grid0.coords t) → cond0_1 (grid0.coords t) → ¬cond0_2 (grid0.coords t) → (cfg0.win 5).flush t = false := by decide +kernel
/-- At the points of case D the printed configuration (`Cfg.idle`) calls output 5 live: the case stores into it. -/
theorem liveAt0_5_D : ∀ t : Fin cfg0.N, ¬cond0_0 (grid0.coords t) → ¬cond0_1 (grid0.coords t) → cond0_2 (grid0.coords t) → cfg0.idle 5 (grid0.coords t) = false := by decide +kernel
/-- At the points of case E the printed configuration (`Cfg.idle`) calls output 5 idle: the case stores nothing into it. -/
theorem idleAt0_5_E : ∀ t : Fin cfg0.N, ¬cond0_0 (grid0.coords t) → cond0_1 (grid0.coords t) → ¬cond0_2 (grid0.coords t) → cfg0.idle 5 (grid0.coords t) = true := by decide +kernel
/-- At the points of case E the pipeline does not write output 5's block back. -/
theorem noFlush0_5_E : ∀ t : Fin cfg0.N, ¬cond0_0 (grid0.coords t) → cond0_1 (grid0.coords t) → ¬cond0_2 (grid0.coords t) → (cfg0.win 5).flush t = false := by decide +kernel

/-! ## The kernel body on any staging memrefs: a subtype the run finds -/

/-- One staging buffer of output window 5, through which its contents are stated (`View.read_writes_of_cover`: the
    choice does not matter). -/
abbrev VO0_5 : View sig .tc .vmem S1x512x512 .bf16 := (Memref.whole cc0_stg5_0 : Memref sig .tc .vmem S1x512x512 .bf16).view
/-- Each window's current staging memref at point `t`, spelled as the pipeline passes it (`bodyAt0`), and its wholeness. -/
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x512x128 .f32 := Memref.whole cc0_scratch0
abbrev scM0_1 : Memref sig .tc .vmem S8x512x128 .f32 := Memref.whole cc0_scratch1
abbrev scM0_2 : Memref sig .tc .vmem S4x512x128 .f32 := Memref.whole cc0_scratch2
/-- The scratch `arg9` the kernel carries between points, as a view: what it holds is stated through it. -/
abbrev VS0_0 : View sig .tc .vmem S8x512x128 .f32 := scM0_0.view
/-- The scratch `arg10` the kernel carries between points, as a view: what it holds is stated through it. -/
abbrev VS0_1 : View sig .tc .vmem S8x512x128 .f32 := scM0_1.view
/-- The scratch `arg11` the kernel carries between points, as a view: what it holds is stated through it. -/
abbrev VS0_2 : View sig .tc .vmem S4x512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.FoxRunA.lean ====
/- The run of the attention kernel's body in case A. Follows the text of the library's frame generator. -/
module

public import proofs.«01_k».proof.Proof.FoxRuns

@[expose] public section

-- the long axes of the blocks need the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 taken: points 0, 64, … 448: 8 of 512), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) :
    Σ' (L5 : List (View.Piece (Elt F) S1x512x512 .bf16)), Σ' (LS0 : List (View.Piece (Elt F) S8x512x128 .f32)), Σ' (LS1 : List (View.Piece (Elt F) S8x512x128 .f32)), { LS2 : List (View.Piece (Elt F) S4x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_fox_attention i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_fox_attention_eq_skeleton]; unfold cc0_fox_attention_skel
    simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Gen

end
-- ==== Proof.FoxRunB.lean ====
/- The run of the attention kernel's body in case B. Follows the text of the library's frame generator. -/
module

public import proofs.«01_k».proof.Proof.FoxRunA

@[expose] public section

-- the long axes of the blocks need the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 not taken: points 1, 2, … 503: 224 of 512), WITH the
    proof that on whole staging memrefs — the inputs' at their contents, the outputs it reads before covering (5) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xo5 : Vec F S1x512x512 .bf16) (xs0 : Vec F S8x512x128 .f32) (xs1 : Vec F S8x512x128 .f32) (xs2 : Vec F S4x512x128 .f32) :
    Σ' (L5 : List (View.Piece (Elt F) S1x512x512 .bf16)), Σ' (LS0 : List (View.Piece (Elt F) S8x512x128 .f32)), Σ' (LS1 : List (View.Piece (Elt F) S8x512x128 .f32)), { LS2 : List (View.Piece (Elt F) S4x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ owns (c : Thread nD τ) arg9 fullShare xs0 ∗ owns (c : Thread nD τ) arg10 fullShare xs1 ∗ owns (c : Thread nD τ) arg11 fullShare xs2) -∗ K ⟨⟩))
          ⊢ wp frame (wpE (defs₀ (F := F)) Variants.none c none) E (cc0_fox_attention i arg3 harg3 arg4 harg4 arg5 harg5 arg6 harg6 arg7 harg7 arg8 harg8 arg9 harg9 arg10 harg10 arg11 harg11) K } := by
  refine ⟨[], [], [], [], fun E K => ?run⟩
  case run =>
    simp only [cc0_fox_attention_eq_skeleton]; unfold cc0_fox_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.KernelIdeal.Gen

end
-- ==== Proof.FoxRunC.lean ====
/- The run of the attention kernel's body in case C. Follows the text of the library's frame generator. -/
module

public import proofs.«01_k».proof.Proof.FoxRunB

@[expose] public section

-- the long axes of the blocks need the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 taken, `scf.if` 1 taken, `scf.if` 2 not taken: points 8, 16, … 504: 56 of 512), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) :
    Σ' (L5 : List (View.Piece (Elt F) S1x512x512 .bf16)), Σ' (LS0 : List (View.Piece (Elt F) S8x512x128 .f32)), Σ' (LS1 : List (View.Piece (Elt F) S8x512x128 .f32)), { LS2 : List (View.Piece (Elt F) S4x512x128 .f32) //
      ∀ (xi5 : Vec F S1x512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_fox_attention i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc0_fox_attention_eq_skeleton]; unfold cc0_fox_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Gen

end
-- ==== Proof.FoxRunD.lean ====
/- The run of the attention kernel's body in case D. Follows the text of the library's frame generator. -/
module

public import proofs.«01_k».proof.Proof.FoxRunC

@[expose] public section

-- the long axes of the blocks need the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE D (`scf.if` 0 not taken, `scf.if` 1 not taken, `scf.if` 2 taken: points 9, 18, … 511: 56 of 512), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) :
    Σ' (L5 : List (View.Piece (Elt F) S1x512x512 .bf16)), Σ' (LS0 : List (View.Piece (Elt F) S8x512x128 .f32)), Σ' (LS1 : List (View.Piece (Elt F) S8x512x128 .f32)), { LS2 : List (View.Piece (Elt F) S4x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_fox_attention i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_fox_attention_eq_skeleton]; unfold cc0_fox_attention_skel
    simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Gen

end
-- ==== Proof.FoxRunE.lean ====
/- The run of the attention kernel's body in case E. Follows the text of the library's frame generator. -/
module

public import proofs.«01_k».proof.Proof.FoxRunD

@[expose] public section

-- the long axes of the blocks need the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE E (`scf.if` 0 not taken, `scf.if` 1 taken, `scf.if` 2 not taken: points 17, 25, … 510: 168 of 512), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_E (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) :
    Σ' (L5 : List (View.Piece (Elt F) S1x512x512 .bf16)), Σ' (LS0 : List (View.Piece (Elt F) S8x512x128 .f32)), Σ' (LS1 : List (View.Piece (Elt F) S8x512x128 .f32)), { LS2 : List (View.Piece (Elt F) S4x512x128 .f32) //
      ∀ (xi5 : Vec F S1x512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_fox_attention i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc0_fox_attention_eq_skeleton]; unfold cc0_fox_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Gen

end
-- ==== Proof.FoxI.lean ====
/- The frame of the attention call, with what each grid point leaves in the output block and in the three scratch buffers. Follows the text of the library's frame generator, corrected by hand at case B. -/
module

public import proofs.«01_k».proof.Proof.FoxRunE
public import Idealize.ShloMosaic.Lib.Claim

@[expose] public section

-- the long axes of the blocks need the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (4 stores of `S1x512x128`, checked by the kernel's evaluation: Lib/Ring.lean `Piece.tiledL`, linear in the pieces, through a loop's `@[irreducible]` trip theorem too), so they cover it. -/
theorem cover0_A_5 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (y : S1x512x512.Idx) :
    ∃ pc ∈ (kernelRun0_A c i arg3 harg3 arg4 harg4 arg5 harg5 arg6 harg6 arg7 harg7 arg8 harg8 arg9 harg9 arg10 harg10 arg11 harg11 hc0 hc1 hc2 x0 x1 x2 x3 x4).1, y ∈ pc.1.set :=
  View.cover_of_tiledL (kernelRun0_A c i arg3 harg3 arg4 harg4 arg5 harg5 arg6 harg6 arg7 harg7 arg8 harg8 arg9 harg9 arg10 harg10 arg11 harg11 hc0 hc1 hc2 x0 x1 x2 x3 x4).1 S1x512x128.size (by sl_kernel_rfl) y

/-- What case A leaves in output 5's staging buffer: its pieces read back over junk. -/
def out0_A_5 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) : Vec F S1x512x512 .bf16 :=
  VO0_5.read (Elt F) (VO0_5.writes (Elt F) VO0_5.junk (kernelRun0_A c i arg3 harg3 arg4 harg4 arg5 harg5 arg6 harg6 arg7 harg7 arg8 harg8 arg9 harg9 arg10 harg10 arg11 harg11 hc0 hc1 hc2 x0 x1 x2 x3 x4).1)

/-- Case A's pieces for scratch `arg9`, which the kernel carries between points, cover it: one of them a store of the WHOLE buffer (Lib/Ring.lean `sl_whole_mem`). -/
theorem scover0_A_0 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (y : S8x512x128.Idx) :
    ∃ pc ∈ (kernelRun0_A c i arg3 harg3 arg4 harg4 arg5 harg5 arg6 harg6 arg7 harg7 arg8 harg8 arg9 harg9 arg10 harg10 arg11 harg11 hc0 hc1 hc2 x0 x1 x2 x3 x4).2.1, y ∈ pc.1.set :=
  View.cover_of_wholeMem (kernelRun0_A c i arg3 harg3 arg4 harg4 arg5 harg5 arg6 harg6 arg7 harg7 arg8 harg8 arg9 harg9 arg10 harg10 arg11 harg11 hc0 hc1 hc2 x0 x1 x2 x3 x4).2.1 (by sl_whole_mem) y

/-- What case A leaves in scratch `arg9`: its pieces read back over junk. -/
def sout0_A_0 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) : Vec F S8x512x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 hc0 hc1 hc2 x0 x1 x2 x3 x4).2.1)

/-- Case A's pieces for scratch `arg10`, which the kernel carries between points, cover it: one of them a store of the WHOLE buffer (Lib/Ring.lean `sl_whole_mem`). -/
theorem scover0_A_1 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (y : S8x512x128.Idx) :
    ∃ pc ∈ (kernelRun0_A c i arg3 harg3 arg4 harg4 arg5 harg5 arg6 harg6 arg7 harg7 arg8 harg8 arg9 harg9 arg10 harg10 arg11 harg11 hc0 hc1 hc2 x0 x1 x2 x3 x4).2.2.1, y ∈ pc.1.set :=
  View.cover_of_wholeMem (kernelRun0_A c i arg3 harg3 arg4 harg4 arg5 harg5 arg6 harg6 arg7 harg7 arg8 harg8 arg9 harg9 arg10 harg10 arg11 harg11 hc0 hc1 hc2 x0 x1 x2 x3 x4).2.2.1 (by sl_whole_mem) y

/-- What case A leaves in scratch `arg10`: its pieces read back over junk. -/
def sout0_A_1 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) : Vec F S8x512x128 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 hc0 hc1 hc2 x0 x1 x2 x3 x4).2.2.1)

/-- Case A's pieces for scratch `arg11`, which the kernel carries between points, cover it: one of them a store of the WHOLE buffer (Lib/Ring.lean `sl_whole_mem`). -/
theorem scover0_A_2 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (y : S4x512x128.Idx) :
    ∃ pc ∈ (kernelRun0_A c i arg3 harg3 arg4 harg4 arg5 harg5 arg6 harg6 arg7 harg7 arg8 harg8 arg9 harg9 arg10 harg10 arg11 harg11 hc0 hc1 hc2 x0 x1 x2 x3 x4).2.2.2.1, y ∈ pc.1.set :=
  View.cover_of_wholeMem (kernelRun0_A c i arg3 harg3 arg4 harg4 arg5 harg5 arg6 harg6 arg7 harg7 arg8 harg8 arg9 harg9 arg10 harg10 arg11 harg11 hc0 hc1 hc2 x0 x1 x2 x3 x4).2.2.2.1 (by sl_whole_mem) y

/-- What case A leaves in scratch `arg11`: its pieces read back over junk. -/
def sout0_A_2 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) : Vec F S4x512x128 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 hc0 hc1 hc2 x0 x1 x2 x3 x4).2.2.2.1)

/-- Case B stores nothing into output 5, a live window: its staging buffer holds what the point before left. -/
def out0_B_5 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xo5 : Vec F S1x512x512 .bf16) (xs0 : Vec F S8x512x128 .f32) (xs1 : Vec F S8x512x128 .f32) (xs2 : Vec F S4x512x128 .f32) : Vec F S1x512x512 .bf16 := xo5

/-- Case B stores nothing into scratch `arg9`: it holds what the point before left. -/
def sout0_B_0 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xo5 : Vec F S1x512x512 .bf16) (xs0 : Vec F S8x512x128 .f32) (xs1 : Vec F S8x512x128 .f32) (xs2 : Vec F S4x512x128 .f32) : Vec F S8x512x128 .f32 := xs0

/-- Case B stores nothing into scratch `arg10`: it holds what the point before left. -/
def sout0_B_1 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xo5 : Vec F S1x512x512 .bf16) (xs0 : Vec F S8x512x128 .f32) (xs1 : Vec F S8x512x128 .f32) (xs2 : Vec F S4x512x128 .f32) : Vec F S8x512x128 .f32 := xs1

/-- Case B stores nothing into scratch `arg11`: it holds what the point before left. -/
def sout0_B_2 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xo5 : Vec F S1x512x512 .bf16) (xs0 : Vec F S8x512x128 .f32) (xs1 : Vec F S8x512x128 .f32) (xs2 : Vec F S4x512x128 .f32) : Vec F S4x512x128 .f32 := xs2

/-- Case C stores nothing into output 5 (the window is idle at its points and not written back there) and another
    case keeps its prior contents (reads it before covering, or covers it in part): what its buffer holds after the body is what the
    point before left, CARRIED — an argument of this term alone, which the run does not take (Lib/Pipeline/TableIdle.lean `Dat.before_out_traj`). -/
def out0_C_5 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xo5 : Vec F S1x512x512 .bf16) : Vec F S1x512x512 .bf16 := xo5

/-- Case C's pieces for scratch `arg9`, which the kernel carries between points, cover it: one of them a store of the WHOLE buffer (Lib/Ring.lean `sl_whole_mem`). -/
theorem scover0_C_0 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (y : S8x512x128.Idx) :
    ∃ pc ∈ (kernelRun0_C c i arg3 harg3 arg4 harg4 arg5 harg5 arg6 harg6 arg7 harg7 arg8 harg8 arg9 harg9 arg10 harg10 arg11 harg11 hc0 hc1 hc2 x0 x1 x2 x3 x4).2.1, y ∈ pc.1.set :=
  View.cover_of_wholeMem (kernelRun0_C c i arg3 harg3 arg4 harg4 arg5 harg5 arg6 harg6 arg7 harg7 arg8 harg8 arg9 harg9 arg10 harg10 arg11 harg11 hc0 hc1 hc2 x0 x1 x2 x3 x4).2.1 (by sl_whole_mem) y

/-- What case C leaves in scratch `arg9`: its pieces read back over junk. -/
def sout0_C_0 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) : Vec F S8x512x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 hc0 hc1 hc2 x0 x1 x2 x3 x4).2.1)

/-- Case C's pieces for scratch `arg10`, which the kernel carries between points, cover it: one of them a store of the WHOLE buffer (Lib/Ring.lean `sl_whole_mem`). -/
theorem scover0_C_1 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (y : S8x512x128.Idx) :
    ∃ pc ∈ (kernelRun0_C c i arg3 harg3 arg4 harg4 arg5 harg5 arg6 harg6 arg7 harg7 arg8 harg8 arg9 harg9 arg10 harg10 arg11 harg11 hc0 hc1 hc2 x0 x1 x2 x3 x4).2.2.1, y ∈ pc.1.set :=
  View.cover_of_wholeMem (kernelRun0_C c i arg3 harg3 arg4 harg4 arg5 harg5 arg6 harg6 arg7 harg7 arg8 harg8 arg9 harg9 arg10 harg10 arg11 harg11 hc0 hc1 hc2 x0 x1 x2 x3 x4).2.2.1 (by sl_whole_mem) y

/-- What case C leaves in scratch `arg10`: its pieces read back over junk. -/
def sout0_C_1 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) : Vec F S8x512x128 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 hc0 hc1 hc2 x0 x1 x2 x3 x4).2.2.1)

/-- Case C's pieces for scratch `arg11`, which the kernel carries between points, cover it: one of them a store of the WHOLE buffer (Lib/Ring.lean `sl_whole_mem`). -/
theorem scover0_C_2 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (y : S4x512x128.Idx) :
    ∃ pc ∈ (kernelRun0_C c i arg3 harg3 arg4 harg4 arg5 harg5 arg6 harg6 arg7 harg7 arg8 harg8 arg9 harg9 arg10 harg10 arg11 harg11 hc0 hc1 hc2 x0 x1 x2 x3 x4).2.2.2.1, y ∈ pc.1.set :=
  View.cover_of_wholeMem (kernelRun0_C c i arg3 harg3 arg4 harg4 arg5 harg5 arg6 harg6 arg7 harg7 arg8 harg8 arg9 harg9 arg10 harg10 arg11 harg11 hc0 hc1 hc2 x0 x1 x2 x3 x4).2.2.2.1 (by sl_whole_mem) y

/-- What case C leaves in scratch `arg11`: its pieces read back over junk. -/
def sout0_C_2 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) : Vec F S4x512x128 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 hc0 hc1 hc2 x0 x1 x2 x3 x4).2.2.2.1)

/-- Case D's pieces for output 5 tile its block (4 stores of `S1x512x128`, checked by the kernel's evaluation: Lib/Ring.lean `Piece.tiledL`, linear in the pieces, through a loop's `@[irreducible]` trip theorem too), so they cover it. -/
theorem cover0_D_5 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) (y : S1x512x512.Idx) :
    ∃ pc ∈ (kernelRun0_D c i arg3 harg3 arg4 harg4 arg5 harg5 arg6 harg6 arg7 harg7 arg8 harg8 arg9 harg9 arg10 harg10 arg11 harg11 hc0 hc1 hc2 x0 x1 x2 x3 x4 xs0 xs1 xs2).1, y ∈ pc.1.set :=
  View.cover_of_tiledL (kernelRun0_D c i arg3 harg3 arg4 harg4 arg5 harg5 arg6 harg6 arg7 harg7 arg8 harg8 arg9 harg9 arg10 harg10 arg11 harg11 hc0 hc1 hc2 x0 x1 x2 x3 x4 xs0 xs1 xs2).1 S1x512x128.size (by sl_kernel_rfl) y

/-- What case D leaves in output 5's staging buffer: its pieces read back over junk. -/
def out0_D_5 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) : Vec F S1x512x512 .bf16 :=
  VO0_5.read (Elt F) (VO0_5.writes (Elt F) VO0_5.junk (kernelRun0_D c i arg3 harg3 arg4 harg4 arg5 harg5 arg6 harg6 arg7 harg7 arg8 harg8 arg9 harg9 arg10 harg10 arg11 harg11 hc0 hc1 hc2 x0 x1 x2 x3 x4 xs0 xs1 xs2).1)

/-- Case D's pieces for scratch `arg9`, which the kernel carries between points, cover it: 8 pieces of `S1x512x128` tiling it (Lib/Ring.lean `Piece.tiledL`). -/
theorem scover0_D_0 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) (y : S8x512x128.Idx) :
    ∃ pc ∈ (kernelRun0_D c i arg3 harg3 arg4 harg4 arg5 harg5 arg6 harg6 arg7 harg7 arg8 harg8 arg9 harg9 arg10 harg10 arg11 harg11 hc0 hc1 hc2 x0 x1 x2 x3 x4 xs0 xs1 xs2).2.1, y ∈ pc.1.set :=
  View.cover_of_tiledL (kernelRun0_D c i arg3 harg3 arg4 harg4 arg5 harg5 arg6 harg6 arg7 harg7 arg8 harg8 arg9 harg9 arg10 harg10 arg11 harg11 hc0 hc1 hc2 x0 x1 x2 x3 x4 xs0 xs1 xs2).2.1 S1x512x128.size (by sl_kernel_rfl) y

/-- What case D leaves in scratch `arg9`: its pieces read back over junk. -/
def sout0_D_0 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) : Vec F S8x512x128 .f32 :=
  VS0_0.read (Elt F) (VS0_0.writes (Elt F) VS0_0.junk (kernelRun0_D c i arg3 harg3 arg4 harg4 arg5 harg5 arg6 harg6 arg7 harg7 arg8 harg8 arg9 harg9 arg10 harg10 arg11 harg11 hc0 hc1 hc2 x0 x1 x2 x3 x4 xs0 xs1 xs2).2.1)

/-- Case D's pieces for scratch `arg10`, which the kernel carries between points, cover it: 8 pieces of `S1x512x128` tiling it (Lib/Ring.lean `Piece.tiledL`). -/
theorem scover0_D_1 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) (y : S8x512x128.Idx) :
    ∃ pc ∈ (kernelRun0_D c i arg3 harg3 arg4 harg4 arg5 harg5 arg6 harg6 arg7 harg7 arg8 harg8 arg9 harg9 arg10 harg10 arg11 harg11 hc0 hc1 hc2 x0 x1 x2 x3 x4 xs0 xs1 xs2).2.2.1, y ∈ pc.1.set :=
  View.cover_of_tiledL (kernelRun0_D c i arg3 harg3 arg4 harg4 arg5 harg5 arg6 harg6 arg7 harg7 arg8 harg8 arg9 harg9 arg10 harg10 arg11 harg11 hc0 hc1 hc2 x0 x1 x2 x3 x4 xs0 xs1 xs2).2.2.1 S1x512x128.size (by sl_kernel_rfl) y

/-- What case D leaves in scratch `arg10`: its pieces read back over junk. -/
def sout0_D_1 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) : Vec F S8x512x128 .f32 :=
  VS0_1.read (Elt F) (VS0_1.writes (Elt F) VS0_1.junk (kernelRun0_D c i arg3 harg3 arg4 harg4 arg5 harg5 arg6 harg6 arg7 harg7 arg8 harg8 arg9 harg9 arg10 harg10 arg11 harg11 hc0 hc1 hc2 x0 x1 x2 x3 x4 xs0 xs1 xs2).2.2.1)

/-- Case D's pieces for scratch `arg11`, which the kernel carries between points, cover it: 4 pieces of `S1x512x128` tiling it (Lib/Ring.lean `Piece.tiledL`). -/
theorem scover0_D_2 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) (y : S4x512x128.Idx) :
    ∃ pc ∈ (kernelRun0_D c i arg3 harg3 arg4 harg4 arg5 harg5 arg6 harg6 arg7 harg7 arg8 harg8 arg9 harg9 arg10 harg10 arg11 harg11 hc0 hc1 hc2 x0 x1 x2 x3 x4 xs0 xs1 xs2).2.2.2.1, y ∈ pc.1.set :=
  View.cover_of_tiledL (kernelRun0_D c i arg3 harg3 arg4 harg4 arg5 harg5 arg6 harg6 arg7 harg7 arg8 harg8 arg9 harg9 arg10 harg10 arg11 harg11 hc0 hc1 hc2 x0 x1 x2 x3 x4 xs0 xs1 xs2).2.2.2.1 S1x512x128.size (by sl_kernel_rfl) y

/-- What case D leaves in scratch `arg11`: its pieces read back over junk. -/
def sout0_D_2 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) : Vec F S4x512x128 .f32 :=
  VS0_2.read (Elt F) (VS0_2.writes (Elt F) VS0_2.junk (kernelRun0_D c i arg3 harg3 arg4 harg4 arg5 harg5 arg6 harg6 arg7 harg7 arg8 harg8 arg9 harg9 arg10 harg10 arg11 harg11 hc0 hc1 hc2 x0 x1 x2 x3 x4 xs0 xs1 xs2).2.2.2.1)

/-- Case E stores nothing into output 5 (the window is idle at its points and not written back there) and another
    case keeps its prior contents (reads it before covering, or covers it in part): what its buffer holds after the body is what the
    point before left, CARRIED — an argument of this term alone, which the run does not take (Lib/Pipeline/TableIdle.lean `Dat.before_out_traj`). -/
def out0_E_5 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) (xo5 : Vec F S1x512x512 .bf16) : Vec F S1x512x512 .bf16 := xo5

/-- Case E's pieces for scratch `arg9`, which the kernel carries between points, cover it: 8 pieces of `S1x512x128` tiling it (Lib/Ring.lean `Piece.tiledL`). -/
theorem scover0_E_0 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) (y : S8x512x128.Idx) :
    ∃ pc ∈ (kernelRun0_E c i arg3 harg3 arg4 harg4 arg5 harg5 arg6 harg6 arg7 harg7 arg8 harg8 arg9 harg9 arg10 harg10 arg11 harg11 hc0 hc1 hc2 x0 x1 x2 x3 x4 xs0 xs1 xs2).2.1, y ∈ pc.1.set :=
  View.cover_of_tiledL (kernelRun0_E c i arg3 harg3 arg4 harg4 arg5 harg5 arg6 harg6 arg7 harg7 arg8 harg8 arg9 harg9 arg10 harg10 arg11 harg11 hc0 hc1 hc2 x0 x1 x2 x3 x4 xs0 xs1 xs2).2.1 S1x512x128.size (by sl_kernel_rfl) y

/-- What case E leaves in scratch `arg9`: its pieces read back over junk. -/
def sout0_E_0 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) : Vec F S8x512x128 .f32 :=
  VS0_0.read (Elt F) (VS0_0.writes (Elt F) VS0_0.junk (kernelRun0_E c i arg3 harg3 arg4 harg4 arg5 harg5 arg6 harg6 arg7 harg7 arg8 harg8 arg9 harg9 arg10 harg10 arg11 harg11 hc0 hc1 hc2 x0 x1 x2 x3 x4 xs0 xs1 xs2).2.1)

/-- Case E's pieces for scratch `arg10`, which the kernel carries between points, cover it: 8 pieces of `S1x512x128` tiling it (Lib/Ring.lean `Piece.tiledL`). -/
theorem scover0_E_1 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) (y : S8x512x128.Idx) :
    ∃ pc ∈ (kernelRun0_E c i arg3 harg3 arg4 harg4 arg5 harg5 arg6 harg6 arg7 harg7 arg8 harg8 arg9 harg9 arg10 harg10 arg11 harg11 hc0 hc1 hc2 x0 x1 x2 x3 x4 xs0 xs1 xs2).2.2.1, y ∈ pc.1.set :=
  View.cover_of_tiledL (kernelRun0_E c i arg3 harg3 arg4 harg4 arg5 harg5 arg6 harg6 arg7 harg7 arg8 harg8 arg9 harg9 arg10 harg10 arg11 harg11 hc0 hc1 hc2 x0 x1 x2 x3 x4 xs0 xs1 xs2).2.2.1 S1x512x128.size (by sl_kernel_rfl) y

/-- What case E leaves in scratch `arg10`: its pieces read back over junk. -/
def sout0_E_1 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) : Vec F S8x512x128 .f32 :=
  VS0_1.read (Elt F) (VS0_1.writes (Elt F) VS0_1.junk (kernelRun0_E c i arg3 harg3 arg4 harg4 arg5 harg5 arg6 harg6 arg7 harg7 arg8 harg8 arg9 harg9 arg10 harg10 arg11 harg11 hc0 hc1 hc2 x0 x1 x2 x3 x4 xs0 xs1 xs2).2.2.1)

/-- Case E's pieces for scratch `arg11`, which the kernel carries between points, cover it: 4 pieces of `S1x512x128` tiling it (Lib/Ring.lean `Piece.tiledL`). -/
theorem scover0_E_2 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) (y : S4x512x128.Idx) :
    ∃ pc ∈ (kernelRun0_E c i arg3 harg3 arg4 harg4 arg5 harg5 arg6 harg6 arg7 harg7 arg8 harg8 arg9 harg9 arg10 harg10 arg11 harg11 hc0 hc1 hc2 x0 x1 x2 x3 x4 xs0 xs1 xs2).2.2.2.1, y ∈ pc.1.set :=
  View.cover_of_tiledL (kernelRun0_E c i arg3 harg3 arg4 harg4 arg5 harg5 arg6 harg6 arg7 harg7 arg8 harg8 arg9 harg9 arg10 harg10 arg11 harg11 hc0 hc1 hc2 x0 x1 x2 x3 x4 xs0 xs1 xs2).2.2.2.1 S1x512x128.size (by sl_kernel_rfl) y

/-- What case E leaves in scratch `arg11`: its pieces read back over junk. -/
def sout0_E_2 (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : cond0_1 i) (hc2 : ¬cond0_2 i)
    (x0 : Vec F S1x512x512 .bf16) (x1 : Vec F S1x512x512 .f32) (x2 : Vec F S1x512x512 .f32) (x3 : Vec F S1x512x8 .f32) (x4 : Vec F S1x8x512 .f32) (xs0 : Vec F S8x512x128 .f32) (xs1 : Vec F S8x512x128 .f32) (xs2 : Vec F S4x512x128 .f32) : Vec F S4x512x128 .f32 :=
  VS0_2.read (Elt F) (VS0_2.writes (Elt F) VS0_2.junk (kernelRun0_E c i arg3 harg3 arg4 harg4 arg5 harg5 arg6 harg6 arg7 harg7 arg8 harg8 arg9 harg9 arg10 harg10 arg11 harg11 hc0 hc1 hc2 x0 x1 x2 x3 x4 xs0 xs1 xs2).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x512x512 .bf16 × Vec F S8x512x128 .f32 × Vec F S8x512x128 .f32 × Vec F S4x512x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 8 + 1 ≤ (n + 1) / 8 % 8 then
        if h2 : (n + 1) / 8 % 8 = (n + 1) % 8 then
          False.elim (by have hN : n + 1 < 512 := lt_of_lt_of_eq hn (show cfg0.N = 512 from N_0); omega)
        else
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        if h2 : (n + 1) / 8 % 8 = (n + 1) % 8 then
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩))
        else
          False.elim (by have hN : n + 1 < 512 := lt_of_lt_of_eq hn (show cfg0.N = 512 from N_0); omega)
    else
      if h1 : (n + 1) % 8 + 1 ≤ (n + 1) / 8 % 8 then
        if h2 : (n + 1) / 8 % 8 = (n + 1) % 8 then
          False.elim (by have hN : n + 1 < 512 := lt_of_lt_of_eq hn (show cfg0.N = 512 from N_0); omega)
        else
          (out0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2 (outsAt0 c n (Nat.lt_of_succ_lt hn)).1, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2)
      else
        if h2 : (n + 1) / 8 % 8 = (n + 1) % 8 then
          (out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 8 = 0) (h1 : ¬t.val % 8 + 1 ≤ t.val / 8 % 8) (h2 : t.val / 8 % 8 = t.val % 8) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans ((dif_pos h2).trans rfl))

/-- `outsAt0` at a point of case B: that case's contents, over what the point before left. -/
theorem outsAt0_B (c : Dev nD) (t : Fin cfg0.N) (h0 : ¬t.val % 8 = 0) (h1 : ¬t.val % 8 + 1 ≤ t.val / 8 % 8) (h2 : ¬t.val / 8 % 8 = t.val % 8) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents, over what the point before left. -/
theorem outsAt0_C (c : Dev nD) (t : Fin cfg0.N) (h0 : t.val % 8 = 0) (h1 : t.val % 8 + 1 ≤ t.val / 8 % 8) (h2 : ¬t.val / 8 % 8 = t.val % 8) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact (by exfalso; (try dsimp only at h1); exact by omega)
  | succ n => exact (dif_pos h0).trans ((dif_pos h1).trans ((dif_neg h2).trans rfl))

/-- `outsAt0` at a point of case D: that case's contents, over what the point before left. -/
theorem outsAt0_D (c : Dev nD) (t : Fin cfg0.N) (h0 : ¬t.val % 8 = 0) (h1 : ¬t.val % 8 + 1 ≤ t.val / 8 % 8) (h2 : t.val / 8 % 8 = t.val % 8) :
    outsAt0 m c t.val t.isLt = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case E: that case's contents, over what the point before left. -/
theorem outsAt0_E (c : Dev nD) (t : Fin cfg0.N) (h0 : ¬t.val % 8 = 0) (h1 : t.val % 8 + 1 ≤ t.val / 8 % 8) (h2 : ¬t.val / 8 % 8 = t.val % 8) :
    outsAt0 m c t.val t.isLt = (out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (outsAt0 m c (t.val - 1) (Nat.lt_of_le_of_lt (Nat.sub_le _ _) t.isLt)).1, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 512 := lt_of_lt_of_eq t.isLt (show cfg0.N = 512 from N_0)
  rw [after0_5, after0_5]
  by_cases h0 : t.val % 8 = 0
  · by_cases h1 : t.val % 8 + 1 ≤ t.val / 8 % 8
    · by_cases h2 : t.val / 8 % 8 = t.val % 8
      · exfalso; omega
      · rw [outsAt0_C m c t h0 h1 h2]
        dsimp only
        unfold out0_C_5
        rfl
    · by_cases h2 : t.val / 8 % 8 = t.val % 8
      · rw [liveAt0_5_A t ((hcond0_0 t).mpr h0) (fun h => h1 ((hcond0_1 t).mp h)) ((hcond0_2 t).mpr h2)] at hi
        exact absurd hi Bool.false_ne_true
      · exfalso; omega
  · by_cases h1 : t.val % 8 + 1 ≤ t.val / 8 % 8
    · by_cases h2 : t.val / 8 % 8 = t.val % 8
      · exfalso; omega
      · rw [outsAt0_E m c t h0 h1 h2]
        dsimp only
        unfold out0_E_5
        rfl
    · by_cases h2 : t.val / 8 % 8 = t.val % 8
      · rw [liveAt0_5_D t (fun h => h0 ((hcond0_0 t).mp h)) (fun h => h1 ((hcond0_1 t).mp h)) ((hcond0_2 t).mpr h2)] at hi
        exact absurd hi Bool.false_ne_true
      · rw [outsAt0_B m c t h0 h1 h2]
        dsimp only
        unfold out0_B_5
        rfl
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 8 = 0) (h1 : ¬t.val % 8 + 1 ≤ t.val / 8 % 8) (h2 : ¬t.val / 8 % 8 = t.val % 8) (d) :
    (dats m 0 c).before 5 t d = (outsAt0 m c (t.val - 1) (Nat.lt_of_le_of_lt (Nat.sub_le _ _) t.isLt)).1 := by
  rw [Dat.before_out_traj _ 5 rfl (fun _ _ => rfl) (hcarry0_5 m c) t.val t rfl d,
    if_neg (by rw [notFresh0_5_B t (fun h => h0 ((hcond0_0 t).mp h)) (fun h => h1 ((hcond0_1 t).mp h)) (fun h => h2 ((hcond0_2 t).mp h))]; exact Bool.false_ne_true)]
  dsimp only [dats]

/-- At a point of case B the body hands output 5's buffer back as it found it, whether or not the point writes the block back. -/
theorem leaves0_5_B (c : Dev nD) (t : Fin cfg0.N) (h0 : ¬t.val % 8 = 0) (h1 : ¬t.val % 8 + 1 ≤ t.val / 8 % 8) (h2 : ¬t.val / 8 % 8 = t.val % 8) :
    owns (c : Thread nD τ) (ms0_5 t) fullShare (outsAt0 m c (t.val - 1) (Nat.lt_of_le_of_lt (Nat.sub_le _ _) t.isLt)).1 ⊢ (dats m 0 c).leavesExact 5 t := by
  unfold Dat.leavesExact
  rw [idleAt0_5_B t (fun h => h0 ((hcond0_0 t).mp h)) (fun h => h1 ((hcond0_1 t).mp h)) (fun h => h2 ((hcond0_2 t).mp h))]
  rcases hf : (cfg0.win 5).flush t with _ | _
  · iintro H
    iexists (outsAt0 m c (t.val - 1) (Nat.lt_of_le_of_lt (Nat.sub_le _ _) t.isLt)).1
    rw [before0_5_B m c t h0 h1 h2]
    iexact H
  · dsimp only
    rw [after0_5, outsAt0_B m c t h0 h1 h2]
    dsimp only
    unfold out0_B_5
    exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  by_cases h0 : t.val % 8 = 0
  · by_cases h1 : t.val % 8 + 1 ≤ t.val / 8 % 8
    · by_cases h2 : t.val / 8 % 8 = t.val % 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_C t ((hcond0_0 t).mpr h0) ((hcond0_1 t).mpr h1) (fun h => h2 ((hcond0_2 t).mp h))) (noFlush0_5_C t ((hcond0_0 t).mpr h0) ((hcond0_1 t).mpr h1) (fun h => h2 ((hcond0_2 t).mp h)))]
        by_cases hz : t.val = 0
        · exfalso; have hN : t.val < 512 := lt_of_lt_of_eq t.isLt (show cfg0.N = 512 from N_0); omega
        · rw [PhiS_castSucc m c t, PhiS_pos m c _ _ hz]
          rw [outsAt0_C m c t h0 h1 h2]
          unfold sout0_C_0 sout0_C_1 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          isplitl [HS1]; · iexists _; iexact HS1
          isplitl [HS2]; · iexists _; iexact HS2
          iintro ⟨H0, H1, H2, H3, H4, H5, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
    · by_cases h2 : t.val / 8 % 8 = t.val % 8
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h)) ((hcond0_2 t).mpr h2)], after0_5]
        by_cases hz : t.val = 0
        · rw [PhiS_castSucc m c t, PhiS_zero m c _ _ hz, PhiA0_eq]
          rw [outsAt0_A m c t h0 h1 h2]
          unfold out0_A_5 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)).2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, ⟨%e5, H5⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_A_5 c _ _ _ _ _ _ _ _ _ _ _ _ _ _ _ _ _ _ _ _ _ _ _ _ _ _ _)
        · rw [PhiS_castSucc m c t, PhiS_pos m c _ _ hz]
          rw [outsAt0_A m c t h0 h1 h2]
          unfold out0_A_5 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)).2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          isplitl [HS1]; · iexists _; iexact HS1
          isplitl [HS2]; · iexists _; iexact HS2
          iintro ⟨H0, H1, H2, H3, H4, ⟨%e5, H5⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_A_5 c _ _ _ _ _ _ _ _ _ _ _ _ _ _ _ _ _ _ _ _ _ _ _ _ _ _ _)
      · exfalso; omega
  · by_cases h1 : t.val % 8 + 1 ≤ t.val / 8 % 8
    · by_cases h2 : t.val / 8 % 8 = t.val % 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_E t (fun h => h0 ((hcond0_0 t).mp h)) ((hcond0_1 t).mpr h1) (fun h => h2 ((hcond0_2 t).mp h))) (noFlush0_5_E t (fun h => h0 ((hcond0_0 t).mp h)) ((hcond0_1 t).mpr h1) (fun h => h2 ((hcond0_2 t).mp h)))]
        by_cases hz : t.val = 0
        · exfalso; have hN : t.val < 512 := lt_of_lt_of_eq t.isLt (show cfg0.N = 512 from N_0); omega
        · rw [PhiS_castSucc m c t, PhiS_pos m c _ _ hz]
          rw [outsAt0_E m c t h0 h1 h2]
          unfold sout0_E_0 sout0_E_1 sout0_E_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_E c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_E_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_E_2 c _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
    · by_cases h2 : t.val / 8 % 8 = t.val % 8
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_D t (fun h => h0 ((hcond0_0 t).mp h)) (fun h => h1 ((hcond0_1 t).mp h)) ((hcond0_2 t).mpr h2)], after0_5]
        by_cases hz : t.val = 0
        · exfalso; have hN : t.val < 512 := lt_of_lt_of_eq t.isLt (show cfg0.N = 512 from N_0); omega
        · rw [PhiS_castSucc m c t, PhiS_pos m c _ _ hz]
          rw [outsAt0_D m c t h0 h1 h2]
          unfold out0_D_5 sout0_D_0 sout0_D_1 sout0_D_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_D c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _ _ _).2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, ⟨%e5, H5⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_D_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_D_2 c _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_D_5 c _ _ _ _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        by_cases hz : t.val = 0
        · exfalso; have hN : t.val < 512 := lt_of_lt_of_eq t.isLt (show cfg0.N = 512 from N_0); omega
        · rw [PhiS_castSucc m c t, PhiS_pos m c _ _ hz]
          rw [outsAt0_B m c t h0 h1 h2]
          simp only [before0_5_B m c t h0 h1 h2]
          unfold sout0_B_0 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) _ _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          iapply (leaves0_5_B m c t h0 h1 h2)
          iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 512 := N_0; omega)

/-! ## The run and the frame -/

-- `θ_run_frame_track`'s implicit arguments are found by unifying its conclusion with this one, which takes unfolding plain
-- definitions in a metavariable's type
set_option backward.isDefEq.respectTransparency.types false in
/-- The whole call: what `run_main` states, with every semaphore counter at zero in every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.FoxK.lean ====
/- The frame of the attention call as it is printed: the two printed programs are the same text, so the frame of the one is the frame of the other. -/
module

public import proofs.«01_k».proof.Proof.Gen.Kernel
public import proofs.«01_k».proof.Proof.FoxI

@[expose] public section

noncomputable section

namespace Cert.Kernel.Fox

open Idealize.ShloMosaic Idealize.ShloMosaic.TcCoe
open Cert.Kernel Cert.Kernel.Gen

variable {F : FTy → Type} [FloatOps F]
/-- The two printed bodies are the same. -/
theorem body_eq : defs₀ (F := F) = Cert.KernelIdeal.defs₀ (F := F) := by
  refine congrArg Defs.onTc ?_
  funext l a
  match l, a with
  | ⟨0, _⟩, (t, s) => rfl

/-- The two printed launches are the same. -/
theorem defs_eq : defs (F := F) = Cert.KernelIdeal.defs (F := F) :=
  congrArg (Pipeline.defs (Cert.KernelIdeal.pcfgs (F := F))) body_eq

variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelIdeal.Gen.frame m ρ

end Cert.Kernel.Fox

end
-- ==== Proof.FoxM.lean ====
module

public import proofs.«01_k».proof.Proof.FoxI
public import Idealize.ShloMosaic.Lib.Pipeline.ValueKit
public import Idealize.ShloMosaic.Lib.Pipeline.ReadBack

@[expose] public section

set_option maxRecDepth 16384

noncomputable section

/-! # The forgetting attention call's vectors: one head's arithmetic on one tile, named, and read at an index -/

namespace Cert.KernelIdeal.Fox

open Cert.KernelIdeal Cert.KernelIdeal.Gen Idealize.ShloMosaic Idealize.ShloMosaic.TcCoe Idealize.ShloMosaic.Tactic

/-- The lanes of the even heads, and of the odd ones. -/
def hbE : IVec S1x128 1 := k0_pay4
def hbO : IVec S1x128 1 := xori k0_pay4 (constantI S1x128 1 1#1)

/-- A half of a pair's 128 lanes picked out of two vectors. -/
def pick (hb : IVec S1x128 1) {φ : FTy} (a b : FVec Ideal S512x128 φ) : FVec Ideal S512x128 φ :=
  select (broadcastTo S512x128 (shapeCast S1x128 hb shapeCasts_S1x128_S1x128) broadcasts_S1x128_S512x128) a b

/-- A block's rows without the unit axis. -/
def flat {φ : FTy} (x : FVec Ideal S1x512x128 φ) : FVec Ideal S512x128 φ := shapeCast S512x128 x shapeCasts_S1x512x128_S512x128
def thick {φ : FTy} (x : FVec Ideal S512x128 φ) : FVec Ideal S1x512x128 φ := shapeCast S1x512x128 x shapeCasts_S512x128_S1x512x128

/-- A column of row values spread over the lanes. -/
def spread (x : FVec Ideal S512 .f32) : FVec Ideal S512x128 .f32 :=
  broadcastTo S512x128 (shapeCast S512x1 x shapeCasts_S512_S512x1) broadcasts_S512x1_S512x128

/-- A head's scores on a tile. -/
def sc (hb : IVec S1x128 1) (q : Vec Ideal S1x512x128 .bf16) (k : Vec Ideal S1x512x128 .f32) (cq : Vec Ideal S1x512x1 .f32) (ck : Vec Ideal S1x1x512 .f32) :
    FVec Ideal S512x512 .f32 :=
  subf (addf (matmul dot_S512x128_S512x128_S512x512_1_1_0_0_n_n none (pick hb (flat q) (broadcast S512x128 (Scalar.ofBits .bf16 0x0000#16)))
      (truncf .bf16 (flat k) bitsLt_bf16_f32) (constant S512x512 .f32 0x00000000#32))
      (broadcastTo S512x512 (shapeCast S512x1 cq shapeCasts_S1x512x1_S512x1) broadcasts_S512x1_S512x512))
    (broadcastTo S512x512 (shapeCast S1x512 ck shapeCasts_S1x1x512_S1x512) broadcasts_S1x512_S512x512)

/-- The same with the columns right of the row masked off. -/
def scM (hb : IVec S1x128 1) (q : Vec Ideal S1x512x128 .bf16) (k : Vec Ideal S1x512x128 .f32) (cq : Vec Ideal S1x512x1 .f32) (ck : Vec Ideal S1x1x512 .f32) :
    FVec Ideal S512x512 .f32 :=
  select k0_pay91 (sc hb q k cq ck) (broadcast S512x512 (Scalar.ofBits .f32 0xFF800000#32))

/-- The new running maximum, the tile's weights, the old state's factor. -/
def mN (s : FVec Ideal S512x512 .f32) (mo : Vec Ideal S1x512x128 .f32) : FVec Ideal S512x128 .f32 :=
  maximumf (flat mo) (spread (multiReduction .maximumf [1] S512 s 0xFF800000#32 reduces_S512x512_S512 (.inl rfl) rfl))
def pN (s : FVec Ideal S512x512 .f32) (mo : Vec Ideal S1x512x128 .f32) : FVec Ideal S512x512 .f32 :=
  exp (subf s (concatenate S512x512 1 [⟨S512x128, mN s mo⟩, ⟨S512x128, mN s mo⟩, ⟨S512x128, mN s mo⟩, ⟨S512x128, mN s mo⟩]
    concatenates_S512x128_S512x128_S512x128_S512x128_S512x512_d1))
def aN (s : FVec Ideal S512x512 .f32) (mo : Vec Ideal S1x512x128 .f32) : FVec Ideal S512x128 .f32 := exp (subf (flat mo) (mN s mo))

/-- What the three stores hold. -/
def mS (s : FVec Ideal S512x512 .f32) (mo : Vec Ideal S1x512x128 .f32) : FVec Ideal S1x512x128 .f32 := thick (mN s mo)
def lS (s : FVec Ideal S512x512 .f32) (mo lo : Vec Ideal S1x512x128 .f32) : FVec Ideal S1x512x128 .f32 :=
  thick (addf (mulf (aN s mo) (flat lo)) (spread (multiReduction .add [1] S512 (pN s mo) 0x00000000#32 reduces_S512x512_S512 (.inl rfl) rfl)))
def pv (p : FVec Ideal S512x512 .f32) (v : Vec Ideal S1x512x128 .f32) : FVec Ideal S512x128 .f32 :=
  matmul dot_S512x512_S512x128_S512x128_1_0_0_1_n_n none (truncf .bf16 p bitsLt_bf16_f32) (truncf .bf16 (flat v) bitsLt_bf16_f32)
    (constant S512x128 .f32 0x00000000#32)
def aS (s0 s1 : FVec Ideal S512x512 .f32) (mo0 mo1 v ao : Vec Ideal S1x512x128 .f32) : FVec Ideal S1x512x128 .f32 :=
  thick (addf (mulf (pick hbE (aN s0 mo0) (aN s1 mo1)) (flat ao)) (pick hbE (pv (pN s0 mo0) v) (pv (pN s1 mo1) v)))
def oS (l0 l1 ac : Vec Ideal S1x512x128 .f32) : FVec Ideal S1x512x128 .bf16 :=
  thick (truncf .bf16 (divf (flat ac) (pick hbE (flat l0) (flat l1))) bitsLt_bf16_f32)

theorem hbE_at : ∀ l : Fin 128, hbE (ix2 0 l) = if (l : ℕ) < 64 then 1#1 else 0#1 := by
  intro l; pointwise [hbE, k0_pay4]; revert l; decide +kernel
theorem hbO_at : ∀ l : Fin 128, hbO (ix2 0 l) = if (l : ℕ) < 64 then 0#1 else 1#1 := by
  intro l; pointwise [hbO, k0_pay4]; revert l; decide +kernel

theorem scE_at (q : Vec Ideal S1x512x128 .bf16) (k : Vec Ideal S1x512x128 .f32) (cq : Vec Ideal S1x512x1 .f32) (ck : Vec Ideal S1x1x512 .f32) (r c : Fin 512) :
    sc hbE q k cq ck (ix2 r c)
      = (∑ l : Fin 64, q (ix3 0 r ⟨(l : ℕ), by omega⟩) * k (ix3 0 c ⟨(l : ℕ), by omega⟩)) + cq (ix3 0 r 0) - ck (ix3 0 0 c) := by
  pointwise [sc, pick, flat, hbE_at]
  simp

theorem scO_at (q : Vec Ideal S1x512x128 .bf16) (k : Vec Ideal S1x512x128 .f32) (cq : Vec Ideal S1x512x1 .f32) (ck : Vec Ideal S1x1x512 .f32) (r c : Fin 512) :
    sc hbO q k cq ck (ix2 r c)
      = (∑ l : Fin 64, q (ix3 0 r ⟨64 + (l : ℕ), by omega⟩) * k (ix3 0 c ⟨64 + (l : ℕ), by omega⟩)) + cq (ix3 0 r 0) - ck (ix3 0 0 c) := by
  pointwise [sc, pick, flat, hbO_at]
  simp

theorem ninf : Ideal.ofBits .f32 0xFF800000#32 = (⊥ : EReal) := by
  simp [Ideal.ofBits, Ideal.ieee]

theorem toInt_small (P : Nat) (h : P < 2 ^ 31) : (BitVec.ofNat 32 P).toInt = P := by
  rw [BitVec.toInt_eq_toNat_of_lt] <;> rw [BitVec.toNat_ofNat] <;> omega

theorem keep_at (r c : Fin 512) : k0_pay91 (ix2 r c) = if (c : ℕ) ≤ (r : ℕ) then 1#1 else 0#1 := by
  pointwise [k0_pay91]
  have hr := r.isLt
  have hc := c.isLt
  simp only [IntOp.cmpi, BitVec.sle]
  rw [toInt_small c.val (by omega), toInt_small r.val (by omega)]
  by_cases h : (c : ℕ) ≤ (r : ℕ) <;> simp [h]

theorem scM_at (hb : IVec S1x128 1) (q : Vec Ideal S1x512x128 .bf16) (k : Vec Ideal S1x512x128 .f32) (cq : Vec Ideal S1x512x1 .f32) (ck : Vec Ideal S1x1x512 .f32) (r c : Fin 512) :
    scM hb q k cq ck (ix2 r c) = if (c : ℕ) ≤ (r : ℕ) then sc hb q k cq ck (ix2 r c) else ⊥ := by
  pointwise [scM, keep_at]
  by_cases h : (c : ℕ) ≤ (r : ℕ)
  · simp [h, Scalar.select]
  · simp [h, Scalar.select, ninf]

theorem mS_at (s : FVec Ideal S512x512 .f32) (mo : Vec Ideal S1x512x128 .f32) (r : Fin 512) (l : Fin 128) :
    mS s mo (ix3 0 r l) = max (mo (ix3 0 r l)) (Finset.univ.fold max ⊥ fun c : Fin 512 => s (ix2 r c)) := by
  pointwise [mS, mN, flat, thick, spread]
  rw [ninf]

theorem lS_at (s : FVec Ideal S512x512 .f32) (mo lo : Vec Ideal S1x512x128 .f32) (r : Fin 512) (l : Fin 128) :
    lS s mo lo (ix3 0 r l) = Ideal.exp (mo (ix3 0 r l) - mS s mo (ix3 0 r l)) * lo (ix3 0 r l) + ∑ c : Fin 512, pN s mo (ix2 r c) := by
  pointwise [lS, mS, aN, flat, thick, spread]

theorem pN_at (s : FVec Ideal S512x512 .f32) (mo : Vec Ideal S1x512x128 .f32) (r c : Fin 512) :
    pN s mo (ix2 r c) = Ideal.exp (s (ix2 r c) - mS s mo (ix3 0 r ⟨(c : ℕ) % 128, Nat.mod_lt _ (by norm_num)⟩)) := by
  pointwise [pN, mS, thick]
  congr 2
  split_ifs <;> congr 2 <;> (apply Fin.ext; simp only []; omega)

theorem aS_at (s0 s1 : FVec Ideal S512x512 .f32) (mo0 mo1 v ao : Vec Ideal S1x512x128 .f32) (r : Fin 512) (l : Fin 128) :
    aS s0 s1 mo0 mo1 v ao (ix3 0 r l)
      = if (l : ℕ) < 64 then Ideal.exp (mo0 (ix3 0 r l) - mS s0 mo0 (ix3 0 r l)) * ao (ix3 0 r l) + ∑ c : Fin 512, pN s0 mo0 (ix2 r c) * v (ix3 0 c l)
        else Ideal.exp (mo1 (ix3 0 r l) - mS s1 mo1 (ix3 0 r l)) * ao (ix3 0 r l) + ∑ c : Fin 512, pN s1 mo1 (ix2 r c) * v (ix3 0 c l) := by
  pointwise [aS, mS, aN, pv, pick, flat, thick, hbE_at]
  by_cases h : (l : ℕ) < 64 <;> simp [h, Scalar.select]

theorem oS_at (l0 l1 ac : Vec Ideal S1x512x128 .f32) (r : Fin 512) (l : Fin 128) :
    oS l0 l1 ac (ix3 0 r l) = Ideal.div (ac (ix3 0 r l)) (if (l : ℕ) < 64 then l0 (ix3 0 r l) else l1 (ix3 0 r l)) := by
  pointwise [oS, pick, flat, thick, hbE_at]
  by_cases h : (l : ℕ) < 64 <;> simp [h, Scalar.select]

/-! ## A step of the running softmax at an element -/

/-- Head `h`'s score of row `r` against column `c` of a tile. -/
def S (x0 : Vec Ideal S1x512x512 .bf16) (x1 : Vec Ideal S1x512x512 .f32) (x3 : Vec Ideal S1x512x8 .f32) (x4 : Vec Ideal S1x8x512 .f32)
    (h : Fin 8) (r c : Fin 512) : EReal :=
  (∑ l : Fin 64, x0 (ix3 0 r ⟨64 * (h : ℕ) + l, by omega⟩) * x1 (ix3 0 c ⟨64 * (h : ℕ) + l, by omega⟩)) + x3 (ix3 0 r h) - x4 (ix3 0 h c)

/-- The same, a column right of the row at `⊥`. -/
def SM (x0 : Vec Ideal S1x512x512 .bf16) (x1 : Vec Ideal S1x512x512 .f32) (x3 : Vec Ideal S1x512x8 .f32) (x4 : Vec Ideal S1x8x512 .f32)
    (h : Fin 8) (r c : Fin 512) : EReal := if (c : ℕ) ≤ (r : ℕ) then S x0 x1 x3 x4 h r c else ⊥

variable (s : Fin 8 → Fin 512 → Fin 512 → EReal) (m l : Vec Ideal S8x512x128 .f32) (v : Vec Ideal S1x512x512 .f32) (a : Vec Ideal S4x512x128 .f32)

def Mx (h : Fin 8) (r : Fin 512) (i : Fin 128) : EReal := max (m (ix3 h r i)) (Finset.univ.fold max ⊥ fun c : Fin 512 => s h r c)
def Px (h : Fin 8) (r c : Fin 512) : EReal := Ideal.exp (s h r c - Mx s m h r ⟨(c : ℕ) % 128, Nat.mod_lt _ (by norm_num)⟩)
def Lx (h : Fin 8) (r : Fin 512) (i : Fin 128) : EReal :=
  Ideal.exp (m (ix3 h r i) - Mx s m h r i) * l (ix3 h r i) + ∑ c : Fin 512, Px s m h r c
/-- The head whose lane `i` of pair `p` is. -/
def hd (p : Fin 4) (i : Fin 128) : Fin 8 := ⟨2 * (p : ℕ) + (i : ℕ) / 64, by omega⟩
def Ax (p : Fin 4) (r : Fin 512) (i : Fin 128) : EReal :=
  Ideal.exp (m (ix3 (hd p i) r i) - Mx s m (hd p i) r i) * a (ix3 p r i)
    + ∑ c : Fin 512, Px s m (hd p i) r c * v (ix3 0 c ⟨128 * (p : ℕ) + i, by omega⟩)
def Ox (r : Fin 512) (p : Fin 4) (i : Fin 128) : EReal := Ideal.div (a (ix3 p r i)) (l (ix3 (hd p i) r i))

theorem mS_model (h : Fin 8) {t : FVec Ideal S512x512 .f32} {mo : Vec Ideal S1x512x128 .f32} (ht : ∀ r c, t (ix2 r c) = s h r c)
    (hm : ∀ r i, mo (ix3 0 r i) = m (ix3 h r i)) (r : Fin 512) (i : Fin 128) : mS t mo (ix3 0 r i) = Mx s m h r i := by
  rw [mS_at, hm]; simp only [ht]; rfl

theorem pN_model (h : Fin 8) {t : FVec Ideal S512x512 .f32} {mo : Vec Ideal S1x512x128 .f32} (ht : ∀ r c, t (ix2 r c) = s h r c)
    (hm : ∀ r i, mo (ix3 0 r i) = m (ix3 h r i)) (r c : Fin 512) : pN t mo (ix2 r c) = Px s m h r c := by
  rw [pN_at, mS_model s m h ht hm, ht]; rfl

theorem lS_model (h : Fin 8) {t : FVec Ideal S512x512 .f32} {mo lo : Vec Ideal S1x512x128 .f32} (ht : ∀ r c, t (ix2 r c) = s h r c)
    (hm : ∀ r i, mo (ix3 0 r i) = m (ix3 h r i)) (hl : ∀ r i, lo (ix3 0 r i) = l (ix3 h r i)) (r : Fin 512) (i : Fin 128) :
    lS t mo lo (ix3 0 r i) = Lx s m l h r i := by
  rw [lS_at, mS_model s m h ht hm, hm, hl]; simp only [pN_model s m h ht hm]; rfl

theorem aS_model (p : Fin 4) (h0 h1 : Fin 8) (e0 : (h0 : ℕ) = 2 * p) (e1 : (h1 : ℕ) = 2 * p + 1) {t0 t1 : FVec Ideal S512x512 .f32} {mo0 mo1 vo ao : Vec Ideal S1x512x128 .f32}
    (ht0 : ∀ r c, t0 (ix2 r c) = s h0 r c) (ht1 : ∀ r c, t1 (ix2 r c) = s h1 r c)
    (hm0 : ∀ r i, mo0 (ix3 0 r i) = m (ix3 h0 r i)) (hm1 : ∀ r i, mo1 (ix3 0 r i) = m (ix3 h1 r i))
    (hv : ∀ (c : Fin 512) (i : Fin 128), vo (ix3 0 c i) = v (ix3 0 c ⟨128 * (p : ℕ) + i, by omega⟩)) (ha : ∀ r i, ao (ix3 0 r i) = a (ix3 p r i))
    (r : Fin 512) (i : Fin 128) : aS t0 t1 mo0 mo1 vo ao (ix3 0 r i) = Ax s m v a p r i := by
  rw [aS_at, mS_model s m h0 ht0 hm0, mS_model s m h1 ht1 hm1, hm0, hm1, ha]
  simp only [pN_model s m h0 ht0 hm0, pN_model s m h1 ht1 hm1, hv, Ax]
  split_ifs with h
  · rw [show hd p i = h0 from Fin.ext (by simp only [hd]; omega)]
  · rw [show hd p i = h1 from Fin.ext (by simp only [hd]; omega)]

theorem oS_model (p : Fin 4) (h0 h1 : Fin 8) (e0 : (h0 : ℕ) = 2 * p) (e1 : (h1 : ℕ) = 2 * p + 1) {l0 l1 ao : Vec Ideal S1x512x128 .f32}
    (hl0 : ∀ r i, l0 (ix3 0 r i) = l (ix3 h0 r i)) (hl1 : ∀ r i, l1 (ix3 0 r i) = l (ix3 h1 r i)) (ha : ∀ r i, ao (ix3 0 r i) = a (ix3 p r i))
    (r : Fin 512) (i : Fin 128) : oS l0 l1 ao (ix3 0 r i) = Ox l a r p i := by
  rw [oS_at, hl0, hl1, ha, Ox]
  split_ifs with h
  · rw [show hd p i = h0 from Fin.ext (by simp only [hd]; omega)]
  · rw [show hd p i = h1 from Fin.ext (by simp only [hd]; omega)]

theorem scE_model (x0 : Vec Ideal S1x512x512 .bf16) (x1 : Vec Ideal S1x512x512 .f32) (x3 : Vec Ideal S1x512x8 .f32) (x4 : Vec Ideal S1x8x512 .f32)
    (h : Fin 8) {p : ℕ} (e : (h : ℕ) = 2 * p) {q : Vec Ideal S1x512x128 .bf16} {k : Vec Ideal S1x512x128 .f32} {cq : Vec Ideal S1x512x1 .f32} {ck : Vec Ideal S1x1x512 .f32}
    (hq : ∀ (r : Fin 512) (i : Fin 128), q (ix3 0 r i) = x0 (ix3 0 r ⟨128 * p + i, by omega⟩))
    (hk : ∀ (r : Fin 512) (i : Fin 128), k (ix3 0 r i) = x1 (ix3 0 r ⟨128 * p + i, by omega⟩))
    (hcq : ∀ r, cq (ix3 0 r 0) = x3 (ix3 0 r h)) (hck : ∀ c, ck (ix3 0 0 c) = x4 (ix3 0 h c)) (r c : Fin 512) :
    sc hbE q k cq ck (ix2 r c) = S x0 x1 x3 x4 h r c := by
  rw [scE_at, hcq, hck, S]
  simp only [hq, hk]
  congr 2
  refine Finset.sum_congr rfl fun l _ => ?_
  congr 3 <;> (apply Fin.ext; simp only []; omega)

theorem scO_model (x0 : Vec Ideal S1x512x512 .bf16) (x1 : Vec Ideal S1x512x512 .f32) (x3 : Vec Ideal S1x512x8 .f32) (x4 : Vec Ideal S1x8x512 .f32)
    (h : Fin 8) {p : ℕ} (e : (h : ℕ) = 2 * p + 1) {q : Vec Ideal S1x512x128 .bf16} {k : Vec Ideal S1x512x128 .f32} {cq : Vec Ideal S1x512x1 .f32} {ck : Vec Ideal S1x1x512 .f32}
    (hq : ∀ (r : Fin 512) (i : Fin 128), q (ix3 0 r i) = x0 (ix3 0 r ⟨128 * p + i, by omega⟩))
    (hk : ∀ (r : Fin 512) (i : Fin 128), k (ix3 0 r i) = x1 (ix3 0 r ⟨128 * p + i, by omega⟩))
    (hcq : ∀ r, cq (ix3 0 r 0) = x3 (ix3 0 r h)) (hck : ∀ c, ck (ix3 0 0 c) = x4 (ix3 0 h c)) (r c : Fin 512) :
    sc hbO q k cq ck (ix2 r c) = S x0 x1 x3 x4 h r c := by
  rw [scO_at, hcq, hck, S]
  simp only [hq, hk]
  congr 2
  refine Finset.sum_congr rfl fun l _ => ?_
  congr 3 <;> (apply Fin.ext; simp only []; omega)

theorem scM_model (x0 : Vec Ideal S1x512x512 .bf16) (x1 : Vec Ideal S1x512x512 .f32) (x3 : Vec Ideal S1x512x8 .f32) (x4 : Vec Ideal S1x8x512 .f32)
    (h : Fin 8) {hb : IVec S1x128 1} {q : Vec Ideal S1x512x128 .bf16} {k : Vec Ideal S1x512x128 .f32} {cq : Vec Ideal S1x512x1 .f32} {ck : Vec Ideal S1x1x512 .f32}
    (hs : ∀ r c, sc hb q k cq ck (ix2 r c) = S x0 x1 x3 x4 h r c) (r c : Fin 512) :
    scM hb q k cq ck (ix2 r c) = SM x0 x1 x3 x4 h r c := by
  rw [scM_at, hs]; rfl

/-! ## The loads at an element -/

theorem y_eq (y : S1x512x128.Idx) (r : Fin 512) (i : Fin 128) (h1 : (r : ℕ) = (y 1 : ℕ)) (h2 : (i : ℕ) = (y 2 : ℕ)) : y = ix3 0 r i := by
  funext b
  fin_cases b
  · exact Fin.ext (by have := (y 0).isLt; simp at this; simp [this])
  · exact Fin.ext h1.symm
  · exact Fin.ext h2.symm

theorem rdC {e : EltTy} (p : ℕ) (arg : Memref sig .tc .vmem S1x512x512 e) (harg : arg.IsWhole) (x : Vec Ideal S1x512x512 e)
    (inb : ∀ b, (![0, 0, 128 * p] : Fin 3 → ℕ) b + S1x512x128.size b ≤ S1x512x512.size b) (hp : p < 4) (r : Fin 512) (i : Fin 128) :
    View.readAt (Elt Ideal) arg.view (Rect.unit (s := S1x512x512) ![0, 0, 128 * p] S1x512x128.size inb).toLoadRect (harg.unread x) (ix3 0 r i)
      = x (ix3 0 r ⟨128 * p + i, by omega⟩) := by
  rw [View.readAt_eq_ld, harg.read_unread]
  refine congrArg x (funext fun b => ?_)
  fin_cases b <;> apply Fin.ext <;> simp

theorem rdQ (h : ℕ) (arg : Memref sig .tc .vmem S1x512x8 .f32) (harg : arg.IsWhole) (x : Vec Ideal S1x512x8 .f32)
    (inb : ∀ b, (![0, 0, h] : Fin 3 → ℕ) b + S1x512x1.size b ≤ S1x512x8.size b) (hh : h < 8) (r : Fin 512) :
    View.readAt (Elt Ideal) arg.view (Rect.unit (s := S1x512x8) ![0, 0, h] S1x512x1.size inb).toLoadRect (harg.unread x) (ix3 0 r 0)
      = x (ix3 0 r ⟨h, hh⟩) := by
  rw [View.readAt_eq_ld, harg.read_unread]
  refine congrArg x (funext fun b => ?_)
  fin_cases b <;> apply Fin.ext <;> simp

theorem rdK (h : ℕ) (arg : Memref sig .tc .vmem S1x8x512 .f32) (harg : arg.IsWhole) (x : Vec Ideal S1x8x512 .f32)
    (inb : ∀ b, (![0, h, 0] : Fin 3 → ℕ) b + S1x1x512.size b ≤ S1x8x512.size b) (hh : h < 8) (c : Fin 512) :
    View.readAt (Elt Ideal) arg.view (Rect.unit (s := S1x8x512) ![0, h, 0] S1x1x512.size inb).toLoadRect (harg.unread x) (ix3 0 0 c)
      = x (ix3 0 ⟨h, hh⟩ c) := by
  rw [View.readAt_eq_ld, harg.read_unread]
  refine congrArg x (funext fun b => ?_)
  fin_cases b <;> apply Fin.ext <;> simp

theorem rd8 (h : ℕ) (arg : Memref sig .tc .vmem S8x512x128 .f32) (harg : arg.IsWhole) (x : Vec Ideal S8x512x128 .f32)
    (inb : ∀ b, (![h, 0, 0] : Fin 3 → ℕ) b + S1x512x128.size b ≤ S8x512x128.size b) (hh : h < 8) (r : Fin 512) (i : Fin 128) :
    View.readAt (Elt Ideal) arg.view (Rect.unit (s := S8x512x128) ![h, 0, 0] S1x512x128.size inb).toLoadRect (harg.unread x) (ix3 0 r i)
      = x (ix3 ⟨h, hh⟩ r i) := by
  rw [View.readAt_eq_ld, harg.read_unread]
  refine congrArg x (funext fun b => ?_)
  fin_cases b <;> apply Fin.ext <;> simp

theorem rd4 (h : ℕ) (arg : Memref sig .tc .vmem S4x512x128 .f32) (harg : arg.IsWhole) (x : Vec Ideal S4x512x128 .f32)
    (inb : ∀ b, (![h, 0, 0] : Fin 3 → ℕ) b + S1x512x128.size b ≤ S4x512x128.size b) (hh : h < 4) (r : Fin 512) (i : Fin 128) :
    View.readAt (Elt Ideal) arg.view (Rect.unit (s := S4x512x128) ![h, 0, 0] S1x512x128.size inb).toLoadRect (harg.unread x) (ix3 0 r i)
      = x (ix3 ⟨h, hh⟩ r i) := by
  rw [View.readAt_eq_ld, harg.read_unread]
  refine congrArg x (funext fun b => ?_)
  fin_cases b <;> apply Fin.ext <;> simp

theorem peel8 {e : EltTy} (k : ℕ) (inb : ∀ b, (![k, 0, 0] : Fin 3 → ℕ) b + S1x512x128.size b ≤ S8x512x128.size b) (w : Vec Ideal S1x512x128 e)
    (L : List (View.Piece (Elt Ideal) S8x512x128 e)) (h : Fin 8) (r : Fin 512) (i : Fin 128) (v : Elt Ideal e)
    (h1 : (h : ℕ) = k → w (ix3 0 r i) = v) (h2 : (h : ℕ) ≠ k → View.canon L (ix3 h r i) = v) :
    View.canon (⟨Rect.unit (s := S8x512x128) ![k, 0, 0] S1x512x128.size inb, w⟩ :: L) (ix3 h r i) = v := by
  by_cases e : (h : ℕ) = k
  · have hy : (Rect.unit (s := S8x512x128) ![k, 0, 0] S1x512x128.size inb).idx (ix3 0 r i : S1x512x128.Idx) = ix3 h r i := by
      funext b
      fin_cases b <;> apply Fin.ext <;> simp [e]
    rw [← hy]
    exact (View.canon_cons_emb (Rect.unit (s := S8x512x128) ![k, 0, 0] S1x512x128.size inb) w L (ix3 0 r i : S1x512x128.Idx)).trans (h1 e)
  · refine (View.canon_cons_of_not_mem _ L fun hm => e ?_).trans (h2 e)
    have h0 := ((Rect.mem_set_unit (inb := inb)).mp hm) 0
    simp at h0
    omega

theorem peel4 {e : EltTy} (k : ℕ) (inb : ∀ b, (![k, 0, 0] : Fin 3 → ℕ) b + S1x512x128.size b ≤ S4x512x128.size b) (w : Vec Ideal S1x512x128 e)
    (L : List (View.Piece (Elt Ideal) S4x512x128 e)) (h : Fin 4) (r : Fin 512) (i : Fin 128) (v : Elt Ideal e)
    (h1 : (h : ℕ) = k → w (ix3 0 r i) = v) (h2 : (h : ℕ) ≠ k → View.canon L (ix3 h r i) = v) :
    View.canon (⟨Rect.unit (s := S4x512x128) ![k, 0, 0] S1x512x128.size inb, w⟩ :: L) (ix3 h r i) = v := by
  by_cases e : (h : ℕ) = k
  · have hy : (Rect.unit (s := S4x512x128) ![k, 0, 0] S1x512x128.size inb).idx (ix3 0 r i : S1x512x128.Idx) = ix3 h r i := by
      funext b
      fin_cases b <;> apply Fin.ext <;> simp [e]
    rw [← hy]
    exact (View.canon_cons_emb (Rect.unit (s := S4x512x128) ![k, 0, 0] S1x512x128.size inb) w L (ix3 0 r i : S1x512x128.Idx)).trans (h1 e)
  · refine (View.canon_cons_of_not_mem _ L fun hm => e ?_).trans (h2 e)
    have h0 := ((Rect.mem_set_unit (inb := inb)).mp hm) 0
    simp at h0
    omega

theorem skip8 {e : EltTy} (k h : ℕ) (hkh : k < h) (v : View sig .tc .vmem S8x512x128 e)
    (inb : ∀ b, (![k, 0, 0] : Fin 3 → ℕ) b + S1x512x128.size b ≤ S8x512x128.size b)
    (inb' : ∀ b, (![h, 0, 0] : Fin 3 → ℕ) b + S1x512x128.size b ≤ S8x512x128.size b) (w : Vec Ideal S1x512x128 e)
    (L : List (View.Piece (Elt Ideal) S8x512x128 e)) :
    v.readCov (Val := Elt Ideal) (⟨Rect.unit (s := S8x512x128) ![k, 0, 0] S1x512x128.size inb, w⟩ :: L)
        (Rect.unit (s := S8x512x128) ![h, 0, 0] S1x512x128.size inb').toLoadRect
      = v.readCov L (Rect.unit (s := S8x512x128) ![h, 0, 0] S1x512x128.size inb').toLoadRect := by
  rw [View.readCov_eq_canon', View.readCov_eq_canon']
  funext j
  refine View.canon_cons_of_not_mem _ L fun hm => ?_
  have h0 := ((Rect.mem_set_unit (inb := inb)).mp hm) 0
  simp at h0
  have hj : (j 0 : ℕ) < 1 := (j 0).isLt
  omega

theorem init8 {e : EltTy} (h : ℕ) (v : View sig .tc .vmem S8x512x128 e) (Z : Vec Ideal S8x512x128 e)
    (inb : ∀ b, (![0, 0, 0] : Fin 3 → ℕ) b + S8x512x128.size b ≤ S8x512x128.size b)
    (inb' : ∀ b, (![h, 0, 0] : Fin 3 → ℕ) b + S1x512x128.size b ≤ S8x512x128.size b) (z : Elt Ideal e) (hz : ∀ j, Z j = z) :
    v.readCov (Val := Elt Ideal) [⟨Rect.unit (s := S8x512x128) ![0, 0, 0] S8x512x128.size inb, Z⟩]
        (Rect.unit (s := S8x512x128) ![h, 0, 0] S1x512x128.size inb').toLoadRect
      = fun _ => z := by
  rw [View.readCov_fill v inb Z [] _ (by intro b; fin_cases b <;> rfl)]
  funext j
  exact hz _

/-- A slab read back after the stores is what the buffer is left holding there. -/
theorem back8 {e : EltTy} (h : ℕ) (hh : h < 8) (v : View sig .tc .vmem S8x512x128 e) {κ : Kind} {sp : Space} (v' : View sig κ sp S8x512x128 e)
    (inb' : ∀ b, (![h, 0, 0] : Fin 3 → ℕ) b + S1x512x128.size b ≤ S8x512x128.size b)
    (L : List (View.Piece (Elt Ideal) S8x512x128 e)) (r : Fin 512) (i : Fin 128) :
    v.readCov (Val := Elt Ideal) L (Rect.unit (s := S8x512x128) ![h, 0, 0] S1x512x128.size inb').toLoadRect (ix3 0 r i)
      = v'.read (Elt Ideal) (v'.writes (Elt Ideal) v'.junk L) (ix3 ⟨h, hh⟩ r i) := by
  rw [View.readCov_eq_canon', View.read_writes_junk_apply_eq_canon]
  refine congrArg (View.canon L) (funext fun b => ?_)
  fin_cases b <;> apply Fin.ext <;> simp

theorem skip4 {e : EltTy} (k h : ℕ) (hkh : k < h) (v : View sig .tc .vmem S4x512x128 e)
    (inb : ∀ b, (![k, 0, 0] : Fin 3 → ℕ) b + S1x512x128.size b ≤ S4x512x128.size b)
    (inb' : ∀ b, (![h, 0, 0] : Fin 3 → ℕ) b + S1x512x128.size b ≤ S4x512x128.size b) (w : Vec Ideal S1x512x128 e)
    (L : List (View.Piece (Elt Ideal) S4x512x128 e)) :
    v.readCov (Val := Elt Ideal) (⟨Rect.unit (s := S4x512x128) ![k, 0, 0] S1x512x128.size inb, w⟩ :: L)
        (Rect.unit (s := S4x512x128) ![h, 0, 0] S1x512x128.size inb').toLoadRect
      = v.readCov L (Rect.unit (s := S4x512x128) ![h, 0, 0] S1x512x128.size inb').toLoadRect := by
  rw [View.readCov_eq_canon', View.readCov_eq_canon']
  funext j
  refine View.canon_cons_of_not_mem _ L fun hm => ?_
  have h0 := ((Rect.mem_set_unit (inb := inb)).mp hm) 0
  simp at h0
  have hj : (j 0 : ℕ) < 1 := (j 0).isLt
  omega

theorem init4 {e : EltTy} (h : ℕ) (v : View sig .tc .vmem S4x512x128 e) (Z : Vec Ideal S4x512x128 e)
    (inb : ∀ b, (![0, 0, 0] : Fin 3 → ℕ) b + S4x512x128.size b ≤ S4x512x128.size b)
    (inb' : ∀ b, (![h, 0, 0] : Fin 3 → ℕ) b + S1x512x128.size b ≤ S4x512x128.size b) (z : Elt Ideal e) (hz : ∀ j, Z j = z) :
    v.readCov (Val := Elt Ideal) [⟨Rect.unit (s := S4x512x128) ![0, 0, 0] S4x512x128.size inb, Z⟩]
        (Rect.unit (s := S4x512x128) ![h, 0, 0] S1x512x128.size inb').toLoadRect
      = fun _ => z := by
  rw [View.readCov_fill v inb Z [] _ (by intro b; fin_cases b <;> rfl)]
  funext j
  exact hz _

/-- A slab read back after the stores is what the buffer is left holding there. -/
theorem back4 {e : EltTy} (h : ℕ) (hh : h < 4) (v : View sig .tc .vmem S4x512x128 e) {κ : Kind} {sp : Space} (v' : View sig κ sp S4x512x128 e)
    (inb' : ∀ b, (![h, 0, 0] : Fin 3 → ℕ) b + S1x512x128.size b ≤ S4x512x128.size b)
    (L : List (View.Piece (Elt Ideal) S4x512x128 e)) (r : Fin 512) (i : Fin 128) :
    v.readCov (Val := Elt Ideal) L (Rect.unit (s := S4x512x128) ![h, 0, 0] S1x512x128.size inb').toLoadRect (ix3 0 r i)
      = v'.read (Elt Ideal) (v'.writes (Elt Ideal) v'.junk L) (ix3 ⟨h, hh⟩ r i) := by
  rw [View.readCov_eq_canon', View.read_writes_junk_apply_eq_canon]
  refine congrArg (View.canon L) (funext fun b => ?_)
  fin_cases b <;> apply Fin.ext <;> simp

theorem pay1_at (j : S8x512x128.Idx) : k0_pay1 (F := Ideal) j = (⊥ : EReal) := by
  pointwise [k0_pay1]
  rw [ninf]
theorem pay2_at (j : S8x512x128.Idx) : k0_pay2 (F := Ideal) j = (0 : EReal) := by pointwise [k0_pay2]
theorem pay3_at (j : S4x512x128.Idx) : k0_pay3 (F := Ideal) j = (0 : EReal) := by pointwise [k0_pay3]

end Cert.KernelIdeal.Fox

end
-- ==== Proof.FoxHead.lean ====
module

public import proofs.«01_k».proof.Proof.FoxM

@[expose] public section

set_option maxRecDepth 16384

noncomputable section

/-! # The forgetting attention call: a head's scores from the blocks that are loaded, and the state before its first store -/

namespace Cert.KernelIdeal.Fox

open Cert.KernelIdeal Cert.KernelIdeal.Gen Idealize.ShloMosaic Idealize.ShloMosaic.TcCoe Idealize.ShloMosaic.Tactic

section
variable {arg3 : Memref sig .tc .vmem S1x512x512 .bf16} {harg3 : arg3.IsWhole} {arg4 : Memref sig .tc .vmem S1x512x512 .f32} {harg4 : arg4.IsWhole}
  {arg6 : Memref sig .tc .vmem S1x512x8 .f32} {harg6 : arg6.IsWhole} {arg7 : Memref sig .tc .vmem S1x8x512 .f32} {harg7 : arg7.IsWhole}
  {x0 : Vec Ideal S1x512x512 .bf16} {x1 : Vec Ideal S1x512x512 .f32} {x3 : Vec Ideal S1x512x8 .f32} {x4 : Vec Ideal S1x8x512 .f32}
  (n : ℕ) (hn : n < 8)
  {inb inb' : ∀ b, (![0, 0, 128 * (n / 2)] : Fin 3 → ℕ) b + S1x512x128.size b ≤ S1x512x512.size b}
  {inq : ∀ b, (![0, 0, n] : Fin 3 → ℕ) b + S1x512x1.size b ≤ S1x512x8.size b}
  {ink : ∀ b, (![0, n, 0] : Fin 3 → ℕ) b + S1x1x512.size b ≤ S1x8x512.size b}

/-- An even head's scores are those of the loaded blocks, the pair of heads' 128 lanes being picked by the even mask; -/
theorem headE (he : n % 2 = 0) (r c : Fin 512) :
    sc hbE (View.readAt (Elt Ideal) arg3.view (Rect.unit (s := S1x512x512) ![0, 0, 128 * (n / 2)] S1x512x128.size inb).toLoadRect (harg3.unread x0))
        (View.readAt (Elt Ideal) arg4.view (Rect.unit (s := S1x512x512) ![0, 0, 128 * (n / 2)] S1x512x128.size inb').toLoadRect (harg4.unread x1))
        (View.readAt (Elt Ideal) arg6.view (Rect.unit (s := S1x512x8) ![0, 0, n] S1x512x1.size inq).toLoadRect (harg6.unread x3))
        (View.readAt (Elt Ideal) arg7.view (Rect.unit (s := S1x8x512) ![0, n, 0] S1x1x512.size ink).toLoadRect (harg7.unread x4)) (ix2 r c)
      = S x0 x1 x3 x4 ⟨n, hn⟩ r c :=
  scE_model x0 x1 x3 x4 ⟨n, hn⟩ (p := n / 2) (by show n = _; omega) (rdC (n / 2) arg3 harg3 x0 _ (by omega))
    (rdC (n / 2) arg4 harg4 x1 _ (by omega)) (rdQ n arg6 harg6 x3 _ hn) (rdK n arg7 harg7 x4 _ hn) r c

/-- so are an odd head's, with the odd mask. -/
theorem headO (ho : n % 2 = 1) (r c : Fin 512) :
    sc hbO (View.readAt (Elt Ideal) arg3.view (Rect.unit (s := S1x512x512) ![0, 0, 128 * (n / 2)] S1x512x128.size inb).toLoadRect (harg3.unread x0))
        (View.readAt (Elt Ideal) arg4.view (Rect.unit (s := S1x512x512) ![0, 0, 128 * (n / 2)] S1x512x128.size inb').toLoadRect (harg4.unread x1))
        (View.readAt (Elt Ideal) arg6.view (Rect.unit (s := S1x512x8) ![0, 0, n] S1x512x1.size inq).toLoadRect (harg6.unread x3))
        (View.readAt (Elt Ideal) arg7.view (Rect.unit (s := S1x8x512) ![0, n, 0] S1x1x512.size ink).toLoadRect (harg7.unread x4)) (ix2 r c)
      = S x0 x1 x3 x4 ⟨n, hn⟩ r c :=
  scO_model x0 x1 x3 x4 ⟨n, hn⟩ (p := n / 2) (by show n = _; omega) (rdC (n / 2) arg3 harg3 x0 _ (by omega))
    (rdC (n / 2) arg4 harg4 x1 _ (by omega)) (rdQ n arg6 harg6 x3 _ hn) (rdK n arg7 harg7 x4 _ hn) r c

end

/-- A pair of heads' weighted sum after the tile, from the two heads' scores and old state and the loaded values. -/
theorem aS_pair (s : Fin 8 → Fin 512 → Fin 512 → EReal) (m : Vec Ideal S8x512x128 .f32) (a : Vec Ideal S4x512x128 .f32) {arg5 : Memref sig .tc .vmem S1x512x512 .f32} {harg5 : arg5.IsWhole} {x2 : Vec Ideal S1x512x512 .f32}
    (n : ℕ) (hn : n < 4) {inb : ∀ b, (![0, 0, 128 * n] : Fin 3 → ℕ) b + S1x512x128.size b ≤ S1x512x512.size b}
    {t0 t1 : FVec Ideal S512x512 .f32} {mo0 mo1 ao : Vec Ideal S1x512x128 .f32}
    (ht0 : ∀ r c, t0 (ix2 r c) = s ⟨2 * n, by omega⟩ r c) (ht1 : ∀ r c, t1 (ix2 r c) = s ⟨2 * n + 1, by omega⟩ r c)
    (hm0 : ∀ r i, mo0 (ix3 0 r i) = m (ix3 ⟨2 * n, by omega⟩ r i)) (hm1 : ∀ r i, mo1 (ix3 0 r i) = m (ix3 ⟨2 * n + 1, by omega⟩ r i))
    (ha : ∀ r i, ao (ix3 0 r i) = a (ix3 ⟨n, hn⟩ r i)) (r : Fin 512) (i : Fin 128) :
    aS t0 t1 mo0 mo1 (View.readAt (Elt Ideal) arg5.view (Rect.unit (s := S1x512x512) ![0, 0, 128 * n] S1x512x128.size inb).toLoadRect (harg5.unread x2)) ao
        (ix3 0 r i) = Ax s m x2 a ⟨n, hn⟩ r i :=
  aS_model s m x2 a ⟨n, hn⟩ _ _ rfl rfl ht0 ht1 hm0 hm1 (rdC n arg5 harg5 x2 _ hn) ha r i

/-- The output's tile of a pair of heads: its rows are the weighted sum over the running sum, as the buffers are left. -/
theorem out_tile (q p : Fin 4) (r : Fin 512) (l : Fin 128) (y : S1x512x128.Idx) (hr : (r : ℕ) = (y 1 : ℕ))
    (e : 128 * (p : ℕ) + l = 128 * (q : ℕ) + (y 2 : ℕ)) {κ κ' : Kind} {sp sp' : Space} (vl : View sig .tc .vmem S8x512x128 .f32)
    (va : View sig .tc .vmem S4x512x128 .f32) (vl' : View sig κ sp S8x512x128 .f32) (va' : View sig κ' sp' S4x512x128 .f32)
    (L : List (View.Piece (Elt Ideal) S8x512x128 .f32)) (A : List (View.Piece (Elt Ideal) S4x512x128 .f32))
    (in0 : ∀ b, (![2 * (q : ℕ), 0, 0] : Fin 3 → ℕ) b + S1x512x128.size b ≤ S8x512x128.size b)
    (in1 : ∀ b, (![2 * (q : ℕ) + 1, 0, 0] : Fin 3 → ℕ) b + S1x512x128.size b ≤ S8x512x128.size b)
    (inA : ∀ b, (![(q : ℕ), 0, 0] : Fin 3 → ℕ) b + S1x512x128.size b ≤ S4x512x128.size b) :
    oS (vl.readCov (Val := Elt Ideal) L (Rect.unit (s := S8x512x128) ![2 * (q : ℕ), 0, 0] S1x512x128.size in0).toLoadRect)
        (vl.readCov (Val := Elt Ideal) L (Rect.unit (s := S8x512x128) ![2 * (q : ℕ) + 1, 0, 0] S1x512x128.size in1).toLoadRect)
        (va.readCov (Val := Elt Ideal) A (Rect.unit (s := S4x512x128) ![(q : ℕ), 0, 0] S1x512x128.size inA).toLoadRect) y
      = Ox (vl'.read (Elt Ideal) (vl'.writes (Elt Ideal) vl'.junk L)) (va'.read (Elt Ideal) (va'.writes (Elt Ideal) va'.junk A)) r p l := by
  have hl := l.isLt
  have hy : (y 2 : ℕ) < 128 := (y 2).isLt
  obtain rfl : p = q := Fin.ext (by omega)
  obtain rfl := y_eq y r l hr (by omega)
  exact oS_model _ _ p ⟨2 * p, by omega⟩ ⟨2 * p + 1, by omega⟩ rfl rfl (back8 _ _ vl vl' _ L) (back8 _ _ vl vl' _ L) (back4 _ _ va va' _ A) r l

end Cert.KernelIdeal.Fox

end
-- ==== Proof.FoxSA.lean ====
module

public import proofs.«01_k».proof.Proof.FoxHead

@[expose] public section

set_option maxRecDepth 16384

noncomputable section

/-! # The forgetting attention call: what its stores leave at a row block's first point where it is also the last -/

namespace Cert.KernelIdeal.Fox

open Cert.KernelIdeal Cert.KernelIdeal.Gen Idealize.ShloMosaic Idealize.ShloMosaic.TcCoe Idealize.ShloMosaic.Tactic

variable (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole)
  (x0 : Vec Ideal S1x512x512 .bf16) (x1 : Vec Ideal S1x512x512 .f32) (x2 : Vec Ideal S1x512x512 .f32) (x3 : Vec Ideal S1x512x8 .f32) (x4 : Vec Ideal S1x8x512 .f32) (xs0 : Vec Ideal S8x512x128 .f32) (xs1 : Vec Ideal S8x512x128 .f32) (xs2 : Vec Ideal S4x512x128 .f32)

theorem mA (hc0 : cond0_0 i) (hc1 : ¬cond0_1 i) (hc2 : cond0_2 i) (h : Fin 8) (r : Fin 512) (l : Fin 128) :
    sout0_A_0 c i arg3 harg3 arg4 harg4 arg5 harg5 arg6 harg6 arg7 harg7 arg8 harg8 arg9 harg9 arg10 harg10 arg11 harg11 hc0 hc1 hc2 x0 x1 x2 x3 x4 (ix3 h r l)
      = Mx (SM x0 x1 x3 x4) (fun _ => ⊥) h r l := by
  unfold sout0_A_0 kernelRun0_A
  dsimp only
  rw [View.read_writes_junk_apply_eq_canon]
  obtain ⟨n, hn⟩ := h
  iterate 4
    refine peel8 _ _ _ _ _ _ _ _ (fun e => ?_) fun e' => ?_
    · obtain rfl : n = _ := e
      sl_unfold_run_names
      try simp only [k0_pay105]
      show mS (scM hbO _ _ _ _) _ (ix3 0 r l) = _
      refine mS_model _ (fun _ => ⊥) _ (scM_model x0 x1 x3 x4 _ (headO _ hn rfl))
        (fun r i => congrFun (?_ : _ = fun _ => (⊥ : EReal)) (ix3 0 r i)) r l
      repeat refine (skip8 _ _ (by omega) _ _ _ _ _).trans ?_
      exact init8 _ _ _ _ _ _ pay1_at
    refine peel8 _ _ _ _ _ _ _ _ (fun e => ?_) fun e' => ?_
    · obtain rfl : n = _ := e
      show mS (scM hbE _ _ _ _) _ (ix3 0 r l) = _
      refine mS_model _ (fun _ => ⊥) _ (scM_model x0 x1 x3 x4 _ (headE _ hn rfl))
        (fun r i => congrFun (?_ : _ = fun _ => (⊥ : EReal)) (ix3 0 r i)) r l
      repeat refine (skip8 _ _ (by omega) _ _ _ _ _).trans ?_
      exact init8 _ _ _ _ _ _ pay1_at
  omega

theorem lA (hc0 : cond0_0 i) (hc1 : ¬cond0_1 i) (hc2 : cond0_2 i) (h : Fin 8) (r : Fin 512) (l : Fin 128) :
    sout0_A_1 c i arg3 harg3 arg4 harg4 arg5 harg5 arg6 harg6 arg7 harg7 arg8 harg8 arg9 harg9 arg10 harg10 arg11 harg11 hc0 hc1 hc2 x0 x1 x2 x3 x4 (ix3 h r l)
      = Lx (SM x0 x1 x3 x4) (fun _ => ⊥) (fun _ => 0) h r l := by
  unfold sout0_A_1 kernelRun0_A
  dsimp only
  rw [View.read_writes_junk_apply_eq_canon]
  obtain ⟨n, hn⟩ := h
  iterate 4
    refine peel8 _ _ _ _ _ _ _ _ (fun e => ?_) fun e' => ?_
    · obtain rfl : n = _ := e
      sl_unfold_run_names
      try simp only [k0_pay105]
      show lS (scM hbO _ _ _ _) _ _ (ix3 0 r l) = _
      refine lS_model _ (fun _ => ⊥) (fun _ => 0) _ (scM_model x0 x1 x3 x4 _ (headO _ hn rfl))
        (fun r i => congrFun (?_ : _ = fun _ => (⊥ : EReal)) (ix3 0 r i))
        (fun r i => congrFun (?_ : _ = fun _ => (0 : EReal)) (ix3 0 r i)) r l <;>
      repeat refine (skip8 _ _ (by omega) _ _ _ _ _).trans ?_
      exacts [init8 _ _ _ _ _ _ pay1_at, init8 _ _ _ _ _ _ pay2_at]
    refine peel8 _ _ _ _ _ _ _ _ (fun e => ?_) fun e' => ?_
    · obtain rfl : n = _ := e
      show lS (scM hbE _ _ _ _) _ _ (ix3 0 r l) = _
      refine lS_model _ (fun _ => ⊥) (fun _ => 0) _ (scM_model x0 x1 x3 x4 _ (headE _ hn rfl))
        (fun r i => congrFun (?_ : _ = fun _ => (⊥ : EReal)) (ix3 0 r i))
        (fun r i => congrFun (?_ : _ = fun _ => (0 : EReal)) (ix3 0 r i)) r l <;>
      repeat refine (skip8 _ _ (by omega) _ _ _ _ _).trans ?_
      exacts [init8 _ _ _ _ _ _ pay1_at, init8 _ _ _ _ _ _ pay2_at]
  omega

theorem aA (hc0 : cond0_0 i) (hc1 : ¬cond0_1 i) (hc2 : cond0_2 i) (h : Fin 4) (r : Fin 512) (l : Fin 128) :
    sout0_A_2 c i arg3 harg3 arg4 harg4 arg5 harg5 arg6 harg6 arg7 harg7 arg8 harg8 arg9 harg9 arg10 harg10 arg11 harg11 hc0 hc1 hc2 x0 x1 x2 x3 x4 (ix3 h r l)
      = Ax (SM x0 x1 x3 x4) (fun _ => ⊥) x2 (fun _ => 0) h r l := by
  unfold sout0_A_2 kernelRun0_A
  dsimp only
  rw [View.read_writes_junk_apply_eq_canon]
  obtain ⟨n, hn⟩ := h
  iterate 4
    refine peel4 _ _ _ _ _ _ _ _ (fun e => ?_) fun e' => ?_
    · obtain rfl : n = _ := e
      sl_unfold_run_names
      try simp only [k0_pay105]
      show aS (scM hbE _ _ _ _) (scM hbO _ _ _ _) _ _ _ _ (ix3 0 r l) = _
      refine aS_pair _ (fun _ => ⊥) (fun _ => 0) _ hn
        (scM_model x0 x1 x3 x4 _ (headE _ (by omega) rfl)) (scM_model x0 x1 x3 x4 _ (headO _ (by omega) rfl))
        (fun r i => congrFun (?_ : _ = fun _ => (⊥ : EReal)) (ix3 0 r i))
        (fun r i => congrFun (?_ : _ = fun _ => (⊥ : EReal)) (ix3 0 r i))
        (fun r i => congrFun (?_ : _ = fun _ => (0 : EReal)) (ix3 0 r i)) r l
      · repeat refine (skip8 _ _ (by omega) _ _ _ _ _).trans ?_
        exact init8 _ _ _ _ _ _ pay1_at
      · repeat refine (skip8 _ _ (by omega) _ _ _ _ _).trans ?_
        exact init8 _ _ _ _ _ _ pay1_at
      · repeat refine (skip4 _ _ (by omega) _ _ _ _ _).trans ?_
        exact init4 _ _ _ _ _ _ pay3_at
  omega

theorem oA (hc0 : cond0_0 i) (hc1 : ¬cond0_1 i) (hc2 : cond0_2 i) (p : Fin 4) (r : Fin 512) (l : Fin 128) :
    out0_A_5 c i arg3 harg3 arg4 harg4 arg5 harg5 arg6 harg6 arg7 harg7 arg8 harg8 arg9 harg9 arg10 harg10 arg11 harg11 hc0 hc1 hc2 x0 x1 x2 x3 x4 (ix3 0 r ⟨128 * (p : ℕ) + l, by omega⟩)
      = Ox (sout0_A_1 c i arg3 harg3 arg4 harg4 arg5 harg5 arg6 harg6 arg7 harg7 arg8 harg8 arg9 harg9 arg10 harg10 arg11 harg11 hc0 hc1 hc2 x0 x1 x2 x3 x4) (sout0_A_2 c i arg3 harg3 arg4 harg4 arg5 harg5 arg6 harg6 arg7 harg7 arg8 harg8 arg9 harg9 arg10 harg10 arg11 harg11 hc0 hc1 hc2 x0 x1 x2 x3 x4) r p l := by
  unfold out0_A_5
  conv => lhs; unfold kernelRun0_A
  dsimp only
  rw [View.read_writes_junk_apply_eq_canon]
  canon_tiles y hy
  · exact out_tile 3 p r l y hy1 hy2 arg10.view arg11.view VS0_1 VS0_2 _ _ _ _ _
  · exact out_tile 2 p r l y hy1 hy2 arg10.view arg11.view VS0_1 VS0_2 _ _ _ _ _
  · exact out_tile 1 p r l y hy1 hy2 arg10.view arg11.view VS0_1 VS0_2 _ _ _ _ _
  · exact out_tile 0 p r l y hy1 (hy2.trans (Nat.zero_add _).symm) arg10.view arg11.view VS0_1 VS0_2 _ _ _ _ _

end Cert.KernelIdeal.Fox

end
-- ==== Proof.FoxSC.lean ====
module

public import proofs.«01_k».proof.Proof.FoxHead

@[expose] public section

set_option maxRecDepth 16384

noncomputable section

/-! # The forgetting attention call: what its stores leave at a row block's first point -/

namespace Cert.KernelIdeal.Fox

open Cert.KernelIdeal Cert.KernelIdeal.Gen Idealize.ShloMosaic Idealize.ShloMosaic.TcCoe Idealize.ShloMosaic.Tactic

variable (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole)
  (x0 : Vec Ideal S1x512x512 .bf16) (x1 : Vec Ideal S1x512x512 .f32) (x2 : Vec Ideal S1x512x512 .f32) (x3 : Vec Ideal S1x512x8 .f32) (x4 : Vec Ideal S1x8x512 .f32) (xs0 : Vec Ideal S8x512x128 .f32) (xs1 : Vec Ideal S8x512x128 .f32) (xs2 : Vec Ideal S4x512x128 .f32)

theorem mC (hc0 : cond0_0 i) (hc1 : cond0_1 i) (hc2 : ¬cond0_2 i) (h : Fin 8) (r : Fin 512) (l : Fin 128) :
    sout0_C_0 c i arg3 harg3 arg4 harg4 arg5 harg5 arg6 harg6 arg7 harg7 arg8 harg8 arg9 harg9 arg10 harg10 arg11 harg11 hc0 hc1 hc2 x0 x1 x2 x3 x4 (ix3 h r l)
      = Mx (S x0 x1 x3 x4) (fun _ => ⊥) h r l := by
  unfold sout0_C_0 kernelRun0_C
  dsimp only
  rw [View.read_writes_junk_apply_eq_canon]
  obtain ⟨n, hn⟩ := h
  iterate 4
    refine peel8 _ _ _ _ _ _ _ _ (fun e => ?_) fun e' => ?_
    · obtain rfl : n = _ := e
      show mS (sc hbO _ _ _ _) _ (ix3 0 r l) = _
      refine mS_model _ (fun _ => ⊥) _ (headO _ hn rfl) (fun r i => congrFun (?_ : _ = fun _ => (⊥ : EReal)) (ix3 0 r i)) r l
      repeat refine (skip8 _ _ (by omega) _ _ _ _ _).trans ?_
      exact init8 _ _ _ _ _ _ pay1_at
    refine peel8 _ _ _ _ _ _ _ _ (fun e => ?_) fun e' => ?_
    · obtain rfl : n = _ := e
      show mS (sc hbE _ _ _ _) _ (ix3 0 r l) = _
      refine mS_model _ (fun _ => ⊥) _ (headE _ hn rfl) (fun r i => congrFun (?_ : _ = fun _ => (⊥ : EReal)) (ix3 0 r i)) r l
      repeat refine (skip8 _ _ (by omega) _ _ _ _ _).trans ?_
      exact init8 _ _ _ _ _ _ pay1_at
  omega

theorem lC (hc0 : cond0_0 i) (hc1 : cond0_1 i) (hc2 : ¬cond0_2 i) (h : Fin 8) (r : Fin 512) (l : Fin 128) :
    sout0_C_1 c i arg3 harg3 arg4 harg4 arg5 harg5 arg6 harg6 arg7 harg7 arg8 harg8 arg9 harg9 arg10 harg10 arg11 harg11 hc0 hc1 hc2 x0 x1 x2 x3 x4 (ix3 h r l)
      = Lx (S x0 x1 x3 x4) (fun _ => ⊥) (fun _ => 0) h r l := by
  unfold sout0_C_1 kernelRun0_C
  dsimp only
  rw [View.read_writes_junk_apply_eq_canon]
  obtain ⟨n, hn⟩ := h
  iterate 4
    refine peel8 _ _ _ _ _ _ _ _ (fun e => ?_) fun e' => ?_
    · obtain rfl : n = _ := e
      show lS (sc hbO _ _ _ _) _ _ (ix3 0 r l) = _
      refine lS_model _ (fun _ => ⊥) (fun _ => 0) _ (headO _ hn rfl)
        (fun r i => congrFun (?_ : _ = fun _ => (⊥ : EReal)) (ix3 0 r i))
        (fun r i => congrFun (?_ : _ = fun _ => (0 : EReal)) (ix3 0 r i)) r l <;>
      repeat refine (skip8 _ _ (by omega) _ _ _ _ _).trans ?_
      exacts [init8 _ _ _ _ _ _ pay1_at, init8 _ _ _ _ _ _ pay2_at]
    refine peel8 _ _ _ _ _ _ _ _ (fun e => ?_) fun e' => ?_
    · obtain rfl : n = _ := e
      show lS (sc hbE _ _ _ _) _ _ (ix3 0 r l) = _
      refine lS_model _ (fun _ => ⊥) (fun _ => 0) _ (headE _ hn rfl)
        (fun r i => congrFun (?_ : _ = fun _ => (⊥ : EReal)) (ix3 0 r i))
        (fun r i => congrFun (?_ : _ = fun _ => (0 : EReal)) (ix3 0 r i)) r l <;>
      repeat refine (skip8 _ _ (by omega) _ _ _ _ _).trans ?_
      exacts [init8 _ _ _ _ _ _ pay1_at, init8 _ _ _ _ _ _ pay2_at]
  omega

theorem aC (hc0 : cond0_0 i) (hc1 : cond0_1 i) (hc2 : ¬cond0_2 i) (h : Fin 4) (r : Fin 512) (l : Fin 128) :
    sout0_C_2 c i arg3 harg3 arg4 harg4 arg5 harg5 arg6 harg6 arg7 harg7 arg8 harg8 arg9 harg9 arg10 harg10 arg11 harg11 hc0 hc1 hc2 x0 x1 x2 x3 x4 (ix3 h r l)
      = Ax (S x0 x1 x3 x4) (fun _ => ⊥) x2 (fun _ => 0) h r l := by
  unfold sout0_C_2 kernelRun0_C
  dsimp only
  rw [View.read_writes_junk_apply_eq_canon]
  obtain ⟨n, hn⟩ := h
  iterate 4
    refine peel4 _ _ _ _ _ _ _ _ (fun e => ?_) fun e' => ?_
    · obtain rfl : n = _ := e
      show aS (sc hbE _ _ _ _) (sc hbO _ _ _ _) _ _ _ _ (ix3 0 r l) = _
      refine aS_pair _ (fun _ => ⊥) (fun _ => 0) _ hn (headE _ (by omega) rfl) (headO _ (by omega) rfl)
        (fun r i => congrFun (?_ : _ = fun _ => (⊥ : EReal)) (ix3 0 r i))
        (fun r i => congrFun (?_ : _ = fun _ => (⊥ : EReal)) (ix3 0 r i))
        (fun r i => congrFun (?_ : _ = fun _ => (0 : EReal)) (ix3 0 r i)) r l
      · repeat refine (skip8 _ _ (by omega) _ _ _ _ _).trans ?_
        exact init8 _ _ _ _ _ _ pay1_at
      · repeat refine (skip8 _ _ (by omega) _ _ _ _ _).trans ?_
        exact init8 _ _ _ _ _ _ pay1_at
      · repeat refine (skip4 _ _ (by omega) _ _ _ _ _).trans ?_
        exact init4 _ _ _ _ _ _ pay3_at
  omega

end Cert.KernelIdeal.Fox

end
-- ==== Proof.FoxSD.lean ====
module

public import proofs.«01_k».proof.Proof.FoxHead

@[expose] public section

set_option maxRecDepth 16384

noncomputable section

/-! # The forgetting attention call: what its stores leave at a row block's last point -/

namespace Cert.KernelIdeal.Fox

open Cert.KernelIdeal Cert.KernelIdeal.Gen Idealize.ShloMosaic Idealize.ShloMosaic.TcCoe Idealize.ShloMosaic.Tactic

variable (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole)
  (x0 : Vec Ideal S1x512x512 .bf16) (x1 : Vec Ideal S1x512x512 .f32) (x2 : Vec Ideal S1x512x512 .f32) (x3 : Vec Ideal S1x512x8 .f32) (x4 : Vec Ideal S1x8x512 .f32) (xs0 : Vec Ideal S8x512x128 .f32) (xs1 : Vec Ideal S8x512x128 .f32) (xs2 : Vec Ideal S4x512x128 .f32)

theorem mD (hc0 : ¬cond0_0 i) (hc1 : ¬cond0_1 i) (hc2 : cond0_2 i) (h : Fin 8) (r : Fin 512) (l : Fin 128) :
    sout0_D_0 c i arg3 harg3 arg4 harg4 arg5 harg5 arg6 harg6 arg7 harg7 arg8 harg8 arg9 harg9 arg10 harg10 arg11 harg11 hc0 hc1 hc2 x0 x1 x2 x3 x4 xs0 xs1 xs2 (ix3 h r l)
      = Mx (SM x0 x1 x3 x4) xs0 h r l := by
  unfold sout0_D_0 kernelRun0_D
  dsimp only
  rw [View.read_writes_junk_apply_eq_canon]
  obtain ⟨n, hn⟩ := h
  iterate 4
    refine peel8 _ _ _ _ _ _ _ _ (fun e => ?_) fun e' => ?_
    · obtain rfl : n = _ := e
      sl_unfold_run_names
      try simp only [k0_pay105]
      show mS (scM hbO _ _ _ _) _ (ix3 0 r l) = _
      exact mS_model _ xs0 _ (scM_model x0 x1 x3 x4 _ (headO _ hn rfl)) (rd8 _ arg9 harg9 xs0 _ hn) r l
    refine peel8 _ _ _ _ _ _ _ _ (fun e => ?_) fun e' => ?_
    · obtain rfl : n = _ := e
      show mS (scM hbE _ _ _ _) _ (ix3 0 r l) = _
      exact mS_model _ xs0 _ (scM_model x0 x1 x3 x4 _ (headE _ hn rfl)) (rd8 _ arg9 harg9 xs0 _ hn) r l
  omega

theorem lD (hc0 : ¬cond0_0 i) (hc1 : ¬cond0_1 i) (hc2 : cond0_2 i) (h : Fin 8) (r : Fin 512) (l : Fin 128) :
    sout0_D_1 c i arg3 harg3 arg4 harg4 arg5 harg5 arg6 harg6 arg7 harg7 arg8 harg8 arg9 harg9 arg10 harg10 arg11 harg11 hc0 hc1 hc2 x0 x1 x2 x3 x4 xs0 xs1 xs2 (ix3 h r l)
      = Lx (SM x0 x1 x3 x4) xs0 xs1 h r l := by
  unfold sout0_D_1 kernelRun0_D
  dsimp only
  rw [View.read_writes_junk_apply_eq_canon]
  obtain ⟨n, hn⟩ := h
  iterate 4
    refine peel8 _ _ _ _ _ _ _ _ (fun e => ?_) fun e' => ?_
    · obtain rfl : n = _ := e
      sl_unfold_run_names
      try simp only [k0_pay105]
      show lS (scM hbO _ _ _ _) _ _ (ix3 0 r l) = _
      exact lS_model _ xs0 xs1 _ (scM_model x0 x1 x3 x4 _ (headO _ hn rfl)) (rd8 _ arg9 harg9 xs0 _ hn)
        (rd8 _ arg10 harg10 xs1 _ hn) r l
    refine peel8 _ _ _ _ _ _ _ _ (fun e => ?_) fun e' => ?_
    · obtain rfl : n = _ := e
      show lS (scM hbE _ _ _ _) _ _ (ix3 0 r l) = _
      exact lS_model _ xs0 xs1 _ (scM_model x0 x1 x3 x4 _ (headE _ hn rfl)) (rd8 _ arg9 harg9 xs0 _ hn)
        (rd8 _ arg10 harg10 xs1 _ hn) r l
  omega

theorem aD (hc0 : ¬cond0_0 i) (hc1 : ¬cond0_1 i) (hc2 : cond0_2 i) (h : Fin 4) (r : Fin 512) (l : Fin 128) :
    sout0_D_2 c i arg3 harg3 arg4 harg4 arg5 harg5 arg6 harg6 arg7 harg7 arg8 harg8 arg9 harg9 arg10 harg10 arg11 harg11 hc0 hc1 hc2 x0 x1 x2 x3 x4 xs0 xs1 xs2 (ix3 h r l)
      = Ax (SM x0 x1 x3 x4) xs0 x2 xs2 h r l := by
  unfold sout0_D_2 kernelRun0_D
  dsimp only
  rw [View.read_writes_junk_apply_eq_canon]
  obtain ⟨n, hn⟩ := h
  iterate 4
    refine peel4 _ _ _ _ _ _ _ _ (fun e => ?_) fun e' => ?_
    · obtain rfl : n = _ := e
      sl_unfold_run_names
      try simp only [k0_pay105]
      show aS (scM hbE _ _ _ _) (scM hbO _ _ _ _) _ _ _ _ (ix3 0 r l) = _
      exact aS_pair _ xs0 xs2 _ hn (scM_model x0 x1 x3 x4 _ (headE _ (by omega) rfl))
        (scM_model x0 x1 x3 x4 _ (headO _ (by omega) rfl)) (rd8 _ arg9 harg9 xs0 _ (by omega))
        (rd8 _ arg9 harg9 xs0 _ (by omega)) (rd4 _ arg11 harg11 xs2 _ hn) r l
  omega

theorem oD (hc0 : ¬cond0_0 i) (hc1 : ¬cond0_1 i) (hc2 : cond0_2 i) (p : Fin 4) (r : Fin 512) (l : Fin 128) :
    out0_D_5 c i arg3 harg3 arg4 harg4 arg5 harg5 arg6 harg6 arg7 harg7 arg8 harg8 arg9 harg9 arg10 harg10 arg11 harg11 hc0 hc1 hc2 x0 x1 x2 x3 x4 xs0 xs1 xs2 (ix3 0 r ⟨128 * (p : ℕ) + l, by omega⟩)
      = Ox (sout0_D_1 c i arg3 harg3 arg4 harg4 arg5 harg5 arg6 harg6 arg7 harg7 arg8 harg8 arg9 harg9 arg10 harg10 arg11 harg11 hc0 hc1 hc2 x0 x1 x2 x3 x4 xs0 xs1 xs2) (sout0_D_2 c i arg3 harg3 arg4 harg4 arg5 harg5 arg6 harg6 arg7 harg7 arg8 harg8 arg9 harg9 arg10 harg10 arg11 harg11 hc0 hc1 hc2 x0 x1 x2 x3 x4 xs0 xs1 xs2) r p l := by
  unfold out0_D_5
  conv => lhs; unfold kernelRun0_D
  dsimp only
  rw [View.read_writes_junk_apply_eq_canon]
  canon_tiles y hy
  · exact out_tile 3 p r l y hy1 hy2 arg10.view arg11.view VS0_1 VS0_2 _ _ _ _ _
  · exact out_tile 2 p r l y hy1 hy2 arg10.view arg11.view VS0_1 VS0_2 _ _ _ _ _
  · exact out_tile 1 p r l y hy1 hy2 arg10.view arg11.view VS0_1 VS0_2 _ _ _ _ _
  · exact out_tile 0 p r l y hy1 (hy2.trans (Nat.zero_add _).symm) arg10.view arg11.view VS0_1 VS0_2 _ _ _ _ _

end Cert.KernelIdeal.Fox

end
-- ==== Proof.FoxSE.lean ====
module

public import proofs.«01_k».proof.Proof.FoxHead

@[expose] public section

set_option maxRecDepth 16384

noncomputable section

/-! # The forgetting attention call: what its stores leave at a point between -/

namespace Cert.KernelIdeal.Fox

open Cert.KernelIdeal Cert.KernelIdeal.Gen Idealize.ShloMosaic Idealize.ShloMosaic.TcCoe Idealize.ShloMosaic.Tactic

variable (c : Dev nD) (i : grid0.Coords) (arg3 : Memref sig .tc .vmem S1x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole)
  (x0 : Vec Ideal S1x512x512 .bf16) (x1 : Vec Ideal S1x512x512 .f32) (x2 : Vec Ideal S1x512x512 .f32) (x3 : Vec Ideal S1x512x8 .f32) (x4 : Vec Ideal S1x8x512 .f32) (xs0 : Vec Ideal S8x512x128 .f32) (xs1 : Vec Ideal S8x512x128 .f32) (xs2 : Vec Ideal S4x512x128 .f32)

theorem mE (hc0 : ¬cond0_0 i) (hc1 : cond0_1 i) (hc2 : ¬cond0_2 i) (h : Fin 8) (r : Fin 512) (l : Fin 128) :
    sout0_E_0 c i arg3 harg3 arg4 harg4 arg5 harg5 arg6 harg6 arg7 harg7 arg8 harg8 arg9 harg9 arg10 harg10 arg11 harg11 hc0 hc1 hc2 x0 x1 x2 x3 x4 xs0 xs1 xs2 (ix3 h r l)
      = Mx (S x0 x1 x3 x4) xs0 h r l := by
  unfold sout0_E_0 kernelRun0_E
  dsimp only
  rw [View.read_writes_junk_apply_eq_canon]
  obtain ⟨n, hn⟩ := h
  iterate 4
    refine peel8 _ _ _ _ _ _ _ _ (fun e => ?_) fun e' => ?_
    · obtain rfl : n = _ := e
      show mS (sc hbO _ _ _ _) _ (ix3 0 r l) = _
      exact mS_model _ xs0 _ (headO _ hn rfl) (rd8 _ arg9 harg9 xs0 _ hn) r l
    refine peel8 _ _ _ _ _ _ _ _ (fun e => ?_) fun e' => ?_
    · obtain rfl : n = _ := e
      show mS (sc hbE _ _ _ _) _ (ix3 0 r l) = _
      exact mS_model _ xs0 _ (headE _ hn rfl) (rd8 _ arg9 harg9 xs0 _ hn) r l
  omega

theorem lE (hc0 : ¬cond0_0 i) (hc1 : cond0_1 i) (hc2 : ¬cond0_2 i) (h : Fin 8) (r : Fin 512) (l : Fin 128) :
    sout0_E_1 c i arg3 harg3 arg4 harg4 arg5 harg5 arg6 harg6 arg7 harg7 arg8 harg8 arg9 harg9 arg10 harg10 arg11 harg11 hc0 hc1 hc2 x0 x1 x2 x3 x4 xs0 xs1 xs2 (ix3 h r l)
      = Lx (S x0 x1 x3 x4) xs0 xs1 h r l := by
  unfold sout0_E_1 kernelRun0_E
  dsimp only
  rw [View.read_writes_junk_apply_eq_canon]
  obtain ⟨n, hn⟩ := h
  iterate 4
    refine peel8 _ _ _ _ _ _ _ _ (fun e => ?_) fun e' => ?_
    · obtain rfl : n = _ := e
      show lS (sc hbO _ _ _ _) _ _ (ix3 0 r l) = _
      exact lS_model _ xs0 xs1 _ (headO _ hn rfl) (rd8 _ arg9 harg9 xs0 _ hn) (rd8 _ arg10 harg10 xs1 _ hn) r l
    refine peel8 _ _ _ _ _ _ _ _ (fun e => ?_) fun e' => ?_
    · obtain rfl : n = _ := e
      show lS (sc hbE _ _ _ _) _ _ (ix3 0 r l) = _
      exact lS_model _ xs0 xs1 _ (headE _ hn rfl) (rd8 _ arg9 harg9 xs0 _ hn) (rd8 _ arg10 harg10 xs1 _ hn) r l
  omega

theorem aE (hc0 : ¬cond0_0 i) (hc1 : cond0_1 i) (hc2 : ¬cond0_2 i) (h : Fin 4) (r : Fin 512) (l : Fin 128) :
    sout0_E_2 c i arg3 harg3 arg4 harg4 arg5 harg5 arg6 harg6 arg7 harg7 arg8 harg8 arg9 harg9 arg10 harg10 arg11 harg11 hc0 hc1 hc2 x0 x1 x2 x3 x4 xs0 xs1 xs2 (ix3 h r l)
      = Ax (S x0 x1 x3 x4) xs0 x2 xs2 h r l := by
  unfold sout0_E_2 kernelRun0_E
  dsimp only
  rw [View.read_writes_junk_apply_eq_canon]
  obtain ⟨n, hn⟩ := h
  iterate 4
    refine peel4 _ _ _ _ _ _ _ _ (fun e => ?_) fun e' => ?_
    · obtain rfl : n = _ := e
      show aS (sc hbE _ _ _ _) (sc hbO _ _ _ _) _ _ _ _ (ix3 0 r l) = _
      exact aS_pair _ xs0 xs2 _ hn (headE _ (by omega) rfl) (headO _ (by omega) rfl) (rd8 _ arg9 harg9 xs0 _ (by omega))
        (rd8 _ arg9 harg9 xs0 _ (by omega)) (rd4 _ arg11 harg11 xs2 _ hn) r l
  omega

end Cert.KernelIdeal.Fox

end
-- ==== Proof.FoxW.lean ====
module

public import proofs.«01_k».proof.Proof.FoxM
public import Idealize.ShloMosaic.Lib.Pipeline.ValueKit

@[expose] public section

set_option maxRecDepth 16384

noncomputable section

/-! # The forgetting attention call: its blocks, read off its arguments -/

namespace Cert.KernelIdeal.Fox

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ)

theorem tlt (t : Fin cfg0.N) : t.val < 512 := t.isLt

/-- A point's batch, its query row and its key, among all. -/
abbrev bat (t : Fin cfg0.N) : Fin 8 := ⟨t.val / 64, by have := tlt t; omega⟩
abbrev qrow (t : Fin cfg0.N) (r : Fin 512) : Fin 4096 := ⟨t.val / 8 % 8 * 512 + r.val, by have := tlt t; have := r.isLt; omega⟩
abbrev krow (t : Fin cfg0.N) (r : Fin 512) : Fin 4096 :=
  ⟨min (t.val % 8) (t.val / 8 % 8) * 512 + r.val, by have := tlt t; have := r.isLt; omega⟩

theorem idx : ∀ t : Fin cfg0.N,
    win0_0.index t 0 = t.val / 64 ∧ win0_0.index t 1 = t.val / 8 % 8 ∧ win0_0.index t 2 = 0
    ∧ win0_1.index t 0 = t.val / 64 ∧ win0_1.index t 1 = min (t.val % 8) (t.val / 8 % 8) ∧ win0_1.index t 2 = 0
    ∧ win0_2.index t 0 = t.val / 64 ∧ win0_2.index t 1 = min (t.val % 8) (t.val / 8 % 8) ∧ win0_2.index t 2 = 0
    ∧ win0_3.index t 0 = t.val / 64 ∧ win0_3.index t 1 = t.val / 8 % 8 ∧ win0_3.index t 2 = 0
    ∧ win0_4.index t 0 = t.val / 64 ∧ win0_4.index t 1 = 0 ∧ win0_4.index t 2 = min (t.val % 8) (t.val / 8 % 8)
    ∧ win0_5.index t 0 = t.val / 64 ∧ win0_5.index t 1 = t.val / 8 % 8 ∧ win0_5.index t 2 = 0 :=
  (by decide +kernel : ∀ t : Fin grid0.N, _)

theorem blk0 (c : Dev nD) (t : Fin cfg0.N) (a : Fin 512) (b : Fin 512) :
    iblk m c 0 t (ix3 0 a b) = m ((c : Thread nD τ).loc main_arg0) (ix3 (bat t) (qrow t a) b) := by
  blk_ext [iblk, V, idx t]
theorem blk1 (c : Dev nD) (t : Fin cfg0.N) (a : Fin 512) (b : Fin 512) :
    iblk m c 1 t (ix3 0 a b) = m ((c : Thread nD τ).loc main_arg1) (ix3 (bat t) (krow t a) b) := by
  blk_ext [iblk, V, idx t]
theorem blk2 (c : Dev nD) (t : Fin cfg0.N) (a : Fin 512) (b : Fin 512) :
    iblk m c 2 t (ix3 0 a b) = m ((c : Thread nD τ).loc main_arg2) (ix3 (bat t) (krow t a) b) := by
  blk_ext [iblk, V, idx t]
theorem blk3 (c : Dev nD) (t : Fin cfg0.N) (a : Fin 512) (b : Fin 8) :
    iblk m c 3 t (ix3 0 a b) = m ((c : Thread nD τ).loc main_arg3) (ix3 (bat t) b (qrow t a)) := by
  have h : iblk m c 3 t (ix3 0 a b) = V m c main_v0 (ix3 (bat t) (qrow t a) b) := by
    show V m c main_v0 _ = _
    refine congrArg (V m c main_v0) ?_
    blk_ext [idx t]
  rw [h]
  simp only [V, hostOps0]
  after_results_simp
  pointwise
theorem blk4 (c : Dev nD) (t : Fin cfg0.N) (a : Fin 8) (b : Fin 512) :
    iblk m c 4 t (ix3 0 a b) = m ((c : Thread nD τ).loc main_arg3) (ix3 (bat t) a (krow t b)) := by
  blk_ext [iblk, V, idx t]

/-- The result's block at a point: its batch's rows. -/
theorem emb5 (t : Fin cfg0.N) (a : Fin 512) (b : Fin 512) :
    (win0_5.blk t).view.emb (ix3 0 a b) = ix3 (bat t) (qrow t a) b := by
  blk_ext [idx t]

/-- The blocks written back cover the result. -/
theorem cover5 (i : S8x4096x512.Idx) : ∃ t : Fin cfg0.N, (cfg0.win 5).flush t = true ∧ i ∈ ((cfg0.win 5).blk t).view.set := by
  obtain ⟨b, r, q, rfl⟩ : ∃ (b : Fin 8) (r : Fin 4096) (q : Fin 512), i = ix3 b r q := by idx_vars i; exact ⟨_, _, _, rfl⟩
  have hb := b.isLt
  have hr := r.isLt
  let t : Fin cfg0.N := (⟨64 * b.val + 8 * (r.val / 512) + 7, by omega⟩ : Fin 512)
  have ht : t.val = 64 * b.val + 8 * (r.val / 512) + 7 := rfl
  refine ⟨t, (flush0_5 t).mpr (by omega), ?_⟩
  have e : ((win0_5.blk t).view.emb (ix3 0 (⟨r.val % 512, Nat.mod_lt _ (by decide)⟩ : Fin 512) q) : S8x4096x512.Idx) = ix3 b r q := by
    refine (emb5 t _ _).trans ?_
    have e0 : bat t = b := Fin.ext (by show t.val / 64 = b.val; omega)
    have e1 : qrow t (⟨r.val % 512, Nat.mod_lt _ (by decide)⟩ : Fin 512) = r := Fin.ext (by show t.val / 8 % 8 * 512 + r.val % 512 = r.val; omega)
    rw [e0, e1]
  rw [← e]
  exact View.emb_mem_set _ _

end Cert.KernelIdeal.Fox

end
-- ==== Proof.FoxMath.lean ====
module

public import Idealize.ShloMosaic.Lib.Pipeline.ValueKit

@[expose] public section

noncomputable section

/-! # A softmax run tile by tile: one row, over the extended reals

`t K` is the row's score at key `K`, `live K` says that the row sees it, `V K` is the key's value. -/

namespace Cert.Proof.FoxMath

open Idealize.ShloMosaic

variable (t : ℕ → ℝ) (live : ℕ → Prop) [DecidablePred live]

/-- A masked score. -/
def sv (K : ℕ) : EReal := if live K then (t K : EReal) else ⊥

/-- A key's weight against the level `M`. -/
def ew (M : ℝ) (K : ℕ) : ℝ := if live K then Real.exp (t K - M) else 0

theorem ew_nonneg (M : ℝ) (K : ℕ) : 0 ≤ ew t live M K := by
  unfold ew; split_ifs
  · exact (Real.exp_pos _).le
  · exact le_rfl

theorem exp_sv (M : ℝ) (K : ℕ) : Ideal.exp (sv t live K - (M : EReal)) = ((ew t live M K : ℝ) : EReal) := by
  unfold sv ew
  split_ifs
  · rw [← EReal.coe_sub]; rfl
  · rw [EReal.bot_sub]; rfl

theorem exp_coe_sub (a b : ℝ) : Ideal.exp ((a : EReal) - (b : EReal)) = ((Real.exp (a - b) : ℝ) : EReal) := by
  rw [← EReal.coe_sub]; rfl

theorem exp_bot_sub (b : ℝ) : Ideal.exp ((⊥ : EReal) - (b : EReal)) = 0 := by
  rw [EReal.bot_sub]; rfl

theorem ew_shift (M M' : ℝ) (K : ℕ) : Real.exp (M - M') * ew t live M K = ew t live M' K := by
  unfold ew
  split_ifs
  · rw [← Real.exp_add]; congr 1; ring
  · ring

/-- Scaling by a nonnegative real passes through a sum. -/
theorem coe_mul_sum {ι : Type*} (s : Finset ι) (x : ℝ) (hx : 0 ≤ x) (f : ι → EReal) :
    (x : EReal) * ∑ i ∈ s, f i = ∑ i ∈ s, (x : EReal) * f i := by
  classical
  induction s using Finset.induction_on with
  | empty => simp
  | insert a s ha ih =>
    rw [Finset.sum_insert ha, Finset.sum_insert ha, ← ih]
    exact EReal.left_distrib_of_nonneg_of_ne_top (by exact_mod_cast hx) (EReal.coe_ne_top x) _ _

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The largest of finitely many scores, none of them `⊤`, with a level that is not `⊤` and one of them not `⊥`, is a real. -/
theorem max_real {n : ℕ} (m : EReal) (hm : m ≠ ⊤) (f : Fin n → EReal) (hf : ∀ c, f c ≠ ⊤) (h : m ≠ ⊥ ∨ ∃ c, f c ≠ ⊥) :
    ∃ M : ℝ, max m (Finset.univ.fold max ⊥ f) = (M : EReal) := by
  have e : Finset.univ.fold max ⊥ f = Finset.univ.sup f := rfl
  have ht : max m (Finset.univ.fold max ⊥ f) ≠ ⊤ := by
    rw [e]
    refine (max_lt (lt_top_iff_ne_top.mpr hm) ?_).ne
    exact (Finset.sup_lt_iff bot_lt_top).mpr fun c _ => lt_top_iff_ne_top.mpr (hf c)
  have hb : max m (Finset.univ.fold max ⊥ f) ≠ ⊥ := by
    rw [e]
    rcases h with h | ⟨c, h⟩
    · exact ((bot_lt_iff_ne_bot.mpr h).trans_le (le_max_left _ _)).ne'
    · exact ((bot_lt_iff_ne_bot.mpr h).trans_le ((Finset.le_sup (Finset.mem_univ c)).trans (le_max_right _ _))).ne'
  exact ⟨_, (EReal.coe_toReal ht hb).symm⟩

theorem sv_ne_top (K : ℕ) : sv t live K ≠ ⊤ := by
  unfold sv; split_ifs
  · exact EReal.coe_ne_top _
  · exact bot_ne_top

theorem sv_ne_bot {K : ℕ} (h : live K) : sv t live K ≠ ⊥ := by
  unfold sv; rw [if_pos h]; exact EReal.coe_ne_bot _

/-- One key tile after `n` keys: the old sums rescaled, the tile's added, are the sums of `n + w` keys. -/
theorem step_l (n w : ℕ) (M M' : ℝ) :
    ((Real.exp (M - M') : ℝ) : EReal) * ((∑ K ∈ Finset.range n, ew t live M K : ℝ) : EReal)
        + ∑ c : Fin w, ((ew t live M' (n + c) : ℝ) : EReal)
      = ((∑ K ∈ Finset.range (n + w), ew t live M' K : ℝ) : EReal) := by
  rw [← EReal.coe_mul, ← coe_sum, ← EReal.coe_add, Finset.sum_range_add, Finset.mul_sum]
  simp only [ew_shift]
  rw [Finset.sum_range (fun c => ew t live M' (n + c))]

theorem step_a (V : ℕ → EReal) (n w : ℕ) (M M' : ℝ) :
    ((Real.exp (M - M') : ℝ) : EReal) * (∑ K ∈ Finset.range n, ((ew t live M K : ℝ) : EReal) * V K)
        + ∑ c : Fin w, ((ew t live M' (n + c) : ℝ) : EReal) * V (n + c)
      = ∑ K ∈ Finset.range (n + w), ((ew t live M' K : ℝ) : EReal) * V K := by
  rw [coe_mul_sum _ _ (Real.exp_pos _).le, Finset.sum_range_add, Finset.sum_range (fun c => ((ew t live M' (n + c) : ℝ) : EReal) * V (n + c))]
  congr 1
  refine Finset.sum_congr rfl fun K _ => ?_
  rw [← mul_assoc, ← EReal.coe_mul, ew_shift]

theorem sum_pos {n : ℕ} (M : ℝ) (hn : 0 < n) (h0 : live 0) : 0 < ∑ K ∈ Finset.range n, ew t live M K := by
  refine Finset.sum_pos' (fun K _ => ew_nonneg t live M K) ⟨0, Finset.mem_range.mpr hn, ?_⟩
  unfold ew; rw [if_pos h0]; exact Real.exp_pos _

theorem div_coe_pos (x : EReal) {L : ℝ} (h : 0 < L) : Ideal.div x (L : EReal) = ((L⁻¹ : ℝ) : EReal) * x := by
  unfold Ideal.div
  rw [if_neg (by exact_mod_cast h.ne'), ← EReal.coe_inv, mul_comm]

/-- The quotient of the running sums is the softmax's weighted sum over all the keys, whatever the two levels. -/
theorem final (V : ℕ → EReal) (n N : ℕ) (hn : 0 < n) (hN : n ≤ N) (h0 : live 0) (hlive : ∀ K, n ≤ K → ¬ live K) (M M' : ℝ) :
    Ideal.div (∑ K ∈ Finset.range n, ((ew t live M K : ℝ) : EReal) * V K) ((∑ K ∈ Finset.range n, ew t live M K : ℝ) : EReal)
      = ∑ K : Fin N, Ideal.div ((ew t live M' K : ℝ) : EReal) ((∑ K ∈ Finset.range N, ew t live M' K : ℝ) : EReal) * V K := by
  have hL := sum_pos t live (n := n) M hn h0
  have hL' := sum_pos t live (n := N) M' (hn.trans_le hN) h0
  have hz : ∀ K, n ≤ K → ew t live M' K = 0 := fun K h => by unfold ew; rw [if_neg (hlive K h)]
  have hcut : ∑ K ∈ Finset.range N, ew t live M' K = ∑ K ∈ Finset.range n, ew t live M' K := by
    refine (Finset.sum_subset (Finset.range_subset_range.mpr hN) fun K _ hK => hz K ?_).symm
    simpa using hK
  have hs : ∑ K ∈ Finset.range n, ew t live M K = Real.exp (M' - M) * ∑ K ∈ Finset.range n, ew t live M' K := by
    rw [Finset.mul_sum]; exact Finset.sum_congr rfl fun K _ => (ew_shift t live M' M K).symm
  rw [div_coe_pos _ hL, coe_mul_sum _ _ (inv_pos.mpr hL).le]
  rw [← Finset.sum_range (fun K => Ideal.div ((ew t live M' K : ℝ) : EReal) ((∑ K ∈ Finset.range N, ew t live M' K : ℝ) : EReal) * V K)]
  rw [← Finset.sum_subset (Finset.range_subset_range.mpr hN) (fun K _ hK => by
    rw [hz K (by simpa using hK), div_coe_pos _ hL']; simp)]
  refine Finset.sum_congr rfl fun K _ => ?_
  rw [div_coe_pos _ hL', ← mul_assoc, ← EReal.coe_mul, ← EReal.coe_mul, hcut]
  congr 2
  rw [hs, ← ew_shift t live M' M K]
  rw [hcut] at hL'
  have := Real.exp_pos (M' - M)
  field_simp

end Cert.Proof.FoxMath

end
-- ==== Proof.FoxRef.lean ====
module

public import proofs.«01_k».proof.Proof.Gen.ReferenceIdeal.Read
public import proofs.«01_k».proof.Proof.FoxMath
public import Idealize.ShloMosaic.Lib.Pipeline.ValueKit

@[expose] public section

set_option maxRecDepth 16384

noncomputable section

/-! # The attention reference, read at an element -/

namespace Cert.ReferenceIdeal.Fox

open Cert.ReferenceIdeal Cert.ReferenceIdeal.Gen Cert.ReferenceIdeal.Read Idealize.ShloMosaic Idealize.ShloMosaic.TcCoe Idealize.ShloMosaic.Tactic
open Cert.Proof.FoxMath

variable (x0 : S8x4096x512.Idx → EReal) (x1 x2 : S8x4096x512.Idx → EReal) (x3 : S8x8x4096.Idx → EReal)

/-- Lane `l` of head `h`. -/
abbrev lane (h : Fin 8) (l : Fin 64) : Fin 512 := ⟨64 * h.val + l.val, by have := h.isLt; have := l.isLt; omega⟩

/-- The score of key `k` for query row `q`. -/
def score (b h : Fin 8) (q k : Fin 4096) : EReal :=
  (∑ l : Fin 64, x0 (ix3 b q (lane h l)) * x1 (ix3 b k (lane h l))) + x3 (ix3 b h q) - x3 (ix3 b h k)

theorem v1_at (b : Fin 8) (q : Fin 4096) (h : Fin 8) (l : Fin 64) : val_main_v1 (F := Ideal) x0 (ix4 b q h l) = x0 (ix3 b q (lane h l)) := by
  rw [val_main_v1_apply, val_main_v0_apply]
  refine congrArg x0 ?_
  funext a
  match a with
  | ⟨0, _⟩ => exact Fin.ext (by show (((b.val * 4096 + q.val) * 8 + h.val) * 64 + l.val) / 2097152 = b.val; have := b.isLt; have := q.isLt; have := h.isLt; have := l.isLt; omega)
  | ⟨1, _⟩ => exact Fin.ext (by show (((b.val * 4096 + q.val) * 8 + h.val) * 64 + l.val) / 512 % 4096 = q.val; have := b.isLt; have := q.isLt; have := h.isLt; have := l.isLt; omega)
  | ⟨2, _⟩ => exact Fin.ext (by show (((b.val * 4096 + q.val) * 8 + h.val) * 64 + l.val) % 512 = 64 * h.val + l.val; have := b.isLt; have := q.isLt; have := h.isLt; have := l.isLt; omega)

theorem v2_at (b : Fin 8) (q : Fin 4096) (h : Fin 8) (l : Fin 64) : val_main_v2 (F := Ideal) x1 (ix4 b q h l) = x1 (ix3 b q (lane h l)) := by
  rw [val_main_v2_apply]
  refine congrArg x1 ?_
  funext a
  match a with
  | ⟨0, _⟩ => exact Fin.ext (by show (((b.val * 4096 + q.val) * 8 + h.val) * 64 + l.val) / 2097152 = b.val; have := b.isLt; have := q.isLt; have := h.isLt; have := l.isLt; omega)
  | ⟨1, _⟩ => exact Fin.ext (by show (((b.val * 4096 + q.val) * 8 + h.val) * 64 + l.val) / 512 % 4096 = q.val; have := b.isLt; have := q.isLt; have := h.isLt; have := l.isLt; omega)
  | ⟨2, _⟩ => exact Fin.ext (by show (((b.val * 4096 + q.val) * 8 + h.val) * 64 + l.val) % 512 = 64 * h.val + l.val; have := b.isLt; have := q.isLt; have := h.isLt; have := l.isLt; omega)

theorem v3_at (b : Fin 8) (q : Fin 4096) (h : Fin 8) (l : Fin 64) : val_main_v3 (F := Ideal) x2 (ix4 b q h l) = x2 (ix3 b q (lane h l)) := v2_at x2 b q h l

theorem v10_at (b h : Fin 8) (q k : Fin 4096) : val_main_v10 (F := Ideal) x0 x1 x3 (ix4 b h q k) = score x0 x1 x3 b h q k := by
  rw [val_main_v10_apply, val_main_v7_apply, val_main_v4_apply]
  have el : ∀ l : Fin 64, lidx_main_v4 (ix4 b h q k) l = ix4 b q h l := fun l => by
    funext a; match a with | ⟨0, _⟩ => rfl | ⟨1, _⟩ => rfl | ⟨2, _⟩ => rfl | ⟨3, _⟩ => rfl
  have er : ∀ l : Fin 64, ridx_main_v4 (ix4 b h q k) l = ix4 b k h l := fun l => by
    funext a; match a with | ⟨0, _⟩ => rfl | ⟨1, _⟩ => rfl | ⟨2, _⟩ => rfl | ⟨3, _⟩ => rfl
  simp only [el, er, v1_at, v2_at]
  have e6 : val_main_v6 (F := Ideal) x3 (ix4 b h q k) = x3 (ix3 b h q) := by
    unfold val_main_v6 val_main_v5; pointwise
  have e9 : val_main_v9 (F := Ideal) x3 (ix4 b h q k) = x3 (ix3 b h k) := by
    unfold val_main_v9 val_main_v8; pointwise
  rw [e6, e9]
  rfl

/-- A key after the query row is masked out. -/
theorem mask_at (b h : Fin 8) (q k : Fin 4096) : val_main_call0_v1 (F := Ideal) (ix4 b h q k) = if k.val ≤ q.val then 1#1 else 0#1 := by
  have e : val_main_call0_v1 (F := Ideal) (ix4 b h q k) = IntOp.cmpi .sle (BitVec.ofNat 32 k.val) (BitVec.ofNat 32 q.val) := by
    unfold val_main_call0_v1 val_main_v17 val_main_v16 val_main_v14 val_main_v15 val_main_v12 val_main_v13 val_main_v11
    pointwise
  rw [e]
  have hk := k.isLt
  have hq := q.isLt
  have hi : ∀ n : Nat, n < 4096 → (BitVec.ofNat 32 n).toInt = n := fun n hn => by
    rw [BitVec.toInt_eq_toNat_of_lt (by rw [BitVec.toNat_ofNat]; omega), BitVec.toNat_ofNat]; omega
  have h : BitVec.sle (BitVec.ofNat 32 k.val) (BitVec.ofNat 32 q.val) = decide (k.val ≤ q.val) := by
    rw [Bool.eq_iff_iff, BitVec.sle_iff_toInt_le, hi _ hk, hi _ hq]; simp
  show BitVec.ofBool (BitVec.sle _ _) = _
  rw [h]
  by_cases hh : k.val ≤ q.val <;> simp [hh]

theorem ninf : Ideal.ofBits .f32 0xFF800000#32 = ⊥ := by simp [Ideal.ofBits, Ideal.ieee]
theorem pzero : Ideal.ofBits .f32 0#32 = 0 := by simp [Ideal.ofBits, Ideal.ieee]

theorem v18_at (b h : Fin 8) (q k : Fin 4096) : val_main_v18 (F := Ideal) x0 x1 x3 (ix4 b h q k)
    = if k.val ≤ q.val then score x0 x1 x3 b h q k else ⊥ := by
  rw [val_main_v18_apply, mask_at, v10_at]
  have e : val_main_call0_v2 (F := Ideal) (ix4 b h q k) = ⊥ := by
    unfold val_main_call0_v2; pointwise; exact ninf
  rw [e]
  split_ifs <;> rfl

theorem v21_at (b h : Fin 8) (q : Fin 4096) : val_main_v21 (F := Ideal) x0 x1 x3 (ix3 b h q)
    = max ⊥ (Finset.univ.fold max ⊥ fun k : Fin 4096 => if k.val ≤ q.val then score x0 x1 x3 b h q k else ⊥) := by
  rw [val_main_v21_apply]
  have e : val_main_v20 (F := Ideal) (ix3 b h q) = ⊥ := by unfold val_main_v20; pointwise; exact ninf
  rw [e]
  refine congrArg (max ⊥) ?_
  unfold val_main_v19
  have e18 : ∀ k, val_main_v18 (F := Ideal) x0 x1 x3 (ix4 b h q k) = if k.val ≤ q.val then score x0 x1 x3 b h q k else ⊥ := v18_at x0 x1 x3 b h q
  generalize val_main_v18 (F := Ideal) x0 x1 x3 = y at e18 ⊢
  pointwise
  simp only [← e18]
  rw [show val_main_cst_0 (F := Ideal) (Shape.Idx.first h_S_) = ⊥ from ninf]

theorem v25_at (b h : Fin 8) (q k : Fin 4096) : val_main_v25 (F := Ideal) x0 x1 x3 (ix4 b h q k)
    = Ideal.exp ((if k.val ≤ q.val then score x0 x1 x3 b h q k else ⊥) - val_main_v21 (F := Ideal) x0 x1 x3 (ix3 b h q)) := by
  rw [val_main_v25_apply, val_main_v24_apply, v18_at]
  have e : val_main_v23 (F := Ideal) x0 x1 x3 (ix4 b h q k) = val_main_v21 (F := Ideal) x0 x1 x3 (ix3 b h q) := by
    unfold val_main_v23 val_main_v22
    generalize val_main_v21 (F := Ideal) x0 x1 x3 = y
    pointwise
  rw [e]
  rfl

theorem v29_at (b h : Fin 8) (q k : Fin 4096) : val_main_v29 (F := Ideal) x0 x1 x3 (ix4 b h q k)
    = Ideal.div (val_main_v25 (F := Ideal) x0 x1 x3 (ix4 b h q k)) (∑ j : Fin 4096, val_main_v25 (F := Ideal) x0 x1 x3 (ix4 b h q j)) := by
  rw [val_main_v29_apply]
  have e : val_main_v28 (F := Ideal) x0 x1 x3 (ix4 b h q k) = val_main_v26 (F := Ideal) x0 x1 x3 (ix3 b h q) := by
    unfold val_main_v28 val_main_v27
    generalize val_main_v26 (F := Ideal) x0 x1 x3 = y
    pointwise
  rw [e, val_main_v26_apply]
  have e0 : val_main_cst_2 (F := Ideal) (Shape.Idx.first h_S_) = 0 := pzero
  have ei : ∀ j : Fin 4096, idx_main_v26 (ix3 b h q) j = ix4 b h q j := fun j => by
    funext a; match a with | ⟨0, _⟩ => rfl | ⟨1, _⟩ => rfl | ⟨2, _⟩ => rfl | ⟨3, _⟩ => rfl
  rw [e0, zero_add]
  simp only [ei]
  rfl

theorem v33_at (b : Fin 8) (q : Fin 4096) (h : Fin 8) (l : Fin 64) : val_main_v33 (F := Ideal) x0 x1 x2 x3 (ix3 b q (lane h l))
    = ∑ k : Fin 4096, x2 (ix3 b k (lane h l)) * val_main_v29 (F := Ideal) x0 x1 x3 (ix4 b h q k) := by
  rw [val_main_v33_apply]
  refine (val_main_v32_apply (F := Ideal) x0 x1 x2 x3 _).trans ?_
  have e : idx_main_v32 (ix3 b q (lane h l)) = ix4 b q h l := by
    funext a
    have := b.isLt; have := q.isLt; have := h.isLt; have := l.isLt
    match a with
    | ⟨0, _⟩ => exact Fin.ext (by show ((b.val * 4096 + q.val) * 512 + (64 * h.val + l.val)) / 2097152 = b.val; omega)
    | ⟨1, _⟩ => exact Fin.ext (by show ((b.val * 4096 + q.val) * 512 + (64 * h.val + l.val)) / 512 % 4096 = q.val; omega)
    | ⟨2, _⟩ => exact Fin.ext (by show ((b.val * 4096 + q.val) * 512 + (64 * h.val + l.val)) / 64 % 8 = h.val; omega)
    | ⟨3, _⟩ => exact Fin.ext (by show ((b.val * 4096 + q.val) * 512 + (64 * h.val + l.val)) % 64 = l.val; omega)
  rw [e]
  have e31 : val_main_v31 (F := Ideal) x0 x1 x2 x3 (ix4 b q h l) = val_main_v30 (F := Ideal) x0 x1 x2 x3 (ix4 b h l q) := by
    unfold val_main_v31
    generalize val_main_v30 (F := Ideal) x0 x1 x2 x3 = y
    pointwise
  rw [e31, val_main_v30_apply]
  have el : ∀ k : Fin 4096, lidx_main_v30 (ix4 b h l q) k = ix4 b k h l := fun k => by
    funext a; match a with | ⟨0, _⟩ => rfl | ⟨1, _⟩ => rfl | ⟨2, _⟩ => rfl | ⟨3, _⟩ => rfl
  have er : ∀ k : Fin 4096, ridx_main_v30 (ix4 b h l q) k = ix4 b h q k := fun k => by
    funext a; match a with | ⟨0, _⟩ => rfl | ⟨1, _⟩ => rfl | ⟨2, _⟩ => rfl | ⟨3, _⟩ => rfl
  simp only [el, er, v3_at]

end Cert.ReferenceIdeal.Fox

end
-- ==== Proof.ProjMath.lean ====
module

public import Idealize.ShloMosaic.Lib.Pipeline.ValueKit

@[expose] public section

noncomputable section

/-! # The arithmetic of the in-projection: finite values, and the mean of a head's squares -/

namespace Cert.ProjMath

open Idealize.ShloMosaic

/-- An extended real that is a real number. -/
abbrev Fin' (x : EReal) : Prop := ∃ r : ℝ, x = (r : EReal)

theorem fin_mul {x y : EReal} (hx : Fin' x) (hy : Fin' y) : Fin' (x * y) := by
  obtain ⟨a, rfl⟩ := hx; obtain ⟨b, rfl⟩ := hy
  exact ⟨a * b, (EReal.coe_mul a b).symm⟩

theorem fin_add {x y : EReal} (hx : Fin' x) (hy : Fin' y) : Fin' (x + y) := by
  obtain ⟨a, rfl⟩ := hx; obtain ⟨b, rfl⟩ := hy
  exact ⟨a + b, (EReal.coe_add a b).symm⟩

theorem fin_sum {ι : Type} [Fintype ι] (f : ι → EReal) (hf : ∀ i, Fin' (f i)) : Fin' (∑ i, f i) := by
  choose g hg using hf
  refine ⟨∑ i, g i, ?_⟩
  rw [show f = fun i => (g i : EReal) from funext hg]
  induction (Finset.univ : Finset ι) using Finset.cons_induction with
  | empty => simp
  | cons a s ha ih => rw [Finset.sum_cons, Finset.sum_cons, ih, EReal.coe_add]

/-- An extended real whose absolute value is below infinity is a real number. -/
theorem fin_of_abs {x : EReal} (h : max x (-x) < ⊤) : Fin' x := by
  induction x with
  | bot => simp at h
  | top => simp at h
  | coe r => exact ⟨r, rfl⟩

/-- A host test `|x| < ∞` that passes says `x` is a real number. -/
theorem fin_of_test {s : Shape} {x y : FVec Ideal s .f32} {i : s.Idx} (hy : y i = ⊤)
    (h : cmpf .olt (Host.absf x) y i = 1#1) : Fin' (x i) := by
  have h' : BitVec.ofBool (decide (max (x i) (-(x i)) < y i)) = 1#1 := h
  rw [hy] at h'
  refine fin_of_abs ?_
  by_contra hn
  rw [decide_eq_false hn] at h'
  exact absurd h' (by decide)

/-- The host's infinity is the extended reals'. -/
theorem ofBits_inf : Ideal.ofBits .f32 0x7F800000#32 = ⊤ := by
  simp [Ideal.ofBits, Ideal.ieee]

/-- The kernel's log-sigmoid and the reference's, spelt with the two signs of its argument. -/
theorem logsig (z : EReal) :
    0 - (max (0 - z) 0 + Ideal.log1p (Ideal.exp (0 - FloatOps.absf (F := Ideal) (φ := .f32) z)))
      = -(max (-z) 0 + Ideal.log1p (Ideal.exp (-FloatOps.absf (F := Ideal) (φ := .f32) (-z)))) := by
  have ha : FloatOps.absf (F := Ideal) (φ := .f32) (-z) = FloatOps.absf (F := Ideal) (φ := .f32) z := by
    show max (-z) (- -z) = max z (-z)
    rw [neg_neg, max_comm]
  rw [ha, zero_sub, zero_sub, zero_sub]

theorem ofBits_1024 : Ideal.ofBits .f32 0x44800000#32 = ((1024 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_64th : Ideal.ofBits .f32 0x3C800000#32 = ((1 / 64 : ℝ) : EReal) := by
  simp [Ideal.ofBits, Ideal.ieee, -EReal.coe_mul]; norm_num
/-- The norms' epsilon is a positive real number. -/
theorem eps_pos : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- Division by a real number other than zero is the product with its inverse. -/
theorem div_coe (x : EReal) (r : ℝ) (hr : r ≠ 0) : Ideal.div x (r : EReal) = x * ((r⁻¹ : ℝ) : EReal) := by
  rw [Ideal.div, if_neg (by exact_mod_cast hr)]
  rfl

/-- The mean of squares plus epsilon has a real reciprocal square root. -/
theorem fin_rsqrt {ι : Type} [Fintype ι] (f : ι → EReal) (hf : ∀ i, Fin' (f i)) :
    Fin' (Ideal.rsqrt (Ideal.div (∑ i, f i * f i) (Ideal.ofBits .f32 0x44800000#32) + Ideal.ofBits .f32 0x358637BD#32)) := by
  choose g hg using hf
  obtain ⟨e, he, h⟩ := eps_pos
  have hs : ∑ i, f i * f i = ((∑ i, g i * g i : ℝ) : EReal) := by
    rw [show f = fun i => (g i : EReal) from funext hg]
    induction (Finset.univ : Finset ι) using Finset.cons_induction with
    | empty => simp
    | cons a s ha ih => rw [Finset.sum_cons, Finset.sum_cons, ih, EReal.coe_add, EReal.coe_mul]
  have h0 : 0 ≤ ∑ i, g i * g i := Finset.sum_nonneg fun i _ => mul_self_nonneg _
  rw [hs, ofBits_1024, h]
  have hd : Ideal.div ((∑ i, g i * g i : ℝ) : EReal) ((1024 : ℝ) : EReal) = (((∑ i, g i * g i) * (1024)⁻¹ : ℝ) : EReal) := by
    rw [div_coe _ _ (by norm_num), EReal.coe_mul]
  rw [hd, ← EReal.coe_add, Ideal.rsqrt_coe]
  have hp : 0 < (∑ i, g i * g i) * (1024)⁻¹ + e := by positivity
  rw [if_neg (not_lt.mpr hp.le), if_neg hp.ne']
  exact ⟨_, rfl⟩

/-- The sum over a head's 64 lanes, as the sum over all 512 lanes of those in the same head. -/
theorem head_sum (f : Fin 512 → EReal) (j : Fin 512) :
    ∑ l : Fin 512, f l * (if l.val / 64 = j.val / 64 then (1 : EReal) else 0)
      = ∑ x : Fin 64, f ⟨j.val / 64 * 64 + x.val, by have := j.isLt; have := x.isLt; omega⟩ := by
  have h1 : ∀ l : Fin 512, f l * (if l.val / 64 = j.val / 64 then (1 : EReal) else 0) = if l.val / 64 = j.val / 64 then f l else 0 := by
    intro l; split_ifs <;> simp
  simp only [h1]
  rw [← Finset.sum_filter]
  symm
  refine Finset.sum_bij (fun x _ => ⟨j.val / 64 * 64 + x.val, by have := j.isLt; have := x.isLt; omega⟩) ?_ ?_ ?_ ?_
  · intro x _
    simp only [Finset.mem_filter, Finset.mem_univ, true_and]
    have := x.isLt; omega
  · intro x _ y _ h
    have := congrArg Fin.val h
    exact Fin.ext (by simpa using this)
  · intro l hl
    simp only [Finset.mem_filter, Finset.mem_univ, true_and] at hl
    exact ⟨⟨l.val % 64, Nat.mod_lt _ (by norm_num)⟩, Finset.mem_univ _, Fin.ext (by show j.val / 64 * 64 + l.val % 64 = l.val; omega)⟩
  · intro x _; rfl

/-- The kernel's mean of a head's squares, from their rounded and remaining parts by a matrix of ones on the
    heads, is the sum of the head's 64 squares divided by 64, where the values are real numbers. -/
theorem head_mean (f : Fin 512 → EReal) (hf : ∀ l, Fin' (f l)) (j : Fin 512) :
    ((∑ l : Fin 512, f l * f l * (if l.val / 64 = j.val / 64 then (1 : EReal) else 0))
        + ∑ l : Fin 512, (f l * f l - f l * f l) * (if l.val / 64 = j.val / 64 then (1 : EReal) else 0))
      * Ideal.ofBits .f32 0x3C800000#32
    = Ideal.div (∑ x : Fin 64, f ⟨j.val / 64 * 64 + x.val, by have := j.isLt; have := x.isLt; omega⟩
          * f ⟨j.val / 64 * 64 + x.val, by have := j.isLt; have := x.isLt; omega⟩) (Ideal.ofBits .f32 0x42800000#32) := by
  have h0 : ∀ l, f l * f l - f l * f l = 0 := by
    intro l; obtain ⟨r, hr⟩ := hf l
    rw [hr, ← EReal.coe_mul, ← EReal.coe_sub, sub_self, EReal.coe_zero]
  simp only [h0, zero_mul, Finset.sum_const_zero, add_zero]
  rw [head_sum (fun l => f l * f l) j, ofBits_64th, ofBits_64]
  rw [div_coe _ _ (by norm_num), one_div]

end Cert.ProjMath

end
-- ==== Proof.FoxInv.lean ====
module

public import proofs.«01_k».proof.Proof.FoxSA
public import proofs.«01_k».proof.Proof.FoxSC
public import proofs.«01_k».proof.Proof.FoxSD
public import proofs.«01_k».proof.Proof.FoxSE
public import proofs.«01_k».proof.Proof.FoxI
public import proofs.«01_k».proof.Proof.FoxW
public import proofs.«01_k».proof.Proof.FoxRef
public import proofs.«01_k».proof.Proof.ProjMath

@[expose] public section

set_option maxRecDepth 16384

noncomputable section

/-! # The forgetting attention call: what a query block's running sums are after each key tile -/

namespace Cert.KernelIdeal.Fox

open Cert.KernelIdeal Cert.KernelIdeal.Gen Idealize.ShloMosaic Idealize.ShloMosaic.TcCoe Idealize.SL.Sem Idealize.ShloMosaic.Tactic
open Cert.Proof.FoxMath

section
variable (tr : Fin 8 → Fin 512 → ℕ → ℝ) (q : Fin 512 → ℕ) (W : Fin 512 → ℕ → EReal)

/-- After `n` keys: each row of each head has a level, and the row's sum and weighted sums are those of the `n` keys against it. -/
def Inv (n : ℕ) (mm ll : S8x512x128.Idx → EReal) (aa : S4x512x128.Idx → EReal) : Prop :=
  ∀ (h : Fin 8) (r : Fin 512), ∃ M : ℝ, ∀ i : Fin 128, mm (ix3 h r i) = (M : EReal)
    ∧ ll (ix3 h r i) = ((∑ K ∈ Finset.range n, ew (tr h r) (· ≤ q r) M K : ℝ) : EReal)
    ∧ ∀ p : Fin 4, hd p i = h → aa (ix3 p r i)
        = ∑ K ∈ Finset.range n, ((ew (tr h r) (· ≤ q r) M K : ℝ) : EReal) * W ⟨128 * p.val + i.val, by have := p.isLt; have := i.isLt; omega⟩ K

variable (s : Fin 8 → Fin 512 → Fin 512 → EReal) (v : S1x512x512.Idx → EReal)
  (mm ll mm' ll' : S8x512x128.Idx → EReal) (aa aa' : S4x512x128.Idx → EReal) (n : ℕ)
  (hs : ∀ h r (c : Fin 512), s h r c = sv (tr h r) (· ≤ q r) (n + c.val))
  (hv : ∀ (c : Fin 512) (x : Fin 512), v (ix3 0 c x) = W x (n + c.val))
  (hm : ∀ h r i, mm' (ix3 h r i) = Mx s mm h r i) (hl : ∀ h r i, ll' (ix3 h r i) = Lx s mm ll h r i)
  (ha : ∀ p r i, aa' (ix3 p r i) = Ax s mm v aa p r i)

include hs hv hm hl ha

/-- A key tile keeps the sums right. -/
theorem inv_step (H : Inv tr q W n mm ll aa) : Inv tr q W (n + 512) mm' ll' aa' := by
  intro h r
  obtain ⟨M, H⟩ := H h r
  obtain ⟨M', hM'⟩ := max_real (M : EReal) (EReal.coe_ne_top M) (fun c : Fin 512 => s h r c)
    (fun c => by rw [hs]; exact sv_ne_top _ _ _) (.inl (EReal.coe_ne_bot M))
  have eM : ∀ i : Fin 128, Mx s mm h r i = (M' : EReal) := fun i => by
    unfold Mx; rw [(H i).1]; exact hM'
  have eP : ∀ c : Fin 512, Px s mm h r c = ((ew (tr h r) (· ≤ q r) M' (n + c.val) : ℝ) : EReal) := fun c => by
    unfold Px; rw [eM, hs]; exact exp_sv _ _ _ _
  refine ⟨M', fun i => ⟨(hm h r i).trans (eM i), ?_, fun p hp => ?_⟩⟩
  · rw [hl]; unfold Lx
    rw [eM, (H i).1, (H i).2.1, exp_coe_sub]
    simp only [eP]
    exact step_l _ _ n 512 M M'
  · subst hp
    rw [ha]; unfold Ax
    rw [eM, (H i).1, (H i).2.2 p rfl, exp_coe_sub]
    simp only [eP, hv]
    exact step_a _ _ _ n 512 M M'

/-- The first key tile starts them. -/
theorem inv_init (hn : n = 0) (hm0 : ∀ h r i, mm (ix3 h r i) = ⊥) (hl0 : ∀ h r i, ll (ix3 h r i) = 0) (ha0 : ∀ p r i, aa (ix3 p r i) = 0) :
    Inv tr q W (n + 512) mm' ll' aa' := by
  subst hn
  intro h r
  obtain ⟨M', hM'⟩ := max_real (⊥ : EReal) bot_ne_top (fun c : Fin 512 => s h r c)
    (fun c => by rw [hs]; exact sv_ne_top _ _ _) (.inr ⟨⟨0, by decide⟩, by rw [hs]; exact sv_ne_bot _ _ (Nat.zero_le _)⟩)
  have eM : ∀ i : Fin 128, Mx s mm h r i = (M' : EReal) := fun i => by
    unfold Mx; rw [hm0]; exact hM'
  have eP : ∀ c : Fin 512, Px s mm h r c = ((ew (tr h r) (· ≤ q r) M' (0 + c.val) : ℝ) : EReal) := fun c => by
    unfold Px; rw [eM, hs]; exact exp_sv _ _ _ _
  have z : ∀ i : Fin 128, Ideal.exp (mm (ix3 h r i) - (M' : EReal)) = ((Real.exp (0 - M') : ℝ) : EReal) * 0 := fun i => by
    rw [hm0, exp_bot_sub, mul_zero]
  refine ⟨M', fun i => ⟨(hm h r i).trans (eM i), ?_, fun p hp => ?_⟩⟩
  · rw [hl]; unfold Lx
    rw [eM, hl0, mul_zero]
    simp only [eP]
    refine Eq.trans ?_ (step_l _ _ 0 512 0 M')
    simp
  · subst hp
    rw [ha]; unfold Ax
    rw [eM, ha0, mul_zero]
    simp only [eP, hv]
    refine Eq.trans ?_ (step_a _ _ _ 0 512 0 M')
    simp

end

variable (m : (ℓ : Loc nD τ sig) → Buf (Elt Ideal) ℓ) (c : Dev nD)

/-- The arguments, as functions of an index. -/
abbrev Q0 : S8x4096x512.Idx → EReal := m ((c : Thread nD τ).loc main_arg0)
abbrev K0 : S8x4096x512.Idx → EReal := m ((c : Thread nD τ).loc main_arg1)
abbrev V0 : S8x4096x512.Idx → EReal := m ((c : Thread nD τ).loc main_arg2)
abbrev C0 : S8x8x4096.Idx → EReal := m ((c : Thread nD τ).loc main_arg3)

/-- Key `K`'s score in batch `b`, head `h`, row `x`, as a real. -/
def trx (b h : Fin 8) (x : Fin 4096) (K : ℕ) : ℝ :=
  if hK : K < 4096 then (Cert.ReferenceIdeal.Fox.score (Q0 m c) (K0 m c) (C0 m c) b h x ⟨K, hK⟩).toReal else 0

/-- Key `K`'s value at lane `x`. -/
def Wx (b : Fin 8) (x : Fin 512) (K : ℕ) : EReal := if hK : K < 4096 then V0 m c (ix3 b ⟨K, hK⟩ x) else 0

/-- What the invariant says after point `t`. -/
abbrev InvAt (t : Fin cfg0.N) (n : ℕ) (mm ll : S8x512x128.Idx → EReal) (aa : S4x512x128.Idx → EReal) : Prop :=
  Inv (fun h r => trx m c (bat t) h (qrow t r)) (fun r => (qrow t r).val) (Wx m c (bat t)) n mm ll aa

open Cert.ProjMath

variable (hq : ∀ i, Fin' (Q0 m c i)) (hk : ∀ i, Fin' (K0 m c i)) (hc : ∀ i, Fin' (C0 m c i))

include hq hk hc in
/-- Every score is a real. -/
theorem score_real (b h : Fin 8) (x : Fin 4096) (k : Fin 4096) :
    Cert.ReferenceIdeal.Fox.score (Q0 m c) (K0 m c) (C0 m c) b h x k = (trx m c b h x k.val : EReal) := by
  have e : Fin' (Cert.ReferenceIdeal.Fox.score (Q0 m c) (K0 m c) (C0 m c) b h x k) := by
    unfold Cert.ReferenceIdeal.Fox.score
    obtain ⟨a, ha⟩ := fin_add (fin_sum (fun l : Fin 64 => Q0 m c (ix3 b x (Cert.ReferenceIdeal.Fox.lane h l)) * K0 m c (ix3 b k (Cert.ReferenceIdeal.Fox.lane h l)))
      (fun l => fin_mul (hq _) (hk _))) (hc (ix3 b h x))
    obtain ⟨d, hd⟩ := hc (ix3 b h k)
    exact ⟨a - d, by rw [ha, hd, EReal.coe_sub]⟩
  obtain ⟨a, ha⟩ := e
  unfold trx
  rw [dif_pos k.isLt]
  show _ = ((Cert.ReferenceIdeal.Fox.score (Q0 m c) (K0 m c) (C0 m c) b h x k).toReal : EReal)
  rw [ha, EReal.toReal_coe]

/-- The tile's scores are the arguments'. -/
theorem S_at (t : Fin cfg0.N) (h : Fin 8) (r x : Fin 512) :
    S (iblk m c 0 t) (iblk m c 1 t) (iblk m c 3 t) (iblk m c 4 t) h r x
      = Cert.ReferenceIdeal.Fox.score (Q0 m c) (K0 m c) (C0 m c) (bat t) h (qrow t r) (krow t x) := by
  unfold S Cert.ReferenceIdeal.Fox.score
  simp only [blk0, blk1, blk3, blk4]

theorem krow_val (t : Fin cfg0.N) (x : Fin 512) (hj : t.val % 8 ≤ t.val / 8 % 8) : (krow t x).val = 512 * (t.val % 8) + x.val := by
  show min (t.val % 8) (t.val / 8 % 8) * 512 + x.val = _
  rw [min_eq_left hj]; omega

theorem V_at (t : Fin cfg0.N) (hj : t.val % 8 ≤ t.val / 8 % 8) (a x : Fin 512) :
    iblk m c 2 t (ix3 0 a x) = Wx m c (bat t) x (512 * (t.val % 8) + a.val) := by
  rw [blk2]
  unfold Wx
  rw [← krow_val t a hj, dif_pos (krow t a).isLt]

include hq hk hc in
theorem S_sv (t : Fin cfg0.N) (hj : t.val % 8 < t.val / 8 % 8) (h : Fin 8) (r x : Fin 512) :
    S (iblk m c 0 t) (iblk m c 1 t) (iblk m c 3 t) (iblk m c 4 t) h r x
      = sv (trx m c (bat t) h (qrow t r)) (· ≤ (qrow t r).val) (512 * (t.val % 8) + x.val) := by
  rw [S_at, score_real m c hq hk hc, ← krow_val t x hj.le]
  unfold sv
  have := r.isLt
  have := x.isLt
  rw [if_pos]
  rw [krow_val t x hj.le]
  show _ ≤ t.val / 8 % 8 * 512 + r.val
  omega

include hq hk hc in
theorem SM_sv (t : Fin cfg0.N) (hj : t.val / 8 % 8 = t.val % 8) (h : Fin 8) (r x : Fin 512) :
    SM (iblk m c 0 t) (iblk m c 1 t) (iblk m c 3 t) (iblk m c 4 t) h r x
      = sv (trx m c (bat t) h (qrow t r)) (· ≤ (qrow t r).val) (512 * (t.val % 8) + x.val) := by
  unfold SM
  rw [S_at, score_real m c hq hk hc, ← krow_val t x hj.ge]
  unfold sv
  have e : x.val ≤ r.val ↔ (krow t x).val ≤ (qrow t r).val := by
    rw [krow_val t x hj.ge]
    show _ ↔ _ ≤ t.val / 8 % 8 * 512 + r.val
    omega
  by_cases hx : x.val ≤ r.val
  · rw [if_pos hx, if_pos (e.mp hx)]
  · rw [if_neg hx, if_neg (fun z => hx (e.mpr z))]

/-! ## What each case leaves, over what the point before left -/

theorem pr {α β γ δ : Type} {z : α × β × γ × δ} {x : α} {y : β} {u : γ} {w : δ} (e : z = (x, y, u, w)) :
    z.1 = x ∧ z.2.1 = y ∧ z.2.2.1 = u ∧ z.2.2.2 = w := by
  subst e; exact ⟨rfl, rfl, rfl, rfl⟩

theorem stA_m (t : Fin cfg0.N) (h0 : t.val % 8 = 0) (h1 : ¬t.val % 8 + 1 ≤ t.val / 8 % 8) (h2 : t.val / 8 % 8 = t.val % 8) (h : Fin 8) (r : Fin 512) (i : Fin 128) :
    (outsAt0 m c t.val t.isLt).2.1 (ix3 h r i) = Mx (SM (iblk m c 0 t) (iblk m c 1 t) (iblk m c 3 t) (iblk m c 4 t)) (fun _ => ⊥) h r i := by
  exact (congrFun (pr (outsAt0_A m c t h0 h1 h2)).2.1 _).trans (mA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h)) ((hcond0_2 t).mpr h2) h r i)
theorem stA_l (t : Fin cfg0.N) (h0 : t.val % 8 = 0) (h1 : ¬t.val % 8 + 1 ≤ t.val / 8 % 8) (h2 : t.val / 8 % 8 = t.val % 8) (h : Fin 8) (r : Fin 512) (i : Fin 128) :
    (outsAt0 m c t.val t.isLt).2.2.1 (ix3 h r i) = Lx (SM (iblk m c 0 t) (iblk m c 1 t) (iblk m c 3 t) (iblk m c 4 t)) (fun _ => ⊥) (fun _ => 0) h r i := by
  exact (congrFun (pr (outsAt0_A m c t h0 h1 h2)).2.2.1 _).trans (lA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h)) ((hcond0_2 t).mpr h2) h r i)
theorem stA_a (t : Fin cfg0.N) (h0 : t.val % 8 = 0) (h1 : ¬t.val % 8 + 1 ≤ t.val / 8 % 8) (h2 : t.val / 8 % 8 = t.val % 8) (p : Fin 4) (r : Fin 512) (i : Fin 128) :
    (outsAt0 m c t.val t.isLt).2.2.2 (ix3 p r i) = Ax (SM (iblk m c 0 t) (iblk m c 1 t) (iblk m c 3 t) (iblk m c 4 t)) (fun _ => ⊥) (iblk m c 2 t) (fun _ => 0) p r i := by
  exact (congrFun (pr (outsAt0_A m c t h0 h1 h2)).2.2.2 _).trans (aA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h)) ((hcond0_2 t).mpr h2) p r i)
theorem stA_o (t : Fin cfg0.N) (h0 : t.val % 8 = 0) (h1 : ¬t.val % 8 + 1 ≤ t.val / 8 % 8) (h2 : t.val / 8 % 8 = t.val % 8) (p : Fin 4) (r : Fin 512) (i : Fin 128) :
    (outsAt0 m c t.val t.isLt).1 (ix3 0 r ⟨128 * (p : ℕ) + i, by omega⟩) = Ox (outsAt0 m c t.val t.isLt).2.2.1 (outsAt0 m c t.val t.isLt).2.2.2 r p i := by
  rw [(pr (outsAt0_A m c t h0 h1 h2)).2.2.1, (pr (outsAt0_A m c t h0 h1 h2)).2.2.2]
  exact (congrFun (pr (outsAt0_A m c t h0 h1 h2)).1 _).trans (oA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) (fun h => h1 ((hcond0_1 t).mp h)) ((hcond0_2 t).mpr h2) p r i)
theorem stC_m (t : Fin cfg0.N) (h0 : t.val % 8 = 0) (h1 : t.val % 8 + 1 ≤ t.val / 8 % 8) (h2 : ¬t.val / 8 % 8 = t.val % 8) (h : Fin 8) (r : Fin 512) (i : Fin 128) :
    (outsAt0 m c t.val t.isLt).2.1 (ix3 h r i) = Mx (S (iblk m c 0 t) (iblk m c 1 t) (iblk m c 3 t) (iblk m c 4 t)) (fun _ => ⊥) h r i := by
  exact (congrFun (pr (outsAt0_C m c t h0 h1 h2)).2.1 _).trans (mC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) ((hcond0_1 t).mpr h1) (fun h => h2 ((hcond0_2 t).mp h)) h r i)
theorem stC_l (t : Fin cfg0.N) (h0 : t.val % 8 = 0) (h1 : t.val % 8 + 1 ≤ t.val / 8 % 8) (h2 : ¬t.val / 8 % 8 = t.val % 8) (h : Fin 8) (r : Fin 512) (i : Fin 128) :
    (outsAt0 m c t.val t.isLt).2.2.1 (ix3 h r i) = Lx (S (iblk m c 0 t) (iblk m c 1 t) (iblk m c 3 t) (iblk m c 4 t)) (fun _ => ⊥) (fun _ => 0) h r i := by
  exact (congrFun (pr (outsAt0_C m c t h0 h1 h2)).2.2.1 _).trans (lC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) ((hcond0_1 t).mpr h1) (fun h => h2 ((hcond0_2 t).mp h)) h r i)
theorem stC_a (t : Fin cfg0.N) (h0 : t.val % 8 = 0) (h1 : t.val % 8 + 1 ≤ t.val / 8 % 8) (h2 : ¬t.val / 8 % 8 = t.val % 8) (p : Fin 4) (r : Fin 512) (i : Fin 128) :
    (outsAt0 m c t.val t.isLt).2.2.2 (ix3 p r i) = Ax (S (iblk m c 0 t) (iblk m c 1 t) (iblk m c 3 t) (iblk m c 4 t)) (fun _ => ⊥) (iblk m c 2 t) (fun _ => 0) p r i := by
  exact (congrFun (pr (outsAt0_C m c t h0 h1 h2)).2.2.2 _).trans (aC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) ((hcond0_0 t).mpr h0) ((hcond0_1 t).mpr h1) (fun h => h2 ((hcond0_2 t).mp h)) p r i)
theorem stD_m (t : Fin cfg0.N) (h0 : ¬t.val % 8 = 0) (h1 : ¬t.val % 8 + 1 ≤ t.val / 8 % 8) (h2 : t.val / 8 % 8 = t.val % 8) (h : Fin 8) (r : Fin 512) (i : Fin 128) :
    (outsAt0 m c t.val t.isLt).2.1 (ix3 h r i) = Mx (SM (iblk m c 0 t) (iblk m c 1 t) (iblk m c 3 t) (iblk m c 4 t)) (outsAt0 m c (t.val - 1) (Nat.lt_of_le_of_lt (Nat.sub_le _ _) t.isLt)).2.1 h r i := by
  exact (congrFun (pr (outsAt0_D m c t h0 h1 h2)).2.1 _).trans (mD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2) h r i)
theorem stD_l (t : Fin cfg0.N) (h0 : ¬t.val % 8 = 0) (h1 : ¬t.val % 8 + 1 ≤ t.val / 8 % 8) (h2 : t.val / 8 % 8 = t.val % 8) (h : Fin 8) (r : Fin 512) (i : Fin 128) :
    (outsAt0 m c t.val t.isLt).2.2.1 (ix3 h r i) = Lx (SM (iblk m c 0 t) (iblk m c 1 t) (iblk m c 3 t) (iblk m c 4 t)) (outsAt0 m c (t.val - 1) (Nat.lt_of_le_of_lt (Nat.sub_le _ _) t.isLt)).2.1 (outsAt0 m c (t.val - 1) (Nat.lt_of_le_of_lt (Nat.sub_le _ _) t.isLt)).2.2.1 h r i := by
  exact (congrFun (pr (outsAt0_D m c t h0 h1 h2)).2.2.1 _).trans (lD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2) h r i)
theorem stD_a (t : Fin cfg0.N) (h0 : ¬t.val % 8 = 0) (h1 : ¬t.val % 8 + 1 ≤ t.val / 8 % 8) (h2 : t.val / 8 % 8 = t.val % 8) (p : Fin 4) (r : Fin 512) (i : Fin 128) :
    (outsAt0 m c t.val t.isLt).2.2.2 (ix3 p r i) = Ax (SM (iblk m c 0 t) (iblk m c 1 t) (iblk m c 3 t) (iblk m c 4 t)) (outsAt0 m c (t.val - 1) (Nat.lt_of_le_of_lt (Nat.sub_le _ _) t.isLt)).2.1 (iblk m c 2 t) (outsAt0 m c (t.val - 1) (Nat.lt_of_le_of_lt (Nat.sub_le _ _) t.isLt)).2.2.2 p r i := by
  exact (congrFun (pr (outsAt0_D m c t h0 h1 h2)).2.2.2 _).trans (aD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2) p r i)
theorem stD_o (t : Fin cfg0.N) (h0 : ¬t.val % 8 = 0) (h1 : ¬t.val % 8 + 1 ≤ t.val / 8 % 8) (h2 : t.val / 8 % 8 = t.val % 8) (p : Fin 4) (r : Fin 512) (i : Fin 128) :
    (outsAt0 m c t.val t.isLt).1 (ix3 0 r ⟨128 * (p : ℕ) + i, by omega⟩) = Ox (outsAt0 m c t.val t.isLt).2.2.1 (outsAt0 m c t.val t.isLt).2.2.2 r p i := by
  rw [(pr (outsAt0_D m c t h0 h1 h2)).2.2.1, (pr (outsAt0_D m c t h0 h1 h2)).2.2.2]
  exact (congrFun (pr (outsAt0_D m c t h0 h1 h2)).1 _).trans (oD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2) p r i)
theorem stE_m (t : Fin cfg0.N) (h0 : ¬t.val % 8 = 0) (h1 : t.val % 8 + 1 ≤ t.val / 8 % 8) (h2 : ¬t.val / 8 % 8 = t.val % 8) (h : Fin 8) (r : Fin 512) (i : Fin 128) :
    (outsAt0 m c t.val t.isLt).2.1 (ix3 h r i) = Mx (S (iblk m c 0 t) (iblk m c 1 t) (iblk m c 3 t) (iblk m c 4 t)) (outsAt0 m c (t.val - 1) (Nat.lt_of_le_of_lt (Nat.sub_le _ _) t.isLt)).2.1 h r i := by
  exact (congrFun (pr (outsAt0_E m c t h0 h1 h2)).2.1 _).trans (mE c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1) (fun h => h2 ((hcond0_2 t).mp h)) h r i)
theorem stE_l (t : Fin cfg0.N) (h0 : ¬t.val % 8 = 0) (h1 : t.val % 8 + 1 ≤ t.val / 8 % 8) (h2 : ¬t.val / 8 % 8 = t.val % 8) (h : Fin 8) (r : Fin 512) (i : Fin 128) :
    (outsAt0 m c t.val t.isLt).2.2.1 (ix3 h r i) = Lx (S (iblk m c 0 t) (iblk m c 1 t) (iblk m c 3 t) (iblk m c 4 t)) (outsAt0 m c (t.val - 1) (Nat.lt_of_le_of_lt (Nat.sub_le _ _) t.isLt)).2.1 (outsAt0 m c (t.val - 1) (Nat.lt_of_le_of_lt (Nat.sub_le _ _) t.isLt)).2.2.1 h r i := by
  exact (congrFun (pr (outsAt0_E m c t h0 h1 h2)).2.2.1 _).trans (lE c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1) (fun h => h2 ((hcond0_2 t).mp h)) h r i)
theorem stE_a (t : Fin cfg0.N) (h0 : ¬t.val % 8 = 0) (h1 : t.val % 8 + 1 ≤ t.val / 8 % 8) (h2 : ¬t.val / 8 % 8 = t.val % 8) (p : Fin 4) (r : Fin 512) (i : Fin 128) :
    (outsAt0 m c t.val t.isLt).2.2.2 (ix3 p r i) = Ax (S (iblk m c 0 t) (iblk m c 1 t) (iblk m c 3 t) (iblk m c 4 t)) (outsAt0 m c (t.val - 1) (Nat.lt_of_le_of_lt (Nat.sub_le _ _) t.isLt)).2.1 (iblk m c 2 t) (outsAt0 m c (t.val - 1) (Nat.lt_of_le_of_lt (Nat.sub_le _ _) t.isLt)).2.2.2 p r i := by
  exact (congrFun (pr (outsAt0_E m c t h0 h1 h2)).2.2.2 _).trans (aE c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1) (fun h => h2 ((hcond0_2 t).mp h)) p r i)

include hq hk hc in
/-- After a point at or before its query block's diagonal, the carried sums are those of the keys so far. -/
theorem inv_at : ∀ (n : ℕ) (t : Fin cfg0.N), t.val % 8 = n → t.val % 8 ≤ t.val / 8 % 8 →
    InvAt m c t (512 * (t.val % 8) + 512) (outsAt0 m c t.val t.isLt).2.1 (outsAt0 m c t.val t.isLt).2.2.1 (outsAt0 m c t.val t.isLt).2.2.2 := by
  intro n
  induction n with
  | zero =>
    intro t h0 hj
    by_cases h2 : t.val / 8 % 8 = t.val % 8
    · have h1 : ¬t.val % 8 + 1 ≤ t.val / 8 % 8 := by omega
      exact inv_init _ _ _ _ (iblk m c 2 t) (fun _ => ⊥) (fun _ => 0) _ _ (fun _ => 0) _ (512 * (t.val % 8)) (SM_sv m c hq hk hc t h2) (V_at m c t hj)
        (stA_m m c t h0 h1 h2) (stA_l m c t h0 h1 h2) (stA_a m c t h0 h1 h2) (by omega)
        (fun _ _ _ => rfl) (fun _ _ _ => rfl) (fun _ _ _ => rfl)
    · have h1 : t.val % 8 + 1 ≤ t.val / 8 % 8 := by omega
      exact inv_init _ _ _ _ (iblk m c 2 t) (fun _ => ⊥) (fun _ => 0) _ _ (fun _ => 0) _ (512 * (t.val % 8)) (S_sv m c hq hk hc t h1) (V_at m c t hj)
        (stC_m m c t h0 h1 h2) (stC_l m c t h0 h1 h2) (stC_a m c t h0 h1 h2) (by omega)
        (fun _ _ _ => rfl) (fun _ _ _ => rfl) (fun _ _ _ => rfl)
  | succ n ih =>
    intro t hn hj
    have h0 : ¬t.val % 8 = 0 := by omega
    have hlt := tlt t
    let t' : Fin cfg0.N := ⟨t.val - 1, Nat.lt_of_le_of_lt (Nat.sub_le _ _) t.isLt⟩
    have ht' : t'.val = t.val - 1 := rfl
    have H := ih t' (by omega) (by omega)
    have eb : bat t' = bat t := Fin.ext (by show t'.val / 64 = t.val / 64; omega)
    have eq : qrow t' = qrow t := funext fun r => Fin.ext (by show t'.val / 8 % 8 * 512 + r.val = t.val / 8 % 8 * 512 + r.val; omega)
    have en : 512 * (t'.val % 8) + 512 = 512 * (t.val % 8) := by omega
    unfold InvAt at H
    rw [eb, eq, en] at H
    by_cases h2 : t.val / 8 % 8 = t.val % 8
    · have h1 : ¬t.val % 8 + 1 ≤ t.val / 8 % 8 := by omega
      exact inv_step _ _ _ _ (iblk m c 2 t) _ _ _ _ _ _ (512 * (t.val % 8)) (SM_sv m c hq hk hc t h2) (V_at m c t hj)
        (stD_m m c t h0 h1 h2) (stD_l m c t h0 h1 h2) (stD_a m c t h0 h1 h2) H
    · have h1 : t.val % 8 + 1 ≤ t.val / 8 % 8 := by omega
      exact inv_step _ _ _ _ (iblk m c 2 t) _ _ _ _ _ _ (512 * (t.val % 8)) (S_sv m c hq hk hc t h1) (V_at m c t hj)
        (stE_m m c t h0 h1 h2) (stE_l m c t h0 h1 h2) (stE_a m c t h0 h1 h2) H

include hq hk hc in
/-- The reference's result at row `x`, lane `128 p + i`: the quotient of the running sums, whatever the level, once every key the row sees is in. -/
theorem ref_at (b : Fin 8) (x : Fin 4096) (p : Fin 4) (i : Fin 128) (n : ℕ) (hn : 0 < n) (hN : n ≤ 4096) (hx : x.val < n) (M : ℝ) :
    Ideal.div (∑ K ∈ Finset.range n, ((ew (trx m c b (hd p i) x) (· ≤ x.val) M K : ℝ) : EReal) * Wx m c b ⟨128 * p.val + i.val, by have := p.isLt; have := i.isLt; omega⟩ K)
        ((∑ K ∈ Finset.range n, ew (trx m c b (hd p i) x) (· ≤ x.val) M K : ℝ) : EReal)
      = Cert.ReferenceIdeal.Read.val_main_v33 (F := Ideal) (Q0 m c) (K0 m c) (V0 m c) (C0 m c) (ix3 b x ⟨128 * p.val + i.val, by have := p.isLt; have := i.isLt; omega⟩) := by
  have es : ∀ k : Fin 4096, (if k.val ≤ x.val then Cert.ReferenceIdeal.Fox.score (Q0 m c) (K0 m c) (C0 m c) b (hd p i) x k else ⊥)
      = sv (trx m c b (hd p i) x) (· ≤ x.val) k.val := fun k => by
    rw [score_real m c hq hk hc]; rfl
  obtain ⟨M', hM'⟩ := max_real (⊥ : EReal) bot_ne_top (fun k : Fin 4096 => sv (trx m c b (hd p i) x) (· ≤ x.val) k.val)
    (fun k => sv_ne_top _ _ _) (.inr ⟨⟨0, by decide⟩, sv_ne_bot _ _ (Nat.zero_le _)⟩)
  have e21 : Cert.ReferenceIdeal.Read.val_main_v21 (F := Ideal) (Q0 m c) (K0 m c) (C0 m c) (ix3 b (hd p i) x) = (M' : EReal) := by
    rw [Cert.ReferenceIdeal.Fox.v21_at]; simp only [es]; exact hM'
  have e25 : ∀ k : Fin 4096, Cert.ReferenceIdeal.Read.val_main_v25 (F := Ideal) (Q0 m c) (K0 m c) (C0 m c) (ix4 b (hd p i) x k)
      = ((ew (trx m c b (hd p i) x) (· ≤ x.val) M' k.val : ℝ) : EReal) := fun k => by
    rw [Cert.ReferenceIdeal.Fox.v25_at, es, e21, exp_sv]
  have el : (⟨128 * p.val + i.val, by have := p.isLt; have := i.isLt; omega⟩ : Fin 512)
      = Cert.ReferenceIdeal.Fox.lane (hd p i) ⟨i.val % 64, Nat.mod_lt _ (by decide)⟩ :=
    Fin.ext (by show 128 * p.val + i.val = 64 * (2 * p.val + i.val / 64) + i.val % 64; omega)
  refine (final (trx m c b (hd p i) x) (· ≤ x.val) (Wx m c b _) n 4096 hn hN (Nat.zero_le _) (fun K hK h => absurd (show K ≤ x.val from h) (by omega)) M M').trans ?_
  rw [el, Cert.ReferenceIdeal.Fox.v33_at]
  refine Finset.sum_congr rfl fun k _ => ?_
  rw [Cert.ReferenceIdeal.Fox.v29_at]
  simp only [e25]
  rw [mul_comm, ← coe_sum, Finset.sum_range (fun K => ew (trx m c b (hd p i) x) (· ≤ x.val) M' K)]
  have eW : ∀ y : Fin 512, Wx m c b y k.val = V0 m c (ix3 b k y) := fun y => by unfold Wx; rw [dif_pos k.isLt]
  rw [eW]

include hq hk hc in
/-- From the diagonal point on, the result's staging buffer holds the reference's rows. -/
theorem out_at : ∀ (n : ℕ) (t : Fin cfg0.N), t.val % 8 = t.val / 8 % 8 + n → ∀ (r : Fin 512) (p : Fin 4) (i : Fin 128),
    (outsAt0 m c t.val t.isLt).1 (ix3 0 r ⟨128 * (p : ℕ) + i, by omega⟩)
      = Cert.ReferenceIdeal.Read.val_main_v33 (F := Ideal) (Q0 m c) (K0 m c) (V0 m c) (C0 m c) (ix3 (bat t) (qrow t r) ⟨128 * (p : ℕ) + i, by omega⟩) := by
  intro n
  induction n with
  | zero =>
    intro t h r p i
    have h2 : t.val / 8 % 8 = t.val % 8 := by omega
    have h1 : ¬t.val % 8 + 1 ≤ t.val / 8 % 8 := by omega
    have ho : (outsAt0 m c t.val t.isLt).1 (ix3 0 r ⟨128 * (p : ℕ) + i, by omega⟩) = Ox (outsAt0 m c t.val t.isLt).2.2.1 (outsAt0 m c t.val t.isLt).2.2.2 r p i := by
      by_cases h0 : t.val % 8 = 0
      · exact stA_o m c t h0 h1 h2 p r i
      · exact stD_o m c t h0 h1 h2 p r i
    rw [ho]
    obtain ⟨M, H⟩ := inv_at m c hq hk hc _ t rfl (by omega) (hd p i) r
    unfold Ox
    rw [(H i).2.1, (H i).2.2 p rfl]
    have := r.isLt
    exact ref_at m c hq hk hc (bat t) (qrow t r) p i _ (by omega) (by omega) (by show t.val / 8 % 8 * 512 + r.val < _; omega) M
  | succ n ih =>
    intro t h r p i
    have h0 : ¬t.val % 8 = 0 := by omega
    have h1 : ¬t.val % 8 + 1 ≤ t.val / 8 % 8 := by omega
    have h2 : ¬t.val / 8 % 8 = t.val % 8 := by omega
    let t' : Fin cfg0.N := ⟨t.val - 1, Nat.lt_of_le_of_lt (Nat.sub_le _ _) t.isLt⟩
    have ht' : t'.val = t.val - 1 := rfl
    have hlt := tlt t
    have eb : bat t' = bat t := Fin.ext (by show t'.val / 64 = t.val / 64; omega)
    have eq : qrow t' r = qrow t r := Fin.ext (by show t'.val / 8 % 8 * 512 + r.val = t.val / 8 % 8 * 512 + r.val; omega)
    rw [← eb, ← eq]
    exact (congrFun (pr (outsAt0_B m c t h0 h1 h2)).1 _).trans (ih t' (by omega) r p i)

include hq hk hc in
/-- The result ends holding the reference's. -/
theorem final5 : ((dats m 0 c).arrAt 5 cfg0.N : S8x4096x512.Idx → EReal)
    = Cert.ReferenceIdeal.Read.val_main_v33 (F := Ideal) (Q0 m c) (K0 m c) (V0 m c) (C0 m c) := by
  refine (dats m 0 c).arrAt_eq_of_emb 5 _ (fun t hf y => ?_) cover5
  blk_simp
  rw [after0_5]
  have h7 : t.val % 8 = 7 := (flush0_5 t).mp hf
  obtain ⟨r, x, rfl⟩ : ∃ (r : Fin 512) (x : Fin 512), y = ix3 0 r x := by
    obtain ⟨z, r, x, rfl⟩ : ∃ (z : Fin 1) (r : Fin 512) (x : Fin 512), y = ix3 z r x := by idx_vars y; exact ⟨_, _, _, rfl⟩
    exact ⟨r, x, by rw [Subsingleton.elim z 0]⟩
  refine Eq.trans ?_ (congrArg _ (emb5 t r x)).symm
  obtain ⟨p, i, rfl⟩ : ∃ (p : Fin 4) (i : Fin 128), x = (⟨128 * (p : ℕ) + i, by omega⟩ : Fin 512) :=
    ⟨⟨x.val / 128, by have := x.isLt; omega⟩, ⟨x.val % 128, Nat.mod_lt _ (by decide)⟩, Fin.ext (Nat.div_add_mod _ _).symm⟩
  exact out_at m c hq hk hc (7 - t.val / 8 % 8) t (by omega) r p i

end Cert.KernelIdeal.Fox

end
-- ==== Proof.FoxClaim.lean ====
module

public import proofs.«01_k».proof.Defs
public import proofs.«01_k».proof.Proof.FoxK
public import proofs.«01_k».proof.Proof.FoxInv
public import proofs.«01_k».proof.Proof.Gen.Pre_fox_args_finite
public import Idealize.ShloMosaic.Lib.ReduceAll

@[expose] public section

set_option maxRecDepth 16384

noncomputable section

/-! # The forgetting attention call: the claims -/

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post5 m r h c,
      kept_main_arg0 m r h c,
      kept_main_arg1 m r h c,
      kept_main_arg2 m r h c,
      kept_main_arg3 m r h c⟩)
    (run_main m ρ)

end Cert.KernelIdeal.Value

namespace Cert.Proof.Fox

open Idealize.ShloMosaic Idealize.ShloMosaic.TcCoe Idealize.SL.Sem
open Cert.ProjMath

/-- The kernel leaves its arguments and its counters as the claim says. -/
theorem frame_k : Cert.quiescent_Kernel := fun m ρ _ => Cert.Kernel.Fox.frame m ρ
/-- So does its ideal reading, -/
theorem frame_ki : Cert.quiescent_KernelIdeal := fun m ρ _ => Cert.KernelIdeal.Gen.frame m ρ
/-- the same under the claim's precondition, -/
theorem frame_ki_pre [Cert.Pre_fox_args_finite.Facts] : Cert.quiescent_KernelIdeal_pre_fox_args_finite := fun m ρ _ => Cert.KernelIdeal.Gen.frame m ρ
/-- and so does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
/-- the same under the claim's precondition. -/
theorem frame_ri_pre [Cert.Pre_fox_args_finite.Facts] : Cert.quiescent_ReferenceIdeal_pre_fox_args_finite := fun m ρ _ => frame_ri m ρ trivial

/-- The ideal pass rewrote nothing. -/
theorem preserves : Cert.preserves_Kernel_KernelIdeal := trivial

/-- The finiteness test on a half-precision entry. -/
theorem fin_of_test_half {s : Shape} {x y : FVec Ideal s .bf16} {i : s.Idx} (hy : y i = ⊤)
    (h : cmpf .olt (Host.absf x) y i = 1#1) : Fin' (x i) := by
  have h' : BitVec.ofBool (decide (max (x i) (-(x i)) < y i)) = 1#1 := h
  rw [hy] at h'
  refine fin_of_abs ?_
  by_contra hn
  rw [decide_eq_false hn] at h'
  exact absurd h' (by decide)

theorem ofBits_inf_half : Ideal.ofBits .bf16 0x7F80#16 = ⊤ := by
  simp [Ideal.ofBits, Ideal.ieee]

open Cert.KernelIdeal in
/-- The precondition says that the queries, the keys and the decays are real numbers. -/
theorem args_fin [Cert.Pre_fox_args_finite.Facts] (m : (ℓ : Loc nD τ sig) → Buf (Elt Ideal) ℓ) (hp : Cert.Pre_KernelIdeal_fox_args_finite m) (c : Dev nD) :
    (∀ i, Fin' (Cert.KernelIdeal.Fox.Q0 m c i)) ∧ (∀ i, Fin' (Cert.KernelIdeal.Fox.K0 m c i)) ∧ (∀ i, Fin' (Cert.KernelIdeal.Fox.C0 m c i)) := by
  have e := congrFun (hp c) (Shape.Idx.first Cert.Pre_fox_args_finite.Facts.h_S_)
  have hs : Subsingleton Cert.Pre_fox_args_finite.S_.Idx := ⟨fun x y => funext fun q => q.elim0⟩
  simp only [Cert.Pre_fox_args_finite.fn, andi] at e
  obtain ⟨e01, e2⟩ := IntOp.andi_eq_one.1 e
  obtain ⟨e0, e1⟩ := IntOp.andi_eq_one.1 e01
  exact ⟨fun i => fin_of_test_half ofBits_inf_half (Host.reduce_andi_all _ _ _ _ _ e0 i), fun i => fin_of_test ofBits_inf (Host.reduce_andi_all _ _ _ _ _ e1 i),
    fun i => fin_of_test ofBits_inf (Host.reduce_andi_all _ _ _ _ _ e2 i)⟩

/-- Over the extended reals the kernel and the reference end with the same result, where the queries, the keys and
    the decays are finite. -/
theorem algebraic [Cert.Pre_fox_args_finite.Facts] : Cert.algebraic_KernelIdeal_ReferenceIdeal_pre_fox_args_finite := by
  intro m ρ m' ρ' hp hag
  have hf := fun c => args_fin m hp c
  refine ⟨fun c => Cert.ReferenceIdeal.Read.val_main_v33 (F := Ideal) (Cert.KernelIdeal.Fox.Q0 m c) (Cert.KernelIdeal.Fox.K0 m c) (Cert.KernelIdeal.Fox.V0 m c) (Cert.KernelIdeal.Fox.C0 m c), ?_, ?_⟩
  · exact (θ_run Cert.KernelIdeal.defs _ _).mono (fun r h c => ⟨(h c).1.trans (Cert.KernelIdeal.Fox.final5 m c (hf c).1 (hf c).2.1 (hf c).2.2), (h c).2⟩)
      (Cert.KernelIdeal.Value.run_blocks (F := Ideal) m ρ)
  · refine (θ_run Cert.ReferenceIdeal.defs _ _).mono (fun r h c => ?_) (Cert.ReferenceIdeal.Value.run (F := Ideal) m' ρ')
    obtain ⟨h0, h1, h2, h3⟩ := hag c
    beta_reduce
    unfold Cert.KernelIdeal.Fox.Q0 Cert.KernelIdeal.Fox.K0 Cert.KernelIdeal.Fox.V0 Cert.KernelIdeal.Fox.C0
    rw [← h0, ← h1, ← h2, ← h3]
    exact ⟨(h c).1.trans (Cert.ReferenceIdeal.Read.val_main_v33_eq _ _), (h c).2⟩

end Cert.Proof.Fox

end
-- ==== Proof.Proj2a.lean ====
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

/-! # The in-projection of the prompt rows: what each window's block holds -/

namespace Cert.Kernel2Ideal.ProjValue

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block lies at a grid point: the row-blocked windows at block row `t`, the weights whole. -/
theorem idx : ∀ t : Fin cfg0.N,
    win0_0.index t 0 = t.val ∧ win0_0.index t 1 = 0
    ∧ win0_7.index t 0 = t.val ∧ win0_7.index t 1 = 0
    ∧ win0_8.index t 0 = t.val ∧ win0_8.index t 1 = 0
    ∧ win0_9.index t 0 = t.val ∧ win0_9.index t 1 = 0
    ∧ win0_10.index t 0 = t.val ∧ win0_10.index t 1 = 0
    ∧ win0_11.index t 0 = t.val ∧ win0_11.index t 1 = 0
    ∧ win0_12.index t 0 = t.val ∧ win0_12.index t 1 = 0
    ∧ win0_13.index t 0 = t.val ∧ win0_13.index t 1 = 0
    ∧ win0_14.index t 0 = t.val ∧ win0_14.index t 1 = 0
    ∧ win0_15.index t 0 = t.val ∧ win0_15.index t 1 = 0
    ∧ win0_1.index t 0 = 0 ∧ win0_1.index t 1 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0 :=
  (by decide +kernel : ∀ t : Fin grid0.N, _)

/-- The row of the whole array that is row `a` of block `t`. -/
abbrev row (t : Fin cfg0.N) (a : Fin 256) : Fin 32768 :=
  ⟨t.val * 256 + a.val, by have h : t.val < 128 := t.isLt; have := a.isLt; omega⟩

/-- The batch member that row belongs to. -/
abbrev bat (t : Fin cfg0.N) (a : Fin 256) : Fin 8 :=
  ⟨(row t a).val / 4096, by have := (row t a).isLt; omega⟩

/-- The position of that row in its batch member. -/
abbrev pos (t : Fin cfg0.N) (a : Fin 256) : Fin 4096 :=
  ⟨(row t a).val % 4096, Nat.mod_lt _ (by norm_num)⟩

/-- Column `b` of the main weight as a column of the whole in-projection weight: past the queries, keys and
    values of the first attention its eight forget-gate columns are left out. -/
abbrev colMain (b : Fin 5120) : Fin 5128 := ⟨if b.val < 1536 then b.val else b.val + 8, by have := b.isLt; split <;> omega⟩

/-- The lane of column `b` in its head of 64 lanes. -/
abbrev lane (b : Fin 512) : Fin 64 := ⟨b.val % 64, Nat.mod_lt _ (by norm_num)⟩

/-- The integer zero the pads fill with, as a number, is zero. -/
theorem padZero : (FloatOps.sitofp (F := Ideal) FTy.f32 0#32 : EReal) = 0 := by
  show (((0#32 : BitVec 32).toInt : ℝ) : EReal) = 0
  simp

/-- The word the host computes for lane `a`'s head: the floor of `a / 64`. -/
theorem headWord : ∀ a : Fin 512,
    Scalar.select
      (IntOp.andi
        (IntOp.cmpi CmpIPredicate.ne
          (if BitVec.ofNat 32 a.val = 0 then (0 : BitVec 32) else if (BitVec.ofNat 32 a.val).msb = true then -1 else 1)
          (if 64#32 = 0 then (0 : BitVec 32) else if BitVec.msb 64#32 = true then -1 else 1))
        (IntOp.cmpi CmpIPredicate.ne (IntOp.remsi ArithUnit.host (BitVec.ofNat 32 a.val) 64#32) 0#32))
      (IntOp.subi (IntOp.divsi ArithUnit.host (BitVec.ofNat 32 a.val) 64#32) 1#32)
      (IntOp.divsi ArithUnit.host (BitVec.ofNat 32 a.val) 64#32)
    = BitVec.ofNat 32 (a.val / 64) := by decide +kernel

theorem blk0 (c : Dev nD) (t : Fin cfg0.N) (a : Fin 256) (b : Fin 1024) : iblk m c 0 t (ix2 a b) = m ((c : Thread nD τ).loc main_arg0) (ix3 (bat t a) (pos t a) b) := by
  have h : iblk m c 0 t (ix2 a b) = V m c main_v46 (ix2 (row t a) b) := by
    show V m c main_v46 _ = _
    refine congrArg (V m c main_v46) ?_
    blk_ext [idx t]
  rw [h]
  simp only [V, List.flatten, List.append_eq, List.cons_append, List.nil_append, List.append_nil, hostOps0, hostOps0_1,
    hostOps0_2, hostOps0_3, hostOps0_4, hostOps0_5, hostOps0_6, StableHlo.TRef.binary, StableHlo.TRef.unary, StableHlo.TRef.toBuf, StableHlo.TRef.ofBuf, cast_eq]
  after_results_simp
  pointwise

theorem blk1 (c : Dev nD) (t : Fin cfg0.N) (a : Fin 1) (b : Fin 1024) : iblk m c 1 t (ix2 a b) = m ((c : Thread nD τ).loc main_arg1) (ix2 0 b) := by
  have h : iblk m c 1 t (ix2 a b) = V m c main_v48 (ix2 a b) := by
    show V m c main_v48 _ = _
    refine congrArg (V m c main_v48) ?_
    blk_ext [idx t]
  rw [h]
  simp only [V, List.flatten, List.append_eq, List.cons_append, List.nil_append, List.append_nil, hostOps0, hostOps0_1,
    hostOps0_2, hostOps0_3, hostOps0_4, hostOps0_5, hostOps0_6, StableHlo.TRef.binary, StableHlo.TRef.unary, StableHlo.TRef.toBuf, StableHlo.TRef.ofBuf, cast_eq]
  after_results_simp
  pointwise

set_option maxHeartbeats 4000000 in
theorem blk2 (c : Dev nD) (t : Fin cfg0.N) (a : Fin 1024) (b : Fin 5120) : iblk m c 2 t (ix2 a b) = m ((c : Thread nD τ).loc main_arg2) (ix3 0 a (colMain b)) := by
  have h : iblk m c 2 t (ix2 a b) = V m c main_v11 (ix2 a b) := by
    show V m c main_v11 _ = _
    refine congrArg (V m c main_v11) ?_
    blk_ext [idx t]
  rw [h]
  simp only [V, List.flatten, List.append_eq, List.cons_append, List.nil_append, List.append_nil, hostOps0, hostOps0_1,
    hostOps0_2, hostOps0_3, hostOps0_4, hostOps0_5, hostOps0_6, StableHlo.TRef.binary, StableHlo.TRef.unary, StableHlo.TRef.toBuf, StableHlo.TRef.ofBuf, cast_eq]
  after_results_simp
  pointwise
  split_ifs <;> after_results_simp <;> pointwise <;> (refine congrArg (m (c, Proc.tc.devRef main_arg2)) ?_; refine congrArg (ix3 0 a) (Fin.ext ?_); simp only [colMain]; split_ifs <;> omega)

theorem blk3 (c : Dev nD) (t : Fin cfg0.N) (a : Fin 1024) (b : Fin 128) : iblk m c 3 t (ix2 a b) = (if h : b.val < 8 then m ((c : Thread nD τ).loc main_arg2) (ix3 0 a ⟨1536 + b.val, by omega⟩) else (0 : EReal)) := by
  have h : iblk m c 3 t (ix2 a b) = V m c main_v13 (ix2 a b) := by
    show V m c main_v13 _ = _
    refine congrArg (V m c main_v13) ?_
    blk_ext [idx t]
  rw [h]
  simp only [V, List.flatten, List.append_eq, List.cons_append, List.nil_append, List.append_nil, hostOps0, hostOps0_1,
    hostOps0_2, hostOps0_3, hostOps0_4, hostOps0_5, hostOps0_6, StableHlo.TRef.binary, StableHlo.TRef.unary, StableHlo.TRef.toBuf, StableHlo.TRef.ofBuf, cast_eq]
  after_results_simp
  pointwise
  rw [show (FloatOps.sitofp (F := Ideal) FTy.f32 0#32 : EReal) = 0 from padZero]

theorem blk4 (c : Dev nD) (t : Fin cfg0.N) (a : Fin 1) (b : Fin 128) : iblk m c 4 t (ix2 a b) = (if h : b.val < 8 then m ((c : Thread nD τ).loc main_arg3) (ix2 0 ⟨b.val, h⟩) else (0 : EReal)) := by
  have h : iblk m c 4 t (ix2 a b) = V m c main_v16 (ix2 a b) := by
    show V m c main_v16 _ = _
    refine congrArg (V m c main_v16) ?_
    blk_ext [idx t]
  rw [h]
  simp only [V, List.flatten, List.append_eq, List.cons_append, List.nil_append, List.append_nil, hostOps0, hostOps0_1,
    hostOps0_2, hostOps0_3, hostOps0_4, hostOps0_5, hostOps0_6, StableHlo.TRef.binary, StableHlo.TRef.unary, StableHlo.TRef.toBuf, StableHlo.TRef.ofBuf, cast_eq]
  after_results_simp
  pointwise
  rw [show (FloatOps.sitofp (F := Ideal) FTy.f32 0#32 : EReal) = 0 from padZero]

theorem blk5 (c : Dev nD) (t : Fin cfg0.N) (a : Fin 512) (b : Fin 512) : iblk m c 5 t (ix2 a b) = (if a.val / 64 = b.val / 64 then (1 : EReal) else 0) := by
  have h : iblk m c 5 t (ix2 a b) = V m c main_v24 (ix2 a b) := by
    show V m c main_v24 _ = _
    refine congrArg (V m c main_v24) ?_
    blk_ext [idx t]
  rw [h]
  simp only [V, List.flatten, List.append_eq, List.cons_append, List.nil_append, List.append_nil, hostOps0, hostOps0_1,
    hostOps0_2, hostOps0_3, hostOps0_4, hostOps0_5, hostOps0_6, StableHlo.TRef.binary, StableHlo.TRef.unary, StableHlo.TRef.toBuf, StableHlo.TRef.ofBuf, cast_eq]
  after_results_simp
  simp only [StableHlo.TRef.toBuf, StableHlo.TRef.ofBuf, cast_eq, StableHlo.TRef.of, id]
  pointwise
  refine (congrArg (FloatOps.uitofp (F := Ideal) .bf16) (congrArg₂ (IntOp.cmpi .eq) (headWord a) (headWord b))).trans ?_
  have hw : ∀ a b : Fin 8, IntOp.cmpi .eq (BitVec.ofNat 32 a.val) (BitVec.ofNat 32 b.val) = if a.val = b.val then 1#1 else 0#1 := by decide +kernel
  have ha : a.val / 64 < 8 := by have := a.isLt; omega
  have hb : b.val / 64 < 8 := by have := b.isLt; omega
  rw [hw ⟨a.val / 64, ha⟩ ⟨b.val / 64, hb⟩]
  dsimp only
  split_ifs
  · show (((1#1 : BitVec 1).toNat : ℝ) : EReal) = 1
    simp
  · show (((0#1 : BitVec 1).toNat : ℝ) : EReal) = 0
    simp

set_option maxHeartbeats 4000000 in
theorem blk6 (c : Dev nD) (t : Fin cfg0.N) (a : Fin 4) (b : Fin 512) : iblk m c 6 t (ix2 a b) = (if a.val = 0 then m ((c : Thread nD τ).loc main_arg4) (ix2 0 (lane b)) else if a.val = 1 then m ((c : Thread nD τ).loc main_arg5) (ix2 0 (lane b))
      else if a.val = 2 then m ((c : Thread nD τ).loc main_arg6) (ix2 0 (lane b)) else m ((c : Thread nD τ).loc main_arg7) (ix2 0 (lane b))) := by
  have h : iblk m c 6 t (ix2 a b) = V m c main_v45 (ix2 a b) := by
    show V m c main_v45 _ = _
    refine congrArg (V m c main_v45) ?_
    blk_ext [idx t]
  rw [h]
  simp only [V, List.flatten, List.append_eq, List.cons_append, List.nil_append, List.append_nil, hostOps0, hostOps0_1,
    hostOps0_2, hostOps0_3, hostOps0_4, hostOps0_5, hostOps0_6, StableHlo.TRef.binary, StableHlo.TRef.unary, StableHlo.TRef.toBuf, StableHlo.TRef.ofBuf, cast_eq]
  after_results_simp
  pointwise
  split_ifs <;> after_results_simp <;> pointwise <;> skip
  all_goals first
    | exact absurd rfl ‹¬ (_ : ℕ) = _›
    | exact (if_pos (by omega)).symm
    | exact ((if_neg (by omega)).trans (if_pos (by omega))).symm
    | exact ((if_neg (by omega)).trans ((if_neg (by omega)).trans (if_pos (by omega)))).symm
    | exact ((if_neg (by omega)).trans ((if_neg (by omega)).trans (if_neg (by omega)))).symm

end Cert.Kernel2Ideal.ProjValue

end

end
-- ==== Proof.Proj2.lean ====
module

public import proofs.«01_k».proof.Defs
public import proofs.«01_k».proof.Proof.Proj2a
public import proofs.«01_k».proof.Proof.ProjMath
public import Idealize.ShloMosaic.Lib.ReduceAll

@[expose] public section

set_option maxRecDepth 16384

noncomputable section

/-! # The in-projection of the prompt rows: what its nine result arrays end holding -/

namespace Cert.Kernel2Ideal.ProjValue

open Cert.Kernel2Ideal Cert.Kernel2Ideal.Gen Idealize.ShloMosaic Idealize.ShloMosaic.TcCoe Idealize.SL.Sem
open Idealize.ShloMosaic.Pipeline (Dat)
open Cert.Reference2Ideal.Read Cert.ProjMath

variable (m : (ℓ : Loc nD τ sig) → Buf (Elt Ideal) ℓ) (ρ : Dev nD → PrngReg)

/-- The kernel's normed row, which every product of a block reads, is the reference's. -/
theorem xn (c : Dev nD) (t : Fin cfg0.N) (a : Fin 256) (b : Fin 1024) :
    k0_pay15 (iblk m c 0 t) (iblk m c 1 t) (iblk m c 2 t) (iblk m c 3 t) (iblk m c 4 t) (iblk m c 5 t) (iblk m c 6 t) (ix2 a b)
      = val_main_v13 (F := Ideal) (m ((c : Thread nD τ).loc main_arg0)) (m ((c : Thread nD τ).loc main_arg1)) (ix3 (bat t a) (pos t a) b) := by
  pointwise [k0_pay15, val_main_v0, val_main_v1, val_main_v2, val_main_v3, val_main_v4, val_main_v5, val_main_v6, val_main_v7, val_main_v8, val_main_v9, val_main_v10, val_main_v11, val_main_v12, val_main_v13, val_main_cst, val_main_cst_0, val_main_cst_1, k0_pay2]
  try simp only [blk0, blk1]

/-- The same row as the first output's products read it. -/
theorem xn' (c : Dev nD) (t : Fin cfg0.N) (a : Fin 256) (b : Fin 1024) :
    k0_pay2 (iblk m c 0 t) (iblk m c 1 t) (ix2 a b)
      = val_main_v13 (F := Ideal) (m ((c : Thread nD τ).loc main_arg0)) (m ((c : Thread nD τ).loc main_arg1)) (ix3 (bat t a) (pos t a) b) := by
  pointwise [k0_pay2, val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  try simp only [blk0, blk1]

/-- The reference's projection at an index, as the sum it is. -/
theorem pv (c : Dev nD) (t : Fin cfg0.N) (a : Fin 256) (b : Fin 5128) :
    val_main_v15 (F := Ideal) (m ((c : Thread nD τ).loc main_arg0)) (m ((c : Thread nD τ).loc main_arg1)) (m ((c : Thread nD τ).loc main_arg2)) (ix3 (bat t a) (pos t a) b)
      = ∑ k : Fin 1024, val_main_v13 (F := Ideal) (m ((c : Thread nD τ).loc main_arg0)) (m ((c : Thread nD τ).loc main_arg1)) (ix3 (bat t a) (pos t a) k)
        * (m ((c : Thread nD τ).loc main_arg2)) (ix3 0 k b) := by
  pointwise [val_main_v15, val_main_v14]

/-- A main-weight column before the forget gates keeps its number, -/
theorem colLo (b : ℕ) (h : b < 5120) (hb : b < 1536) : colMain ⟨b, h⟩ = ⟨b, by omega⟩ := Fin.ext (if_pos hb)
/-- and one past them is eight further in the whole weight. -/
theorem colHi (b : ℕ) (h : b < 5120) (hb : ¬ b < 1536) : colMain ⟨b, h⟩ = ⟨b + 8, by omega⟩ := Fin.ext (if_neg hb)

/-- The precondition, read: the rows, the norm's gains and the weight hold real numbers. -/
theorem args_fin [Cert.Pre_prompt_args_finite.Facts] (hp : Cert.Pre_Kernel2Ideal_prompt_args_finite m) (c : Dev nD) :
    (∀ i, Fin' ((m ((c : Thread nD τ).loc main_arg0)) i)) ∧ (∀ i, Fin' ((m ((c : Thread nD τ).loc main_arg1)) i)) ∧ (∀ i, Fin' ((m ((c : Thread nD τ).loc main_arg2)) i)) := by
  have e := congrFun (hp c) (Shape.Idx.first Cert.Pre_prompt_args_finite.Facts.h_S_)
  have hs : Subsingleton Cert.Pre_prompt_args_finite.S_.Idx := ⟨fun x y => funext fun q => q.elim0⟩
  simp only [Cert.Pre_prompt_args_finite.fn, andi] at e
  obtain ⟨e01, e2⟩ := IntOp.andi_eq_one.1 e
  obtain ⟨e0, e1⟩ := IntOp.andi_eq_one.1 e01
  exact ⟨fun i => fin_of_test ofBits_inf (Host.reduce_andi_all _ _ _ _ _ e0 i), fun i => fin_of_test ofBits_inf (Host.reduce_andi_all _ _ _ _ _ e1 i),
    fun i => fin_of_test ofBits_inf (Host.reduce_andi_all _ _ _ _ _ e2 i)⟩

/-- Then every element of the projection is a real number. -/
theorem p_fin (c : Dev nD) (h0 : ∀ i, Fin' ((m ((c : Thread nD τ).loc main_arg0)) i)) (h1 : ∀ i, Fin' ((m ((c : Thread nD τ).loc main_arg1)) i)) (h2 : ∀ i, Fin' ((m ((c : Thread nD τ).loc main_arg2)) i))
    (t : Fin cfg0.N) (a : Fin 256) (b : Fin 5128) :
    Fin' (val_main_v15 (F := Ideal) (m ((c : Thread nD τ).loc main_arg0)) (m ((c : Thread nD τ).loc main_arg1)) (m ((c : Thread nD τ).loc main_arg2)) (ix3 (bat t a) (pos t a) b)) := by
  rw [pv]
  refine fin_sum _ fun k => fin_mul ?_ (h2 _)
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  exact fin_mul (fin_mul (h0 _) (fin_rsqrt _ fun i => h0 _)) (h1 _)

theorem emb7 (t : Fin cfg0.N) (a : Fin 256) (b : Fin 512) :
    (win0_7.blk t).view.emb (ix2 a b) = ix2 (row t a) b := by blk_ext [idx t]

/-- What a grid point leaves of result 0, in the reference. -/
theorem out7 (c : Dev nD) (h0 : ∀ i, Fin' ((m ((c : Thread nD τ).loc main_arg0)) i)) (h1 : ∀ i, Fin' ((m ((c : Thread nD τ).loc main_arg1)) i)) (h2 : ∀ i, Fin' ((m ((c : Thread nD τ).loc main_arg2)) i)) (t : Fin cfg0.N) (a : Fin 256) (b : Fin 512) :
    out0_7 (iblk m c 0 t) (iblk m c 1 t) (iblk m c 2 t) (iblk m c 3 t) (iblk m c 4 t) (iblk m c 5 t) (iblk m c 6 t) (ix2 a b)
      = val_main_v94 (F := Ideal) (m ((c : Thread nD τ).loc main_arg0)) (m ((c : Thread nD τ).loc main_arg1)) (m ((c : Thread nD τ).loc main_arg2)) (m ((c : Thread nD τ).loc main_arg4)) (ix2 (row t a) b) := by
  frame_out
  pointwise [k0_pay5, k0_pay4, k0_pay3, val_main_v16, val_main_v25, val_main_v26, val_main_v27, val_main_v28, val_main_v29, val_main_v30, val_main_v31, val_main_v32, val_main_v33, val_main_v34, val_main_v35, val_main_v36, val_main_v37, val_main_v38, val_main_v39, val_main_v91, val_main_v92, val_main_v93, val_main_v94, val_main_cst_2, val_main_cst_3, val_main_cst_4, val_main_cst_14]
  have hc : ∀ (n : ℕ) (hn : n < 512) (h : n < 5120), colMain ⟨n, h⟩ = ⟨n, by omega⟩ :=
    fun n hn h => Fin.ext (by simp only [colMain]; split_ifs <;> omega)
  simp only [blk2, blk5, blk6, xn']
  simp (disch := omega) only [hc]
  have hm := head_mean (fun l : Fin 512 => val_main_v15 (F := Ideal) (m ((c : Thread nD τ).loc main_arg0)) (m ((c : Thread nD τ).loc main_arg1)) (m ((c : Thread nD τ).loc main_arg2)) (ix3 (bat t a) (pos t a) ⟨l.val, by have := l.isLt; omega⟩))
    (fun l => p_fin m c h0 h1 h2 t a _) b
  show _ = val_main_v15 (F := Ideal) (m ((c : Thread nD τ).loc main_arg0)) (m ((c : Thread nD τ).loc main_arg1)) (m ((c : Thread nD τ).loc main_arg2)) (ix3 (bat t a) (pos t a) ⟨b.val, by have := b.isLt; omega⟩)
    * Ideal.rsqrt (Ideal.div (∑ x : Fin 64, val_main_v15 (F := Ideal) (m ((c : Thread nD τ).loc main_arg0)) (m ((c : Thread nD τ).loc main_arg1)) (m ((c : Thread nD τ).loc main_arg2)) (ix3 (bat t a) (pos t a) ⟨(b.val / 64 * 64 + x.val), by have := b.isLt; have := x.isLt; omega⟩)
        * val_main_v15 (F := Ideal) (m ((c : Thread nD τ).loc main_arg0)) (m ((c : Thread nD τ).loc main_arg1)) (m ((c : Thread nD τ).loc main_arg2)) (ix3 (bat t a) (pos t a) ⟨(b.val / 64 * 64 + x.val), by have := b.isLt; have := x.isLt; omega⟩))
      (Ideal.ofBits .f32 0x42800000#32) + Ideal.ofBits .f32 0x358637BD#32) * (m ((c : Thread nD τ).loc main_arg4)) (ix2 0 (lane b)) * Ideal.ofBits .f32 0x3E000000#32
  simp only [pv] at hm ⊢
  exact congrArg (fun z : EReal => _ * Ideal.rsqrt (z + _) * _ * _) hm

/-- Result 0 ends holding the reference's. -/
theorem final7 (c : Dev nD) (h0 : ∀ i, Fin' ((m ((c : Thread nD τ).loc main_arg0)) i)) (h1 : ∀ i, Fin' ((m ((c : Thread nD τ).loc main_arg1)) i)) (h2 : ∀ i, Fin' ((m ((c : Thread nD τ).loc main_arg2)) i)) : (dats m 0 c).arrAt 7 cfg0.N
    = val_main_v94 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  rw [after0_7]
  idx_vars y
  erw [emb7]
  exact out7 m c h0 h1 h2 t y0 y1

theorem emb8 (t : Fin cfg0.N) (a : Fin 256) (b : Fin 512) :
    (win0_8.blk t).view.emb (ix2 a b) = ix2 (row t a) b := by blk_ext [idx t]

/-- What a grid point leaves of result 1, in the reference. -/
theorem out8 (c : Dev nD) (h0 : ∀ i, Fin' ((m ((c : Thread nD τ).loc main_arg0)) i)) (h1 : ∀ i, Fin' ((m ((c : Thread nD τ).loc main_arg1)) i)) (h2 : ∀ i, Fin' ((m ((c : Thread nD τ).loc main_arg2)) i)) (t : Fin cfg0.N) (a : Fin 256) (b : Fin 512) :
    out0_8 (iblk m c 0 t) (iblk m c 1 t) (iblk m c 2 t) (iblk m c 3 t) (iblk m c 4 t) (iblk m c 5 t) (iblk m c 6 t) (ix2 a b)
      = val_main_v95 (F := Ideal) (m ((c : Thread nD τ).loc main_arg0)) (m ((c : Thread nD τ).loc main_arg1)) (m ((c : Thread nD τ).loc main_arg2)) (m ((c : Thread nD τ).loc main_arg5)) (ix2 (row t a) b) := by
  frame_out
  pointwise [k0_pay6, k0_pay16, k0_pay3, val_main_v17, val_main_v40, val_main_v41, val_main_v42, val_main_v43, val_main_v44, val_main_v45, val_main_v46, val_main_v47, val_main_v48, val_main_v49, val_main_v50, val_main_v51, val_main_v52, val_main_v53, val_main_v54, val_main_v95, val_main_cst_5, val_main_cst_6, val_main_cst_7]
  have hc : ∀ (n : ℕ) (hn : n < 512) (h : 512 + n < 5120), colMain ⟨512 + n, h⟩ = ⟨512 + n, by omega⟩ :=
    fun n hn h => Fin.ext (by simp only [colMain]; split_ifs <;> omega)
  simp only [blk2, blk5, blk6, xn]
  simp (disch := omega) only [hc]
  have hm := head_mean (fun l : Fin 512 => val_main_v15 (F := Ideal) (m ((c : Thread nD τ).loc main_arg0)) (m ((c : Thread nD τ).loc main_arg1)) (m ((c : Thread nD τ).loc main_arg2)) (ix3 (bat t a) (pos t a) ⟨512 + l.val, by have := l.isLt; omega⟩))
    (fun l => p_fin m c h0 h1 h2 t a _) b
  show _ = val_main_v15 (F := Ideal) (m ((c : Thread nD τ).loc main_arg0)) (m ((c : Thread nD τ).loc main_arg1)) (m ((c : Thread nD τ).loc main_arg2)) (ix3 (bat t a) (pos t a) ⟨512 + b.val, by have := b.isLt; omega⟩)
    * Ideal.rsqrt (Ideal.div (∑ x : Fin 64, val_main_v15 (F := Ideal) (m ((c : Thread nD τ).loc main_arg0)) (m ((c : Thread nD τ).loc main_arg1)) (m ((c : Thread nD τ).loc main_arg2)) (ix3 (bat t a) (pos t a) ⟨512 + (b.val / 64 * 64 + x.val), by have := b.isLt; have := x.isLt; omega⟩)
        * val_main_v15 (F := Ideal) (m ((c : Thread nD τ).loc main_arg0)) (m ((c : Thread nD τ).loc main_arg1)) (m ((c : Thread nD τ).loc main_arg2)) (ix3 (bat t a) (pos t a) ⟨512 + (b.val / 64 * 64 + x.val), by have := b.isLt; have := x.isLt; omega⟩))
      (Ideal.ofBits .f32 0x42800000#32) + Ideal.ofBits .f32 0x358637BD#32) * (m ((c : Thread nD τ).loc main_arg5)) (ix2 0 (lane b))
  simp only [pv] at hm ⊢
  exact congrArg (fun z : EReal => _ * Ideal.rsqrt (z + _) * _) hm

/-- Result 1 ends holding the reference's. -/
theorem final8 (c : Dev nD) (h0 : ∀ i, Fin' ((m ((c : Thread nD τ).loc main_arg0)) i)) (h1 : ∀ i, Fin' ((m ((c : Thread nD τ).loc main_arg1)) i)) (h2 : ∀ i, Fin' ((m ((c : Thread nD τ).loc main_arg2)) i)) : (dats m 0 c).arrAt 8 cfg0.N
    = val_main_v95 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 8 _ (by decide +kernel) fun t hf y => ?_
  blk_simp
  rw [after0_8]
  idx_vars y
  erw [emb8]
  exact out8 m c h0 h1 h2 t y0 y1

theorem emb9 (t : Fin cfg0.N) (a : Fin 256) (b : Fin 512) :
    (win0_9.blk t).view.emb (ix2 a b) = ix2 (row t a) b := by blk_ext [idx t]

/-- What a grid point leaves of result 2, in the reference. -/
theorem out9 (c : Dev nD) (t : Fin cfg0.N) (a : Fin 256) (b : Fin 512) :
    out0_9 (iblk m c 0 t) (iblk m c 1 t) (iblk m c 2 t) (iblk m c 3 t) (iblk m c 4 t) (iblk m c 5 t) (iblk m c 6 t) (ix2 a b)
      = val_main_v96 (F := Ideal) (m ((c : Thread nD τ).loc main_arg0)) (m ((c : Thread nD τ).loc main_arg1)) (m ((c : Thread nD τ).loc main_arg2)) (ix2 (row t a) b) := by
  frame_out
  pointwise [k0_pay7, val_main_v18, val_main_v96]
  have hc : ∀ (n : ℕ) (hn : n < 512) (h : 1024 + n < 5120), colMain ⟨1024 + n, h⟩ = ⟨1024 + n, by omega⟩ :=
    fun n hn h => Fin.ext (by simp only [colMain]; split_ifs <;> omega)
  simp only [blk2, xn]
  simp (disch := omega) only [hc]
  exact (pv m c t a _).symm

/-- Result 2 ends holding the reference's. -/
theorem final9 (c : Dev nD) : (dats m 0 c).arrAt 9 cfg0.N
    = val_main_v96 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  idx_vars y
  erw [emb9]
  exact out9 m c t y0 y1

theorem emb10 (t : Fin cfg0.N) (a : Fin 256) (b : Fin 128) :
    (win0_10.blk t).view.emb (ix2 a b) = ix2 (row t a) b := by blk_ext [idx t]

/-- What a grid point leaves of result 3, in the reference. -/
theorem out10 (c : Dev nD) (t : Fin cfg0.N) (a : Fin 256) (b : Fin 128) :
    out0_10 (iblk m c 0 t) (iblk m c 1 t) (iblk m c 2 t) (iblk m c 3 t) (iblk m c 4 t) (iblk m c 5 t) (iblk m c 6 t) (ix2 a b)
      = val_main_v97 (F := Ideal) (m ((c : Thread nD τ).loc main_arg0)) (m ((c : Thread nD τ).loc main_arg1)) (m ((c : Thread nD τ).loc main_arg2)) (m ((c : Thread nD τ).loc main_arg3)) (ix2 (row t a) b) := by
  frame_out
  pointwise [k0_pay1, k0_pay14, val_main_v19, val_main_v55, val_main_v56, val_main_v57, val_main_v58, val_main_v59, val_main_v60, val_main_v97, val_main_c, val_main_call0_v0, val_main_call1_v0, val_main_call1_call0_cst, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_v1]
  simp only [blk3, blk4, xn, ne_eq, not_true_eq_false, if_false]
  by_cases h : b.val < 8
  · have hb := And.intro (bat t a).isLt (And.intro (pos t a).isLt h)
    simp only [bat, pos, row] at hb
    simp only [dif_pos h, dif_pos hb]
    exact (congrArg (fun z : EReal => 0 - (max (0 - z) 0 + Ideal.log1p (Ideal.exp (0 - FloatOps.absf (F := Ideal) (φ := .f32) z))))
      (congrArg (· + (m ((c : Thread nD τ).loc main_arg3)) (ix2 0 ⟨b.val, h⟩)) (pv m c t a ⟨1536 + b.val, by omega⟩).symm)).trans (logsig _)
  · simp only [h, and_false, ↓reduceDIte, mul_zero, Finset.sum_const_zero, add_zero, padZero]
    exact logsig 0

/-- Result 3 ends holding the reference's. -/
theorem final10 (c : Dev nD) : (dats m 0 c).arrAt 10 cfg0.N
    = val_main_v97 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  rw [after0_10]
  idx_vars y
  erw [emb10]
  exact out10 m c t y0 y1

theorem emb11 (t : Fin cfg0.N) (a : Fin 256) (b : Fin 512) :
    (win0_11.blk t).view.emb (ix2 a b) = ix2 (row t a) b := by blk_ext [idx t]

/-- What a grid point leaves of result 4, in the reference. -/
theorem out11 (c : Dev nD) (h0 : ∀ i, Fin' ((m ((c : Thread nD τ).loc main_arg0)) i)) (h1 : ∀ i, Fin' ((m ((c : Thread nD τ).loc main_arg1)) i)) (h2 : ∀ i, Fin' ((m ((c : Thread nD τ).loc main_arg2)) i)) (t : Fin cfg0.N) (a : Fin 256) (b : Fin 512) :
    out0_11 (iblk m c 0 t) (iblk m c 1 t) (iblk m c 2 t) (iblk m c 3 t) (iblk m c 4 t) (iblk m c 5 t) (iblk m c 6 t) (ix2 a b)
      = val_main_v101 (F := Ideal) (m ((c : Thread nD τ).loc main_arg0)) (m ((c : Thread nD τ).loc main_arg1)) (m ((c : Thread nD τ).loc main_arg2)) (m ((c : Thread nD τ).loc main_arg6)) (ix2 (row t a) b) := by
  frame_out
  pointwise [k0_pay9, k0_pay8, k0_pay16, k0_pay3, val_main_v20, val_main_v61, val_main_v62, val_main_v63, val_main_v64, val_main_v65, val_main_v66, val_main_v67, val_main_v68, val_main_v69, val_main_v70, val_main_v71, val_main_v72, val_main_v73, val_main_v74, val_main_v75, val_main_v98, val_main_v99, val_main_v100, val_main_v101, val_main_cst_8, val_main_cst_9, val_main_cst_10, val_main_cst_15]
  have hc : ∀ (n : ℕ) (hn : n < 512) (h : 1536 + n < 5120), colMain ⟨1536 + n, h⟩ = ⟨1544 + n, by omega⟩ :=
    fun n hn h => Fin.ext (by simp only [colMain]; split_ifs <;> omega)
  simp only [blk2, blk5, blk6, xn]
  simp (disch := omega) only [hc]
  have hm := head_mean (fun l : Fin 512 => val_main_v15 (F := Ideal) (m ((c : Thread nD τ).loc main_arg0)) (m ((c : Thread nD τ).loc main_arg1)) (m ((c : Thread nD τ).loc main_arg2)) (ix3 (bat t a) (pos t a) ⟨1544 + l.val, by have := l.isLt; omega⟩))
    (fun l => p_fin m c h0 h1 h2 t a _) b
  show _ = val_main_v15 (F := Ideal) (m ((c : Thread nD τ).loc main_arg0)) (m ((c : Thread nD τ).loc main_arg1)) (m ((c : Thread nD τ).loc main_arg2)) (ix3 (bat t a) (pos t a) ⟨1544 + b.val, by have := b.isLt; omega⟩)
    * Ideal.rsqrt (Ideal.div (∑ x : Fin 64, val_main_v15 (F := Ideal) (m ((c : Thread nD τ).loc main_arg0)) (m ((c : Thread nD τ).loc main_arg1)) (m ((c : Thread nD τ).loc main_arg2)) (ix3 (bat t a) (pos t a) ⟨1544 + (b.val / 128 * 128 + b.val / 64 % 2 * 64 + x.val), by have := b.isLt; have := x.isLt; omega⟩)
        * val_main_v15 (F := Ideal) (m ((c : Thread nD τ).loc main_arg0)) (m ((c : Thread nD τ).loc main_arg1)) (m ((c : Thread nD τ).loc main_arg2)) (ix3 (bat t a) (pos t a) ⟨1544 + (b.val / 128 * 128 + b.val / 64 % 2 * 64 + x.val), by have := b.isLt; have := x.isLt; omega⟩))
      (Ideal.ofBits .f32 0x42800000#32) + Ideal.ofBits .f32 0x358637BD#32) * (m ((c : Thread nD τ).loc main_arg6)) (ix2 0 (lane b)) * Ideal.ofBits .f32 0x3E000000#32
  have hd : ∀ x : Fin 64, (⟨1544 + (b.val / 128 * 128 + b.val / 64 % 2 * 64 + x.val), by have := b.isLt; have := x.isLt; omega⟩ : Fin 5128) = ⟨1544 + (b.val / 64 * 64 + x.val), by have := b.isLt; have := x.isLt; omega⟩ :=
    fun x => Fin.ext (by show 1544 + (b.val / 128 * 128 + b.val / 64 % 2 * 64 + x.val) = 1544 + (b.val / 64 * 64 + x.val); omega)
  simp only [hd]
  simp only [pv] at hm ⊢
  exact congrArg (fun z : EReal => _ * Ideal.rsqrt (z + _) * _ * _) hm

/-- Result 4 ends holding the reference's. -/
theorem final11 (c : Dev nD) (h0 : ∀ i, Fin' ((m ((c : Thread nD τ).loc main_arg0)) i)) (h1 : ∀ i, Fin' ((m ((c : Thread nD τ).loc main_arg1)) i)) (h2 : ∀ i, Fin' ((m ((c : Thread nD τ).loc main_arg2)) i)) : (dats m 0 c).arrAt 11 cfg0.N
    = val_main_v101 (F := Ideal) (m ((c : Thread nD τ).loc main_arg0)) (m ((c : Thread nD τ).loc main_arg1)) (m ((c : Thread nD τ).loc main_arg2)) (m ((c : Thread nD τ).loc main_arg6)) := by
  refine (dats m 0 c).arrAt_eq_of_covers 11 _ (by decide +kernel) fun t hf y => ?_
  blk_simp
  rw [after0_11]
  idx_vars y
  erw [emb11]
  exact out11 m c h0 h1 h2 t y0 y1

theorem emb12 (t : Fin cfg0.N) (a : Fin 256) (b : Fin 512) :
    (win0_12.blk t).view.emb (ix2 a b) = ix2 (row t a) b := by blk_ext [idx t]

/-- What a grid point leaves of result 5, in the reference. -/
theorem out12 (c : Dev nD) (h0 : ∀ i, Fin' ((m ((c : Thread nD τ).loc main_arg0)) i)) (h1 : ∀ i, Fin' ((m ((c : Thread nD τ).loc main_arg1)) i)) (h2 : ∀ i, Fin' ((m ((c : Thread nD τ).loc main_arg2)) i)) (t : Fin cfg0.N) (a : Fin 256) (b : Fin 512) :
    out0_12 (iblk m c 0 t) (iblk m c 1 t) (iblk m c 2 t) (iblk m c 3 t) (iblk m c 4 t) (iblk m c 5 t) (iblk m c 6 t) (ix2 a b)
      = val_main_v102 (F := Ideal) (m ((c : Thread nD τ).loc main_arg0)) (m ((c : Thread nD τ).loc main_arg1)) (m ((c : Thread nD τ).loc main_arg2)) (m ((c : Thread nD τ).loc main_arg7)) (ix2 (row t a) b) := by
  frame_out
  pointwise [k0_pay10, k0_pay16, k0_pay3, val_main_v21, val_main_v76, val_main_v77, val_main_v78, val_main_v79, val_main_v80, val_main_v81, val_main_v82, val_main_v83, val_main_v84, val_main_v85, val_main_v86, val_main_v87, val_main_v88, val_main_v89, val_main_v90, val_main_v102, val_main_cst_11, val_main_cst_12, val_main_cst_13]
  have hc : ∀ (n : ℕ) (hn : n < 512) (h : 2048 + n < 5120), colMain ⟨2048 + n, h⟩ = ⟨2056 + n, by omega⟩ :=
    fun n hn h => Fin.ext (by simp only [colMain]; split_ifs <;> omega)
  simp only [blk2, blk5, blk6, xn]
  simp (disch := omega) only [hc]
  have hm := head_mean (fun l : Fin 512 => val_main_v15 (F := Ideal) (m ((c : Thread nD τ).loc main_arg0)) (m ((c : Thread nD τ).loc main_arg1)) (m ((c : Thread nD τ).loc main_arg2)) (ix3 (bat t a) (pos t a) ⟨2056 + l.val, by have := l.isLt; omega⟩))
    (fun l => p_fin m c h0 h1 h2 t a _) b
  show _ = val_main_v15 (F := Ideal) (m ((c : Thread nD τ).loc main_arg0)) (m ((c : Thread nD τ).loc main_arg1)) (m ((c : Thread nD τ).loc main_arg2)) (ix3 (bat t a) (pos t a) ⟨2056 + b.val, by have := b.isLt; omega⟩)
    * Ideal.rsqrt (Ideal.div (∑ x : Fin 64, val_main_v15 (F := Ideal) (m ((c : Thread nD τ).loc main_arg0)) (m ((c : Thread nD τ).loc main_arg1)) (m ((c : Thread nD τ).loc main_arg2)) (ix3 (bat t a) (pos t a) ⟨2056 + (b.val / 128 * 128 + b.val / 64 % 2 * 64 + x.val), by have := b.isLt; have := x.isLt; omega⟩)
        * val_main_v15 (F := Ideal) (m ((c : Thread nD τ).loc main_arg0)) (m ((c : Thread nD τ).loc main_arg1)) (m ((c : Thread nD τ).loc main_arg2)) (ix3 (bat t a) (pos t a) ⟨2056 + (b.val / 128 * 128 + b.val / 64 % 2 * 64 + x.val), by have := b.isLt; have := x.isLt; omega⟩))
      (Ideal.ofBits .f32 0x42800000#32) + Ideal.ofBits .f32 0x358637BD#32) * (m ((c : Thread nD τ).loc main_arg7)) (ix2 0 (lane b))
  have hd : ∀ x : Fin 64, (⟨2056 + (b.val / 128 * 128 + b.val / 64 % 2 * 64 + x.val), by have := b.isLt; have := x.isLt; omega⟩ : Fin 5128) = ⟨2056 + (b.val / 64 * 64 + x.val), by have := b.isLt; have := x.isLt; omega⟩ :=
    fun x => Fin.ext (by show 2056 + (b.val / 128 * 128 + b.val / 64 % 2 * 64 + x.val) = 2056 + (b.val / 64 * 64 + x.val); omega)
  simp only [hd]
  simp only [pv] at hm ⊢
  exact congrArg (fun z : EReal => _ * Ideal.rsqrt (z + _) * _) hm

/-- Result 5 ends holding the reference's. -/
theorem final12 (c : Dev nD) (h0 : ∀ i, Fin' ((m ((c : Thread nD τ).loc main_arg0)) i)) (h1 : ∀ i, Fin' ((m ((c : Thread nD τ).loc main_arg1)) i)) (h2 : ∀ i, Fin' ((m ((c : Thread nD τ).loc main_arg2)) i)) : (dats m 0 c).arrAt 12 cfg0.N
    = val_main_v102 (F := Ideal) (m ((c : Thread nD τ).loc main_arg0)) (m ((c : Thread nD τ).loc main_arg1)) (m ((c : Thread nD τ).loc main_arg2)) (m ((c : Thread nD τ).loc main_arg7)) := by
  refine (dats m 0 c).arrAt_eq_of_covers 12 _ (by decide +kernel) fun t hf y => ?_
  blk_simp
  rw [after0_12]
  idx_vars y
  erw [emb12]
  exact out12 m c h0 h1 h2 t y0 y1

theorem emb13 (t : Fin cfg0.N) (a : Fin 256) (b : Fin 512) :
    (win0_13.blk t).view.emb (ix2 a b) = ix2 (row t a) b := by blk_ext [idx t]

/-- What a grid point leaves of result 6, in the reference. -/
theorem out13 (c : Dev nD) (t : Fin cfg0.N) (a : Fin 256) (b : Fin 512) :
    out0_13 (iblk m c 0 t) (iblk m c 1 t) (iblk m c 2 t) (iblk m c 3 t) (iblk m c 4 t) (iblk m c 5 t) (iblk m c 6 t) (ix2 a b)
      = val_main_v103 (F := Ideal) (m ((c : Thread nD τ).loc main_arg0)) (m ((c : Thread nD τ).loc main_arg1)) (m ((c : Thread nD τ).loc main_arg2)) (ix2 (row t a) b) := by
  frame_out
  pointwise [k0_pay11, val_main_v22, val_main_v103]
  have hc : ∀ (n : ℕ) (hn : n < 512) (h : 2560 + n < 5120), colMain ⟨2560 + n, h⟩ = ⟨2568 + n, by omega⟩ :=
    fun n hn h => Fin.ext (by simp only [colMain]; split_ifs <;> omega)
  simp only [blk2, xn]
  simp (disch := omega) only [hc]
  exact (pv m c t a _).symm

/-- Result 6 ends holding the reference's. -/
theorem final13 (c : Dev nD) : (dats m 0 c).arrAt 13 cfg0.N
    = val_main_v103 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  idx_vars y
  erw [emb13]
  exact out13 m c t y0 y1

theorem emb14 (t : Fin cfg0.N) (a : Fin 256) (b : Fin 1024) :
    (win0_14.blk t).view.emb (ix2 a b) = ix2 (row t a) b := by blk_ext [idx t]

/-- What a grid point leaves of result 7, in the reference. -/
theorem out14 (c : Dev nD) (t : Fin cfg0.N) (a : Fin 256) (b : Fin 1024) :
    out0_14 (iblk m c 0 t) (iblk m c 1 t) (iblk m c 2 t) (iblk m c 3 t) (iblk m c 4 t) (iblk m c 5 t) (iblk m c 6 t) (ix2 a b)
      = val_main_v110 (F := Ideal) (m ((c : Thread nD τ).loc main_arg0)) (m ((c : Thread nD τ).loc main_arg1)) (m ((c : Thread nD τ).loc main_arg2)) (ix2 (row t a) b) := by
  frame_out
  pointwise [k0_pay12, val_main_v23, val_main_v104, val_main_v105, val_main_v106, val_main_v107, val_main_v108, val_main_v109, val_main_v110, val_main_cst_16, val_main_cst_17]
  have hc : ∀ (n : ℕ) (hn : n < 1024) (h : 3072 + n < 5120), colMain ⟨3072 + n, h⟩ = ⟨3080 + n, by omega⟩ :=
    fun n hn h => Fin.ext (by simp only [colMain]; split_ifs <;> omega)
  simp only [blk2, xn]
  simp (disch := omega) only [hc]
  exact congrArg (fun z : EReal => Ideal.div 1 (1 + Ideal.exp (-z))) (pv m c t a _).symm

/-- Result 7 ends holding the reference's. -/
theorem final14 (c : Dev nD) : (dats m 0 c).arrAt 14 cfg0.N
    = val_main_v110 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp
  rw [after0_14]
  idx_vars y
  erw [emb14]
  exact out14 m c t y0 y1

theorem emb15 (t : Fin cfg0.N) (a : Fin 256) (b : Fin 1024) :
    (win0_15.blk t).view.emb (ix2 a b) = ix2 (row t a) b := by blk_ext [idx t]

/-- What a grid point leaves of result 8, in the reference. -/
theorem out15 (c : Dev nD) (t : Fin cfg0.N) (a : Fin 256) (b : Fin 1024) :
    out0_15 (iblk m c 0 t) (iblk m c 1 t) (iblk m c 2 t) (iblk m c 3 t) (iblk m c 4 t) (iblk m c 5 t) (iblk m c 6 t) (ix2 a b)
      = val_main_v117 (F := Ideal) (m ((c : Thread nD τ).loc main_arg0)) (m ((c : Thread nD τ).loc main_arg1)) (m ((c : Thread nD τ).loc main_arg2)) (ix2 (row t a) b) := by
  frame_out
  pointwise [k0_pay13, val_main_v24, val_main_v111, val_main_v112, val_main_v113, val_main_v114, val_main_v115, val_main_v116, val_main_v117, val_main_cst_18, val_main_cst_19]
  have hc : ∀ (n : ℕ) (hn : n < 1024) (h : 4096 + n < 5120), colMain ⟨4096 + n, h⟩ = ⟨4104 + n, by omega⟩ :=
    fun n hn h => Fin.ext (by simp only [colMain]; split_ifs <;> omega)
  simp only [blk2, xn]
  simp (disch := omega) only [hc]
  exact congrArg (fun z : EReal => Ideal.div 1 (1 + Ideal.exp (-z))) (pv m c t a _).symm

/-- Result 8 ends holding the reference's. -/
theorem final15 (c : Dev nD) : (dats m 0 c).arrAt 15 cfg0.N
    = val_main_v117 (F := Ideal) (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  rw [after0_15]
  idx_vars y
  erw [emb15]
  exact out15 m c t y0 y1

end Cert.Kernel2Ideal.ProjValue

end
-- ==== Proof.ProjClaim2.lean ====
module

public import proofs.«01_k».proof.Defs
public import proofs.«01_k».proof.Proof.Proj2
public import proofs.«01_k».proof.Proof.Gen.Kernel2.Frame

@[expose] public section

set_option maxRecDepth 16384

noncomputable section

/-! # The in-projection of the prompt rows: the claims -/

namespace Cert.Proof.Proj2

open Idealize.ShloMosaic Idealize.ShloMosaic.TcCoe Idealize.SL.Sem

/-- The kernel leaves its arguments and its counters as the claim says. -/
theorem frame_k : Cert.quiescent_Kernel2 := fun m ρ _ => Cert.Kernel2.Gen.frame m ρ
/-- So does its ideal reading, -/
theorem frame_ki : Cert.quiescent_Kernel2Ideal := fun m ρ _ => Cert.Kernel2Ideal.Gen.frame m ρ
/-- the same under the claim's precondition, -/
theorem frame_ki_pre [Cert.Pre_prompt_args_finite.Facts] : Cert.quiescent_Kernel2Ideal_pre_prompt_args_finite := fun m ρ _ => Cert.Kernel2Ideal.Gen.frame m ρ
/-- and so does the reference. -/
theorem frame_ri : Cert.quiescent_Reference2Ideal := fun m ρ _ =>
  (θ_run Cert.Reference2Ideal.defs _ _).mono (fun r h => ⟨fun c => (h c).2.2.2.2.2.2.2.2.2,
      Idealize.ShloMosaic.sem_eq_zero_of_no_sems (by decide) r.2⟩)
    (Cert.Reference2Ideal.Value.run (F := Ideal) m ρ)

/-- the same under the claim's precondition. -/
theorem frame_ri_pre [Cert.Pre_prompt_args_finite.Facts] : Cert.quiescent_Reference2Ideal_pre_prompt_args_finite := fun m ρ _ => frame_ri m ρ trivial

/-- The ideal pass rewrote nothing. -/
theorem preserves : Cert.preserves_Kernel2_Kernel2Ideal := trivial

/-- Over the extended reals the kernel and the reference end with the same results, where the rows,
    the norm's gains and the weight are finite. -/
theorem algebraic [Cert.Pre_prompt_args_finite.Facts] :
    Cert.algebraic_Kernel2Ideal_Reference2Ideal_pre_prompt_args_finite := by
  intro m ρ m' ρ' hp hag
  have hf := fun c => Cert.Kernel2Ideal.ProjValue.args_fin m hp c
  refine ⟨fun c => Cert.Reference2Ideal.Read.val_main_v94 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4)),
    fun c => Cert.Reference2Ideal.Read.val_main_v95 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg5)),
    fun c => Cert.Reference2Ideal.Read.val_main_v96 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => Cert.Reference2Ideal.Read.val_main_v97 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.Reference2Ideal.Read.val_main_v101 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg6)),
    fun c => Cert.Reference2Ideal.Read.val_main_v102 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg7)),
    fun c => Cert.Reference2Ideal.Read.val_main_v103 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => Cert.Reference2Ideal.Read.val_main_v110 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => Cert.Reference2Ideal.Read.val_main_v117 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    ?_, ?_⟩
  · refine (θ_run Cert.Kernel2Ideal.defs _ _).mono (fun r h c => ⟨(h c).1.trans (Cert.Kernel2Ideal.ProjValue.final7 m c (hf c).1 (hf c).2.1 (hf c).2.2), (h c).2.1.trans (Cert.Kernel2Ideal.ProjValue.final8 m c (hf c).1 (hf c).2.1 (hf c).2.2), (h c).2.2.1.trans (Cert.Kernel2Ideal.ProjValue.final9 m c), (h c).2.2.2.1.trans (Cert.Kernel2Ideal.ProjValue.final10 m c), (h c).2.2.2.2.1.trans (Cert.Kernel2Ideal.ProjValue.final11 m c (hf c).1 (hf c).2.1 (hf c).2.2), (h c).2.2.2.2.2.1.trans (Cert.Kernel2Ideal.ProjValue.final12 m c (hf c).1 (hf c).2.1 (hf c).2.2), (h c).2.2.2.2.2.2.1.trans (Cert.Kernel2Ideal.ProjValue.final13 m c), (h c).2.2.2.2.2.2.2.1.trans (Cert.Kernel2Ideal.ProjValue.final14 m c), (h c).2.2.2.2.2.2.2.2.1.trans (Cert.Kernel2Ideal.ProjValue.final15 m c), (h c).2.2.2.2.2.2.2.2.2⟩) (Cert.Kernel2Ideal.Value.run_blocks (F := Ideal) m ρ)
  · refine (θ_run Cert.Reference2Ideal.defs _ _).mono (fun r h c => ?_) (Cert.Reference2Ideal.Value.run (F := Ideal) m' ρ')
    obtain ⟨h0, h1, h2, h3, h4, h5, h6, h7⟩ := hag c
    beta_reduce
    rw [← h0, ← h1, ← h2, ← h3, ← h4, ← h5, ← h6, ← h7]
    exact ⟨(h c).1.trans (Cert.Reference2Ideal.Read.val_main_v94_eq _ _), (h c).2.1.trans (Cert.Reference2Ideal.Read.val_main_v95_eq _ _ _ _), (h c).2.2.1.trans (Cert.Reference2Ideal.Read.val_main_v96_eq _ _ _), (h c).2.2.2.1.trans (Cert.Reference2Ideal.Read.val_main_v97_eq _ _), (h c).2.2.2.2.1.trans (Cert.Reference2Ideal.Read.val_main_v101_eq _ _), (h c).2.2.2.2.2.1.trans (Cert.Reference2Ideal.Read.val_main_v102_eq _ _), (h c).2.2.2.2.2.2.1.trans (Cert.Reference2Ideal.Read.val_main_v103_eq _ _ _), (h c).2.2.2.2.2.2.2.1.trans (Cert.Reference2Ideal.Read.val_main_v110_eq _ _ _), (h c).2.2.2.2.2.2.2.2.1.trans (Cert.Reference2Ideal.Read.val_main_v117_eq _ _ _), (h c).2.2.2.2.2.2.2.2.2⟩

end Cert.Proof.Proj2

end
-- ==== Proof.ProjRef.lean ====
module

public import proofs.«01_k».proof.Proof.Gen.Reference2Ideal.Read
public import proofs.«01_k».proof.Proof.Gen.Reference3Ideal.Read
public import Idealize.ShloMosaic.Lib.Pipeline.ValueKit

@[expose] public section

set_option maxRecDepth 16384

noncomputable section

/-! # The in-projection's references of the two batches agree on the rows they share -/

namespace Cert.Reference3Ideal.ProjRef

open Cert.Reference3Ideal Cert.Reference3Ideal.Gen Cert.Reference3Ideal.Read Idealize.ShloMosaic Idealize.ShloMosaic.TcCoe

/-- The sample batch's rows laid out as a prompt batch: its 256 rows, over and over. -/
def spread (x : S32x8x1024.Idx → EReal) : Reference2Ideal.S8x4096x1024.Idx → EReal :=
  fun i => x (ix3 ⟨(i 1).val % 256 / 8, by omega⟩ ⟨(i 1).val % 8, by omega⟩ (i 2))

/-- A row of the sample batch as a row of the prompt batch. -/
abbrev up (a : Fin 256) : Fin 32768 := ⟨a.val, by omega⟩

variable (x : S32x8x1024.Idx → EReal) (A1 : S1x1024.Idx → EReal) (A2 : S1x1024x5128.Idx → EReal) (A3 : S1x8.Idx → EReal)
  (A4 A5 A6 A7 : S1x64.Idx → EReal)

theorem row_norm (B : Fin 8) (P : Fin 4096) (k : Fin 1024) :
    Reference2Ideal.Read.val_main_v13 (F := Ideal) (spread x) A1 (ix3 B P k)
      = val_main_v13 (F := Ideal) x A1 (ix3 ⟨P.val % 256 / 8, by omega⟩ ⟨P.val % 8, by omega⟩ k) := by
  pointwise [spread, Reference2Ideal.Read.val_main_v0, Reference3Ideal.Read.val_main_v0, Reference2Ideal.Read.val_main_v1,
    Reference3Ideal.Read.val_main_v1, Reference2Ideal.Read.val_main_v2, Reference3Ideal.Read.val_main_v2,
    Reference2Ideal.Read.val_main_v3, Reference3Ideal.Read.val_main_v3, Reference2Ideal.Read.val_main_v4,
    Reference3Ideal.Read.val_main_v4, Reference2Ideal.Read.val_main_v5, Reference3Ideal.Read.val_main_v5,
    Reference2Ideal.Read.val_main_v6, Reference3Ideal.Read.val_main_v6, Reference2Ideal.Read.val_main_v7,
    Reference3Ideal.Read.val_main_v7, Reference2Ideal.Read.val_main_v8, Reference3Ideal.Read.val_main_v8,
    Reference2Ideal.Read.val_main_v9, Reference3Ideal.Read.val_main_v9,
    Reference2Ideal.Read.val_main_v10, Reference3Ideal.Read.val_main_v10,
    Reference2Ideal.Read.val_main_v11, Reference3Ideal.Read.val_main_v11,
    Reference2Ideal.Read.val_main_v12, Reference3Ideal.Read.val_main_v12,
    Reference2Ideal.Read.val_main_v13, Reference3Ideal.Read.val_main_v13,
    Reference2Ideal.Read.val_main_cst, Reference3Ideal.Read.val_main_cst,
    Reference2Ideal.Read.val_main_cst_0, Reference3Ideal.Read.val_main_cst_0,
    Reference2Ideal.Read.val_main_cst_1, Reference3Ideal.Read.val_main_cst_1]

theorem row_proj (B : Fin 8) (P : Fin 4096) (k : Fin 5128) :
    Reference2Ideal.Read.val_main_v15 (F := Ideal) (spread x) A1 A2 (ix3 B P k)
      = val_main_v15 (F := Ideal) x A1 A2 (ix3 ⟨P.val % 256 / 8, by omega⟩ ⟨P.val % 8, by omega⟩ k) := by
  pointwise [Reference2Ideal.Read.val_main_v14, Reference3Ideal.Read.val_main_v14,
    Reference2Ideal.Read.val_main_v15, Reference3Ideal.Read.val_main_v15]
  simp only [row_norm]

set_option maxHeartbeats 4000000 in
theorem rows (a : Fin 256) :
    (∀ b : Fin 512, val_main_v94 (F := Ideal) x A1 A2 A4 (ix2 a b)
      = Reference2Ideal.Read.val_main_v94 (F := Ideal) (spread x) A1 A2 A4 (ix2 (up a) b))
    ∧ (∀ b : Fin 512, val_main_v95 (F := Ideal) x A1 A2 A5 (ix2 a b)
      = Reference2Ideal.Read.val_main_v95 (F := Ideal) (spread x) A1 A2 A5 (ix2 (up a) b))
    ∧ (∀ b : Fin 512, val_main_v96 (F := Ideal) x A1 A2 (ix2 a b)
      = Reference2Ideal.Read.val_main_v96 (F := Ideal) (spread x) A1 A2 (ix2 (up a) b))
    ∧ (∀ b : Fin 128, val_main_v97 (F := Ideal) x A1 A2 A3 (ix2 a b)
      = Reference2Ideal.Read.val_main_v97 (F := Ideal) (spread x) A1 A2 A3 (ix2 (up a) b))
    ∧ (∀ b : Fin 512, val_main_v101 (F := Ideal) x A1 A2 A6 (ix2 a b)
      = Reference2Ideal.Read.val_main_v101 (F := Ideal) (spread x) A1 A2 A6 (ix2 (up a) b))
    ∧ (∀ b : Fin 512, val_main_v102 (F := Ideal) x A1 A2 A7 (ix2 a b)
      = Reference2Ideal.Read.val_main_v102 (F := Ideal) (spread x) A1 A2 A7 (ix2 (up a) b))
    ∧ (∀ b : Fin 512, val_main_v103 (F := Ideal) x A1 A2 (ix2 a b)
      = Reference2Ideal.Read.val_main_v103 (F := Ideal) (spread x) A1 A2 (ix2 (up a) b))
    ∧ (∀ b : Fin 1024, val_main_v110 (F := Ideal) x A1 A2 (ix2 a b)
      = Reference2Ideal.Read.val_main_v110 (F := Ideal) (spread x) A1 A2 (ix2 (up a) b))
    ∧ (∀ b : Fin 1024, val_main_v117 (F := Ideal) x A1 A2 (ix2 a b)
      = Reference2Ideal.Read.val_main_v117 (F := Ideal) (spread x) A1 A2 (ix2 (up a) b)) := by
  refine ⟨fun b => ?_, fun b => ?_, fun b => ?_, fun b => ?_, fun b => ?_, fun b => ?_, fun b => ?_, fun b => ?_, fun b => ?_⟩ <;>
  pointwise [Reference2Ideal.Read.val_main_v16, Reference3Ideal.Read.val_main_v16,
    Reference2Ideal.Read.val_main_v25, Reference3Ideal.Read.val_main_v25,
    Reference2Ideal.Read.val_main_v26, Reference3Ideal.Read.val_main_v26,
    Reference2Ideal.Read.val_main_v27, Reference3Ideal.Read.val_main_v27,
    Reference2Ideal.Read.val_main_v28, Reference3Ideal.Read.val_main_v28,
    Reference2Ideal.Read.val_main_v29, Reference3Ideal.Read.val_main_v29,
    Reference2Ideal.Read.val_main_v30, Reference3Ideal.Read.val_main_v30,
    Reference2Ideal.Read.val_main_v31, Reference3Ideal.Read.val_main_v31,
    Reference2Ideal.Read.val_main_v32, Reference3Ideal.Read.val_main_v32,
    Reference2Ideal.Read.val_main_v33, Reference3Ideal.Read.val_main_v33,
    Reference2Ideal.Read.val_main_v34, Reference3Ideal.Read.val_main_v34,
    Reference2Ideal.Read.val_main_v35, Reference3Ideal.Read.val_main_v35,
    Reference2Ideal.Read.val_main_v36, Reference3Ideal.Read.val_main_v36,
    Reference2Ideal.Read.val_main_v37, Reference3Ideal.Read.val_main_v37,
    Reference2Ideal.Read.val_main_v38, Reference3Ideal.Read.val_main_v38,
    Reference2Ideal.Read.val_main_v39, Reference3Ideal.Read.val_main_v39,
    Reference2Ideal.Read.val_main_v91, Reference3Ideal.Read.val_main_v91,
    Reference2Ideal.Read.val_main_v92, Reference3Ideal.Read.val_main_v92,
    Reference2Ideal.Read.val_main_v93, Reference3Ideal.Read.val_main_v93,
    Reference2Ideal.Read.val_main_v94, Reference3Ideal.Read.val_main_v94,
    Reference2Ideal.Read.val_main_cst_2, Reference3Ideal.Read.val_main_cst_2,
    Reference2Ideal.Read.val_main_cst_3, Reference3Ideal.Read.val_main_cst_3,
    Reference2Ideal.Read.val_main_cst_4, Reference3Ideal.Read.val_main_cst_4,
    Reference2Ideal.Read.val_main_cst_14, Reference3Ideal.Read.val_main_cst_14,
    Reference2Ideal.Read.val_main_v17, Reference3Ideal.Read.val_main_v17,
    Reference2Ideal.Read.val_main_v40, Reference3Ideal.Read.val_main_v40,
    Reference2Ideal.Read.val_main_v41, Reference3Ideal.Read.val_main_v41,
    Reference2Ideal.Read.val_main_v42, Reference3Ideal.Read.val_main_v42,
    Reference2Ideal.Read.val_main_v43, Reference3Ideal.Read.val_main_v43,
    Reference2Ideal.Read.val_main_v44, Reference3Ideal.Read.val_main_v44,
    Reference2Ideal.Read.val_main_v45, Reference3Ideal.Read.val_main_v45,
    Reference2Ideal.Read.val_main_v46, Reference3Ideal.Read.val_main_v46,
    Reference2Ideal.Read.val_main_v47, Reference3Ideal.Read.val_main_v47,
    Reference2Ideal.Read.val_main_v48, Reference3Ideal.Read.val_main_v48,
    Reference2Ideal.Read.val_main_v49, Reference3Ideal.Read.val_main_v49,
    Reference2Ideal.Read.val_main_v50, Reference3Ideal.Read.val_main_v50,
    Reference2Ideal.Read.val_main_v51, Reference3Ideal.Read.val_main_v51,
    Reference2Ideal.Read.val_main_v52, Reference3Ideal.Read.val_main_v52,
    Reference2Ideal.Read.val_main_v53, Reference3Ideal.Read.val_main_v53,
    Reference2Ideal.Read.val_main_v54, Reference3Ideal.Read.val_main_v54,
    Reference2Ideal.Read.val_main_v95, Reference3Ideal.Read.val_main_v95,
    Reference2Ideal.Read.val_main_cst_5, Reference3Ideal.Read.val_main_cst_5,
    Reference2Ideal.Read.val_main_cst_6, Reference3Ideal.Read.val_main_cst_6,
    Reference2Ideal.Read.val_main_cst_7, Reference3Ideal.Read.val_main_cst_7,
    Reference2Ideal.Read.val_main_v18, Reference3Ideal.Read.val_main_v18,
    Reference2Ideal.Read.val_main_v96, Reference3Ideal.Read.val_main_v96,
    Reference2Ideal.Read.val_main_v19, Reference3Ideal.Read.val_main_v19,
    Reference2Ideal.Read.val_main_v55, Reference3Ideal.Read.val_main_v55,
    Reference2Ideal.Read.val_main_v56, Reference3Ideal.Read.val_main_v56,
    Reference2Ideal.Read.val_main_v57, Reference3Ideal.Read.val_main_v57,
    Reference2Ideal.Read.val_main_v58, Reference3Ideal.Read.val_main_v58,
    Reference2Ideal.Read.val_main_v59, Reference3Ideal.Read.val_main_v59,
    Reference2Ideal.Read.val_main_v60, Reference3Ideal.Read.val_main_v60,
    Reference2Ideal.Read.val_main_v97, Reference3Ideal.Read.val_main_v97,
    Reference2Ideal.Read.val_main_c, Reference3Ideal.Read.val_main_c,
    Reference2Ideal.Read.val_main_call0_v0, Reference3Ideal.Read.val_main_call0_v0,
    Reference2Ideal.Read.val_main_call1_v0, Reference3Ideal.Read.val_main_call1_v0,
    Reference2Ideal.Read.val_main_call1_call0_cst, Reference3Ideal.Read.val_main_call1_call0_cst,
    Reference2Ideal.Read.val_main_call1_call0_v0, Reference3Ideal.Read.val_main_call1_call0_v0,
    Reference2Ideal.Read.val_main_call1_call0_v1, Reference3Ideal.Read.val_main_call1_call0_v1,
    Reference2Ideal.Read.val_main_call1_call0_v2, Reference3Ideal.Read.val_main_call1_call0_v2,
    Reference2Ideal.Read.val_main_call1_call0_v3, Reference3Ideal.Read.val_main_call1_call0_v3,
    Reference2Ideal.Read.val_main_call1_call0_v4, Reference3Ideal.Read.val_main_call1_call0_v4,
    Reference2Ideal.Read.val_main_call1_call0_v5, Reference3Ideal.Read.val_main_call1_call0_v5,
    Reference2Ideal.Read.val_main_call1_call0_v6, Reference3Ideal.Read.val_main_call1_call0_v6,
    Reference2Ideal.Read.val_main_call1_call0_v7, Reference3Ideal.Read.val_main_call1_call0_v7,
    Reference2Ideal.Read.val_main_call1_call0_v8, Reference3Ideal.Read.val_main_call1_call0_v8,
    Reference2Ideal.Read.val_main_call1_call0_v9, Reference3Ideal.Read.val_main_call1_call0_v9,
    Reference2Ideal.Read.val_main_call1_call0_v10, Reference3Ideal.Read.val_main_call1_call0_v10,
    Reference2Ideal.Read.val_main_call1_call0_v11, Reference3Ideal.Read.val_main_call1_call0_v11,
    Reference2Ideal.Read.val_main_call1_v1, Reference3Ideal.Read.val_main_call1_v1,
    Reference2Ideal.Read.val_main_v20, Reference3Ideal.Read.val_main_v20,
    Reference2Ideal.Read.val_main_v61, Reference3Ideal.Read.val_main_v61,
    Reference2Ideal.Read.val_main_v62, Reference3Ideal.Read.val_main_v62,
    Reference2Ideal.Read.val_main_v63, Reference3Ideal.Read.val_main_v63,
    Reference2Ideal.Read.val_main_v64, Reference3Ideal.Read.val_main_v64,
    Reference2Ideal.Read.val_main_v65, Reference3Ideal.Read.val_main_v65,
    Reference2Ideal.Read.val_main_v66, Reference3Ideal.Read.val_main_v66,
    Reference2Ideal.Read.val_main_v67, Reference3Ideal.Read.val_main_v67,
    Reference2Ideal.Read.val_main_v68, Reference3Ideal.Read.val_main_v68,
    Reference2Ideal.Read.val_main_v69, Reference3Ideal.Read.val_main_v69,
    Reference2Ideal.Read.val_main_v70, Reference3Ideal.Read.val_main_v70,
    Reference2Ideal.Read.val_main_v71, Reference3Ideal.Read.val_main_v71,
    Reference2Ideal.Read.val_main_v72, Reference3Ideal.Read.val_main_v72,
    Reference2Ideal.Read.val_main_v73, Reference3Ideal.Read.val_main_v73,
    Reference2Ideal.Read.val_main_v74, Reference3Ideal.Read.val_main_v74,
    Reference2Ideal.Read.val_main_v75, Reference3Ideal.Read.val_main_v75,
    Reference2Ideal.Read.val_main_v98, Reference3Ideal.Read.val_main_v98,
    Reference2Ideal.Read.val_main_v99, Reference3Ideal.Read.val_main_v99,
    Reference2Ideal.Read.val_main_v100, Reference3Ideal.Read.val_main_v100,
    Reference2Ideal.Read.val_main_v101, Reference3Ideal.Read.val_main_v101,
    Reference2Ideal.Read.val_main_cst_8, Reference3Ideal.Read.val_main_cst_8,
    Reference2Ideal.Read.val_main_cst_9, Reference3Ideal.Read.val_main_cst_9,
    Reference2Ideal.Read.val_main_cst_10, Reference3Ideal.Read.val_main_cst_10,
    Reference2Ideal.Read.val_main_cst_15, Reference3Ideal.Read.val_main_cst_15,
    Reference2Ideal.Read.val_main_v21, Reference3Ideal.Read.val_main_v21,
    Reference2Ideal.Read.val_main_v76, Reference3Ideal.Read.val_main_v76,
    Reference2Ideal.Read.val_main_v77, Reference3Ideal.Read.val_main_v77,
    Reference2Ideal.Read.val_main_v78, Reference3Ideal.Read.val_main_v78,
    Reference2Ideal.Read.val_main_v79, Reference3Ideal.Read.val_main_v79,
    Reference2Ideal.Read.val_main_v80, Reference3Ideal.Read.val_main_v80,
    Reference2Ideal.Read.val_main_v81, Reference3Ideal.Read.val_main_v81,
    Reference2Ideal.Read.val_main_v82, Reference3Ideal.Read.val_main_v82,
    Reference2Ideal.Read.val_main_v83, Reference3Ideal.Read.val_main_v83,
    Reference2Ideal.Read.val_main_v84, Reference3Ideal.Read.val_main_v84,
    Reference2Ideal.Read.val_main_v85, Reference3Ideal.Read.val_main_v85,
    Reference2Ideal.Read.val_main_v86, Reference3Ideal.Read.val_main_v86,
    Reference2Ideal.Read.val_main_v87, Reference3Ideal.Read.val_main_v87,
    Reference2Ideal.Read.val_main_v88, Reference3Ideal.Read.val_main_v88,
    Reference2Ideal.Read.val_main_v89, Reference3Ideal.Read.val_main_v89,
    Reference2Ideal.Read.val_main_v90, Reference3Ideal.Read.val_main_v90,
    Reference2Ideal.Read.val_main_v102, Reference3Ideal.Read.val_main_v102,
    Reference2Ideal.Read.val_main_cst_11, Reference3Ideal.Read.val_main_cst_11,
    Reference2Ideal.Read.val_main_cst_12, Reference3Ideal.Read.val_main_cst_12,
    Reference2Ideal.Read.val_main_cst_13, Reference3Ideal.Read.val_main_cst_13,
    Reference2Ideal.Read.val_main_v22, Reference3Ideal.Read.val_main_v22,
    Reference2Ideal.Read.val_main_v103, Reference3Ideal.Read.val_main_v103,
    Reference2Ideal.Read.val_main_v23, Reference3Ideal.Read.val_main_v23,
    Reference2Ideal.Read.val_main_v104, Reference3Ideal.Read.val_main_v104,
    Reference2Ideal.Read.val_main_v105, Reference3Ideal.Read.val_main_v105,
    Reference2Ideal.Read.val_main_v106, Reference3Ideal.Read.val_main_v106,
    Reference2Ideal.Read.val_main_v107, Reference3Ideal.Read.val_main_v107,
    Reference2Ideal.Read.val_main_v108, Reference3Ideal.Read.val_main_v108,
    Reference2Ideal.Read.val_main_v109, Reference3Ideal.Read.val_main_v109,
    Reference2Ideal.Read.val_main_v110, Reference3Ideal.Read.val_main_v110,
    Reference2Ideal.Read.val_main_cst_16, Reference3Ideal.Read.val_main_cst_16,
    Reference2Ideal.Read.val_main_cst_17, Reference3Ideal.Read.val_main_cst_17,
    Reference2Ideal.Read.val_main_v24, Reference3Ideal.Read.val_main_v24,
    Reference2Ideal.Read.val_main_v111, Reference3Ideal.Read.val_main_v111,
    Reference2Ideal.Read.val_main_v112, Reference3Ideal.Read.val_main_v112,
    Reference2Ideal.Read.val_main_v113, Reference3Ideal.Read.val_main_v113,
    Reference2Ideal.Read.val_main_v114, Reference3Ideal.Read.val_main_v114,
    Reference2Ideal.Read.val_main_v115, Reference3Ideal.Read.val_main_v115,
    Reference2Ideal.Read.val_main_v116, Reference3Ideal.Read.val_main_v116,
    Reference2Ideal.Read.val_main_v117, Reference3Ideal.Read.val_main_v117,
    Reference2Ideal.Read.val_main_cst_18, Reference3Ideal.Read.val_main_cst_18,
    Reference2Ideal.Read.val_main_cst_19, Reference3Ideal.Read.val_main_cst_19] <;>
  simp (disch := omega) only [row_proj, Nat.mod_eq_of_lt]
  have h3 : (a.val / 8 < 32 ∧ a.val % 8 < 8 ∧ b.val < 8) = (b.val < 8) := by simp; omega
  have h2 : (a.val / 4096 < 8 ∧ a.val < 4096 ∧ b.val < 8) = (b.val < 8) := by simp; omega
  simp only [h3, h2]

end Cert.Reference3Ideal.ProjRef

end
-- ==== Proof.Proj3a.lean ====
module

public import proofs.«01_k».proof.Proof.Gen.Kernel3Ideal.Value
public import proofs.«01_k».proof.Proof.Proj2a
public import proofs.«01_k».proof.Proof.ProjRef

@[expose] public section

set_option maxRecDepth 16384

noncomputable section

/-! # The in-projection of the sample rows

Its one block of 256 rows is the first block of a prompt batch with the same weights and these rows, so what the
prompt's proof says of that block is what the nine result arrays here end holding. -/

namespace Cert.Kernel3Ideal.ProjValue

open Cert.Kernel3Ideal Cert.Kernel3Ideal.Gen Idealize.ShloMosaic Idealize.ShloMosaic.TcCoe Idealize.SL.Sem
open Idealize.ShloMosaic.Pipeline (Dat)
open Cert.Reference3Ideal.Read Cert.Reference3Ideal.ProjRef

variable (m' : (ℓ : Loc nD τ sig) → Buf (Elt Ideal) ℓ) (m : (ℓ : Loc Kernel2Ideal.nD Kernel2Ideal.τ Kernel2Ideal.sig) → Buf (Elt Ideal) ℓ)

/-- Where each window's block lies: at the start of its array, there being one grid point. -/
theorem idx : ∀ t : Fin cfg0.N,
    (∀ k, win0_0.index t k = 0)
    ∧ (∀ k, win0_1.index t k = 0)
    ∧ (∀ k, win0_2.index t k = 0)
    ∧ (∀ k, win0_3.index t k = 0)
    ∧ (∀ k, win0_4.index t k = 0)
    ∧ (∀ k, win0_5.index t k = 0)
    ∧ (∀ k, win0_6.index t k = 0)
    ∧ (∀ k, win0_7.index t k = 0)
    ∧ (∀ k, win0_8.index t k = 0)
    ∧ (∀ k, win0_9.index t k = 0)
    ∧ (∀ k, win0_10.index t k = 0)
    ∧ (∀ k, win0_11.index t k = 0)
    ∧ (∀ k, win0_12.index t k = 0)
    ∧ (∀ k, win0_13.index t k = 0)
    ∧ (∀ k, win0_14.index t k = 0)
    ∧ (∀ k, win0_15.index t k = 0) :=
  (by decide +kernel : ∀ t : Fin grid0.N, _)

/-- A change of memory elsewhere leaves a buffer as it is. -/
theorem upd {nD : ℕ} {τ : Topo} {sig : RefSig} (m : (ℓ : Loc nD τ sig) → Buf (Elt Ideal) ℓ) (l l' : Loc nD τ sig)
    (v : Buf (Elt Ideal) l') (x : Buf (Elt Ideal) l) (h : l.2 ≠ l'.2) (e : m l = x) : Function.update m l' v l = x :=
  (Function.update_of_ne (fun e => h (congrArg Prod.snd e)) _ _).trans e

/-- The prompt's arguments are the sample's: its rows the sample's over and over, its weights the same. -/
structure Same (c : Dev 1) : Prop where
  h0 : m ((c : Thread Kernel2Ideal.nD Kernel2Ideal.τ).loc Kernel2Ideal.main_arg0) = spread (m' ((c : Thread nD τ).loc main_arg0))
  h1 : m ((c : Thread Kernel2Ideal.nD Kernel2Ideal.τ).loc Kernel2Ideal.main_arg1) = m' ((c : Thread nD τ).loc main_arg1)
  h2 : m ((c : Thread Kernel2Ideal.nD Kernel2Ideal.τ).loc Kernel2Ideal.main_arg2) = m' ((c : Thread nD τ).loc main_arg2)
  h3 : m ((c : Thread Kernel2Ideal.nD Kernel2Ideal.τ).loc Kernel2Ideal.main_arg3) = m' ((c : Thread nD τ).loc main_arg3)
  h4 : m ((c : Thread Kernel2Ideal.nD Kernel2Ideal.τ).loc Kernel2Ideal.main_arg4) = m' ((c : Thread nD τ).loc main_arg4)
  h5 : m ((c : Thread Kernel2Ideal.nD Kernel2Ideal.τ).loc Kernel2Ideal.main_arg5) = m' ((c : Thread nD τ).loc main_arg5)
  h6 : m ((c : Thread Kernel2Ideal.nD Kernel2Ideal.τ).loc Kernel2Ideal.main_arg6) = m' ((c : Thread nD τ).loc main_arg6)
  h7 : m ((c : Thread Kernel2Ideal.nD Kernel2Ideal.τ).loc Kernel2Ideal.main_arg7) = m' ((c : Thread nD τ).loc main_arg7)

/-- A memory of the prompt's program that has them. -/
theorem exists_same (c : Dev 1) : ∃ m : (ℓ : Loc Kernel2Ideal.nD Kernel2Ideal.τ Kernel2Ideal.sig) → Buf (Elt Ideal) ℓ, Same m' m c := by
  classical
  refine ⟨Function.update (Function.update (Function.update (Function.update (Function.update (Function.update (Function.update (Function.update (fun _ _ => default)
    ((c : Thread Kernel2Ideal.nD Kernel2Ideal.τ).loc Kernel2Ideal.main_arg0) (spread (m' ((c : Thread nD τ).loc main_arg0))))
    ((c : Thread Kernel2Ideal.nD Kernel2Ideal.τ).loc Kernel2Ideal.main_arg1) (m' ((c : Thread nD τ).loc main_arg1)))
    ((c : Thread Kernel2Ideal.nD Kernel2Ideal.τ).loc Kernel2Ideal.main_arg2) (m' ((c : Thread nD τ).loc main_arg2)))
    ((c : Thread Kernel2Ideal.nD Kernel2Ideal.τ).loc Kernel2Ideal.main_arg3) (m' ((c : Thread nD τ).loc main_arg3)))
    ((c : Thread Kernel2Ideal.nD Kernel2Ideal.τ).loc Kernel2Ideal.main_arg4) (m' ((c : Thread nD τ).loc main_arg4)))
    ((c : Thread Kernel2Ideal.nD Kernel2Ideal.τ).loc Kernel2Ideal.main_arg5) (m' ((c : Thread nD τ).loc main_arg5)))
    ((c : Thread Kernel2Ideal.nD Kernel2Ideal.τ).loc Kernel2Ideal.main_arg6) (m' ((c : Thread nD τ).loc main_arg6)))
    ((c : Thread Kernel2Ideal.nD Kernel2Ideal.τ).loc Kernel2Ideal.main_arg7) (m' ((c : Thread nD τ).loc main_arg7)), ?_⟩
  constructor <;>
  · repeat refine upd _ _ _ _ _ (by dsimp only; decide) ?_
    exact Function.update_self _ _ _

set_option maxHeartbeats 4000000 in
/-- The two programs' host lines make the same operands of the same weights. -/
theorem host (c : Dev 1) (h : Same m' m c) :
    (∀ a b, V m' c main_v48 (ix2 a b) = Kernel2Ideal.Gen.V m c Kernel2Ideal.main_v48 (ix2 a b))
    ∧ (∀ a b, V m' c main_v11 (ix2 a b) = Kernel2Ideal.Gen.V m c Kernel2Ideal.main_v11 (ix2 a b))
    ∧ (∀ a b, V m' c main_v13 (ix2 a b) = Kernel2Ideal.Gen.V m c Kernel2Ideal.main_v13 (ix2 a b))
    ∧ (∀ a b, V m' c main_v16 (ix2 a b) = Kernel2Ideal.Gen.V m c Kernel2Ideal.main_v16 (ix2 a b))
    ∧ (∀ a b, V m' c main_v24 (ix2 a b) = Kernel2Ideal.Gen.V m c Kernel2Ideal.main_v24 (ix2 a b))
    ∧ (∀ a b, V m' c main_v45 (ix2 a b) = Kernel2Ideal.Gen.V m c Kernel2Ideal.main_v45 (ix2 a b)) := by
  obtain ⟨h0, h1, h2, h3, h4, h5, h6, h7⟩ := h
  refine ⟨fun a b => ?_, fun a b => ?_, fun a b => ?_, fun a b => ?_, fun a b => ?_, fun a b => ?_⟩ <;>
  simp only [V, hostOps0, hostOps0_1, hostOps0_2, hostOps0_3, hostOps0_4, hostOps0_5, hostOps0_6,
    Kernel2Ideal.Gen.V, Kernel2Ideal.Gen.hostOps0, Kernel2Ideal.Gen.hostOps0_1, Kernel2Ideal.Gen.hostOps0_2, Kernel2Ideal.Gen.hostOps0_3, Kernel2Ideal.Gen.hostOps0_4, Kernel2Ideal.Gen.hostOps0_5, Kernel2Ideal.Gen.hostOps0_6,
    List.flatten, List.append_eq, List.cons_append, List.nil_append, List.append_nil,
    StableHlo.TRef.binary, StableHlo.TRef.unary, StableHlo.TRef.toBuf, StableHlo.TRef.ofBuf, cast_eq] <;>
  after_results_simp
  case refine_6 => fin_cases a <;> pointwise <;> after_results_simp <;> pointwise <;> simp only [h4, h5, h6, h7]
  all_goals pointwise
  case refine_2 => split_ifs <;> after_results_simp <;> pointwise <;> rw [h2]
  all_goals simp only [h1, h2, h3]

/-- The block of rows, of the argument. -/
theorem blk0 (c : Dev 1) (t : Fin cfg0.N) (a : Fin 256) (b : Fin 1024) :
    iblk m' c 0 t (ix2 a b) = m' ((c : Thread nD τ).loc main_arg0) (ix3 ⟨a.val / 8, by omega⟩ ⟨a.val % 8, by omega⟩ b) := by
  have h : iblk m' c 0 t (ix2 a b) = V m' c main_v46 (ix2 a b) := by
    show V m' c main_v46 _ = _
    refine congrArg (V m' c main_v46) ?_
    blk_ext [idx t]
  rw [h]
  simp only [V, hostOps0, hostOps0_1, hostOps0_2, hostOps0_3, hostOps0_4, hostOps0_5, hostOps0_6, List.flatten, List.append_eq, List.cons_append, List.nil_append, List.append_nil,
    StableHlo.TRef.binary, StableHlo.TRef.unary, StableHlo.TRef.toBuf, StableHlo.TRef.ofBuf, cast_eq]
  after_results_simp
  pointwise

/-- The first block of the prompt's grid. -/
abbrev t0 : Fin Kernel2Ideal.cfg0.N := ⟨0, by decide +kernel⟩

set_option maxHeartbeats 4000000 in
/-- The seven blocks a grid point reads are those of the prompt's first grid point. -/
theorem blks (c : Dev 1) (t : Fin cfg0.N) (h : Same m' m c) :
    iblk m' c 0 t = Kernel2Ideal.Gen.iblk m c 0 t0
    ∧ iblk m' c 1 t = Kernel2Ideal.Gen.iblk m c 1 t0
    ∧ iblk m' c 2 t = Kernel2Ideal.Gen.iblk m c 2 t0
    ∧ iblk m' c 3 t = Kernel2Ideal.Gen.iblk m c 3 t0
    ∧ iblk m' c 4 t = Kernel2Ideal.Gen.iblk m c 4 t0
    ∧ iblk m' c 5 t = Kernel2Ideal.Gen.iblk m c 5 t0
    ∧ iblk m' c 6 t = Kernel2Ideal.Gen.iblk m c 6 t0 := by
  obtain ⟨w1, w2, w3, w4, w5, w6⟩ := host m' m c h
  refine ⟨?_, ?_, ?_, ?_, ?_, ?_, ?_⟩ <;> funext j <;> idx_vars j
  · refine (blk0 m' c t j0 j1).trans (Eq.trans ?_ (Kernel2Ideal.ProjValue.blk0 m c t0 j0 j1).symm)
    rw [h.h0]
    have := j0.isLt
    refine congrArg (m' ((c : Thread nD τ).loc main_arg0)) ?_
    refine congrArg₂ (fun (p : Fin 32) (q : Fin 8) => (ix3 p q j1 : S32x8x1024.Idx)) (Fin.ext ?_) (Fin.ext ?_) <;> simp <;> omega
  · show V m' c main_v48 _ = Kernel2Ideal.Gen.V m c Kernel2Ideal.main_v48 _
    refine (congrArg (V m' c main_v48) ?_).trans ((w1 j0 j1).trans (congrArg (Kernel2Ideal.Gen.V m c Kernel2Ideal.main_v48) ?_)) <;>
      blk_ext [idx t, Kernel2Ideal.ProjValue.idx t0]
  · show V m' c main_v11 _ = Kernel2Ideal.Gen.V m c Kernel2Ideal.main_v11 _
    refine (congrArg (V m' c main_v11) ?_).trans ((w2 j0 j1).trans (congrArg (Kernel2Ideal.Gen.V m c Kernel2Ideal.main_v11) ?_)) <;>
      blk_ext [idx t, Kernel2Ideal.ProjValue.idx t0]
  · show V m' c main_v13 _ = Kernel2Ideal.Gen.V m c Kernel2Ideal.main_v13 _
    refine (congrArg (V m' c main_v13) ?_).trans ((w3 j0 j1).trans (congrArg (Kernel2Ideal.Gen.V m c Kernel2Ideal.main_v13) ?_)) <;>
      blk_ext [idx t, Kernel2Ideal.ProjValue.idx t0]
  · show V m' c main_v16 _ = Kernel2Ideal.Gen.V m c Kernel2Ideal.main_v16 _
    refine (congrArg (V m' c main_v16) ?_).trans ((w4 j0 j1).trans (congrArg (Kernel2Ideal.Gen.V m c Kernel2Ideal.main_v16) ?_)) <;>
      blk_ext [idx t, Kernel2Ideal.ProjValue.idx t0]
  · show V m' c main_v24 _ = Kernel2Ideal.Gen.V m c Kernel2Ideal.main_v24 _
    refine (congrArg (V m' c main_v24) ?_).trans ((w5 j0 j1).trans (congrArg (Kernel2Ideal.Gen.V m c Kernel2Ideal.main_v24) ?_)) <;>
      blk_ext [idx t, Kernel2Ideal.ProjValue.idx t0]
  · show V m' c main_v45 _ = Kernel2Ideal.Gen.V m c Kernel2Ideal.main_v45 _
    refine (congrArg (V m' c main_v45) ?_).trans ((w6 j0 j1).trans (congrArg (Kernel2Ideal.Gen.V m c Kernel2Ideal.main_v45) ?_)) <;>
      blk_ext [idx t, Kernel2Ideal.ProjValue.idx t0]

end Cert.Kernel3Ideal.ProjValue

end
-- ==== Proof.Proj3.lean ====
module

public import proofs.«01_k».proof.Defs
public import proofs.«01_k».proof.Proof.Proj2
public import proofs.«01_k».proof.Proof.Proj3a
public import Idealize.ShloMosaic.Lib.ReduceAll

@[expose] public section

set_option maxRecDepth 16384

noncomputable section

/-! # The in-projection of the sample rows: what its nine result arrays end holding -/

namespace Cert.Kernel3Ideal.ProjValue

open Cert.Kernel3Ideal Cert.Kernel3Ideal.Gen Idealize.ShloMosaic Idealize.ShloMosaic.TcCoe Idealize.SL.Sem
open Idealize.ShloMosaic.Pipeline (Dat)
open Cert.Reference3Ideal.Read Cert.Reference3Ideal.ProjRef Cert.ProjMath

variable (m' : (ℓ : Loc nD τ sig) → Buf (Elt Ideal) ℓ) (m : (ℓ : Loc Kernel2Ideal.nD Kernel2Ideal.τ Kernel2Ideal.sig) → Buf (Elt Ideal) ℓ)

/-- The precondition, read: the rows, the norm's gains and the weight hold real numbers. -/
theorem args_fin [Cert.Pre_sample_args_finite.Facts] (hp : Cert.Pre_Kernel3Ideal_sample_args_finite m') (c : Dev nD) :
    (∀ i, Fin' ((m' ((c : Thread nD τ).loc main_arg0)) i)) ∧ (∀ i, Fin' ((m' ((c : Thread nD τ).loc main_arg1)) i)) ∧ (∀ i, Fin' ((m' ((c : Thread nD τ).loc main_arg2)) i)) := by
  have e := congrFun (hp c) (Shape.Idx.first Cert.Pre_sample_args_finite.Facts.h_S_)
  have hs : Subsingleton Cert.Pre_sample_args_finite.S_.Idx := ⟨fun x y => funext fun q => q.elim0⟩
  simp only [Cert.Pre_sample_args_finite.fn, andi] at e
  obtain ⟨e01, e2⟩ := IntOp.andi_eq_one.1 e
  obtain ⟨e0, e1⟩ := IntOp.andi_eq_one.1 e01
  exact ⟨fun i => fin_of_test ofBits_inf (Host.reduce_andi_all _ _ _ _ _ e0 i), fun i => fin_of_test ofBits_inf (Host.reduce_andi_all _ _ _ _ _ e1 i),
    fun i => fin_of_test ofBits_inf (Host.reduce_andi_all _ _ _ _ _ e2 i)⟩

/-- The prompt's arguments are finite where the sample's are. -/
theorem fin_same (c : Dev 1) (h : Same m' m c) (h0 : ∀ i, Fin' (m' ((c : Thread nD τ).loc main_arg0) i)) (h1 : ∀ i, Fin' (m' ((c : Thread nD τ).loc main_arg1) i)) (h2 : ∀ i, Fin' (m' ((c : Thread nD τ).loc main_arg2) i)) :
    (∀ i, Fin' (m ((c : Thread Kernel2Ideal.nD Kernel2Ideal.τ).loc Kernel2Ideal.main_arg0) i)) ∧ (∀ i, Fin' (m ((c : Thread Kernel2Ideal.nD Kernel2Ideal.τ).loc Kernel2Ideal.main_arg1) i)) ∧ (∀ i, Fin' (m ((c : Thread Kernel2Ideal.nD Kernel2Ideal.τ).loc Kernel2Ideal.main_arg2) i)) := by
  rw [h.h0, h.h1, h.h2]
  exact ⟨fun i => h0 _, h1, h2⟩

/-- A row of the first block is that row of the whole. -/
theorem row0 (a : Fin 256) : Kernel2Ideal.ProjValue.row t0 a = up a := Fin.ext (by simp)

set_option maxHeartbeats 4000000 in
/-- The results end holding the reference's. -/
theorem finals (c : Dev 1) (h0 : ∀ i, Fin' (m' ((c : Thread nD τ).loc main_arg0) i)) (h1 : ∀ i, Fin' (m' ((c : Thread nD τ).loc main_arg1) i)) (h2 : ∀ i, Fin' (m' ((c : Thread nD τ).loc main_arg2) i)) :
    (dats m' 0 c).arrAt 7 cfg0.N
      = val_main_v94 (F := Ideal) (m' ((c : Thread nD τ).loc main_arg0)) (m' ((c : Thread nD τ).loc main_arg1)) (m' ((c : Thread nD τ).loc main_arg2)) (m' ((c : Thread nD τ).loc main_arg4))
    ∧ (dats m' 0 c).arrAt 8 cfg0.N
      = val_main_v95 (F := Ideal) (m' ((c : Thread nD τ).loc main_arg0)) (m' ((c : Thread nD τ).loc main_arg1)) (m' ((c : Thread nD τ).loc main_arg2)) (m' ((c : Thread nD τ).loc main_arg5))
    ∧ (dats m' 0 c).arrAt 9 cfg0.N
      = val_main_v96 (F := Ideal) (m' ((c : Thread nD τ).loc main_arg0)) (m' ((c : Thread nD τ).loc main_arg1)) (m' ((c : Thread nD τ).loc main_arg2))
    ∧ (dats m' 0 c).arrAt 10 cfg0.N
      = val_main_v97 (F := Ideal) (m' ((c : Thread nD τ).loc main_arg0)) (m' ((c : Thread nD τ).loc main_arg1)) (m' ((c : Thread nD τ).loc main_arg2)) (m' ((c : Thread nD τ).loc main_arg3))
    ∧ (dats m' 0 c).arrAt 11 cfg0.N
      = val_main_v101 (F := Ideal) (m' ((c : Thread nD τ).loc main_arg0)) (m' ((c : Thread nD τ).loc main_arg1)) (m' ((c : Thread nD τ).loc main_arg2)) (m' ((c : Thread nD τ).loc main_arg6))
    ∧ (dats m' 0 c).arrAt 12 cfg0.N
      = val_main_v102 (F := Ideal) (m' ((c : Thread nD τ).loc main_arg0)) (m' ((c : Thread nD τ).loc main_arg1)) (m' ((c : Thread nD τ).loc main_arg2)) (m' ((c : Thread nD τ).loc main_arg7))
    ∧ (dats m' 0 c).arrAt 13 cfg0.N
      = val_main_v103 (F := Ideal) (m' ((c : Thread nD τ).loc main_arg0)) (m' ((c : Thread nD τ).loc main_arg1)) (m' ((c : Thread nD τ).loc main_arg2))
    ∧ (dats m' 0 c).arrAt 14 cfg0.N
      = val_main_v110 (F := Ideal) (m' ((c : Thread nD τ).loc main_arg0)) (m' ((c : Thread nD τ).loc main_arg1)) (m' ((c : Thread nD τ).loc main_arg2))
    ∧ (dats m' 0 c).arrAt 15 cfg0.N
      = val_main_v117 (F := Ideal) (m' ((c : Thread nD τ).loc main_arg0)) (m' ((c : Thread nD τ).loc main_arg1)) (m' ((c : Thread nD τ).loc main_arg2)) := by
  obtain ⟨m, hs⟩ := exists_same m' c
  obtain ⟨f0, f1, f2⟩ := fin_same m' m c hs h0 h1 h2
  refine ⟨(dats m' 0 c).arrAt_eq_of_covers 7 _ (by decide +kernel) fun t hf y => ?_,
    (dats m' 0 c).arrAt_eq_of_covers 8 _ (by decide +kernel) fun t hf y => ?_,
    (dats m' 0 c).arrAt_eq_of_covers 9 _ (by decide +kernel) fun t hf y => ?_,
    (dats m' 0 c).arrAt_eq_of_covers 10 _ (by decide +kernel) fun t hf y => ?_,
    (dats m' 0 c).arrAt_eq_of_covers 11 _ (by decide +kernel) fun t hf y => ?_,
    (dats m' 0 c).arrAt_eq_of_covers 12 _ (by decide +kernel) fun t hf y => ?_,
    (dats m' 0 c).arrAt_eq_of_covers 13 _ (by decide +kernel) fun t hf y => ?_,
    (dats m' 0 c).arrAt_eq_of_covers 14 _ (by decide +kernel) fun t hf y => ?_,
    (dats m' 0 c).arrAt_eq_of_covers 15 _ (by decide +kernel) fun t hf y => ?_⟩ <;>
  blk_simp <;> obtain ⟨b0, b1, b2, b3, b4, b5, b6⟩ := blks m' m c t hs
  · rw [after0_7, b0, b1, b2, b3, b4, b5, b6]
    idx_vars y
    erw [(by blk_ext [idx t] : (win0_7.blk t).view.emb (ix2 y0 y1) = ix2 y0 y1)]
    refine (Kernel2Ideal.ProjValue.out7 m c f0 f1 f2 t0 y0 y1).trans ?_
    rw [row0, hs.h0, hs.h1, hs.h2, hs.h4]
    exact ((rows (m' ((c : Thread nD τ).loc main_arg0)) (m' ((c : Thread nD τ).loc main_arg1)) (m' ((c : Thread nD τ).loc main_arg2)) (m' ((c : Thread nD τ).loc main_arg3))
      (m' ((c : Thread nD τ).loc main_arg4)) (m' ((c : Thread nD τ).loc main_arg5)) (m' ((c : Thread nD τ).loc main_arg6)) (m' ((c : Thread nD τ).loc main_arg7)) y0).1 y1).symm
  · rw [after0_8, b0, b1, b2, b3, b4, b5, b6]
    idx_vars y
    erw [(by blk_ext [idx t] : (win0_8.blk t).view.emb (ix2 y0 y1) = ix2 y0 y1)]
    refine (Kernel2Ideal.ProjValue.out8 m c f0 f1 f2 t0 y0 y1).trans ?_
    rw [row0, hs.h0, hs.h1, hs.h2, hs.h5]
    exact ((rows (m' ((c : Thread nD τ).loc main_arg0)) (m' ((c : Thread nD τ).loc main_arg1)) (m' ((c : Thread nD τ).loc main_arg2)) (m' ((c : Thread nD τ).loc main_arg3))
      (m' ((c : Thread nD τ).loc main_arg4)) (m' ((c : Thread nD τ).loc main_arg5)) (m' ((c : Thread nD τ).loc main_arg6)) (m' ((c : Thread nD τ).loc main_arg7)) y0).2.1 y1).symm
  · rw [after0_9, b0, b1, b2, b3, b4, b5, b6]
    idx_vars y
    erw [(by blk_ext [idx t] : (win0_9.blk t).view.emb (ix2 y0 y1) = ix2 y0 y1)]
    refine (Kernel2Ideal.ProjValue.out9 m c t0 y0 y1).trans ?_
    rw [row0, hs.h0, hs.h1, hs.h2]
    exact ((rows (m' ((c : Thread nD τ).loc main_arg0)) (m' ((c : Thread nD τ).loc main_arg1)) (m' ((c : Thread nD τ).loc main_arg2)) (m' ((c : Thread nD τ).loc main_arg3))
      (m' ((c : Thread nD τ).loc main_arg4)) (m' ((c : Thread nD τ).loc main_arg5)) (m' ((c : Thread nD τ).loc main_arg6)) (m' ((c : Thread nD τ).loc main_arg7)) y0).2.2.1 y1).symm
  · rw [after0_10, b0, b1, b2, b3, b4, b5, b6]
    idx_vars y
    erw [(by blk_ext [idx t] : (win0_10.blk t).view.emb (ix2 y0 y1) = ix2 y0 y1)]
    refine (Kernel2Ideal.ProjValue.out10 m c t0 y0 y1).trans ?_
    rw [row0, hs.h0, hs.h1, hs.h2, hs.h3]
    exact ((rows (m' ((c : Thread nD τ).loc main_arg0)) (m' ((c : Thread nD τ).loc main_arg1)) (m' ((c : Thread nD τ).loc main_arg2)) (m' ((c : Thread nD τ).loc main_arg3))
      (m' ((c : Thread nD τ).loc main_arg4)) (m' ((c : Thread nD τ).loc main_arg5)) (m' ((c : Thread nD τ).loc main_arg6)) (m' ((c : Thread nD τ).loc main_arg7)) y0).2.2.2.1 y1).symm
  · rw [after0_11, b0, b1, b2, b3, b4, b5, b6]
    idx_vars y
    erw [(by blk_ext [idx t] : (win0_11.blk t).view.emb (ix2 y0 y1) = ix2 y0 y1)]
    refine (Kernel2Ideal.ProjValue.out11 m c f0 f1 f2 t0 y0 y1).trans ?_
    rw [row0, hs.h0, hs.h1, hs.h2, hs.h6]
    exact ((rows (m' ((c : Thread nD τ).loc main_arg0)) (m' ((c : Thread nD τ).loc main_arg1)) (m' ((c : Thread nD τ).loc main_arg2)) (m' ((c : Thread nD τ).loc main_arg3))
      (m' ((c : Thread nD τ).loc main_arg4)) (m' ((c : Thread nD τ).loc main_arg5)) (m' ((c : Thread nD τ).loc main_arg6)) (m' ((c : Thread nD τ).loc main_arg7)) y0).2.2.2.2.1 y1).symm
  · rw [after0_12, b0, b1, b2, b3, b4, b5, b6]
    idx_vars y
    erw [(by blk_ext [idx t] : (win0_12.blk t).view.emb (ix2 y0 y1) = ix2 y0 y1)]
    refine (Kernel2Ideal.ProjValue.out12 m c f0 f1 f2 t0 y0 y1).trans ?_
    rw [row0, hs.h0, hs.h1, hs.h2, hs.h7]
    exact ((rows (m' ((c : Thread nD τ).loc main_arg0)) (m' ((c : Thread nD τ).loc main_arg1)) (m' ((c : Thread nD τ).loc main_arg2)) (m' ((c : Thread nD τ).loc main_arg3))
      (m' ((c : Thread nD τ).loc main_arg4)) (m' ((c : Thread nD τ).loc main_arg5)) (m' ((c : Thread nD τ).loc main_arg6)) (m' ((c : Thread nD τ).loc main_arg7)) y0).2.2.2.2.2.1 y1).symm
  · rw [after0_13, b0, b1, b2, b3, b4, b5, b6]
    idx_vars y
    erw [(by blk_ext [idx t] : (win0_13.blk t).view.emb (ix2 y0 y1) = ix2 y0 y1)]
    refine (Kernel2Ideal.ProjValue.out13 m c t0 y0 y1).trans ?_
    rw [row0, hs.h0, hs.h1, hs.h2]
    exact ((rows (m' ((c : Thread nD τ).loc main_arg0)) (m' ((c : Thread nD τ).loc main_arg1)) (m' ((c : Thread nD τ).loc main_arg2)) (m' ((c : Thread nD τ).loc main_arg3))
      (m' ((c : Thread nD τ).loc main_arg4)) (m' ((c : Thread nD τ).loc main_arg5)) (m' ((c : Thread nD τ).loc main_arg6)) (m' ((c : Thread nD τ).loc main_arg7)) y0).2.2.2.2.2.2.1 y1).symm
  · rw [after0_14, b0, b1, b2, b3, b4, b5, b6]
    idx_vars y
    erw [(by blk_ext [idx t] : (win0_14.blk t).view.emb (ix2 y0 y1) = ix2 y0 y1)]
    refine (Kernel2Ideal.ProjValue.out14 m c t0 y0 y1).trans ?_
    rw [row0, hs.h0, hs.h1, hs.h2]
    exact ((rows (m' ((c : Thread nD τ).loc main_arg0)) (m' ((c : Thread nD τ).loc main_arg1)) (m' ((c : Thread nD τ).loc main_arg2)) (m' ((c : Thread nD τ).loc main_arg3))
      (m' ((c : Thread nD τ).loc main_arg4)) (m' ((c : Thread nD τ).loc main_arg5)) (m' ((c : Thread nD τ).loc main_arg6)) (m' ((c : Thread nD τ).loc main_arg7)) y0).2.2.2.2.2.2.2.1 y1).symm
  · rw [after0_15, b0, b1, b2, b3, b4, b5, b6]
    idx_vars y
    erw [(by blk_ext [idx t] : (win0_15.blk t).view.emb (ix2 y0 y1) = ix2 y0 y1)]
    refine (Kernel2Ideal.ProjValue.out15 m c t0 y0 y1).trans ?_
    rw [row0, hs.h0, hs.h1, hs.h2]
    exact ((rows (m' ((c : Thread nD τ).loc main_arg0)) (m' ((c : Thread nD τ).loc main_arg1)) (m' ((c : Thread nD τ).loc main_arg2)) (m' ((c : Thread nD τ).loc main_arg3))
      (m' ((c : Thread nD τ).loc main_arg4)) (m' ((c : Thread nD τ).loc main_arg5)) (m' ((c : Thread nD τ).loc main_arg6)) (m' ((c : Thread nD τ).loc main_arg7)) y0).2.2.2.2.2.2.2.2 y1).symm

end Cert.Kernel3Ideal.ProjValue

end
-- ==== Proof.ProjClaim3.lean ====
module

public import proofs.«01_k».proof.Defs
public import proofs.«01_k».proof.Proof.Proj3
public import proofs.«01_k».proof.Proof.Gen.Kernel3.Frame

@[expose] public section

set_option maxRecDepth 16384

noncomputable section

/-! # The in-projection of the sample rows: the claims -/

namespace Cert.Proof.Proj3

open Idealize.ShloMosaic Idealize.ShloMosaic.TcCoe Idealize.SL.Sem

/-- The kernel leaves its arguments and its counters as the claim says. -/
theorem frame_k : Cert.quiescent_Kernel3 := fun m ρ _ => Cert.Kernel3.Gen.frame m ρ
/-- So does its ideal reading, -/
theorem frame_ki : Cert.quiescent_Kernel3Ideal := fun m ρ _ => Cert.Kernel3Ideal.Gen.frame m ρ
/-- the same under the claim's precondition, -/
theorem frame_ki_pre [Cert.Pre_sample_args_finite.Facts] : Cert.quiescent_Kernel3Ideal_pre_sample_args_finite := fun m ρ _ => Cert.Kernel3Ideal.Gen.frame m ρ
/-- and so does the reference. -/
theorem frame_ri : Cert.quiescent_Reference3Ideal := fun m ρ _ =>
  (θ_run Cert.Reference3Ideal.defs _ _).mono (fun r h => ⟨fun c => (h c).2.2.2.2.2.2.2.2.2,
      Idealize.ShloMosaic.sem_eq_zero_of_no_sems (by decide) r.2⟩)
    (Cert.Reference3Ideal.Value.run (F := Ideal) m ρ)

/-- the same under the claim's precondition. -/
theorem frame_ri_pre [Cert.Pre_sample_args_finite.Facts] : Cert.quiescent_Reference3Ideal_pre_sample_args_finite := fun m ρ _ => frame_ri m ρ trivial

/-- The ideal pass rewrote nothing. -/
theorem preserves : Cert.preserves_Kernel3_Kernel3Ideal := trivial

/-- Over the extended reals the kernel and the reference end with the same results, where the rows,
    the norm's gains and the weight are finite. -/
theorem algebraic [Cert.Pre_sample_args_finite.Facts] :
    Cert.algebraic_Kernel3Ideal_Reference3Ideal_pre_sample_args_finite := by
  intro m ρ m' ρ' hp hag
  have F := fun c => Cert.Kernel3Ideal.ProjValue.finals m c (Cert.Kernel3Ideal.ProjValue.args_fin m hp c).1
    (Cert.Kernel3Ideal.ProjValue.args_fin m hp c).2.1 (Cert.Kernel3Ideal.ProjValue.args_fin m hp c).2.2
  refine ⟨_, _, _, _, _, _, _, _, _, (θ_run Cert.Kernel3Ideal.defs _ _).mono (fun r h c => ⟨(h c).1.trans (F c).1, (h c).2.1.trans (F c).2.1, (h c).2.2.1.trans (F c).2.2.1,
    (h c).2.2.2.1.trans (F c).2.2.2.1, (h c).2.2.2.2.1.trans (F c).2.2.2.2.1, (h c).2.2.2.2.2.1.trans (F c).2.2.2.2.2.1,
    (h c).2.2.2.2.2.2.1.trans (F c).2.2.2.2.2.2.1, (h c).2.2.2.2.2.2.2.1.trans (F c).2.2.2.2.2.2.2.1, (h c).2.2.2.2.2.2.2.2.1.trans (F c).2.2.2.2.2.2.2.2,
    (h c).2.2.2.2.2.2.2.2.2⟩) (Cert.Kernel3Ideal.Value.run_blocks (F := Ideal) m ρ), ?_⟩
  · refine (θ_run Cert.Reference3Ideal.defs _ _).mono (fun r h c => ?_) (Cert.Reference3Ideal.Value.run (F := Ideal) m' ρ')
    obtain ⟨h0, h1, h2, h3, h4, h5, h6, h7⟩ := hag c
    beta_reduce
    rw [← h0, ← h1, ← h2, ← h3, ← h4, ← h5, ← h6, ← h7]
    exact ⟨(h c).1.trans (Cert.Reference3Ideal.Read.val_main_v94_eq _ _ _ _), (h c).2.1.trans (Cert.Reference3Ideal.Read.val_main_v95_eq _ _ _ _), (h c).2.2.1.trans (Cert.Reference3Ideal.Read.val_main_v96_eq _ _ _), (h c).2.2.2.1.trans (Cert.Reference3Ideal.Read.val_main_v97_eq _ _), (h c).2.2.2.2.1.trans (Cert.Reference3Ideal.Read.val_main_v101_eq _ _), (h c).2.2.2.2.2.1.trans (Cert.Reference3Ideal.Read.val_main_v102_eq _ _ _ _), (h c).2.2.2.2.2.2.1.trans (Cert.Reference3Ideal.Read.val_main_v103_eq _ _ _), (h c).2.2.2.2.2.2.2.1.trans (Cert.Reference3Ideal.Read.val_main_v110_eq _ _ _), (h c).2.2.2.2.2.2.2.2.1.trans (Cert.Reference3Ideal.Read.val_main_v117_eq _ _ _), (h c).2.2.2.2.2.2.2.2.2⟩

end Cert.Proof.Proj3

end
-- ==== Proof.Out.lean ====
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

/-! # The out projection: what its three result arrays end holding -/

namespace Cert.Kernel4Ideal.OutValue

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block lies at a grid point: the row-blocked windows at block row `t`, the weights whole. -/
theorem idx : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = 0 ∧ win0_8.index t 1 = 0 ∧ win0_9.index t 0 = 0 ∧ win0_9.index t 1 = 0
    ∧ win0_10.index t 0 = 0 ∧ win0_10.index t 1 = 0 ∧ win0_11.index t 0 = t.val ∧ win0_11.index t 1 = 0
    ∧ win0_12.index t 0 = t.val ∧ win0_12.index t 1 = 0 ∧ win0_13.index t 0 = t.val ∧ win0_13.index t 1 = 0 :=
  (by decide +kernel : ∀ t : Fin grid0.N, _)

/-- The row of the whole array that is row `a` of block `t`. -/
abbrev row (t : Fin cfg0.N) (a : Fin 256) : Fin 32768 :=
  ⟨t.val * 256 + a.val, by have h : t.val < 128 := t.isLt; have := a.isLt; omega⟩

theorem blk0 (c : Dev nD) (t : Fin cfg0.N) (a : Fin 256) (b : Fin 1024) :
    iblk m c 0 t (ix2 a b) = m ((c : Thread nD τ).loc main_arg0) (ix2 (row t a) b) := by blk_ext [iblk, V, idx t]
theorem blk1 (c : Dev nD) (t : Fin cfg0.N) (a : Fin 256) (b : Fin 512) :
    iblk m c 1 t (ix2 a b) = m ((c : Thread nD τ).loc main_arg1) (ix2 (row t a) b) := by blk_ext [iblk, V, idx t]
theorem blk2 (c : Dev nD) (t : Fin cfg0.N) (a : Fin 256) (b : Fin 512) :
    iblk m c 2 t (ix2 a b) = m ((c : Thread nD τ).loc main_arg2) (ix2 (row t a) b) := by blk_ext [iblk, V, idx t]
theorem blk3 (c : Dev nD) (t : Fin cfg0.N) (a : Fin 256) (b : Fin 1024) :
    iblk m c 3 t (ix2 a b) = m ((c : Thread nD τ).loc main_arg3) (ix2 (row t a) b) := by blk_ext [iblk, V, idx t]
theorem blk4 (c : Dev nD) (t : Fin cfg0.N) (a : Fin 256) (b : Fin 1024) :
    iblk m c 4 t (ix2 a b) = m ((c : Thread nD τ).loc main_arg4) (ix2 (row t a) b) := by blk_ext [iblk, V, idx t]
theorem blk5 (c : Dev nD) (t : Fin cfg0.N) (a : Fin 512) (b : Fin 1024) :
    iblk m c 5 t (ix2 a b) = m ((c : Thread nD τ).loc main_arg5) (ix3 0 a b) := by
  have h : iblk m c 5 t (ix2 a b) = V m c main_v7 (ix2 a b) := by
    show V m c main_v7 _ = _
    refine congrArg (V m c main_v7) ?_
    blk_ext [idx t]
  rw [h]
  simp only [V, List.flatten, List.append_eq, List.cons_append, List.nil_append, List.append_nil, hostOps0, hostOps0_1,
    hostOps0_2, hostOps0_3, hostOps0_4, StableHlo.TRef.binary, StableHlo.TRef.unary, StableHlo.TRef.toBuf, StableHlo.TRef.ofBuf, cast_eq]
  after_results_simp
  pointwise
theorem blk6 (c : Dev nD) (t : Fin cfg0.N) (a : Fin 512) (b : Fin 1024) :
    iblk m c 6 t (ix2 a b) = m ((c : Thread nD τ).loc main_arg6) (ix3 0 a b) := by
  have h : iblk m c 6 t (ix2 a b) = V m c main_v9 (ix2 a b) := by
    show V m c main_v9 _ = _
    refine congrArg (V m c main_v9) ?_
    blk_ext [idx t]
  rw [h]
  simp only [V, List.flatten, List.append_eq, List.cons_append, List.nil_append, List.append_nil, hostOps0, hostOps0_1,
    hostOps0_2, hostOps0_3, hostOps0_4, StableHlo.TRef.binary, StableHlo.TRef.unary, StableHlo.TRef.toBuf, StableHlo.TRef.ofBuf, cast_eq]
  after_results_simp
  pointwise
theorem blk7 (c : Dev nD) (t : Fin cfg0.N) (a : Fin 1024) (b : Fin 1024) :
    iblk m c 7 t (ix2 a b) = m ((c : Thread nD τ).loc main_arg7) (ix3 0 a b) := by
  have h : iblk m c 7 t (ix2 a b) = V m c main_v11 (ix2 a b) := by
    show V m c main_v11 _ = _
    refine congrArg (V m c main_v11) ?_
    blk_ext [idx t]
  rw [h]
  simp only [V, List.flatten, List.append_eq, List.cons_append, List.nil_append, List.append_nil, hostOps0, hostOps0_1,
    hostOps0_2, hostOps0_3, hostOps0_4, StableHlo.TRef.binary, StableHlo.TRef.unary, StableHlo.TRef.toBuf, StableHlo.TRef.ofBuf, cast_eq]
  after_results_simp
  pointwise
theorem blk8 (c : Dev nD) (t : Fin cfg0.N) (a : Fin 1) (b : Fin 1024) :
    iblk m c 8 t (ix2 a b) = m ((c : Thread nD τ).loc main_arg8) (ix2 0 b) := by
  have h : iblk m c 8 t (ix2 a b) = V m c main_v13 (ix2 a b) := by
    show V m c main_v13 _ = _
    refine congrArg (V m c main_v13) ?_
    blk_ext [idx t]
  rw [h]
  simp only [V, List.flatten, List.append_eq, List.cons_append, List.nil_append, List.append_nil, hostOps0, hostOps0_1,
    hostOps0_2, hostOps0_3, hostOps0_4, StableHlo.TRef.binary, StableHlo.TRef.unary, StableHlo.TRef.toBuf, StableHlo.TRef.ofBuf, cast_eq]
  after_results_simp
  pointwise
theorem blk9 (c : Dev nD) (t : Fin cfg0.N) (a : Fin 1024) (b : Fin 128) :
    iblk m c 9 t (ix2 a b) = Cert.Reference4Ideal.Read.val_main_v27 (F := Ideal) (m ((c : Thread nD τ).loc main_arg9)) (ix2 a b) := by
  have h : iblk m c 9 t (ix2 a b) = V m c main_v2 (ix2 a b) := by
    show V m c main_v2 _ = _
    refine congrArg (V m c main_v2) ?_
    blk_ext [idx t]
  rw [h]
  simp only [V, List.flatten, List.append_eq, List.cons_append, List.nil_append, List.append_nil, hostOps0, hostOps0_1,
    hostOps0_2, hostOps0_3, hostOps0_4, StableHlo.TRef.binary, StableHlo.TRef.unary, StableHlo.TRef.toBuf, StableHlo.TRef.ofBuf, cast_eq]
  after_results_simp
  pointwise [Cert.Reference4Ideal.Read.val_main_v27, Cert.Reference4Ideal.Read.val_main_v29, Cert.Reference4Ideal.Read.val_main_v26, Cert.Reference4Ideal.Read.val_main_v28, Cert.Reference4Ideal.Read.val_main_call0_v0, Cert.Reference4Ideal.Read.val_main_call1_v0, Cert.Reference4Ideal.Read.val_main_c, Cert.Reference4Ideal.Read.val_main_c_2]
  try rfl
theorem blk10 (c : Dev nD) (t : Fin cfg0.N) (a : Fin 1) (b : Fin 128) :
    iblk m c 10 t (ix2 a b) = Cert.Reference4Ideal.Read.val_main_v29 (F := Ideal) (m ((c : Thread nD τ).loc main_arg10)) (ix1 b) := by
  have h : iblk m c 10 t (ix2 a b) = V m c main_v5 (ix2 a b) := by
    show V m c main_v5 _ = _
    refine congrArg (V m c main_v5) ?_
    blk_ext [idx t]
  rw [h]
  simp only [V, List.flatten, List.append_eq, List.cons_append, List.nil_append, List.append_nil, hostOps0, hostOps0_1,
    hostOps0_2, hostOps0_3, hostOps0_4, StableHlo.TRef.binary, StableHlo.TRef.unary, StableHlo.TRef.toBuf, StableHlo.TRef.ofBuf, cast_eq]
  after_results_simp
  pointwise [Cert.Reference4Ideal.Read.val_main_v27, Cert.Reference4Ideal.Read.val_main_v29, Cert.Reference4Ideal.Read.val_main_v26, Cert.Reference4Ideal.Read.val_main_v28, Cert.Reference4Ideal.Read.val_main_call0_v0, Cert.Reference4Ideal.Read.val_main_call1_v0, Cert.Reference4Ideal.Read.val_main_c, Cert.Reference4Ideal.Read.val_main_c_2]
  try rfl
theorem emb11 (t : Fin cfg0.N) (a : Fin 256) (b : Fin 1024) :
    (win0_11.blk t).view.emb (ix2 a b) = ix2 (row t a) b := by blk_ext [idx t]
theorem emb12 (t : Fin cfg0.N) (a : Fin 256) (b : Fin 1024) :
    (win0_12.blk t).view.emb (ix2 a b) = ix2 (row t a) b := by blk_ext [idx t]
theorem emb13 (t : Fin cfg0.N) (a : Fin 256) (b : Fin 128) :
    (win0_13.blk t).view.emb (ix2 a b) = ix2 (row t a) b := by blk_ext [idx t]
section
open Cert.Reference4Ideal.Read

/-- The first result array ends at the reference's residual sum. -/
theorem final11 (c : Dev nD) : (dats m 0 c).arrAt 11 cfg0.N
    = val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  frame_out
  idx_vars y
  erw [emb11]
  pointwise [k0_pay3, val_main_v11, val_main_v10, val_main_v9, val_main_v8, val_main_v7, val_main_v6, val_main_v5, val_main_v4, val_main_v3, val_main_v2, val_main_v1, val_main_v0]
  simp only [blk0, blk1, blk2, blk3, blk4, blk5, blk6, blk7, blk8]

/-- The second ends at its root-mean-square norm. -/
theorem final12 (c : Dev nD) : (dats m 0 c).arrAt 12 cfg0.N
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  rw [after0_12]
  frame_out
  idx_vars y
  erw [emb12]
  pointwise [k0_pay6, k0_pay7, k0_pay1, k0_pay5, k0_pay4, k0_pay3, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  try simp only [blk0, blk1, blk2, blk3, blk4, blk5, blk6, blk7, blk8]

/-- The third ends at the router's product of the norm, its lanes past the experts at zero. -/
theorem final13 (c : Dev nD) : (dats m 0 c).arrAt 13 cfg0.N
    = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 13 _ (by decide +kernel) fun t hf y => ?_
  blk_simp
  rw [after0_13]
  frame_out
  idx_vars y
  erw [emb13]
  pointwise [k0_pay6, k0_pay7, k0_pay2, k0_pay1, k0_pay5, k0_pay4, k0_pay3, val_main_v33, val_main_v32, val_main_v31, val_main_v30, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  try simp only [blk0, blk1, blk2, blk3, blk4, blk5, blk6, blk7, blk8, blk9, blk10]

end

end Cert.Kernel4Ideal.OutValue

end
-- ==== Proof.OutClaim.lean ====
module

public import proofs.«01_k».proof.Defs
public import proofs.«01_k».proof.Proof.Out
public import proofs.«01_k».proof.Proof.Gen.Kernel4.Frame

@[expose] public section

set_option maxRecDepth 16384

noncomputable section

/-! # The out projection: the claims -/

namespace Cert.Proof.Out

open Idealize.ShloMosaic Idealize.ShloMosaic.TcCoe Idealize.SL.Sem

/-- The kernel leaves its arguments and its counters as the claim says. -/
theorem frame_k : Cert.quiescent_Kernel4 := fun m ρ _ => Cert.Kernel4.Gen.frame m ρ
/-- So does its ideal reading, -/
theorem frame_ki : Cert.quiescent_Kernel4Ideal := fun m ρ _ => Cert.Kernel4Ideal.Gen.frame m ρ
/-- and so does the reference. -/
theorem frame_ri : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

/-- The ideal pass rewrote nothing. -/
theorem preserves : Cert.preserves_Kernel4_Kernel4Ideal := trivial

/-- Over the extended reals the kernel and the reference end with the same results. -/
theorem algebraic : Cert.algebraic_Kernel4Ideal_Reference4Ideal := by
  intro m ρ m' ρ' _ hag
  refine ⟨fun c => Cert.Reference4Ideal.Read.val_main_v11 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)),
    fun c => Cert.Reference4Ideal.Read.val_main_v25 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)),
    fun c => Cert.Reference4Ideal.Read.val_main_v33 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)),
    ?_, ?_⟩
  · refine (θ_run Cert.Kernel4Ideal.defs _ _).mono (fun r h c => ⟨(h c).1.trans (Cert.Kernel4Ideal.OutValue.final11 m c), (h c).2.1.trans (Cert.Kernel4Ideal.OutValue.final12 m c), (h c).2.2.1.trans (Cert.Kernel4Ideal.OutValue.final13 m c), (h c).2.2.2⟩) (Cert.Kernel4Ideal.Value.run_blocks (F := Ideal) m ρ)
  · refine (θ_run Cert.Reference4Ideal.defs _ _).mono (fun r h c => ?_) (Cert.Reference4Ideal.Value.run (F := Ideal) m' ρ')
    obtain ⟨h0, h1, h2, h3, h4, h5, h6, h7, h8, h9, h10⟩ := hag c
    beta_reduce
    rw [← h0, ← h1, ← h2, ← h3, ← h4, ← h5, ← h6, ← h7, ← h8, ← h9, ← h10]
    exact ⟨(h c).1.trans (Cert.Reference4Ideal.Read.val_main_v11_eq _ _ _ _ _ _ _ _), (h c).2.1.trans (Cert.Reference4Ideal.Read.val_main_v25_eq _ _ _ _ _ _ _ _ _), (h c).2.2.1.trans (Cert.Reference4Ideal.Read.val_main_v33_eq _ _ _ _ _ _ _ _ _ _ _), (h c).2.2.2⟩

end Cert.Proof.Out

end
-- ==== Proof.Ffn.lean ====
/- The run of the experts' call at any expert table in range, over the words: what each grid
point stores, that every argument ends unchanged, and what the output array holds at the end. -/
module

public import proofs.«01_k».proof.Defs
public import proofs.«01_k».proof.Proof.Gen.Kernel5
public import proofs.«01_k».proof.Proof.Gen.Kernel5.Skeleton
public import proofs.«01_k».proof.Proof.Gen.Kernel5.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.PureOps.Ideal
public import Idealize.ShloMosaic.Adequacy
public import Idealize.ShloMosaic.Init

@[expose] public section

set_option maxRecDepth 16384
set_option Elab.async false

noncomputable section

namespace Cert.Proof.Ffn

open Cert.Kernel5 Cert.Kernel5.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The tables the kernel is handed, whole. -/
abbrev tbM0_0 : Memref sig .tc .smem S544 .i32 := Memref.whole main_arg1
abbrev tbM0_1 : Memref sig .tc .smem S1 .i32 := Memref.whole main_arg2

/-- The number of used blocks, as the body reads it from the second table. -/
abbrev usedWord (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))

/-- The two conditions of the body exclude each other. -/
theorem cond_excl (i : grid0.Coords) (v : BitVec 32) : k0_cond1 i v = 1#1 → ¬ k0_cond2 i v = 1#1 := by
  unfold k0_cond1 k0_cond2
  simp only [Scalar.cmpi, Scalar.extui]
  generalize BitVec.ofNat 32 (i 0).val = z
  cases h : z.slt v <;> simp [IntOp.cmpi, h, BitVec.sle_eq_not_slt]

/-- One of the two conditions of the body holds. -/
theorem cond_or (i : grid0.Coords) (v : BitVec 32) : ¬ k0_cond1 i v = 1#1 → k0_cond2 i v = 1#1 := by
  unfold k0_cond1 k0_cond2
  simp only [Scalar.cmpi, Scalar.extui]
  generalize BitVec.ofNat 32 (i 0).val = z
  cases h : z.slt v <;> simp [IntOp.cmpi, h, BitVec.sle_eq_not_slt]

/-- One staging buffer of the output window, through which its contents are stated. -/
abbrev VO0_7 : View sig .tc .vmem S256x1024 .f32 := (Memref.whole cc0_stg7_0 : Memref sig .tc .vmem S256x1024 .f32).view

set_option backward.proofsInPublic true in
set_option maxHeartbeats 8000000 in
/-- The body at a block past the used ones: the pieces it stores into the output, with the proof that it runs to the end holding its inputs and
tables as they were and the output with those pieces written. -/
noncomputable def kernelRun0_A (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Bits .i32)) (T1 : (S1.Idx → Elt Bits .i32)) (x0 : (S256x1024.Idx → Elt Bits .f32)) (x1 : (S1x1024x1024.Idx → Elt Bits .bf16)) (x2 : (S1x1024x1024.Idx → Elt Bits .bf16)) (x3 : (S1x1x1024.Idx → Elt Bits .f32)) (x4 : (S1x1x1024.Idx → Elt Bits .f32)) (x5 : (S1x1024x1024.Idx → Elt Bits .bf16)) (x6 : (S1x1x1024.Idx → Elt Bits .f32)) (k0_h1 : ¬(k0_cond1 i (usedWord T1) = 1#1)) (k0_h2 : k0_cond2 i (usedWord T1) = 1#1) :
    { out0 : List (View.Piece (Elt Bits) S256x1024 .f32) //
      ∀ (K : PUnit → sProp 𝕄),
        iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6) ∗ (tbM0_0.view.loc (c : Thread nD τ) ↦{fullShare.right} T0) ∗ (tbM0_1.view.loc (c : Thread nD τ) ↦{fullShare.right} T1)
          ∗ (∃ d, owns (c : Thread nD τ) arg10 fullShare d)
          ∗ (iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6) ∗ (tbM0_0.view.loc (c : Thread nD τ) ↦{fullShare.right} T0) ∗ (tbM0_1.view.loc (c : Thread nD τ) ↦{fullShare.right} T1)
              ∗ (∃ f, arg10.view.loc (c : Thread nD τ) ↦[arg10.view.set]{fullShare} arg10.view.writes (Elt Bits) f out0)) -∗ K ⟨⟩))
          ⊢ wp frame (wpE (defs₀ (F := Bits)) Variants.none c none) Set.univ (cc0_expert_ffn i tbM0_0 (Memref.isWhole_whole _) tbM0_1 (Memref.isWhole_whole _) arg3 harg3 arg4 harg4 arg5 harg5 arg6 harg6 arg7 harg7 arg8 harg8 arg9 harg9 arg10 harg10) K } :=
  ⟨_, fun K => by
    unfold owns
    rw [cc0_expert_ffn_eq_skeleton]; unfold cc0_expert_ffn_skel
    iintro ⟨H0, H1, H2, H3, H4, H5, H6, HT0, HT1, ⟨%d7, %f7, -, HO7⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexists _; iexact HO7⟩

/-- Those pieces cover the output's block. -/
theorem cover0_A_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Bits .i32)) (T1 : (S1.Idx → Elt Bits .i32)) (x0 : (S256x1024.Idx → Elt Bits .f32)) (x1 : (S1x1024x1024.Idx → Elt Bits .bf16)) (x2 : (S1x1024x1024.Idx → Elt Bits .bf16)) (x3 : (S1x1x1024.Idx → Elt Bits .f32)) (x4 : (S1x1x1024.Idx → Elt Bits .f32)) (x5 : (S1x1024x1024.Idx → Elt Bits .bf16)) (x6 : (S1x1x1024.Idx → Elt Bits .f32)) (k0_h1 : ¬(k0_cond1 i (usedWord T1) = 1#1)) (k0_h2 : k0_cond2 i (usedWord T1) = 1#1) (y : S256x1024.Idx) :
    ∃ pc ∈ (kernelRun0_A c i arg3 harg3 arg4 harg4 arg5 harg5 arg6 harg6 arg7 harg7 arg8 harg8 arg9 harg9 arg10 harg10 T0 T1 x0 x1 x2 x3 x4 x5 x6 k0_h1 k0_h2).1, y ∈ pc.1.set :=
  View.cover_of_tiledL (kernelRun0_A c i arg3 harg3 arg4 harg4 arg5 harg5 arg6 harg6 arg7 harg7 arg8 harg8 arg9 harg9 arg10 harg10 T0 T1 x0 x1 x2 x3 x4 x5 x6 k0_h1 k0_h2).1 S256x1024.size (by sl_kernel_rfl) y

/-- What the body leaves in the output's staging buffer at a block past the used ones. -/
def out0_A_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Bits .i32)) (T1 : (S1.Idx → Elt Bits .i32)) (x0 : (S256x1024.Idx → Elt Bits .f32)) (x1 : (S1x1024x1024.Idx → Elt Bits .bf16)) (x2 : (S1x1024x1024.Idx → Elt Bits .bf16)) (x3 : (S1x1x1024.Idx → Elt Bits .f32)) (x4 : (S1x1x1024.Idx → Elt Bits .f32)) (x5 : (S1x1024x1024.Idx → Elt Bits .bf16)) (x6 : (S1x1x1024.Idx → Elt Bits .f32)) (k0_h1 : ¬(k0_cond1 i (usedWord T1) = 1#1)) (k0_h2 : k0_cond2 i (usedWord T1) = 1#1) : (S256x1024.Idx → Elt Bits .f32) :=
  VO0_7.read (Elt Bits) (VO0_7.writes (Elt Bits) VO0_7.junk (kernelRun0_A c i arg3 harg3 arg4 harg4 arg5 harg5 arg6 harg6 arg7 harg7 arg8 harg8 arg9 harg9 arg10 harg10 T0 T1 x0 x1 x2 x3 x4 x5 x6 k0_h1 k0_h2).1)

set_option backward.proofsInPublic true in
set_option maxHeartbeats 8000000 in
/-- The body at a used block: the pieces it stores into the output, with the proof that it runs to the end holding its inputs and
tables as they were and the output with those pieces written. -/
noncomputable def kernelRun0_B (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Bits .i32)) (T1 : (S1.Idx → Elt Bits .i32)) (x0 : (S256x1024.Idx → Elt Bits .f32)) (x1 : (S1x1024x1024.Idx → Elt Bits .bf16)) (x2 : (S1x1024x1024.Idx → Elt Bits .bf16)) (x3 : (S1x1x1024.Idx → Elt Bits .f32)) (x4 : (S1x1x1024.Idx → Elt Bits .f32)) (x5 : (S1x1024x1024.Idx → Elt Bits .bf16)) (x6 : (S1x1x1024.Idx → Elt Bits .f32)) (k0_h1 : k0_cond1 i (usedWord T1) = 1#1) (k0_h2 : ¬(k0_cond2 i (usedWord T1) = 1#1)) :
    { out0 : List (View.Piece (Elt Bits) S256x1024 .f32) //
      ∀ (K : PUnit → sProp 𝕄),
        iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6) ∗ (tbM0_0.view.loc (c : Thread nD τ) ↦{fullShare.right} T0) ∗ (tbM0_1.view.loc (c : Thread nD τ) ↦{fullShare.right} T1)
          ∗ (∃ d, owns (c : Thread nD τ) arg10 fullShare d)
          ∗ (iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6) ∗ (tbM0_0.view.loc (c : Thread nD τ) ↦{fullShare.right} T0) ∗ (tbM0_1.view.loc (c : Thread nD τ) ↦{fullShare.right} T1)
              ∗ (∃ f, arg10.view.loc (c : Thread nD τ) ↦[arg10.view.set]{fullShare} arg10.view.writes (Elt Bits) f out0)) -∗ K ⟨⟩))
          ⊢ wp frame (wpE (defs₀ (F := Bits)) Variants.none c none) Set.univ (cc0_expert_ffn i tbM0_0 (Memref.isWhole_whole _) tbM0_1 (Memref.isWhole_whole _) arg3 harg3 arg4 harg4 arg5 harg5 arg6 harg6 arg7 harg7 arg8 harg8 arg9 harg9 arg10 harg10) K } :=
  ⟨_, fun K => by
    unfold owns
    rw [cc0_expert_ffn_eq_skeleton]; unfold cc0_expert_ffn_skel
    rw [k0_part1_eq_skeleton]; unfold k0_part1_skel
    iintro ⟨H0, H1, H2, H3, H4, H5, H6, HT0, HT1, ⟨%d7, %f7, -, HO7⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexists _; iexact HO7⟩

/-- Those pieces cover the output's block. -/
theorem cover0_B_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Bits .i32)) (T1 : (S1.Idx → Elt Bits .i32)) (x0 : (S256x1024.Idx → Elt Bits .f32)) (x1 : (S1x1024x1024.Idx → Elt Bits .bf16)) (x2 : (S1x1024x1024.Idx → Elt Bits .bf16)) (x3 : (S1x1x1024.Idx → Elt Bits .f32)) (x4 : (S1x1x1024.Idx → Elt Bits .f32)) (x5 : (S1x1024x1024.Idx → Elt Bits .bf16)) (x6 : (S1x1x1024.Idx → Elt Bits .f32)) (k0_h1 : k0_cond1 i (usedWord T1) = 1#1) (k0_h2 : ¬(k0_cond2 i (usedWord T1) = 1#1)) (y : S256x1024.Idx) :
    ∃ pc ∈ (kernelRun0_B c i arg3 harg3 arg4 harg4 arg5 harg5 arg6 harg6 arg7 harg7 arg8 harg8 arg9 harg9 arg10 harg10 T0 T1 x0 x1 x2 x3 x4 x5 x6 k0_h1 k0_h2).1, y ∈ pc.1.set :=
  View.cover_of_tiledL (kernelRun0_B c i arg3 harg3 arg4 harg4 arg5 harg5 arg6 harg6 arg7 harg7 arg8 harg8 arg9 harg9 arg10 harg10 T0 T1 x0 x1 x2 x3 x4 x5 x6 k0_h1 k0_h2).1 S256x1024.size (by sl_kernel_rfl) y

/-- What the body leaves in the output's staging buffer at a used block. -/
def out0_B_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Bits .i32)) (T1 : (S1.Idx → Elt Bits .i32)) (x0 : (S256x1024.Idx → Elt Bits .f32)) (x1 : (S1x1024x1024.Idx → Elt Bits .bf16)) (x2 : (S1x1024x1024.Idx → Elt Bits .bf16)) (x3 : (S1x1x1024.Idx → Elt Bits .f32)) (x4 : (S1x1x1024.Idx → Elt Bits .f32)) (x5 : (S1x1024x1024.Idx → Elt Bits .bf16)) (x6 : (S1x1x1024.Idx → Elt Bits .f32)) (k0_h1 : k0_cond1 i (usedWord T1) = 1#1) (k0_h2 : ¬(k0_cond2 i (usedWord T1) = 1#1)) : (S256x1024.Idx → Elt Bits .f32) :=
  VO0_7.read (Elt Bits) (VO0_7.writes (Elt Bits) VO0_7.junk (kernelRun0_B c i arg3 harg3 arg4 harg4 arg5 harg5 arg6 harg6 arg7 harg7 arg8 harg8 arg9 harg9 arg10 harg10 T0 T1 x0 x1 x2 x3 x4 x5 x6 k0_h1 k0_h2).1)

variable (a : (pcfg0 (F := Bits)).Adm)

/-- The pipeline at the tables' contents `a`. -/
abbrev cfgA : Pipeline.Cfg sig Λ₀ := cfg0 (F := Bits) a
abbrev pcs : Fin 1 → Pipeline.Cfg sig Λ₀ := Pipeline.pin (pcfgs (F := Bits)) fun _ => a

variable (m : (ℓ : Loc nD τ sig) → Buf (Elt Bits) ℓ) (ρ : Dev nD → PrngReg)

/-- Point `t`'s coordinates. -/
abbrev crd (t : Fin (cfgA a).N) : (cfgA a).grid.Coords := (cfgA a).grid.coords t

/-- Each window's current staging memref at point `t`. -/
abbrev ms0_0 (t : Fin (cfgA a).N) : Memref sig .tc .vmem S256x1024 .f32 := spec0_0.stage ((cfgA a).slots t (0 : Fin 8))
abbrev hs0_0 (t : Fin (cfgA a).N) : (ms0_0 a t).IsWhole := hstage0_0 (((cfgA a).slots t (0 : Fin 8)).cast nbuf0_0)
abbrev ms0_1 (t : Fin (cfgA a).N) : Memref sig .tc .vmem S1x1024x1024 .bf16 := spec0_1.stage ((cfgA a).slots t (1 : Fin 8))
abbrev hs0_1 (t : Fin (cfgA a).N) : (ms0_1 a t).IsWhole := hstage0_1 (((cfgA a).slots t (1 : Fin 8)).cast nbuf0_1)
abbrev ms0_2 (t : Fin (cfgA a).N) : Memref sig .tc .vmem S1x1024x1024 .bf16 := spec0_2.stage ((cfgA a).slots t (2 : Fin 8))
abbrev hs0_2 (t : Fin (cfgA a).N) : (ms0_2 a t).IsWhole := hstage0_2 (((cfgA a).slots t (2 : Fin 8)).cast nbuf0_2)
abbrev ms0_3 (t : Fin (cfgA a).N) : Memref sig .tc .vmem S1x1x1024 .f32 := spec0_3.stage ((cfgA a).slots t (3 : Fin 8))
abbrev hs0_3 (t : Fin (cfgA a).N) : (ms0_3 a t).IsWhole := hstage0_3 (((cfgA a).slots t (3 : Fin 8)).cast nbuf0_3)
abbrev ms0_4 (t : Fin (cfgA a).N) : Memref sig .tc .vmem S1x1x1024 .f32 := spec0_4.stage ((cfgA a).slots t (4 : Fin 8))
abbrev hs0_4 (t : Fin (cfgA a).N) : (ms0_4 a t).IsWhole := hstage0_4 (((cfgA a).slots t (4 : Fin 8)).cast nbuf0_4)
abbrev ms0_5 (t : Fin (cfgA a).N) : Memref sig .tc .vmem S1x1024x1024 .bf16 := spec0_5.stage ((cfgA a).slots t (5 : Fin 8))
abbrev hs0_5 (t : Fin (cfgA a).N) : (ms0_5 a t).IsWhole := hstage0_5 (((cfgA a).slots t (5 : Fin 8)).cast nbuf0_5)
abbrev ms0_6 (t : Fin (cfgA a).N) : Memref sig .tc .vmem S1x1x1024 .f32 := spec0_6.stage ((cfgA a).slots t (6 : Fin 8))
abbrev hs0_6 (t : Fin (cfgA a).N) : (ms0_6 a t).IsWhole := hstage0_6 (((cfgA a).slots t (6 : Fin 8)).cast nbuf0_6)
abbrev ms0_7 (t : Fin (cfgA a).N) : Memref sig .tc .vmem S256x1024 .f32 := spec0_7.stage ((cfgA a).slots t (7 : Fin 8))
abbrev hs0_7 (t : Fin (cfgA a).N) : (ms0_7 a t).IsWhole := hstage0_7 (((cfgA a).slots t (7 : Fin 8)).cast nbuf0_7)

/-- Window `w`'s block at point `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

/-- The output window is stored at every point. -/
theorem idle7 (t : Fin (cfgA a).N) : (cfgA a).idle (7 : Fin 8) ((cfgA a).grid.coords t) = false := by
  show (!(k0_cond1 _ _ == 1#1) && !(k0_cond2 _ _ == 1#1)) = false
  by_cases h : k0_cond1 (crd a t) (a.1.atD 1 ![0]) = 1#1
  · rw [show k0_cond1 _ _ = 1#1 from h]; rfl
  · rw [show k0_cond2 _ _ = 1#1 from cond_or _ _ h, Bool.and_eq_false_iff]; right; rfl

/-- Whether point `t` is a used block. -/
abbrev Used (t : Fin (cfgA a).N) : Prop := k0_cond1 (crd a t) (usedWord (a.1 1)) = 1#1

/-- What point `t` leaves in the output's staging buffer. -/
def outAt (c : Dev nD) (t : Fin (cfgA a).N) : (S256x1024.Idx → Elt Bits .f32) :=
  if h : Used a t then
    out0_B_7 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk a m ρ c (0 : Fin 8) t) (iblk a m ρ c (1 : Fin 8) t) (iblk a m ρ c (2 : Fin 8) t) (iblk a m ρ c (3 : Fin 8) t) (iblk a m ρ c (4 : Fin 8) t) (iblk a m ρ c (5 : Fin 8) t) (iblk a m ρ c (6 : Fin 8) t) h (cond_excl _ _ h)
  else
    out0_A_7 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk a m ρ c (0 : Fin 8) t) (iblk a m ρ c (1 : Fin 8) t) (iblk a m ρ c (2 : Fin 8) t) (iblk a m ρ c (3 : Fin 8) t) (iblk a m ρ c (4 : Fin 8) t) (iblk a m ρ c (5 : Fin 8) t) (iblk a m ρ c (6 : Fin 8) t) h (cond_or _ _ h)

/-- The invariant: the body's halves of the tables. -/
def Phi (c : Dev nD) : sProp 𝕄 :=
  iprop((tbM0_0.view.loc (c : Thread nD τ) ↦{fullShare.right} (a.1 0)) ∗ (tbM0_1.view.loc (c : Thread nD τ) ↦{fullShare.right} (a.1 1)))

/-- The proof data of the pipeline. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 8) t
    | ⟨1, _⟩ => iblk a m ρ c (1 : Fin 8) t
    | ⟨2, _⟩ => iblk a m ρ c (2 : Fin 8) t
    | ⟨3, _⟩ => iblk a m ρ c (3 : Fin 8) t
    | ⟨4, _⟩ => iblk a m ρ c (4 : Fin 8) t
    | ⟨5, _⟩ => iblk a m ρ c (5 : Fin 8) t
    | ⟨6, _⟩ => iblk a m ρ c (6 : Fin 8) t
    | ⟨7, _⟩ => outAt a m ρ c t
  Φ t := Phi a c
  q _ := fullShare
  owed _ := 0

theorem after0_0 (c : Dev nD) (t : Fin (cfgA a).N) : (dats a m ρ 0 c).after (0 : Fin 8) t = iblk a m ρ c (0 : Fin 8) t := rfl
theorem after0_1 (c : Dev nD) (t : Fin (cfgA a).N) : (dats a m ρ 0 c).after (1 : Fin 8) t = iblk a m ρ c (1 : Fin 8) t := rfl
theorem after0_2 (c : Dev nD) (t : Fin (cfgA a).N) : (dats a m ρ 0 c).after (2 : Fin 8) t = iblk a m ρ c (2 : Fin 8) t := rfl
theorem after0_3 (c : Dev nD) (t : Fin (cfgA a).N) : (dats a m ρ 0 c).after (3 : Fin 8) t = iblk a m ρ c (3 : Fin 8) t := rfl
theorem after0_4 (c : Dev nD) (t : Fin (cfgA a).N) : (dats a m ρ 0 c).after (4 : Fin 8) t = iblk a m ρ c (4 : Fin 8) t := rfl
theorem after0_5 (c : Dev nD) (t : Fin (cfgA a).N) : (dats a m ρ 0 c).after (5 : Fin 8) t = iblk a m ρ c (5 : Fin 8) t := rfl
theorem after0_6 (c : Dev nD) (t : Fin (cfgA a).N) : (dats a m ρ 0 c).after (6 : Fin 8) t = iblk a m ρ c (6 : Fin 8) t := rfl
theorem after0_7 (c : Dev nD) (t : Fin (cfgA a).N) : (dats a m ρ 0 c).after (7 : Fin 8) t = outAt a m ρ c t := rfl

/-- Input window 0 holds its block when the body runs. -/
theorem before0_0 (c : Dev nD) (t : Fin (cfgA a).N) (d) : (dats a m ρ 0 c).before (0 : Fin 8) t d = iblk a m ρ c (0 : Fin 8) t :=
  ((dats a m ρ 0 c).before_in_eq_fetched (0 : Fin 8) rfl (fun _ => rfl) (fun _ _ _ => rfl) (fun t => by rw [after0_0]; unfold Dat.blockOf iblk; rfl) t d).trans
    (by unfold Dat.fetched Dat.blockOf iblk; rfl)
/-- Input window 1 holds its block when the body runs. -/
theorem before0_1 (c : Dev nD) (t : Fin (cfgA a).N) (d) : (dats a m ρ 0 c).before (1 : Fin 8) t d = iblk a m ρ c (1 : Fin 8) t :=
  ((dats a m ρ 0 c).before_in_eq_fetched (1 : Fin 8) rfl (fun _ => rfl) (fun _ _ _ => rfl) (fun t => by rw [after0_1]; unfold Dat.blockOf iblk; rfl) t d).trans
    (by unfold Dat.fetched Dat.blockOf iblk; rfl)
/-- Input window 2 holds its block when the body runs. -/
theorem before0_2 (c : Dev nD) (t : Fin (cfgA a).N) (d) : (dats a m ρ 0 c).before (2 : Fin 8) t d = iblk a m ρ c (2 : Fin 8) t :=
  ((dats a m ρ 0 c).before_in_eq_fetched (2 : Fin 8) rfl (fun _ => rfl) (fun _ _ _ => rfl) (fun t => by rw [after0_2]; unfold Dat.blockOf iblk; rfl) t d).trans
    (by unfold Dat.fetched Dat.blockOf iblk; rfl)
/-- Input window 3 holds its block when the body runs. -/
theorem before0_3 (c : Dev nD) (t : Fin (cfgA a).N) (d) : (dats a m ρ 0 c).before (3 : Fin 8) t d = iblk a m ρ c (3 : Fin 8) t :=
  ((dats a m ρ 0 c).before_in_eq_fetched (3 : Fin 8) rfl (fun _ => rfl) (fun _ _ _ => rfl) (fun t => by rw [after0_3]; unfold Dat.blockOf iblk; rfl) t d).trans
    (by unfold Dat.fetched Dat.blockOf iblk; rfl)
/-- Input window 4 holds its block when the body runs. -/
theorem before0_4 (c : Dev nD) (t : Fin (cfgA a).N) (d) : (dats a m ρ 0 c).before (4 : Fin 8) t d = iblk a m ρ c (4 : Fin 8) t :=
  ((dats a m ρ 0 c).before_in_eq_fetched (4 : Fin 8) rfl (fun _ => rfl) (fun _ _ _ => rfl) (fun t => by rw [after0_4]; unfold Dat.blockOf iblk; rfl) t d).trans
    (by unfold Dat.fetched Dat.blockOf iblk; rfl)
/-- Input window 5 holds its block when the body runs. -/
theorem before0_5 (c : Dev nD) (t : Fin (cfgA a).N) (d) : (dats a m ρ 0 c).before (5 : Fin 8) t d = iblk a m ρ c (5 : Fin 8) t :=
  ((dats a m ρ 0 c).before_in_eq_fetched (5 : Fin 8) rfl (fun _ => rfl) (fun _ _ _ => rfl) (fun t => by rw [after0_5]; unfold Dat.blockOf iblk; rfl) t d).trans
    (by unfold Dat.fetched Dat.blockOf iblk; rfl)
/-- Input window 6 holds its block when the body runs. -/
theorem before0_6 (c : Dev nD) (t : Fin (cfgA a).N) (d) : (dats a m ρ 0 c).before (6 : Fin 8) t d = iblk a m ρ c (6 : Fin 8) t :=
  ((dats a m ρ 0 c).before_in_eq_fetched (6 : Fin 8) rfl (fun _ => rfl) (fun _ _ _ => rfl) (fun t => by rw [after0_6]; unfold Dat.blockOf iblk; rfl) t d).trans
    (by unfold Dat.fetched Dat.blockOf iblk; rfl)

/-- The body at point `t` on its staging memrefs. -/
abbrev bodyAt0 (t : Fin (cfgA a).N) : Prog (TpuEff nD τ sig (Elt Bits) Λ₀ .tc) PUnit :=
  cc0_expert_ffn (crd a t) (Memref.whole main_arg1) (Memref.isWhole_whole _) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t)

set_option maxHeartbeats 4000000 in
/-- The body's obligation at point `t`. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 8) t d))
        ∗ (∃ d, owns (c : Thread nD τ) (ms0_1 a t) fullShare ((dats a m ρ 0 c).before (1 : Fin 8) t d))
        ∗ (∃ d, owns (c : Thread nD τ) (ms0_2 a t) fullShare ((dats a m ρ 0 c).before (2 : Fin 8) t d))
        ∗ (∃ d, owns (c : Thread nD τ) (ms0_3 a t) fullShare ((dats a m ρ 0 c).before (3 : Fin 8) t d))
        ∗ (∃ d, owns (c : Thread nD τ) (ms0_4 a t) fullShare ((dats a m ρ 0 c).before (4 : Fin 8) t d))
        ∗ (∃ d, owns (c : Thread nD τ) (ms0_5 a t) fullShare ((dats a m ρ 0 c).before (5 : Fin 8) t d))
        ∗ (∃ d, owns (c : Thread nD τ) (ms0_6 a t) fullShare ((dats a m ρ 0 c).before (6 : Fin 8) t d))
        ∗ (∃ d, owns (c : Thread nD τ) (ms0_7 a t) fullShare ((dats a m ρ 0 c).before (7 : Fin 8) t d)))
      ⊢ wp frame (wpE (defs₀ (F := Bits)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle7 a t]
  simp only [before0_0, before0_1, before0_2, before0_3, before0_4, before0_5, before0_6, after0_0, after0_1, after0_2, after0_3, after0_4, after0_5, after0_6, after0_7]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi
  by_cases hu : Used a t
  · rewrite [show outAt a m ρ c t = _ from dif_pos hu]
    iintro ⟨⟨HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk a m ρ c (0 : Fin 8) t) (iblk a m ρ c (1 : Fin 8) t) (iblk a m ρ c (2 : Fin 8) t) (iblk a m ρ c (3 : Fin 8) t) (iblk a m ρ c (4 : Fin 8) t) (iblk a m ρ c (5 : Fin 8) t) (iblk a m ρ c (6 : Fin 8) t) hu (cond_excl _ _ hu)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [H7]; · iexists _; iexact H7
    iintro ⟨H0, H1, H2, H3, H4, H5, H6, HT0, HT1, ⟨%e7, H7⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    unfold owns; iexists _; isplitr; swap
    · iexact H7
    · ipureintro; exact View.read_writes_of_cover _ _ _ _ _ (cover0_B_7 c _ _ _ _ _ _ _ _ _ _ _ _ _ _ _ _ _ _ _ _ _ _ _ _ _ _ _ _)

  · rewrite [show outAt a m ρ c t = _ from dif_neg hu]
    iintro ⟨⟨HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk a m ρ c (0 : Fin 8) t) (iblk a m ρ c (1 : Fin 8) t) (iblk a m ρ c (2 : Fin 8) t) (iblk a m ρ c (3 : Fin 8) t) (iblk a m ρ c (4 : Fin 8) t) (iblk a m ρ c (5 : Fin 8) t) (iblk a m ρ c (6 : Fin 8) t) hu (cond_or _ _ hu)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [H7]; · iexists _; iexact H7
    iintro ⟨H0, H1, H2, H3, H4, H5, H6, HT0, HT1, ⟨%e7, H7⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    unfold owns; iexists _; isplitr; swap
    · iexact H7
    · ipureintro; exact View.read_writes_of_cover _ _ _ _ _ (cover0_A_7 c _ _ _ _ _ _ _ _ _ _ _ _ _ _ _ _ _ _ _ _ _ _ _ _ _ _ _ _)

/-- The body's obligation at every point. -/
theorem body_obligation (c : Dev nD) : BodyObligation (dats a m ρ 0 c) (defs₀ (F := Bits)) Variants.none () Set.univ := fun t => by
  rw [bigSep_W0]
  exact sound_body a m ρ c t

/-- The launch element. -/
def u₀ : UR sig nD τ :=
  initOf (Pipeline.cells (pcs a) ((launch0 (F := Bits)).cellOf_inj fun _ => a))
    (Pipeline.launchToks (pcs a) ((launch0 (F := Bits)).cellOf_inj fun _ => a))

/-- Every window's array is held in full. -/
theorem share_eq (c : Dev nD) (w : Fin (cfgA a).W) : (dats a m ρ 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c from rfl]
  unfold Phi
  iintro ⟨-, ⟨HT0, HT1⟩, -⟩
  isplitl [HT0]
  · iexact HT0
  iexact HT1

/-- At the last point the tables are let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c from rfl]
  unfold Phi
  iintro ⟨-, -⟩
  isplitr; · iempintro
  iempintro

/-- Every array at what the pipeline computes, every table as it was. -/
def QC : PUnit × MemSt nD τ sig (Elt Bits) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From a memory whose tables hold `a`, every execution ends with each array at the computed contents and every counter at
zero. -/
theorem run_main_quiescent (hp : ∀ (c : Dev nD) (j : Fin 2), m ((c : Thread nD τ).loc (pre0.ref j)) = a.1 j) :
    θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre (emb₁ : Emb (UR sig nD τ) 𝕄) defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every execution ends, every argument array as it was and every counter at zero. -/
theorem frame (hp : ∀ (c : Dev nD) (j : Fin 2), m ((c : Thread nD τ).loc (pre0.ref j)) = a.1 j) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 (0 : Fin 8)).trans ((dats a m ρ 0 c).arrAt_in (0 : Fin 8) rfl _), ((h.1 c).2 0).trans (hp c 0).symm, ((h.1 c).2 1).trans (hp c 1).symm, ((h.1 c).1 (1 : Fin 8)).trans ((dats a m ρ 0 c).arrAt_in (1 : Fin 8) rfl _), ((h.1 c).1 (2 : Fin 8)).trans ((dats a m ρ 0 c).arrAt_in (2 : Fin 8) rfl _), ((h.1 c).1 (3 : Fin 8)).trans ((dats a m ρ 0 c).arrAt_in (3 : Fin 8) rfl _), ((h.1 c).1 (4 : Fin 8)).trans ((dats a m ρ 0 c).arrAt_in (4 : Fin 8) rfl _), ((h.1 c).1 (5 : Fin 8)).trans ((dats a m ρ 0 c).arrAt_in (5 : Fin 8) rfl _), ((h.1 c).1 (6 : Fin 8)).trans ((dats a m ρ 0 c).arrAt_in (6 : Fin 8) rfl _)⟩, h.2⟩) (run_main_quiescent a m ρ hp)

/-- The tables' contents from an expert table and a number of used blocks. -/
def tabs (T0 : S544.Idx → BitVec 32) (T1 : S1.Idx → BitVec 32) : pre0.Contents (Elt Bits) :=
  fun | ⟨0, _⟩ => T0 | ⟨1, _⟩ => T1 | ⟨_ + 2, h⟩ => absurd h (by simp)

/-- Window 1's blocks lie inside its array when every expert is in range. -/
theorem inb_1 (T0 : S544.Idx → BitVec 32) (T1 : S1.Idx → BitVec 32) (h0 : ∀ x, (T0 x).toNat < 32) (i : grid0.Coords) :
    ∀ x, (cc0_transform_1 k0_off1_inb numel1_S1 (tabs T0 T1) i x + 1) * S1x1024x1024.size x ≤ S32x1024x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl
/-- Window 2's blocks lie inside its array when every expert is in range. -/
theorem inb_2 (T0 : S544.Idx → BitVec 32) (T1 : S1.Idx → BitVec 32) (h0 : ∀ x, (T0 x).toNat < 32) (i : grid0.Coords) :
    ∀ x, (cc0_transform_2 k0_off1_inb numel1_S1 (tabs T0 T1) i x + 1) * S1x1024x1024.size x ≤ S32x1024x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl
/-- Window 3's blocks lie inside its array when every expert is in range. -/
theorem inb_3 (T0 : S544.Idx → BitVec 32) (T1 : S1.Idx → BitVec 32) (h0 : ∀ x, (T0 x).toNat < 32) (i : grid0.Coords) :
    ∀ x, (cc0_transform_3 k0_off1_inb numel1_S1 (tabs T0 T1) i x + 1) * S1x1x1024.size x ≤ S32x1x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl
/-- Window 4's blocks lie inside its array when every expert is in range. -/
theorem inb_4 (T0 : S544.Idx → BitVec 32) (T1 : S1.Idx → BitVec 32) (h0 : ∀ x, (T0 x).toNat < 32) (i : grid0.Coords) :
    ∀ x, (cc0_transform_4 k0_off1_inb numel1_S1 (tabs T0 T1) i x + 1) * S1x1x1024.size x ≤ S32x1x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl
/-- Window 5's blocks lie inside its array when every expert is in range. -/
theorem inb_5 (T0 : S544.Idx → BitVec 32) (T1 : S1.Idx → BitVec 32) (h0 : ∀ x, (T0 x).toNat < 32) (i : grid0.Coords) :
    ∀ x, (cc0_transform_5 k0_off1_inb numel1_S1 (tabs T0 T1) i x + 1) * S1x1024x1024.size x ≤ S32x1024x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl
/-- Window 6's blocks lie inside its array when every expert is in range. -/
theorem inb_6 (T0 : S544.Idx → BitVec 32) (T1 : S1.Idx → BitVec 32) (h0 : ∀ x, (T0 x).toNat < 32) (i : grid0.Coords) :
    ∀ x, (cc0_transform_6 k0_off1_inb numel1_S1 (tabs T0 T1) i x + 1) * S1x1x1024.size x ≤ S32x1x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl

/-- The tables are admissible when every expert is in range. -/
theorem tabs_ok (T0 : S544.Idx → BitVec 32) (T1 : S1.Idx → BitVec 32) (h0 : ∀ x, (T0 x).toNat < 32) : ok0 (F := Bits) (tabs T0 T1) :=
  ⟨fun i => ⟨inb_1 T0 T1 h0 i, .inr (Affine.block_words_dvd (s := S32x1024x1024) (p := EltTy.packing .bf16) (by decide) (by decide))⟩, fun i => ⟨inb_2 T0 T1 h0 i, .inr (Affine.block_words_dvd (s := S32x1024x1024) (p := EltTy.packing .bf16) (by decide) (by decide))⟩, fun i => ⟨inb_3 T0 T1 h0 i, .inl rfl⟩, fun i => ⟨inb_4 T0 T1 h0 i, .inl rfl⟩, fun i => ⟨inb_5 T0 T1 h0 i, .inr (Affine.block_words_dvd (s := S32x1024x1024) (p := EltTy.packing .bf16) (by decide) (by decide))⟩, fun i => ⟨inb_6 T0 T1 h0 i, .inl rfl⟩⟩

/-- The admissible contents so made. -/
def tabsA (T0 : S544.Idx → BitVec 32) (T1 : S1.Idx → BitVec 32) (h0 : ∀ x, (T0 x).toNat < 32) : (pcfg0 (F := Bits)).Adm :=
  ⟨tabs T0 T1, tabs_ok T0 T1 h0⟩

/-- The tables of the launch memory are the contents made of its two table arguments. -/
theorem tabs_mem (h0 : ∀ x, ((m (((0 : Dev nD) : Thread nD τ).loc main_arg1) : S544.Idx → BitVec 32) x).toNat < 32) (c : Dev nD) (j : Fin 2) :
    m ((c : Thread nD τ).loc (pre0.ref j))
      = (tabsA (m (((0 : Dev nD) : Thread nD τ).loc main_arg1)) (m (((0 : Dev nD) : Thread nD τ).loc main_arg2)) h0).1 j := by
  obtain rfl : c = 0 := Subsingleton.elim _ _
  fin_cases j
  · rfl
  · rfl

end Cert.Proof.Ffn

end
-- ==== Proof.FfnI.lean ====
/- The run of the experts' call at any expert table in range, over the extended reals: what each grid
point stores, that every argument ends unchanged, and what the output array holds at the end. -/
module

public import proofs.«01_k».proof.Defs
public import proofs.«01_k».proof.Proof.Gen.Kernel5Ideal
public import proofs.«01_k».proof.Proof.Gen.Kernel5Ideal.Skeleton
public import proofs.«01_k».proof.Proof.Gen.Kernel5Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.PureOps.Ideal
public import Idealize.ShloMosaic.Adequacy
public import Idealize.ShloMosaic.Init

@[expose] public section

set_option maxRecDepth 16384
set_option Elab.async false

noncomputable section

namespace Cert.Proof.FfnI

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The tables the kernel is handed, whole. -/
abbrev tbM0_0 : Memref sig .tc .smem S544 .i32 := Memref.whole main_arg1
abbrev tbM0_1 : Memref sig .tc .smem S1 .i32 := Memref.whole main_arg2

/-- The number of used blocks, as the body reads it from the second table. -/
abbrev usedWord (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))

/-- The two conditions of the body exclude each other. -/
theorem cond_excl (i : grid0.Coords) (v : BitVec 32) : k0_cond1 i v = 1#1 → ¬ k0_cond2 i v = 1#1 := by
  unfold k0_cond1 k0_cond2
  simp only [Scalar.cmpi, Scalar.extui]
  generalize BitVec.ofNat 32 (i 0).val = z
  cases h : z.slt v <;> simp [IntOp.cmpi, h, BitVec.sle_eq_not_slt]

/-- One of the two conditions of the body holds. -/
theorem cond_or (i : grid0.Coords) (v : BitVec 32) : ¬ k0_cond1 i v = 1#1 → k0_cond2 i v = 1#1 := by
  unfold k0_cond1 k0_cond2
  simp only [Scalar.cmpi, Scalar.extui]
  generalize BitVec.ofNat 32 (i 0).val = z
  cases h : z.slt v <;> simp [IntOp.cmpi, h, BitVec.sle_eq_not_slt]

/-- One staging buffer of the output window, through which its contents are stated. -/
abbrev VO0_7 : View sig .tc .vmem S256x1024 .f32 := (Memref.whole cc0_stg7_0 : Memref sig .tc .vmem S256x1024 .f32).view

set_option backward.proofsInPublic true in
set_option maxHeartbeats 8000000 in
/-- The body at a block past the used ones: the pieces it stores into the output, with the proof that it runs to the end holding its inputs and
tables as they were and the output with those pieces written. -/
noncomputable def kernelRun0_A (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Ideal .i32)) (T1 : (S1.Idx → Elt Ideal .i32)) (x0 : (S256x1024.Idx → Elt Ideal .f32)) (x1 : (S1x1024x1024.Idx → Elt Ideal .bf16)) (x2 : (S1x1024x1024.Idx → Elt Ideal .bf16)) (x3 : (S1x1x1024.Idx → Elt Ideal .f32)) (x4 : (S1x1x1024.Idx → Elt Ideal .f32)) (x5 : (S1x1024x1024.Idx → Elt Ideal .bf16)) (x6 : (S1x1x1024.Idx → Elt Ideal .f32)) (k0_h1 : ¬(k0_cond1 i (usedWord T1) = 1#1)) (k0_h2 : k0_cond2 i (usedWord T1) = 1#1) :
    { out0 : List (View.Piece (Elt Ideal) S256x1024 .f32) //
      ∀ (K : PUnit → sProp 𝕄),
        iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6) ∗ (tbM0_0.view.loc (c : Thread nD τ) ↦{fullShare.right} T0) ∗ (tbM0_1.view.loc (c : Thread nD τ) ↦{fullShare.right} T1)
          ∗ (∃ d, owns (c : Thread nD τ) arg10 fullShare d)
          ∗ (iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6) ∗ (tbM0_0.view.loc (c : Thread nD τ) ↦{fullShare.right} T0) ∗ (tbM0_1.view.loc (c : Thread nD τ) ↦{fullShare.right} T1)
              ∗ (∃ f, arg10.view.loc (c : Thread nD τ) ↦[arg10.view.set]{fullShare} arg10.view.writes (Elt Ideal) f out0)) -∗ K ⟨⟩))
          ⊢ wp frame (wpE (defs₀ (F := Ideal)) Variants.none c none) Set.univ (cc0_expert_ffn i tbM0_0 (Memref.isWhole_whole _) tbM0_1 (Memref.isWhole_whole _) arg3 harg3 arg4 harg4 arg5 harg5 arg6 harg6 arg7 harg7 arg8 harg8 arg9 harg9 arg10 harg10) K } :=
  ⟨_, fun K => by
    unfold owns
    rw [cc0_expert_ffn_eq_skeleton]; unfold cc0_expert_ffn_skel
    iintro ⟨H0, H1, H2, H3, H4, H5, H6, HT0, HT1, ⟨%d7, %f7, -, HO7⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexists _; iexact HO7⟩

/-- Those pieces cover the output's block. -/
theorem cover0_A_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Ideal .i32)) (T1 : (S1.Idx → Elt Ideal .i32)) (x0 : (S256x1024.Idx → Elt Ideal .f32)) (x1 : (S1x1024x1024.Idx → Elt Ideal .bf16)) (x2 : (S1x1024x1024.Idx → Elt Ideal .bf16)) (x3 : (S1x1x1024.Idx → Elt Ideal .f32)) (x4 : (S1x1x1024.Idx → Elt Ideal .f32)) (x5 : (S1x1024x1024.Idx → Elt Ideal .bf16)) (x6 : (S1x1x1024.Idx → Elt Ideal .f32)) (k0_h1 : ¬(k0_cond1 i (usedWord T1) = 1#1)) (k0_h2 : k0_cond2 i (usedWord T1) = 1#1) (y : S256x1024.Idx) :
    ∃ pc ∈ (kernelRun0_A c i arg3 harg3 arg4 harg4 arg5 harg5 arg6 harg6 arg7 harg7 arg8 harg8 arg9 harg9 arg10 harg10 T0 T1 x0 x1 x2 x3 x4 x5 x6 k0_h1 k0_h2).1, y ∈ pc.1.set :=
  View.cover_of_tiledL (kernelRun0_A c i arg3 harg3 arg4 harg4 arg5 harg5 arg6 harg6 arg7 harg7 arg8 harg8 arg9 harg9 arg10 harg10 T0 T1 x0 x1 x2 x3 x4 x5 x6 k0_h1 k0_h2).1 S256x1024.size (by sl_kernel_rfl) y

/-- What the body leaves in the output's staging buffer at a block past the used ones. -/
def out0_A_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Ideal .i32)) (T1 : (S1.Idx → Elt Ideal .i32)) (x0 : (S256x1024.Idx → Elt Ideal .f32)) (x1 : (S1x1024x1024.Idx → Elt Ideal .bf16)) (x2 : (S1x1024x1024.Idx → Elt Ideal .bf16)) (x3 : (S1x1x1024.Idx → Elt Ideal .f32)) (x4 : (S1x1x1024.Idx → Elt Ideal .f32)) (x5 : (S1x1024x1024.Idx → Elt Ideal .bf16)) (x6 : (S1x1x1024.Idx → Elt Ideal .f32)) (k0_h1 : ¬(k0_cond1 i (usedWord T1) = 1#1)) (k0_h2 : k0_cond2 i (usedWord T1) = 1#1) : (S256x1024.Idx → Elt Ideal .f32) :=
  VO0_7.read (Elt Ideal) (VO0_7.writes (Elt Ideal) VO0_7.junk (kernelRun0_A c i arg3 harg3 arg4 harg4 arg5 harg5 arg6 harg6 arg7 harg7 arg8 harg8 arg9 harg9 arg10 harg10 T0 T1 x0 x1 x2 x3 x4 x5 x6 k0_h1 k0_h2).1)

set_option backward.proofsInPublic true in
set_option maxHeartbeats 8000000 in
/-- The body at a used block: the pieces it stores into the output, with the proof that it runs to the end holding its inputs and
tables as they were and the output with those pieces written. -/
noncomputable def kernelRun0_B (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Ideal .i32)) (T1 : (S1.Idx → Elt Ideal .i32)) (x0 : (S256x1024.Idx → Elt Ideal .f32)) (x1 : (S1x1024x1024.Idx → Elt Ideal .bf16)) (x2 : (S1x1024x1024.Idx → Elt Ideal .bf16)) (x3 : (S1x1x1024.Idx → Elt Ideal .f32)) (x4 : (S1x1x1024.Idx → Elt Ideal .f32)) (x5 : (S1x1024x1024.Idx → Elt Ideal .bf16)) (x6 : (S1x1x1024.Idx → Elt Ideal .f32)) (k0_h1 : k0_cond1 i (usedWord T1) = 1#1) (k0_h2 : ¬(k0_cond2 i (usedWord T1) = 1#1)) :
    { out0 : List (View.Piece (Elt Ideal) S256x1024 .f32) //
      ∀ (K : PUnit → sProp 𝕄),
        iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6) ∗ (tbM0_0.view.loc (c : Thread nD τ) ↦{fullShare.right} T0) ∗ (tbM0_1.view.loc (c : Thread nD τ) ↦{fullShare.right} T1)
          ∗ (∃ d, owns (c : Thread nD τ) arg10 fullShare d)
          ∗ (iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6) ∗ (tbM0_0.view.loc (c : Thread nD τ) ↦{fullShare.right} T0) ∗ (tbM0_1.view.loc (c : Thread nD τ) ↦{fullShare.right} T1)
              ∗ (∃ f, arg10.view.loc (c : Thread nD τ) ↦[arg10.view.set]{fullShare} arg10.view.writes (Elt Ideal) f out0)) -∗ K ⟨⟩))
          ⊢ wp frame (wpE (defs₀ (F := Ideal)) Variants.none c none) Set.univ (cc0_expert_ffn i tbM0_0 (Memref.isWhole_whole _) tbM0_1 (Memref.isWhole_whole _) arg3 harg3 arg4 harg4 arg5 harg5 arg6 harg6 arg7 harg7 arg8 harg8 arg9 harg9 arg10 harg10) K } :=
  ⟨_, fun K => by
    unfold owns
    rw [cc0_expert_ffn_eq_skeleton]; unfold cc0_expert_ffn_skel
    rw [k0_part1_eq_skeleton]; unfold k0_part1_skel
    iintro ⟨H0, H1, H2, H3, H4, H5, H6, HT0, HT1, ⟨%d7, %f7, -, HO7⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexists _; iexact HO7⟩

/-- Those pieces cover the output's block. -/
theorem cover0_B_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Ideal .i32)) (T1 : (S1.Idx → Elt Ideal .i32)) (x0 : (S256x1024.Idx → Elt Ideal .f32)) (x1 : (S1x1024x1024.Idx → Elt Ideal .bf16)) (x2 : (S1x1024x1024.Idx → Elt Ideal .bf16)) (x3 : (S1x1x1024.Idx → Elt Ideal .f32)) (x4 : (S1x1x1024.Idx → Elt Ideal .f32)) (x5 : (S1x1024x1024.Idx → Elt Ideal .bf16)) (x6 : (S1x1x1024.Idx → Elt Ideal .f32)) (k0_h1 : k0_cond1 i (usedWord T1) = 1#1) (k0_h2 : ¬(k0_cond2 i (usedWord T1) = 1#1)) (y : S256x1024.Idx) :
    ∃ pc ∈ (kernelRun0_B c i arg3 harg3 arg4 harg4 arg5 harg5 arg6 harg6 arg7 harg7 arg8 harg8 arg9 harg9 arg10 harg10 T0 T1 x0 x1 x2 x3 x4 x5 x6 k0_h1 k0_h2).1, y ∈ pc.1.set :=
  View.cover_of_tiledL (kernelRun0_B c i arg3 harg3 arg4 harg4 arg5 harg5 arg6 harg6 arg7 harg7 arg8 harg8 arg9 harg9 arg10 harg10 T0 T1 x0 x1 x2 x3 x4 x5 x6 k0_h1 k0_h2).1 S256x1024.size (by sl_kernel_rfl) y

/-- What the body leaves in the output's staging buffer at a used block. -/
def out0_B_7 (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole) (T0 : (S544.Idx → Elt Ideal .i32)) (T1 : (S1.Idx → Elt Ideal .i32)) (x0 : (S256x1024.Idx → Elt Ideal .f32)) (x1 : (S1x1024x1024.Idx → Elt Ideal .bf16)) (x2 : (S1x1024x1024.Idx → Elt Ideal .bf16)) (x3 : (S1x1x1024.Idx → Elt Ideal .f32)) (x4 : (S1x1x1024.Idx → Elt Ideal .f32)) (x5 : (S1x1024x1024.Idx → Elt Ideal .bf16)) (x6 : (S1x1x1024.Idx → Elt Ideal .f32)) (k0_h1 : k0_cond1 i (usedWord T1) = 1#1) (k0_h2 : ¬(k0_cond2 i (usedWord T1) = 1#1)) : (S256x1024.Idx → Elt Ideal .f32) :=
  VO0_7.read (Elt Ideal) (VO0_7.writes (Elt Ideal) VO0_7.junk (kernelRun0_B c i arg3 harg3 arg4 harg4 arg5 harg5 arg6 harg6 arg7 harg7 arg8 harg8 arg9 harg9 arg10 harg10 T0 T1 x0 x1 x2 x3 x4 x5 x6 k0_h1 k0_h2).1)

variable (a : (pcfg0 (F := Ideal)).Adm)

/-- The pipeline at the tables' contents `a`. -/
abbrev cfgA : Pipeline.Cfg sig Λ₀ := cfg0 (F := Ideal) a
abbrev pcs : Fin 1 → Pipeline.Cfg sig Λ₀ := Pipeline.pin (pcfgs (F := Ideal)) fun _ => a

variable (m : (ℓ : Loc nD τ sig) → Buf (Elt Ideal) ℓ) (ρ : Dev nD → PrngReg)

/-- Point `t`'s coordinates. -/
abbrev crd (t : Fin (cfgA a).N) : (cfgA a).grid.Coords := (cfgA a).grid.coords t

/-- Each window's current staging memref at point `t`. -/
abbrev ms0_0 (t : Fin (cfgA a).N) : Memref sig .tc .vmem S256x1024 .f32 := spec0_0.stage ((cfgA a).slots t (0 : Fin 8))
abbrev hs0_0 (t : Fin (cfgA a).N) : (ms0_0 a t).IsWhole := hstage0_0 (((cfgA a).slots t (0 : Fin 8)).cast nbuf0_0)
abbrev ms0_1 (t : Fin (cfgA a).N) : Memref sig .tc .vmem S1x1024x1024 .bf16 := spec0_1.stage ((cfgA a).slots t (1 : Fin 8))
abbrev hs0_1 (t : Fin (cfgA a).N) : (ms0_1 a t).IsWhole := hstage0_1 (((cfgA a).slots t (1 : Fin 8)).cast nbuf0_1)
abbrev ms0_2 (t : Fin (cfgA a).N) : Memref sig .tc .vmem S1x1024x1024 .bf16 := spec0_2.stage ((cfgA a).slots t (2 : Fin 8))
abbrev hs0_2 (t : Fin (cfgA a).N) : (ms0_2 a t).IsWhole := hstage0_2 (((cfgA a).slots t (2 : Fin 8)).cast nbuf0_2)
abbrev ms0_3 (t : Fin (cfgA a).N) : Memref sig .tc .vmem S1x1x1024 .f32 := spec0_3.stage ((cfgA a).slots t (3 : Fin 8))
abbrev hs0_3 (t : Fin (cfgA a).N) : (ms0_3 a t).IsWhole := hstage0_3 (((cfgA a).slots t (3 : Fin 8)).cast nbuf0_3)
abbrev ms0_4 (t : Fin (cfgA a).N) : Memref sig .tc .vmem S1x1x1024 .f32 := spec0_4.stage ((cfgA a).slots t (4 : Fin 8))
abbrev hs0_4 (t : Fin (cfgA a).N) : (ms0_4 a t).IsWhole := hstage0_4 (((cfgA a).slots t (4 : Fin 8)).cast nbuf0_4)
abbrev ms0_5 (t : Fin (cfgA a).N) : Memref sig .tc .vmem S1x1024x1024 .bf16 := spec0_5.stage ((cfgA a).slots t (5 : Fin 8))
abbrev hs0_5 (t : Fin (cfgA a).N) : (ms0_5 a t).IsWhole := hstage0_5 (((cfgA a).slots t (5 : Fin 8)).cast nbuf0_5)
abbrev ms0_6 (t : Fin (cfgA a).N) : Memref sig .tc .vmem S1x1x1024 .f32 := spec0_6.stage ((cfgA a).slots t (6 : Fin 8))
abbrev hs0_6 (t : Fin (cfgA a).N) : (ms0_6 a t).IsWhole := hstage0_6 (((cfgA a).slots t (6 : Fin 8)).cast nbuf0_6)
abbrev ms0_7 (t : Fin (cfgA a).N) : Memref sig .tc .vmem S256x1024 .f32 := spec0_7.stage ((cfgA a).slots t (7 : Fin 8))
abbrev hs0_7 (t : Fin (cfgA a).N) : (ms0_7 a t).IsWhole := hstage0_7 (((cfgA a).slots t (7 : Fin 8)).cast nbuf0_7)

/-- Window `w`'s block at point `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-- The output window is stored at every point. -/
theorem idle7 (t : Fin (cfgA a).N) : (cfgA a).idle (7 : Fin 8) ((cfgA a).grid.coords t) = false := by
  show (!(k0_cond1 _ _ == 1#1) && !(k0_cond2 _ _ == 1#1)) = false
  by_cases h : k0_cond1 (crd a t) (a.1.atD 1 ![0]) = 1#1
  · rw [show k0_cond1 _ _ = 1#1 from h]; rfl
  · rw [show k0_cond2 _ _ = 1#1 from cond_or _ _ h, Bool.and_eq_false_iff]; right; rfl

/-- Whether point `t` is a used block. -/
abbrev Used (t : Fin (cfgA a).N) : Prop := k0_cond1 (crd a t) (usedWord (a.1 1)) = 1#1

/-- What point `t` leaves in the output's staging buffer. -/
def outAt (c : Dev nD) (t : Fin (cfgA a).N) : (S256x1024.Idx → Elt Ideal .f32) :=
  if h : Used a t then
    out0_B_7 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk a m ρ c (0 : Fin 8) t) (iblk a m ρ c (1 : Fin 8) t) (iblk a m ρ c (2 : Fin 8) t) (iblk a m ρ c (3 : Fin 8) t) (iblk a m ρ c (4 : Fin 8) t) (iblk a m ρ c (5 : Fin 8) t) (iblk a m ρ c (6 : Fin 8) t) h (cond_excl _ _ h)
  else
    out0_A_7 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk a m ρ c (0 : Fin 8) t) (iblk a m ρ c (1 : Fin 8) t) (iblk a m ρ c (2 : Fin 8) t) (iblk a m ρ c (3 : Fin 8) t) (iblk a m ρ c (4 : Fin 8) t) (iblk a m ρ c (5 : Fin 8) t) (iblk a m ρ c (6 : Fin 8) t) h (cond_or _ _ h)

/-- The invariant: the body's halves of the tables. -/
def Phi (c : Dev nD) : sProp 𝕄 :=
  iprop((tbM0_0.view.loc (c : Thread nD τ) ↦{fullShare.right} (a.1 0)) ∗ (tbM0_1.view.loc (c : Thread nD τ) ↦{fullShare.right} (a.1 1)))

/-- The proof data of the pipeline. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 8) t
    | ⟨1, _⟩ => iblk a m ρ c (1 : Fin 8) t
    | ⟨2, _⟩ => iblk a m ρ c (2 : Fin 8) t
    | ⟨3, _⟩ => iblk a m ρ c (3 : Fin 8) t
    | ⟨4, _⟩ => iblk a m ρ c (4 : Fin 8) t
    | ⟨5, _⟩ => iblk a m ρ c (5 : Fin 8) t
    | ⟨6, _⟩ => iblk a m ρ c (6 : Fin 8) t
    | ⟨7, _⟩ => outAt a m ρ c t
  Φ t := Phi a c
  q _ := fullShare
  owed _ := 0

theorem after0_0 (c : Dev nD) (t : Fin (cfgA a).N) : (dats a m ρ 0 c).after (0 : Fin 8) t = iblk a m ρ c (0 : Fin 8) t := rfl
theorem after0_1 (c : Dev nD) (t : Fin (cfgA a).N) : (dats a m ρ 0 c).after (1 : Fin 8) t = iblk a m ρ c (1 : Fin 8) t := rfl
theorem after0_2 (c : Dev nD) (t : Fin (cfgA a).N) : (dats a m ρ 0 c).after (2 : Fin 8) t = iblk a m ρ c (2 : Fin 8) t := rfl
theorem after0_3 (c : Dev nD) (t : Fin (cfgA a).N) : (dats a m ρ 0 c).after (3 : Fin 8) t = iblk a m ρ c (3 : Fin 8) t := rfl
theorem after0_4 (c : Dev nD) (t : Fin (cfgA a).N) : (dats a m ρ 0 c).after (4 : Fin 8) t = iblk a m ρ c (4 : Fin 8) t := rfl
theorem after0_5 (c : Dev nD) (t : Fin (cfgA a).N) : (dats a m ρ 0 c).after (5 : Fin 8) t = iblk a m ρ c (5 : Fin 8) t := rfl
theorem after0_6 (c : Dev nD) (t : Fin (cfgA a).N) : (dats a m ρ 0 c).after (6 : Fin 8) t = iblk a m ρ c (6 : Fin 8) t := rfl
theorem after0_7 (c : Dev nD) (t : Fin (cfgA a).N) : (dats a m ρ 0 c).after (7 : Fin 8) t = outAt a m ρ c t := rfl

/-- Input window 0 holds its block when the body runs. -/
theorem before0_0 (c : Dev nD) (t : Fin (cfgA a).N) (d) : (dats a m ρ 0 c).before (0 : Fin 8) t d = iblk a m ρ c (0 : Fin 8) t :=
  ((dats a m ρ 0 c).before_in_eq_fetched (0 : Fin 8) rfl (fun _ => rfl) (fun _ _ _ => rfl) (fun t => by rw [after0_0]; unfold Dat.blockOf iblk; rfl) t d).trans
    (by unfold Dat.fetched Dat.blockOf iblk; rfl)
/-- Input window 1 holds its block when the body runs. -/
theorem before0_1 (c : Dev nD) (t : Fin (cfgA a).N) (d) : (dats a m ρ 0 c).before (1 : Fin 8) t d = iblk a m ρ c (1 : Fin 8) t :=
  ((dats a m ρ 0 c).before_in_eq_fetched (1 : Fin 8) rfl (fun _ => rfl) (fun _ _ _ => rfl) (fun t => by rw [after0_1]; unfold Dat.blockOf iblk; rfl) t d).trans
    (by unfold Dat.fetched Dat.blockOf iblk; rfl)
/-- Input window 2 holds its block when the body runs. -/
theorem before0_2 (c : Dev nD) (t : Fin (cfgA a).N) (d) : (dats a m ρ 0 c).before (2 : Fin 8) t d = iblk a m ρ c (2 : Fin 8) t :=
  ((dats a m ρ 0 c).before_in_eq_fetched (2 : Fin 8) rfl (fun _ => rfl) (fun _ _ _ => rfl) (fun t => by rw [after0_2]; unfold Dat.blockOf iblk; rfl) t d).trans
    (by unfold Dat.fetched Dat.blockOf iblk; rfl)
/-- Input window 3 holds its block when the body runs. -/
theorem before0_3 (c : Dev nD) (t : Fin (cfgA a).N) (d) : (dats a m ρ 0 c).before (3 : Fin 8) t d = iblk a m ρ c (3 : Fin 8) t :=
  ((dats a m ρ 0 c).before_in_eq_fetched (3 : Fin 8) rfl (fun _ => rfl) (fun _ _ _ => rfl) (fun t => by rw [after0_3]; unfold Dat.blockOf iblk; rfl) t d).trans
    (by unfold Dat.fetched Dat.blockOf iblk; rfl)
/-- Input window 4 holds its block when the body runs. -/
theorem before0_4 (c : Dev nD) (t : Fin (cfgA a).N) (d) : (dats a m ρ 0 c).before (4 : Fin 8) t d = iblk a m ρ c (4 : Fin 8) t :=
  ((dats a m ρ 0 c).before_in_eq_fetched (4 : Fin 8) rfl (fun _ => rfl) (fun _ _ _ => rfl) (fun t => by rw [after0_4]; unfold Dat.blockOf iblk; rfl) t d).trans
    (by unfold Dat.fetched Dat.blockOf iblk; rfl)
/-- Input window 5 holds its block when the body runs. -/
theorem before0_5 (c : Dev nD) (t : Fin (cfgA a).N) (d) : (dats a m ρ 0 c).before (5 : Fin 8) t d = iblk a m ρ c (5 : Fin 8) t :=
  ((dats a m ρ 0 c).before_in_eq_fetched (5 : Fin 8) rfl (fun _ => rfl) (fun _ _ _ => rfl) (fun t => by rw [after0_5]; unfold Dat.blockOf iblk; rfl) t d).trans
    (by unfold Dat.fetched Dat.blockOf iblk; rfl)
/-- Input window 6 holds its block when the body runs. -/
theorem before0_6 (c : Dev nD) (t : Fin (cfgA a).N) (d) : (dats a m ρ 0 c).before (6 : Fin 8) t d = iblk a m ρ c (6 : Fin 8) t :=
  ((dats a m ρ 0 c).before_in_eq_fetched (6 : Fin 8) rfl (fun _ => rfl) (fun _ _ _ => rfl) (fun t => by rw [after0_6]; unfold Dat.blockOf iblk; rfl) t d).trans
    (by unfold Dat.fetched Dat.blockOf iblk; rfl)

/-- The body at point `t` on its staging memrefs. -/
abbrev bodyAt0 (t : Fin (cfgA a).N) : Prog (TpuEff nD τ sig (Elt Ideal) Λ₀ .tc) PUnit :=
  cc0_expert_ffn (crd a t) (Memref.whole main_arg1) (Memref.isWhole_whole _) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t)

set_option maxHeartbeats 4000000 in
/-- The body's obligation at point `t`. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 8) t d))
        ∗ (∃ d, owns (c : Thread nD τ) (ms0_1 a t) fullShare ((dats a m ρ 0 c).before (1 : Fin 8) t d))
        ∗ (∃ d, owns (c : Thread nD τ) (ms0_2 a t) fullShare ((dats a m ρ 0 c).before (2 : Fin 8) t d))
        ∗ (∃ d, owns (c : Thread nD τ) (ms0_3 a t) fullShare ((dats a m ρ 0 c).before (3 : Fin 8) t d))
        ∗ (∃ d, owns (c : Thread nD τ) (ms0_4 a t) fullShare ((dats a m ρ 0 c).before (4 : Fin 8) t d))
        ∗ (∃ d, owns (c : Thread nD τ) (ms0_5 a t) fullShare ((dats a m ρ 0 c).before (5 : Fin 8) t d))
        ∗ (∃ d, owns (c : Thread nD τ) (ms0_6 a t) fullShare ((dats a m ρ 0 c).before (6 : Fin 8) t d))
        ∗ (∃ d, owns (c : Thread nD τ) (ms0_7 a t) fullShare ((dats a m ρ 0 c).before (7 : Fin 8) t d)))
      ⊢ wp frame (wpE (defs₀ (F := Ideal)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle7 a t]
  simp only [before0_0, before0_1, before0_2, before0_3, before0_4, before0_5, before0_6, after0_0, after0_1, after0_2, after0_3, after0_4, after0_5, after0_6, after0_7]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi
  by_cases hu : Used a t
  · rewrite [show outAt a m ρ c t = _ from dif_pos hu]
    iintro ⟨⟨HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk a m ρ c (0 : Fin 8) t) (iblk a m ρ c (1 : Fin 8) t) (iblk a m ρ c (2 : Fin 8) t) (iblk a m ρ c (3 : Fin 8) t) (iblk a m ρ c (4 : Fin 8) t) (iblk a m ρ c (5 : Fin 8) t) (iblk a m ρ c (6 : Fin 8) t) hu (cond_excl _ _ hu)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [H7]; · iexists _; iexact H7
    iintro ⟨H0, H1, H2, H3, H4, H5, H6, HT0, HT1, ⟨%e7, H7⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    unfold owns; iexists _; isplitr; swap
    · iexact H7
    · ipureintro; exact View.read_writes_of_cover _ _ _ _ _ (cover0_B_7 c _ _ _ _ _ _ _ _ _ _ _ _ _ _ _ _ _ _ _ _ _ _ _ _ _ _ _ _)

  · rewrite [show outAt a m ρ c t = _ from dif_neg hu]
    iintro ⟨⟨HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (a.1 0) (a.1 1) (iblk a m ρ c (0 : Fin 8) t) (iblk a m ρ c (1 : Fin 8) t) (iblk a m ρ c (2 : Fin 8) t) (iblk a m ρ c (3 : Fin 8) t) (iblk a m ρ c (4 : Fin 8) t) (iblk a m ρ c (5 : Fin 8) t) (iblk a m ρ c (6 : Fin 8) t) hu (cond_or _ _ hu)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [H7]; · iexists _; iexact H7
    iintro ⟨H0, H1, H2, H3, H4, H5, H6, HT0, HT1, ⟨%e7, H7⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    unfold owns; iexists _; isplitr; swap
    · iexact H7
    · ipureintro; exact View.read_writes_of_cover _ _ _ _ _ (cover0_A_7 c _ _ _ _ _ _ _ _ _ _ _ _ _ _ _ _ _ _ _ _ _ _ _ _ _ _ _ _)

/-- The body's obligation at every point. -/
theorem body_obligation (c : Dev nD) : BodyObligation (dats a m ρ 0 c) (defs₀ (F := Ideal)) Variants.none () Set.univ := fun t => by
  rw [bigSep_W0]
  exact sound_body a m ρ c t

/-- The launch element. -/
def u₀ : UR sig nD τ :=
  initOf (Pipeline.cells (pcs a) ((launch0 (F := Ideal)).cellOf_inj fun _ => a))
    (Pipeline.launchToks (pcs a) ((launch0 (F := Ideal)).cellOf_inj fun _ => a))

/-- Every window's array is held in full. -/
theorem share_eq (c : Dev nD) (w : Fin (cfgA a).W) : (dats a m ρ 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c from rfl]
  unfold Phi
  iintro ⟨-, ⟨HT0, HT1⟩, -⟩
  isplitl [HT0]
  · iexact HT0
  iexact HT1

/-- At the last point the tables are let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c from rfl]
  unfold Phi
  iintro ⟨-, -⟩
  isplitr; · iempintro
  iempintro

/-- Every array at what the pipeline computes, every table as it was. -/
def QC : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From a memory whose tables hold `a`, every execution ends with each array at the computed contents and every counter at
zero. -/
theorem run_main_quiescent (hp : ∀ (c : Dev nD) (j : Fin 2), m ((c : Thread nD τ).loc (pre0.ref j)) = a.1 j) :
    θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre (emb₁ : Emb (UR sig nD τ) 𝕄) defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every execution ends, every argument array as it was and every counter at zero. -/
theorem frame (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 (0 : Fin 8)).trans ((dats a m ρ 0 c).arrAt_in (0 : Fin 8) rfl _), ((h.1 c).2 0).trans (hp c 0).symm, ((h.1 c).2 1).trans (hp c 1).symm, ((h.1 c).1 (1 : Fin 8)).trans ((dats a m ρ 0 c).arrAt_in (1 : Fin 8) rfl _), ((h.1 c).1 (2 : Fin 8)).trans ((dats a m ρ 0 c).arrAt_in (2 : Fin 8) rfl _), ((h.1 c).1 (3 : Fin 8)).trans ((dats a m ρ 0 c).arrAt_in (3 : Fin 8) rfl _), ((h.1 c).1 (4 : Fin 8)).trans ((dats a m ρ 0 c).arrAt_in (4 : Fin 8) rfl _), ((h.1 c).1 (5 : Fin 8)).trans ((dats a m ρ 0 c).arrAt_in (5 : Fin 8) rfl _), ((h.1 c).1 (6 : Fin 8)).trans ((dats a m ρ 0 c).arrAt_in (6 : Fin 8) rfl _)⟩, h.2⟩) (run_main_quiescent a m ρ hp)

/-- The tables' contents from an expert table and a number of used blocks. -/
def tabs (T0 : S544.Idx → BitVec 32) (T1 : S1.Idx → BitVec 32) : pre0.Contents (Elt Ideal) :=
  fun | ⟨0, _⟩ => T0 | ⟨1, _⟩ => T1 | ⟨_ + 2, h⟩ => absurd h (by simp)

/-- Window 1's blocks lie inside its array when every expert is in range. -/
theorem inb_1 (T0 : S544.Idx → BitVec 32) (T1 : S1.Idx → BitVec 32) (h0 : ∀ x, (T0 x).toNat < 32) (i : grid0.Coords) :
    ∀ x, (cc0_transform_1 k0_off1_inb numel1_S1 (tabs T0 T1) i x + 1) * S1x1024x1024.size x ≤ S32x1024x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl
/-- Window 2's blocks lie inside its array when every expert is in range. -/
theorem inb_2 (T0 : S544.Idx → BitVec 32) (T1 : S1.Idx → BitVec 32) (h0 : ∀ x, (T0 x).toNat < 32) (i : grid0.Coords) :
    ∀ x, (cc0_transform_2 k0_off1_inb numel1_S1 (tabs T0 T1) i x + 1) * S1x1024x1024.size x ≤ S32x1024x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl
/-- Window 3's blocks lie inside its array when every expert is in range. -/
theorem inb_3 (T0 : S544.Idx → BitVec 32) (T1 : S1.Idx → BitVec 32) (h0 : ∀ x, (T0 x).toNat < 32) (i : grid0.Coords) :
    ∀ x, (cc0_transform_3 k0_off1_inb numel1_S1 (tabs T0 T1) i x + 1) * S1x1x1024.size x ≤ S32x1x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl
/-- Window 4's blocks lie inside its array when every expert is in range. -/
theorem inb_4 (T0 : S544.Idx → BitVec 32) (T1 : S1.Idx → BitVec 32) (h0 : ∀ x, (T0 x).toNat < 32) (i : grid0.Coords) :
    ∀ x, (cc0_transform_4 k0_off1_inb numel1_S1 (tabs T0 T1) i x + 1) * S1x1x1024.size x ≤ S32x1x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl
/-- Window 5's blocks lie inside its array when every expert is in range. -/
theorem inb_5 (T0 : S544.Idx → BitVec 32) (T1 : S1.Idx → BitVec 32) (h0 : ∀ x, (T0 x).toNat < 32) (i : grid0.Coords) :
    ∀ x, (cc0_transform_5 k0_off1_inb numel1_S1 (tabs T0 T1) i x + 1) * S1x1024x1024.size x ≤ S32x1024x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl
/-- Window 6's blocks lie inside its array when every expert is in range. -/
theorem inb_6 (T0 : S544.Idx → BitVec 32) (T1 : S1.Idx → BitVec 32) (h0 : ∀ x, (T0 x).toNat < 32) (i : grid0.Coords) :
    ∀ x, (cc0_transform_6 k0_off1_inb numel1_S1 (tabs T0 T1) i x + 1) * S1x1x1024.size x ≤ S32x1x1024.size x := by
  intro x
  have h := h0 ((Rect.unit (s := S544) ![(Scalar.indexCast (BitVec.ofNat 32 (i 0).val) : Index).toNat] S1.size (k0_off1_inb i)).emb (Shape.Idx.first (numel1_S1.symm ▸ Nat.one_pos)))
  match x with
  | ⟨0, _⟩ => exact (Nat.mul_one _).trans_le h
  | ⟨1, _⟩ => exact Nat.le_of_eq rfl
  | ⟨2, _⟩ => exact Nat.le_of_eq rfl

/-- The tables are admissible when every expert is in range. -/
theorem tabs_ok (T0 : S544.Idx → BitVec 32) (T1 : S1.Idx → BitVec 32) (h0 : ∀ x, (T0 x).toNat < 32) : ok0 (F := Ideal) (tabs T0 T1) :=
  ⟨fun i => ⟨inb_1 T0 T1 h0 i, .inr (Affine.block_words_dvd (s := S32x1024x1024) (p := EltTy.packing .bf16) (by decide) (by decide))⟩, fun i => ⟨inb_2 T0 T1 h0 i, .inr (Affine.block_words_dvd (s := S32x1024x1024) (p := EltTy.packing .bf16) (by decide) (by decide))⟩, fun i => ⟨inb_3 T0 T1 h0 i, .inl rfl⟩, fun i => ⟨inb_4 T0 T1 h0 i, .inl rfl⟩, fun i => ⟨inb_5 T0 T1 h0 i, .inr (Affine.block_words_dvd (s := S32x1024x1024) (p := EltTy.packing .bf16) (by decide) (by decide))⟩, fun i => ⟨inb_6 T0 T1 h0 i, .inl rfl⟩⟩

/-- The admissible contents so made. -/
def tabsA (T0 : S544.Idx → BitVec 32) (T1 : S1.Idx → BitVec 32) (h0 : ∀ x, (T0 x).toNat < 32) : (pcfg0 (F := Ideal)).Adm :=
  ⟨tabs T0 T1, tabs_ok T0 T1 h0⟩

/-- The tables of the launch memory are the contents made of its two table arguments. -/
theorem tabs_mem (h0 : ∀ x, ((m (((0 : Dev nD) : Thread nD τ).loc main_arg1) : S544.Idx → BitVec 32) x).toNat < 32) (c : Dev nD) (j : Fin 2) :
    m ((c : Thread nD τ).loc (pre0.ref j))
      = (tabsA (m (((0 : Dev nD) : Thread nD τ).loc main_arg1)) (m (((0 : Dev nD) : Thread nD τ).loc main_arg2)) h0).1 j := by
  obtain rfl : c = 0 := Subsingleton.elim _ _
  fin_cases j
  · rfl
  · rfl

end Cert.Proof.FfnI

end
-- ==== Proof.FfnRef.lean ====
module

public import proofs.«01_k».proof.Proof.Gen.Reference5Ideal.Read
public import Idealize.ShloMosaic.Lib.Pipeline.ValueKit
public import Idealize.ShloMosaic.Lib.StableHlo.Predicate

@[expose] public section

set_option maxRecDepth 16384

noncomputable section

/-! # The experts' reference, read at a block, a row and a column -/

namespace Cert.Reference5Ideal.FfnRef

open Cert.Reference5Ideal Cert.Reference5Ideal.Gen Cert.Reference5Ideal.Read Idealize.ShloMosaic Idealize.ShloMosaic.TcCoe
open Idealize.ShloMosaic.StableHlo.Predicate (slt_iff_toNat)

/-- The dimension numbers of a gather of whole slabs down the first axis. -/
abbrev slabDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Such a gather read at an element: the slab the index word names, clamped. -/
theorem gather_slab {α : Type} {N A B n : Nat} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (p : Fin A) (q : Fin B) :
    Host.gather (slabDims N A B n wf) x idx (ix3 t p q)
      = x (ix3 ⟨min (idx (ix2 t (0 : Fin 1))).toInt.toNat (N - 1), by omega⟩ p q) := by
  unfold Host.gather
  refine congrArg x (funext fun a => Fin.ext ?_)
  show (slabDims N A B n wf).start (ix3 t p q) idx a + (slabDims N A B n wf).batchCoord (ix3 t p q) a + (slabDims N A B n wf).offCoord (ix3 t p q) a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  have n1 : (1 : Fin 3) ∉ (slabDims N A B n wf).collapsedSliceDims :=
    fun h => absurd (List.mem_singleton.mp h) (show ¬ (1 : Fin 3) = 0 from by decide)
  have n2 : (2 : Fin 3) ∉ (slabDims N A B n wf).collapsedSliceDims :=
    fun h => absurd (List.mem_singleton.mp h) (show ¬ (2 : Fin 3) = 0 from by decide)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N A B n wf).startIndexMap from List.mem_singleton.mpr rfl)]
    refine congrArg (fun z => min (idx z).toInt.toNat (N - 1)) ?_
    funext b
    refine Fin.ext ?_
    match b with
    | ⟨0, _⟩ => rfl
    | ⟨1, _⟩ => rfl
  · unfold GatherDims.start
    rw [dif_neg (show (1 : Fin 3) ∉ (slabDims N A B n wf).startIndexMap from n1)]
    unfold GatherDims.offCoord
    rw [dif_pos ((GatherDims.mem_sKept _ _).mpr ⟨n1, List.not_mem_nil⟩)]
    simp only [Nat.zero_add]
    rfl
  · unfold GatherDims.start
    rw [dif_neg (show (2 : Fin 3) ∉ (slabDims N A B n wf).startIndexMap from n2)]
    unfold GatherDims.offCoord
    rw [dif_pos ((GatherDims.mem_sKept _ _).mpr ⟨n2, List.not_mem_nil⟩)]
    simp only [Nat.zero_add]
    rfl

/-- An expert number in range is its own wrapped index. -/
theorem wrap {x : BitVec 32} (h : x.toNat < 32) :
    Scalar.select (IntOp.cmpi .slt x 0#32) (IntOp.addi x 32#32) x = x := by
  have hn : ¬ IntOp.cmpi .slt x 0#32 = 1#1 := fun e => by
    have := (slt_iff_toNat (by omega) (by decide)).1 e
    simp at this
  exact if_neg hn

/-- and it is not clamped. -/
theorem clampv {x : BitVec 32} (h : x.toNat < 32) : min x.toInt.toNat (32 - 1) = x.toNat := by
  rw [BitVec.toInt_eq_toNat_of_lt (by omega)]
  simp only [Int.toNat_natCast]
  omega

/-- The slab of the weights a block's expert names. -/
theorem gatherW (x1 : S544.Idx → BitVec 32) (h : ∀ i, (x1 i).toNat < 32) (w : S32x1024x1024.Idx → EReal) (t : Fin 544) (k q : Fin 1024) :
    val_main_v8 (F := Ideal) x1 w (ix3 t k q) = w (ix3 ⟨(x1 (ix1 t)).toNat, h _⟩ k q) := by
  have e : val_main_v7 (F := Ideal) x1 (ix2 t (0 : Fin 1)) = x1 (ix1 t) := by
    rw [val_main_v7_apply]
    exact (wrap (x := x1 (idx_main_v7 (ix2 t (0 : Fin 1)))) (h _)).trans (congrArg x1 (by funext a; match a with | ⟨0, _⟩ => rfl))
  refine (gather_slab (by decide) _ _ _ t k q).trans ?_
  refine congrArg w ?_
  refine congrArg (fun z => ix3 z k q) (Fin.ext ?_)
  show min (val_main_v7 (F := Ideal) x1 (ix2 t (0 : Fin 1))).toInt.toNat (32 - 1) = _
  rw [e]
  exact clampv (h _)

/-- The slab of a bias a block's expert names. -/
theorem gatherB (x1 : S544.Idx → BitVec 32) (h : ∀ i, (x1 i).toNat < 32) (w : S32x1x1024.Idx → EReal) (t : Fin 544) (k : Fin 1) (q : Fin 1024) :
    val_main_v32 (F := Ideal) x1 w (ix3 t k q) = w (ix3 ⟨(x1 (ix1 t)).toNat, h _⟩ k q) := by
  have e : val_main_v31 (F := Ideal) x1 (ix2 t (0 : Fin 1)) = x1 (ix1 t) := by
    rw [val_main_v31_apply]
    exact (wrap (x := x1 (idx_main_v31 (ix2 t (0 : Fin 1)))) (h _)).trans (congrArg x1 (by funext a; match a with | ⟨0, _⟩ => rfl))
  refine (gather_slab (by decide) _ _ _ t k q).trans ?_
  refine congrArg w ?_
  refine congrArg (fun z => ix3 z k q) (Fin.ext ?_)
  show min (val_main_v31 (F := Ideal) x1 (ix2 t (0 : Fin 1))).toInt.toNat (32 - 1) = _
  rw [e]
  exact clampv (h _)

/-- The row of the whole array that is row `p` of block `t`. -/
abbrev row (t : Fin 544) (p : Fin 256) : Fin 139264 := ⟨t.val * 256 + p.val, by have := t.isLt; have := p.isLt; omega⟩

/-- One element of an expert's output row: the row through the gate and the up projection, clipped, joined and through the
down projection. -/
def ffn (xr : Fin 1024 → EReal) (wg wu : Fin 1024 → Fin 1024 → EReal) (bg bu : Fin 1024 → EReal) (wd : Fin 1024 → EReal) (bd : EReal) : EReal :=
  ∑ k, (min (Ideal.ofBits .f32 0x40E00000#32) (max (Ideal.ofBits .f32 0xC0E00000#32) (∑ x, xr x * wu x k + bu k)) + 1)
      * (min (∑ x, xr x * wg x k + bg k) (Ideal.ofBits .f32 0x40E00000#32)
        * Ideal.div 1 (1 + Ideal.exp (-(Ideal.ofBits .f32 0x3FD9DB23#32 * min (∑ x, xr x * wg x k + bg k) (Ideal.ofBits .f32 0x40E00000#32)))))
      * wd k + bd

/-- The constant stored where a block is not used. -/
theorem zero_const : (id (constant (F := Ideal) S_ .f32 0x00000000#32) ix0 : EReal) = 0 := by
  show (constant (F := Ideal) S_ .f32 0x00000000#32) ix0 = (0 : EReal)
  pointwise

/-- The reference's element at row `p` of block `t`, column `q`: the block's expert at the row where the block is used, zero
where it is not. -/
theorem v75_at (x0 : S139264x1024.Idx → EReal) (x1 : S544.Idx → BitVec 32) (h : ∀ i, (x1 i).toNat < 32) (x2 : S1.Idx → BitVec 32) (x3 x4 : S32x1024x1024.Idx → EReal)
    (x5 x6 : S32x1x1024.Idx → EReal) (x7 : S32x1024x1024.Idx → EReal) (x8 : S32x1x1024.Idx → EReal) (t : Fin 544) (p : Fin 256) (q : Fin 1024) :
    val_main_v75 (F := Ideal) x0 x1 x2 x3 x4 x5 x6 x7 x8 (ix3 t p q)
      = Scalar.select (IntOp.cmpi .slt (BitVec.ofNat 32 t.val) (x2 (ix1 0)))
          (ffn (fun k => x0 (ix2 (row t p) k)) (fun a b => x3 (ix3 ⟨(x1 (ix1 t)).toNat, h _⟩ a b))
            (fun a b => x4 (ix3 ⟨(x1 (ix1 t)).toNat, h _⟩ a b))
            (fun b => x5 (ix3 ⟨(x1 (ix1 t)).toNat, h _⟩ 0 b)) (fun b => x6 (ix3 ⟨(x1 (ix1 t)).toNat, h _⟩ 0 b))
            (fun a => x7 (ix3 ⟨(x1 (ix1 t)).toNat, h _⟩ a q)) (x8 (ix3 ⟨(x1 (ix1 t)).toNat, h _⟩ 0 q)))
          (0 : EReal) := by
  have G8 : ∀ w, val_main_v8 (F := Ideal) x1 w = fun i : S544x1024x1024.Idx => w (ix3 ⟨(x1 (ix1 (i 0))).toNat, h _⟩ (i 1) (i 2)) := fun w => by
    funext i; idx_vars i; exact gatherW x1 h w _ _ _
  have G32 : ∀ w, val_main_v32 (F := Ideal) x1 w = fun i : S544x1x1024.Idx => w (ix3 ⟨(x1 (ix1 (i 0))).toNat, h _⟩ (i 1) (i 2)) := fun w => by
    funext i; idx_vars i; exact gatherB x1 h w _ _ _
  have G16 : ∀ w, val_main_v16 (F := Ideal) x1 w = _ := G8
  have G24 : ∀ w, val_main_v24 (F := Ideal) x1 w = _ := G8
  have G44 : ∀ w, val_main_v44 (F := Ideal) x1 w = _ := G32
  have G67 : ∀ w, val_main_v67 (F := Ideal) x1 w = _ := G32
  pointwise [val_main_v75, val_main_v74, val_main_v73, val_main_v72, val_main_v71, val_main_v70, val_main_call1_v1, val_main_call1_v2, val_main_call1_v0, val_main_cst_17, val_main_v69, val_main_v68, val_main_v60, val_main_v59, val_main_v58, val_main_v57, val_main_v56, val_main_v55, val_main_v54, val_main_v53, val_main_v52, val_main_v51, val_main_v50, val_main_v49, val_main_v48, val_main_v47, val_main_call0_v4, val_main_call0_v3, val_main_call0_v2, val_main_call0_v1, val_main_call0_v0, val_main_v46, val_main_v45, val_main_v37, val_main_v36, val_main_v35, val_main_v34, val_main_v33, val_main_v25, val_main_v0, val_main_cst, val_main_cst_9, val_main_cst_10, val_main_cst_11, val_main_cst_12, val_main_cst_13, val_main_cst_14, G8, G32, G16, G24, G44, G67]
  exact congrArg (Scalar.select _ _) zero_const

/-- The same of the result array, its blocks' rows one after the other. -/
theorem v76_at (x0 : S139264x1024.Idx → EReal) (x1 : S544.Idx → BitVec 32) (x2 : S1.Idx → BitVec 32) (x3 x4 : S32x1024x1024.Idx → EReal)
    (x5 x6 : S32x1x1024.Idx → EReal) (x7 : S32x1024x1024.Idx → EReal) (x8 : S32x1x1024.Idx → EReal) (t : Fin 544) (p : Fin 256) (q : Fin 1024) :
    val_main_v76 (F := Ideal) x0 x1 x2 x3 x4 x5 x6 x7 x8 (ix2 (row t p) q)
      = val_main_v75 (F := Ideal) x0 x1 x2 x3 x4 x5 x6 x7 x8 (ix3 t p q) := by
  rw [val_main_v76_apply]
  refine congrArg _ ?_
  have ht := t.isLt; have hp := p.isLt; have hq := q.isLt
  funext a
  refine Fin.ext ?_
  match a with
  | ⟨0, _⟩ => show ((t.val * 256 + p.val) * 1024 + q.val) / 262144 = t.val; omega
  | ⟨1, _⟩ => show ((t.val * 256 + p.val) * 1024 + q.val) / 1024 % 256 = p.val; omega
  | ⟨2, _⟩ => show ((t.val * 256 + p.val) * 1024 + q.val) % 1024 = q.val; omega

end Cert.Reference5Ideal.FfnRef

end
-- ==== Proof.FfnV.lean ====
module

public import proofs.«01_k».proof.Proof.FfnI
public import proofs.«01_k».proof.Proof.FfnRef
public import Idealize.ShloMosaic.Lib.Pipeline.ValueKit

@[expose] public section

set_option maxRecDepth 16384

noncomputable section

/-! # The experts' call over the extended reals: what its result array ends holding -/

namespace Cert.Proof.FfnI

open Cert.Kernel5Ideal Cert.Kernel5Ideal.Gen Idealize.ShloMosaic Idealize.ShloMosaic.TcCoe Idealize.SL.Sem
open Idealize.ShloMosaic.Pipeline (Dat)
open Cert.Reference5Ideal.FfnRef (ffn row)

/-- What a used block's store computes, at an element. -/
theorem pay_at (x0 : S256x1024.Idx → EReal) (x1 x2 : S1x1024x1024.Idx → EReal) (x3 x4 : S1x1x1024.Idx → EReal) (x5 : S1x1024x1024.Idx → EReal)
    (x6 : S1x1x1024.Idx → EReal) (p : Fin 256) (q : Fin 1024) :
    k0_pay1 (F := Ideal) (k0_pay3 (F := Ideal) x0 x1 x3 x2 x4 x5) x6 (ix2 p q)
      = ffn (fun k => x0 (ix2 p k)) (fun a b => x1 (ix3 0 a b)) (fun a b => x2 (ix3 0 a b))
          (fun b => x3 (ix3 0 0 b)) (fun b => x4 (ix3 0 0 b)) (fun a => x5 (ix3 0 a q)) (x6 (ix3 0 0 q)) := by
  pointwise [k0_pay1, k0_pay3]
  rfl

variable (a : (pcfg0 (F := Ideal)).Adm) (m : (ℓ : Loc nD τ sig) → Buf (Elt Ideal) ℓ) (ρ : Dev nD → PrngReg)

theorem tr0 : ∀ t : Fin grid0.N, cc0_transform_0 (grid0.coords t) 0 = t.val ∧ cc0_transform_0 (grid0.coords t) 1 = 0 := by decide +kernel
theorem tr7 : ∀ t : Fin grid0.N, cc0_transform_7 (grid0.coords t) 0 = t.val ∧ cc0_transform_7 (grid0.coords t) 1 = 0 := by decide +kernel
theorem off1 : ∀ t : Fin grid0.N, (Scalar.indexCast (BitVec.ofNat 32 (grid0.coords t 0).val) : Index).toNat = t.val := by decide +kernel
theorem crd_at : ∀ t : Fin grid0.N, (grid0.coords t 0).val = t.val := by decide +kernel

/-- The table's entry read at block `t`. -/
theorem entry (t : Fin grid0.N) : (Rect.unit (s := S544) ![(Scalar.indexCast (BitVec.ofNat 32 (grid0.coords t 0).val) : Index).toNat] S1.size (k0_off1_inb (grid0.coords t))).emb (Shape.Idx.first (numel1_S1.symm ▸ Nat.one_pos)) = (ix1 (t : Fin 544) : S544.Idx) := by
  funext b
  match b with
  | ⟨0, _⟩ =>
    refine Fin.ext ?_
    show (Scalar.indexCast (BitVec.ofNat 32 (grid0.coords t 0).val) : Index).toNat + 1 * 0 = t.val
    rw [off1]; omega

theorem idx0 (t : Fin (cfgA a).N) : ((pcfg0 (F := Ideal)).win a 0).index t 0 = t.val ∧ ((pcfg0 (F := Ideal)).win a 0).index t 1 = 0 := tr0 t
theorem idx7 (t : Fin (cfgA a).N) : ((pcfg0 (F := Ideal)).win a 7).index t 0 = t.val ∧ ((pcfg0 (F := Ideal)).win a 7).index t 1 = 0 := tr7 t
theorem idx1 (t : Fin (cfgA a).N) : ((pcfg0 (F := Ideal)).win a 1).index t 0 = BitVec.toNat (a.1 0 (ix1 t)) ∧ ((pcfg0 (F := Ideal)).win a 1).index t 1 = 0
    ∧ ((pcfg0 (F := Ideal)).win a 1).index t 2 = 0 :=
  ⟨congrArg (fun z => BitVec.toNat (a.1 0 z)) (entry t), rfl, rfl⟩
theorem idx2 (t : Fin (cfgA a).N) : ((pcfg0 (F := Ideal)).win a 2).index t 0 = BitVec.toNat (a.1 0 (ix1 t)) ∧ ((pcfg0 (F := Ideal)).win a 2).index t 1 = 0
    ∧ ((pcfg0 (F := Ideal)).win a 2).index t 2 = 0 :=
  ⟨congrArg (fun z => BitVec.toNat (a.1 0 z)) (entry t), rfl, rfl⟩
theorem idx3 (t : Fin (cfgA a).N) : ((pcfg0 (F := Ideal)).win a 3).index t 0 = BitVec.toNat (a.1 0 (ix1 t)) ∧ ((pcfg0 (F := Ideal)).win a 3).index t 1 = 0
    ∧ ((pcfg0 (F := Ideal)).win a 3).index t 2 = 0 :=
  ⟨congrArg (fun z => BitVec.toNat (a.1 0 z)) (entry t), rfl, rfl⟩
theorem idx4 (t : Fin (cfgA a).N) : ((pcfg0 (F := Ideal)).win a 4).index t 0 = BitVec.toNat (a.1 0 (ix1 t)) ∧ ((pcfg0 (F := Ideal)).win a 4).index t 1 = 0
    ∧ ((pcfg0 (F := Ideal)).win a 4).index t 2 = 0 :=
  ⟨congrArg (fun z => BitVec.toNat (a.1 0 z)) (entry t), rfl, rfl⟩
theorem idx5 (t : Fin (cfgA a).N) : ((pcfg0 (F := Ideal)).win a 5).index t 0 = BitVec.toNat (a.1 0 (ix1 t)) ∧ ((pcfg0 (F := Ideal)).win a 5).index t 1 = 0
    ∧ ((pcfg0 (F := Ideal)).win a 5).index t 2 = 0 :=
  ⟨congrArg (fun z => BitVec.toNat (a.1 0 z)) (entry t), rfl, rfl⟩
theorem idx6 (t : Fin (cfgA a).N) : ((pcfg0 (F := Ideal)).win a 6).index t 0 = BitVec.toNat (a.1 0 (ix1 t)) ∧ ((pcfg0 (F := Ideal)).win a 6).index t 1 = 0
    ∧ ((pcfg0 (F := Ideal)).win a 6).index t 2 = 0 :=
  ⟨congrArg (fun z => BitVec.toNat (a.1 0 z)) (entry t), rfl, rfl⟩

/-- Each input's block at a grid point: the rows' own block, the expert's slab of each weight and bias. -/
theorem blk0 (c : Dev nD) (t : Fin (cfgA a).N) (p : Fin 256) (k : Fin 1024) :
    iblk a m ρ c (0 : Fin 8) t (ix2 p k) = m ((c : Thread nD τ).loc main_arg0) (ix2 (row t p) k) := by
  blk_ext [iblk, idx0 a t]
theorem blk1 (h : ∀ x, ((a.1 0 : S544.Idx → BitVec 32) x).toNat < 32) (c : Dev nD) (t : Fin (cfgA a).N) (p : Fin 1024) (k : Fin 1024) :
    iblk a m ρ c (1 : Fin 8) t (ix3 0 p k) = m ((c : Thread nD τ).loc main_arg3) (ix3 ⟨((a.1 0 : S544.Idx → BitVec 32) (ix1 t)).toNat, h _⟩ p k) := by
  blk_ext [iblk, idx1 a t]
theorem blk2 (h : ∀ x, ((a.1 0 : S544.Idx → BitVec 32) x).toNat < 32) (c : Dev nD) (t : Fin (cfgA a).N) (p : Fin 1024) (k : Fin 1024) :
    iblk a m ρ c (2 : Fin 8) t (ix3 0 p k) = m ((c : Thread nD τ).loc main_arg4) (ix3 ⟨((a.1 0 : S544.Idx → BitVec 32) (ix1 t)).toNat, h _⟩ p k) := by
  blk_ext [iblk, idx2 a t]
theorem blk3 (h : ∀ x, ((a.1 0 : S544.Idx → BitVec 32) x).toNat < 32) (c : Dev nD) (t : Fin (cfgA a).N) (p : Fin 1) (k : Fin 1024) :
    iblk a m ρ c (3 : Fin 8) t (ix3 0 p k) = m ((c : Thread nD τ).loc main_arg5) (ix3 ⟨((a.1 0 : S544.Idx → BitVec 32) (ix1 t)).toNat, h _⟩ p k) := by
  blk_ext [iblk, idx3 a t]
theorem blk4 (h : ∀ x, ((a.1 0 : S544.Idx → BitVec 32) x).toNat < 32) (c : Dev nD) (t : Fin (cfgA a).N) (p : Fin 1) (k : Fin 1024) :
    iblk a m ρ c (4 : Fin 8) t (ix3 0 p k) = m ((c : Thread nD τ).loc main_arg6) (ix3 ⟨((a.1 0 : S544.Idx → BitVec 32) (ix1 t)).toNat, h _⟩ p k) := by
  blk_ext [iblk, idx4 a t]
theorem blk5 (h : ∀ x, ((a.1 0 : S544.Idx → BitVec 32) x).toNat < 32) (c : Dev nD) (t : Fin (cfgA a).N) (p : Fin 1024) (k : Fin 1024) :
    iblk a m ρ c (5 : Fin 8) t (ix3 0 p k) = m ((c : Thread nD τ).loc main_arg7) (ix3 ⟨((a.1 0 : S544.Idx → BitVec 32) (ix1 t)).toNat, h _⟩ p k) := by
  blk_ext [iblk, idx5 a t]
theorem blk6 (h : ∀ x, ((a.1 0 : S544.Idx → BitVec 32) x).toNat < 32) (c : Dev nD) (t : Fin (cfgA a).N) (p : Fin 1) (k : Fin 1024) :
    iblk a m ρ c (6 : Fin 8) t (ix3 0 p k) = m ((c : Thread nD τ).loc main_arg8) (ix3 ⟨((a.1 0 : S544.Idx → BitVec 32) (ix1 t)).toNat, h _⟩ p k) := by
  blk_ext [iblk, idx6 a t]

/-- The result's block at a grid point is the block's own rows. -/
theorem emb7 (t : Fin (cfgA a).N) (p : Fin 256) (k : Fin 1024) :
    ((((cfgA a).win (7 : Fin 8)).blk t).view.emb (ix2 p k) : S139264x1024.Idx) = ix2 (row t p) k := by
  blk_ext [idx7 a t]

/-- Every point writes its block back. -/
theorem flush7 (t : Fin (cfgA a).N) : ((cfgA a).win (7 : Fin 8)).flush t = true := by
  rw [Pipeline.Window.flush_out _ rfl]
  by_cases e : t.val + 1 = (cfgA a).grid.N
  · exact .inl e
  · have hlt : t.val + 1 < (cfgA a).grid.N := by have := t.isLt; show _ < (cfgA a).N; change ¬ t.val + 1 = (cfgA a).N at e; omega
    refine .inr ⟨hlt, fun h => ?_⟩
    have h0 := congrFun h (0 : Fin 2)
    have e1 := (idx7 a ⟨t.val + 1, hlt⟩).1
    have e2 := (idx7 a t).1
    have h1 : t.val + 1 = t.val := e1.symm.trans (h0.trans e2)
    omega

/-- The blocks cover the result. -/
theorem cover7 (i : S139264x1024.Idx) : ∃ t : Fin (cfgA a).N, ((cfgA a).win (7 : Fin 8)).flush t = true ∧ i ∈ (((cfgA a).win (7 : Fin 8)).blk t).view.set := by
  obtain ⟨r, q, rfl⟩ : ∃ (r : Fin 139264) (q : Fin 1024), i = ix2 r q := by idx_vars i; exact ⟨_, _, rfl⟩
  have hr : r.val / 256 < 544 := by have := r.isLt; omega
  refine ⟨(⟨r.val / 256, hr⟩ : Fin 544), flush7 a _, ?_⟩
  have e : ((((cfgA a).win (7 : Fin 8)).blk (⟨r.val / 256, hr⟩ : Fin 544)).view.emb (ix2 (⟨r.val % 256, Nat.mod_lt _ (by decide)⟩ : Fin 256) q) : S139264x1024.Idx) = ix2 r q := by
    refine (emb7 a (⟨r.val / 256, hr⟩ : Fin 544) _ _).trans ?_
    refine congrArg (fun z : Fin 139264 => (ix2 z q : S139264x1024.Idx)) (Fin.ext ?_)
    show r.val / 256 * 256 + r.val % 256 = r.val
    omega
  rw [← e]
  exact View.emb_mem_set _ _

/-- The kernel's count of used blocks is the count argument. -/
theorem usedWord_at (T1 : S1.Idx → BitVec 32) : usedWord T1 = T1 (ix1 0) := by
  have hs : Subsingleton S1.Idx := ⟨fun x y => funext fun b => by match b with | ⟨0, _⟩ => exact Subsingleton.elim (α := Fin 1) _ _⟩
  exact congrArg T1 (Subsingleton.elim _ _)

/-- The kernel's test for a used block is the comparison of its number with the count. -/
theorem cond_at (t : Fin grid0.N) (v : BitVec 32) : k0_cond1 (grid0.coords t) v = IntOp.cmpi .slt (BitVec.ofNat 32 t.val) v := by
  have e : ∀ z : BitVec 32, IntOp.cmpi .ne (Scalar.extui (Scalar.cmpi .slt z v) : BitVec 32) 0 = IntOp.cmpi .slt z v := by
    intro z
    have : ∀ b : BitVec 1, IntOp.cmpi .ne (Scalar.extui b : BitVec 32) 0 = b := by decide
    exact this _
  refine (e (BitVec.ofNat 32 (grid0.coords t 0).val)).trans ?_
  rw [crd_at]

/-- What a point leaves in the result's staging buffer, at an element. -/
theorem outAt_at (c : Dev nD) (t : Fin (cfgA a).N) (p : Fin 256) (q : Fin 1024) :
    outAt a m ρ c t (ix2 p q) = Scalar.select (IntOp.cmpi .slt (BitVec.ofNat 32 t.val) ((a.1 1 : S1.Idx → BitVec 32) (ix1 0)))
      (ffn (fun k => iblk a m ρ c (0 : Fin 8) t (ix2 p k)) (fun x y => iblk a m ρ c (1 : Fin 8) t (ix3 0 x y)) (fun x y => iblk a m ρ c (2 : Fin 8) t (ix3 0 x y))
        (fun y => iblk a m ρ c (3 : Fin 8) t (ix3 0 0 y)) (fun y => iblk a m ρ c (4 : Fin 8) t (ix3 0 0 y)) (fun x => iblk a m ρ c (5 : Fin 8) t (ix3 0 x q))
        (iblk a m ρ c (6 : Fin 8) t (ix3 0 0 q))) (0 : EReal) := by
  have hc : k0_cond1 (crd a t) (usedWord (a.1 1)) = IntOp.cmpi .slt (BitVec.ofNat 32 t.val) ((a.1 1 : S1.Idx → BitVec 32) (ix1 0)) :=
    (cond_at t _).trans (congrArg (IntOp.cmpi .slt (BitVec.ofNat 32 t.val)) (usedWord_at _))
  unfold outAt
  by_cases hu : Used a t
  · rw [dif_pos hu]
    frame_out
    simp only [View.read_rep]
    refine (pay_at _ _ _ _ _ _ _ p q).trans ?_
    rw [show IntOp.cmpi .slt (BitVec.ofNat 32 t.val) ((a.1 1 : S1.Idx → BitVec 32) (ix1 0)) = 1#1 from hc.symm.trans hu]
    rfl
  · rw [dif_neg hu]
    frame_out
    have h0 : IntOp.cmpi .slt (BitVec.ofNat 32 t.val) ((a.1 1 : S1.Idx → BitVec 32) (ix1 0)) = 0#1 := by
      rw [← hc]
      have : ∀ b : BitVec 1, b ≠ 1#1 → b = 0#1 := by decide
      exact this _ hu
    rw [h0]
    exact Cert.Reference5Ideal.FfnRef.zero_const

/-- The result ends holding the reference's. -/
theorem final7 (h : ∀ x, ((a.1 0 : S544.Idx → BitVec 32) x).toNat < 32) (c : Dev nD)
    (hT0 : (m ((c : Thread nD τ).loc main_arg1) : S544.Idx → BitVec 32) = a.1 0) (hT1 : (m ((c : Thread nD τ).loc main_arg2) : S1.Idx → BitVec 32) = a.1 1) :
    ((dats a m ρ 0 c).arrAt (7 : Fin 8) (cfgA a).N : S139264x1024.Idx → EReal)
      = Cert.Reference5Ideal.Read.val_main_v76 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) := by
  refine (dats a m ρ 0 c).arrAt_eq_of_emb (7 : Fin 8) _ (fun t hf y => ?_) (cover7 a)
  blk_simp
  rw [after0_7]
  obtain ⟨p, q, rfl⟩ : ∃ (p : Fin 256) (q : Fin 1024), y = ix2 p q := by idx_vars y; exact ⟨_, _, rfl⟩
  refine (outAt_at a m ρ c t p q).trans ?_
  refine Eq.trans ?_ (congrArg _ (emb7 a t p q)).symm
  rw [hT0, hT1]
  refine Eq.trans ?_ ((Cert.Reference5Ideal.FfnRef.v76_at _ _ _ _ _ _ _ _ _ t p q).trans (Cert.Reference5Ideal.FfnRef.v75_at _ _ h _ _ _ _ _ _ _ t p q)).symm
  simp only [blk0, blk1 a m ρ h, blk2 a m ρ h, blk3 a m ρ h, blk4 a m ρ h, blk5 a m ρ h, blk6 a m ρ h]

end Cert.Proof.FfnI

end
-- ==== Proof.FfnClaim.lean ====
module

public import proofs.«01_k».proof.Defs
public import proofs.«01_k».proof.Proof.Ffn
public import proofs.«01_k».proof.Proof.FfnV
public import proofs.«01_k».proof.Proof.Gen.Pre_experts_in_range
public import proofs.«01_k».proof.Proof.Gen.Reference5Ideal.Run
public import Idealize.ShloMosaic.Lib.ReduceAll
public import Idealize.ShloMosaic.Lib.StableHlo.Predicate

@[expose] public section

set_option maxRecDepth 16384

noncomputable section

/-! # The experts' call: the claims -/

namespace Cert.Proof.Experts

open Idealize.ShloMosaic Idealize.ShloMosaic.TcCoe Idealize.SL.Sem

/-- The two tests on one entry of the expert table: it is at least zero and below 32. -/
theorem word_lt (v : BitVec 32) (h0 : IntOp.cmpi .sge v 0#32 = 1#1) (h1 : IntOp.cmpi .slt v 32#32 = 1#1) : v.toNat < 32 := by
  have a : BitVec.sle 0#32 v = true := by
    cases e : BitVec.sle 0#32 v with
    | true => rfl
    | false => exact absurd h0 (by simp [IntOp.cmpi, e])
  have b : BitVec.slt v 32#32 = true := by
    cases e : BitVec.slt v 32#32 with
    | true => rfl
    | false => exact absurd h1 (by simp [IntOp.cmpi, e])
  rw [BitVec.sle_iff_toInt_le] at a
  rw [BitVec.slt_iff_toInt_lt] at b
  have z0 : (0#32 : BitVec 32).toInt = 0 := by decide
  have z1 : (32#32 : BitVec 32).toInt = 32 := by decide
  rw [z0] at a
  rw [z1] at b
  rw [BitVec.toInt_eq_toNat_cond] at a b
  have := v.isLt
  split at a <;> omega

/-- The precondition says that every entry of the expert table names one of the 32 experts, over any numbers. -/
theorem table_lt {F : FTy → Type} [FloatOps F] [Cert.Pre_experts_in_range.Facts] {x0 x1 x2 x3 x4 x5 x6 x7 x8}
    (hp : Cert.Pre_experts_in_range.fn (F := F) x0 x1 x2 x3 x4 x5 x6 x7 x8 = fun _ => 1#1) (i : Cert.Pre_experts_in_range.S544.Idx) : (x1 i).toNat < 32 := by
  have e := congrFun hp (Shape.Idx.first Cert.Pre_experts_in_range.Facts.h_S_)
  have hs : Subsingleton Cert.Pre_experts_in_range.S_.Idx := ⟨fun x y => funext fun q => q.elim0⟩
  simp only [Cert.Pre_experts_in_range.fn] at e
  obtain ⟨a, b⟩ := IntOp.andi_eq_one.1 (Host.reduce_andi_all _ _ _ _ _ e i)
  exact word_lt _ a b

/-- The kernel leaves its arguments and its counters as the claim says. -/
theorem frame_k [Cert.Pre_experts_in_range.Facts] : Cert.quiescent_Kernel5 := fun m ρ hp =>
  Cert.Proof.Ffn.frame (Cert.Proof.Ffn.tabsA (m (((0 : Dev Cert.Kernel5.nD) : Thread Cert.Kernel5.nD Cert.Kernel5.τ).loc Cert.Kernel5.main_arg1)) (m (((0 : Dev Cert.Kernel5.nD) : Thread Cert.Kernel5.nD Cert.Kernel5.τ).loc Cert.Kernel5.main_arg2)) (table_lt (hp 0)))
    m ρ (Cert.Proof.Ffn.tabs_mem m (table_lt (hp 0)))
/-- So does its ideal reading, -/
theorem frame_ki [Cert.Pre_experts_in_range.Facts] : Cert.quiescent_Kernel5Ideal := fun m ρ hp =>
  Cert.Proof.FfnI.frame (Cert.Proof.FfnI.tabsA (m (((0 : Dev Cert.Kernel5Ideal.nD) : Thread Cert.Kernel5Ideal.nD Cert.Kernel5Ideal.τ).loc Cert.Kernel5Ideal.main_arg1)) (m (((0 : Dev Cert.Kernel5Ideal.nD) : Thread Cert.Kernel5Ideal.nD Cert.Kernel5Ideal.τ).loc Cert.Kernel5Ideal.main_arg2)) (table_lt (hp 0)))
    m ρ (Cert.Proof.FfnI.tabs_mem m (table_lt (hp 0)))
/-- and so does the reference. -/
theorem frame_ri [Cert.Pre_experts_in_range.Facts] : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The ideal pass rewrote nothing. -/
theorem preserves [Cert.Pre_experts_in_range.Facts] : Cert.preserves_Kernel5_Kernel5Ideal := trivial

section
open Cert.Kernel5Ideal
variable (m : (ℓ : Loc nD τ sig) → Buf (Elt Ideal) ℓ) (ρ : Dev nD → PrngReg)

/-- The kernel ends with the reference's result of its arguments, its arguments unchanged. -/
theorem run_value (h0 : ∀ x, ((m (((0 : Dev nD) : Thread nD τ).loc main_arg1) : S544.Idx → BitVec 32) x).toNat < 32) :
    θ_run (defs (F := Ideal)) (onTc (τ := τ) (main (F := Ideal))) ⟨m, fun _ => 0, ρ⟩ (fun r => ∀ c : Dev nD,
      r.2.mem ((c.tc : Thread nD τ).loc main_v0) = Cert.Reference5Ideal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) :=
  let a := Cert.Proof.FfnI.tabsA (m (((0 : Dev nD) : Thread nD τ).loc main_arg1)) (m (((0 : Dev nD) : Thread nD τ).loc main_arg2)) h0
  let hp := Cert.Proof.FfnI.tabs_mem m h0
  (θ_run defs _ _).mono (fun _ h c => ⟨((h.1 c).1 (7 : Fin 8)).trans (Cert.Proof.FfnI.final7 a m ρ h0 c (hp c 0) (hp c 1)),
    ((h.1 c).1 (0 : Fin 8)).trans ((Cert.Proof.FfnI.dats a m ρ 0 c).arrAt_in (0 : Fin 8) rfl _), ((h.1 c).2 0).trans (hp c 0).symm, ((h.1 c).2 1).trans (hp c 1).symm, ((h.1 c).1 (1 : Fin 8)).trans ((Cert.Proof.FfnI.dats a m ρ 0 c).arrAt_in (1 : Fin 8) rfl _), ((h.1 c).1 (2 : Fin 8)).trans ((Cert.Proof.FfnI.dats a m ρ 0 c).arrAt_in (2 : Fin 8) rfl _), ((h.1 c).1 (3 : Fin 8)).trans ((Cert.Proof.FfnI.dats a m ρ 0 c).arrAt_in (3 : Fin 8) rfl _), ((h.1 c).1 (4 : Fin 8)).trans ((Cert.Proof.FfnI.dats a m ρ 0 c).arrAt_in (4 : Fin 8) rfl _), ((h.1 c).1 (5 : Fin 8)).trans ((Cert.Proof.FfnI.dats a m ρ 0 c).arrAt_in (5 : Fin 8) rfl _), ((h.1 c).1 (6 : Fin 8)).trans ((Cert.Proof.FfnI.dats a m ρ 0 c).arrAt_in (6 : Fin 8) rfl _)⟩)
    (Cert.Proof.FfnI.run_main_quiescent a m ρ hp)
end

/-- Over the extended reals the kernel and the reference end with the same result. -/
theorem algebraic [Cert.Pre_experts_in_range.Facts] : Cert.algebraic_Kernel5Ideal_Reference5Ideal := by
  intro m ρ m' ρ' hp hag
  refine ⟨fun c => Cert.Reference5Ideal.Read.val_main_v76 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)), ?_, ?_⟩
  · exact run_value m ρ (table_lt (hp 0))
  · refine (θ_run Cert.Reference5Ideal.defs _ _).mono (fun r h c => ?_) (Cert.Reference5Ideal.Value.run (F := Ideal) m' ρ')
    obtain ⟨h0, h1, h2, h3, h4, h5, h6, h7, h8⟩ := hag c
    beta_reduce
    rw [← h0, ← h1, ← h2, ← h3, ← h4, ← h5, ← h6, ← h7, ← h8]
    exact ⟨(h c).1.trans (Cert.Reference5Ideal.Read.val_main_v76_eq _ _), (h c).2⟩

end Cert.Proof.Experts

end
-- ==== Proof.ScanSum.lean ====
module

public import Idealize.ShloMosaic.Lib.Pipeline.ValueKit
public import Idealize.ShloMosaic.Lib.Pipeline.ReadBack

@[expose] public section

set_option maxRecDepth 16384

noncomputable section

/-! # Running sums of rows of any length: as a window over each row, and as a block's product with a triangle of ones -/

namespace Cert.Sums

open Idealize.ShloMosaic Idealize.ShloMosaic.TcCoe

/-! ## The window -/

/-- A row's entry at a time, zero past the end. -/
def at_ {B T H : ℕ} (x : (⟨3, ![B, T, H]⟩ : Shape).Idx → EReal) (b : Fin B) (a : Fin H) (n : ℕ) : EReal := if h : n < T then x (ix3 b ⟨n, h⟩ a) else 0

/-- Adding the values of `g` one after the other is adding their sum. -/
theorem fold_sum {N : ℕ} (g : Fin N → EReal) (l : List (Fin N)) : ∀ z : EReal, l.foldl (fun r n => r + g n) z = z + (l.map g).sum := by
  induction l with
  | nil => intro z; simp
  | cons n l ih =>
    intro z
    rw [List.foldl_cons, ih, List.map_cons, List.sum_cons, add_assoc]

/-- The window over one row, of the whole length and ending at `j`, sums the entries up to `j`. -/
theorem window_sum {T L : ℕ} (hL : L + 1 = T) (f : ℕ → EReal) (j : ℕ) (hj : j < T) :
    (∑ n : Fin T, if L ≤ j + n.val then f (j + n.val - L) else 0) = ∑ i ∈ Finset.range (j + 1), f i := by
  rw [Fin.sum_univ_eq_sum_range (fun n => if L ≤ j + n then f (j + n - L) else 0) T, ← Finset.sum_filter]
  refine Finset.sum_bij' (fun n _ => j + n - L) (fun i _ => i + L - j) ?_ ?_ ?_ ?_ ?_
  · intro n hn
    simp only [Finset.mem_filter, Finset.mem_range] at hn ⊢
    omega
  · intro i hi
    simp only [Finset.mem_filter, Finset.mem_range] at hi ⊢
    omega
  · intro n hn
    simp only [Finset.mem_filter, Finset.mem_range] at hn
    omega
  · intro i hi
    simp only [Finset.mem_range] at hi
    omega
  · intro n _
    rfl

/-- The window's positions, as an index and back. -/
abbrev W (T : ℕ) : Shape := ⟨3, ![1, T, 1]⟩

theorem numelW (T : ℕ) : (W T).numel = T := by
  simp [Shape.numel, Fin.prod_univ_three]

theorem posW {T : ℕ} (n : Fin (W T).numel) :
    ((W T).rowMajor.symm n 0).val = 0 ∧ ((W T).rowMajor.symm n 1).val = n.val ∧ ((W T).rowMajor.symm n 2).val = 0 := by
  have h0 : ((W T).rowMajor.symm n 0).val < 1 := ((W T).rowMajor.symm n 0).isLt
  have h2 : ((W T).rowMajor.symm n 2).val < 1 := ((W T).rowMajor.symm n 2).isLt
  have e : ((W T).rowMajor ((W T).rowMajor.symm n)).val = n.val := by rw [Equiv.apply_symm_apply]
  rw [Shape.rowMajor_val_three] at e
  change (((W T).rowMajor.symm n 0).val * T + ((W T).rowMajor.symm n 1).val) * 1 + ((W T).rowMajor.symm n 2).val = n.val at e
  rw [show ((W T).rowMajor.symm n 0).val = 0 by omega] at e
  omega

/-- A running sum of a row at a time is the sum of the row up to that time. -/
theorem running {B T H L : ℕ} (hL : L + 1 = T) (x : (⟨3, ![B, T, H]⟩ : Shape).Idx → EReal)
    (h : (⟨3, ![B, T, H]⟩ : Shape).ReduceWindows (![1, T, 1] : Fin 3 → ℕ) ![1, 1, 1] ![0, L, 0] ![0, 0, 0] ⟨3, ![B, T, H]⟩)
    (b : Fin B) (a : Fin H) (j : Fin T) :
    Ideal.hostReduceWindowAdd (s := ⟨3, ![B, T, H]⟩) (![1, T, 1] : Fin 3 → ℕ) ![1, 1, 1] ![0, L, 0] ![0, 0, 0] h x 0 (ix3 b j a)
      = ∑ i ∈ Finset.range (j.val + 1), at_ x b a i := by
  unfold Ideal.hostReduceWindowAdd Host.reduceWindow
  refine (fold_sum _ _ _).trans ?_
  rw [zero_add, ← List.ofFn_eq_map, List.sum_ofFn, ← window_sum hL (at_ x b a) j.val j.isLt]
  refine Fintype.sum_equiv (finCongr (numelW T)) _ _ fun n => ?_
  obtain ⟨w0, w1, w2⟩ := posW n
  have hn : n.val < T := lt_of_lt_of_eq n.isLt (numelW T)
  have hj := j.isLt
  have hb := b.isLt
  have ha := a.isLt
  show _ = if L ≤ j.val + n.val then at_ x b a (j.val + n.val - L) else 0
  by_cases h : L ≤ j.val + n.val
  · rw [if_pos h, dif_pos]
    · unfold at_
      rw [dif_pos (by omega)]
      refine congrArg x (funext fun d => Fin.ext ?_)
      match d with
      | ⟨0, _⟩ =>
        show b.val * 1 + ((W T).rowMajor.symm n 0).val - 0 = b.val
        omega
      | ⟨1, _⟩ =>
        show j.val * 1 + ((W T).rowMajor.symm n 1).val - L = j.val + n.val - L
        omega
      | ⟨2, _⟩ =>
        show a.val * 1 + ((W T).rowMajor.symm n 2).val - 0 = a.val
        omega
    · intro d
      match d with
      | ⟨0, _⟩ =>
        show 0 ≤ b.val * 1 + ((W T).rowMajor.symm n 0).val ∧ b.val * 1 + ((W T).rowMajor.symm n 0).val - 0 < B
        omega
      | ⟨1, _⟩ =>
        show L ≤ j.val * 1 + ((W T).rowMajor.symm n 1).val ∧ j.val * 1 + ((W T).rowMajor.symm n 1).val - L < T
        omega
      | ⟨2, _⟩ =>
        show 0 ≤ a.val * 1 + ((W T).rowMajor.symm n 2).val ∧ a.val * 1 + ((W T).rowMajor.symm n 2).val - 0 < H
        omega
  · rw [if_neg h, dif_neg]
    intro hin
    have h1 := (hin 1).1
    change L ≤ j.val * 1 + ((W T).rowMajor.symm n 1).val at h1
    omega

/-- The window sum's start value is zero. -/
theorem zero_bits : Ideal.ofBits .f32 0#32 = 0 := by simp [Ideal.ofBits, Ideal.ieee]

/-! ## The product with the triangle -/

/-- A number below infinity is the sum of its three parts, each the remainder after the parts before it. -/
theorem parts (x : EReal) (h : x ≠ ⊤) : x + (x - x) + ((x - x) - (x - x)) = x := by
  induction x using EReal.rec with
  | bot => rfl
  | coe r =>
    have e : ((r : EReal) - r) = 0 := by rw [← EReal.coe_sub, sub_self]; rfl
    rw [e]
    simp
  | top => exact absurd rfl h

/-- The three products of a row's parts with a column of ones up to `q` add up to the row's sum up to `q`. -/
theorem three {N : ℕ} (X T : Fin N → EReal) (q : ℕ) (hX : ∀ p, X p ≠ ⊤) (hT : ∀ p : Fin N, T p = if p.val ≤ q then 1 else 0) :
    (∑ p, X p * T p) + (∑ p, (X p - X p) * T p) + (∑ p, ((X p - X p) - (X p - X p)) * T p)
      = ∑ p : Fin N, if p.val ≤ q then X p else 0 := by
  rw [← Finset.sum_add_distrib, ← Finset.sum_add_distrib]
  refine Finset.sum_congr rfl fun p _ => ?_
  rw [hT]
  split
  · simp only [mul_one]
    exact parts _ (hX p)
  · simp only [mul_zero, add_zero]

/-- A block's sum up to `q` on top of the sum before the block is the sum up to its entry `q`. -/
theorem extend {N : ℕ} (f : ℕ → EReal) (s q : ℕ) (hq : q < N) :
    (∑ p : Fin N, if p.val ≤ q then f (s + p.val) else 0) + ∑ i ∈ Finset.range s, f i = ∑ i ∈ Finset.range (s + q + 1), f i := by
  rw [Fin.sum_univ_eq_sum_range (fun n => if n ≤ q then f (s + n) else 0) N, ← Finset.sum_filter, add_assoc s q 1,
    Finset.sum_range_add f s (q + 1), add_comm]
  congr 1
  refine Finset.sum_congr (Finset.ext fun n => ?_) fun _ _ => rfl
  simp only [Finset.mem_filter, Finset.mem_range]
  omega

/-! ## Reading a filled buffer, comparing indices -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- Reading the first lane of what was filled with zeros. -/
theorem rdFill {sig : RefSig} (v : View sig .tc .vmem ⟨2, ![8, 128]⟩ .f32) (Z : Vec Ideal ⟨2, ![8, 128]⟩ .f32)
    (inb : ∀ b, (![0, 0] : Fin 2 → ℕ) b + (⟨2, ![8, 128]⟩ : Shape).size b ≤ (⟨2, ![8, 128]⟩ : Shape).size b)
    (inb' : ∀ b, (![0, 0] : Fin 2 → ℕ) b + (⟨2, ![8, 1]⟩ : Shape).size b ≤ (⟨2, ![8, 128]⟩ : Shape).size b) (hZ : ∀ j, Z j = (0 : EReal)) :
    v.readCov (Val := Elt Ideal) [⟨Rect.unit (s := ⟨2, ![8, 128]⟩) ![0, 0] (⟨2, ![8, 128]⟩ : Shape).size inb, Z⟩]
        (Rect.unit (s := ⟨2, ![8, 128]⟩) ![0, 0] (⟨2, ![8, 1]⟩ : Shape).size inb').toLoadRect
      = fun _ => (0 : EReal) := by
  rw [View.readCov_fill v inb Z [] _ (by intro b; fin_cases b <;> rfl)]
  funext j
  exact hZ _

theorem toInt_small (n : ℕ) (h : n < 2 ^ 31) : (BitVec.ofNat 32 n).toInt = n := by
  rw [BitVec.toInt_eq_toNat_of_lt] <;> rw [BitVec.toNat_ofNat] <;> omega

/-- Comparing two indices and reading the bit as a number gives one where the first is at most the second. -/
theorem bit_le (p q : ℕ) (hp : p < 2 ^ 31) (hq : q < 2 ^ 31) :
    (((IntOp.cmpi .sle (BitVec.ofNat 32 p) (BitVec.ofNat 32 q)).toNat : ℝ) : EReal) = if p ≤ q then 1 else 0 := by
  simp only [IntOp.cmpi, BitVec.sle]
  rw [toInt_small p hp, toInt_small q hq]
  by_cases h' : p ≤ q
  · rw [if_pos h', show BitVec.ofBool (decide ((p : ℤ) ≤ q)) = 1#1 from by simp [h']]
    norm_num
  · rw [if_neg h', show BitVec.ofBool (decide ((p : ℤ) ≤ q)) = 0#1 from by simp [h']]
    norm_num

end Cert.Sums

end
-- ==== Proof.ScanRef.lean ====
module

public import proofs.«01_k».proof.Proof.Gen.Reference6Ideal.Read
public import proofs.«01_k».proof.Proof.ScanSum
public import Idealize.ShloMosaic.Lib.Pipeline.ValueKit

@[expose] public section

set_option maxRecDepth 16384

noncomputable section

/-! # The prefix sum's reference: each entry is the sum of the entries of its row up to it -/

namespace Cert.Reference6Ideal.Scan

open Cert.Reference6Ideal Cert.Reference6Ideal.Gen Cert.Reference6Ideal.Read Idealize.ShloMosaic Idealize.ShloMosaic.TcCoe
open Cert.Sums

/-- The reference's running sum of a row at a time is the sum of the row up to that time. -/
theorem val_at (x : S8x4096x8.Idx → EReal) (b a : Fin 8) (j : Fin 4096) :
    val_main_v0 (F := Ideal) x (ix3 b j a) = ∑ i ∈ Finset.range (j.val + 1), at_ x b a i := by
  have z0 : val_main_call0_call0_v0 (F := Ideal) (Shape.Idx.first h_S_) = (0 : EReal) := by
    simp only [val_main_call0_call0_v0_apply, val_main_call0_call0_cst_apply]
    exact zero_bits
  unfold val_main_v0 Host.reduceWindowAdd
  show Ideal.hostReduceWindowAdd _ _ _ _ _ x (val_main_call0_call0_v0 (F := Ideal) (Shape.Idx.first h_S_)) (ix3 b j a) = _
  rw [z0]
  exact running (by rfl) x _ b a j

/-- The reference's result at a time. -/
theorem res_at (x : S8x4096x8.Idx → EReal) (b a : Fin 8) (j : Fin 4096) (k : ℕ) (hk : j.val = k) :
    val_main_v1 (F := Ideal) x (ix3 b a j) = ∑ i ∈ Finset.range (k + 1), at_ x b a i := by
  subst hk
  rw [val_main_v1_apply, ← val_at]
  refine congrArg (val_main_v0 (F := Ideal) x) (funext fun d => ?_)
  match d with
  | ⟨0, _⟩ => rfl
  | ⟨1, _⟩ => rfl
  | ⟨2, _⟩ => rfl

end Cert.Reference6Ideal.Scan

end
-- ==== Proof.Scan.lean ====
module

public import proofs.«01_k».proof.Proof.Gen.Kernel6Ideal.Value
public import proofs.«01_k».proof.Proof.ScanRef
public import Idealize.ShloMosaic.Lib.Pipeline.ValueKit
public import Idealize.ShloMosaic.Lib.Pipeline.ReadBack

@[expose] public section

set_option maxRecDepth 16384

noncomputable section

/-! # The prefix sum over time: what its result array ends holding -/

namespace Cert.Kernel6Ideal.ScanValue

open Cert.Kernel6Ideal Cert.Kernel6Ideal.Gen Idealize.ShloMosaic Idealize.ShloMosaic.TcCoe Idealize.SL.Sem
open Idealize.ShloMosaic.Pipeline (Dat)
open Cert.Sums

/-! ## What one grid point stores -/

/-- The first lane of the carried sums. -/
abbrev lane0 (x : Vec Ideal S8x128 .f32) : Vec Ideal S8x1 .f32 := fun i => x (ix2 (i 0) 0)

section
variable (c : Dev nD) (i : grid0.Coords) (arg2 : Memref sig .tc .vmem S1x8x512 .f32) (harg2 : arg2.IsWhole)
  (arg3 : Memref sig .tc .vmem S512x512 .bf16) (harg3 : arg3.IsWhole) (arg4 : Memref sig .tc .vmem S1x8x512 .f32) (harg4 : arg4.IsWhole)
  (arg5 : Memref sig .tc .vmem S8x128 .f32) (harg5 : arg5.IsWhole)
  (x0 : Vec Ideal S1x8x512 .f32) (x1 : Vec Ideal S512x512 .bf16) (xs0 : Vec Ideal S8x128 .f32)

theorem rdLane (inb : ∀ b, (![0, 0] : Fin 2 → ℕ) b + S8x1.size b ≤ S8x128.size b) :
    View.readAt (Elt Ideal) arg5.view (Rect.unit (s := S8x128) ![0, 0] S8x1.size inb).toLoadRect (harg5.unread xs0) = lane0 xs0 := by
  rw [View.readAt_eq_ld, harg5.read_unread]
  funext j
  refine congrArg xs0 (funext fun b => ?_)
  have h1 : (j 1).val < 1 := (j 1).isLt
  fin_cases b <;> apply Fin.ext <;> simp

theorem out_B (hc : ¬cond0_0 i) :
    out0_B_2 c i arg2 harg2 arg3 harg3 arg4 harg4 arg5 harg5 hc x0 x1 xs0 = k0_pay3 x0 x1 (lane0 xs0) := by
  unfold out0_B_2
  rw [View.read_writes_eq_canon _ _ _ (cover0_B_2 c i arg2 harg2 arg3 harg3 arg4 harg4 arg5 harg5 hc x0 x1 xs0)]
  unfold kernelRun0_B
  dsimp only
  rw [View.canon_unit_zero hz3, rdLane]
  simp only [View.readAt_eq_ld, harg2.read_unread, harg3.read_unread, View.ld_unit_zero (S := S1x8x512) hz3, View.ld_unit_zero (S := S512x512) hz2]

theorem sout_B (hc : ¬cond0_0 i) :
    sout0_B_0 c i arg2 harg2 arg3 harg3 arg4 harg4 arg5 harg5 hc x0 x1 xs0 = k0_pay4 x0 x1 (lane0 xs0) := by
  unfold sout0_B_0
  rw [View.read_writes_eq_canon _ _ _ (scover0_B_0 c i arg2 harg2 arg3 harg3 arg4 harg4 arg5 harg5 hc x0 x1 xs0)]
  unfold kernelRun0_B
  dsimp only
  rw [View.canon_unit_zero hz2, rdLane]
  simp only [View.readAt_eq_ld, harg2.read_unread, harg3.read_unread, View.ld_unit_zero (S := S1x8x512) hz3, View.ld_unit_zero (S := S512x512) hz2]

theorem pay1_at (j : S8x128.Idx) : k0_pay1 (F := Ideal) j = (0 : EReal) := by
  idx_vars j
  pointwise [k0_pay1]

theorem out_A (hc : cond0_0 i) :
    out0_A_2 c i arg2 harg2 arg3 harg3 arg4 harg4 arg5 harg5 hc x0 x1 = k0_pay3 x0 x1 (fun _ => (0 : EReal)) := by
  unfold out0_A_2
  rw [View.read_writes_eq_canon _ _ _ (cover0_A_2 c i arg2 harg2 arg3 harg3 arg4 harg4 arg5 harg5 hc x0 x1)]
  unfold kernelRun0_A
  dsimp only
  sl_unfold_words
  rw [View.canon_unit_zero hz3, rdFill _ _ _ _ pay1_at]
  simp only [View.readAt_eq_ld, harg2.read_unread, harg3.read_unread, View.ld_unit_zero (S := S1x8x512) hz3, View.ld_unit_zero (S := S512x512) hz2]
  rfl

theorem sout_A (hc : cond0_0 i) :
    sout0_A_0 c i arg2 harg2 arg3 harg3 arg4 harg4 arg5 harg5 hc x0 x1 = k0_pay4 x0 x1 (fun _ => (0 : EReal)) := by
  unfold sout0_A_0
  rw [View.read_writes_eq_canon _ _ _ (scover0_A_0 c i arg2 harg2 arg3 harg3 arg4 harg4 arg5 harg5 hc x0 x1)]
  unfold kernelRun0_A
  dsimp only
  sl_unfold_words
  rw [View.canon_cons_unit_zero (S := S8x128) hz2, rdFill _ _ _ _ pay1_at]
  simp only [View.readAt_eq_ld, harg2.read_unread, harg3.read_unread, View.ld_unit_zero (S := S1x8x512) hz3, View.ld_unit_zero (S := S512x512) hz2]
  rfl

end

/-- The block's sums on top of the carried ones. -/
theorem pay2_at (x0 : Vec Ideal S1x8x512 .f32) (x1 : Vec Ideal S512x512 .bf16) (v : Vec Ideal S8x1 .f32) (X T : Fin 512 → EReal) (a : Fin 8) (q : Fin 512)
    (hX : ∀ p, x0 (ix3 0 a p) = X p) (hT : ∀ p, x1 (ix2 p q) = T p) :
    k0_pay2 x0 x1 v (ix2 a q)
      = (∑ p, X p * T p) + (∑ p, (X p - X p) * T p) + (∑ p, ((X p - X p) - (X p - X p)) * T p) + v (ix2 a 0) := by
  pointwise [k0_pay2]
  simp only [hX, hT]
  refine congrArg (fun z => (∑ p, X p * T p) + (∑ p, (X p - X p) * T p) + z + v (ix2 a 0)) (Finset.sum_congr rfl fun p _ => ?_)
  rw [dif_neg (by omega), dif_neg (by omega)]
  simp only [show ∀ h : 16 + a.val - 8 - 8 < 8, (⟨16 + a.val - 8 - 8, h⟩ : Fin 8) = a from fun h => Fin.ext (by simp; omega)]
  rw [hX]

theorem pay3_at (x0 : Vec Ideal S1x8x512 .f32) (x1 : Vec Ideal S512x512 .bf16) (v : Vec Ideal S8x1 .f32) (a : Fin 8) (q : Fin 512) :
    k0_pay3 x0 x1 v (ix3 0 a q) = k0_pay2 x0 x1 v (ix2 a q) := by
  unfold k0_pay3
  generalize k0_pay2 x0 x1 v = w
  pointwise

theorem pay4_at (x0 : Vec Ideal S1x8x512 .f32) (x1 : Vec Ideal S512x512 .bf16) (v : Vec Ideal S8x1 .f32) (a : Fin 8) (l : Fin 128) :
    k0_pay4 x0 x1 v (ix2 a l) = k0_pay2 x0 x1 v (ix2 a 511) := by
  unfold k0_pay4
  generalize k0_pay2 x0 x1 v = w
  pointwise

/-! ## The blocks -/

variable (m : (ℓ : Loc nD τ sig) → Buf (Elt Ideal) ℓ) (ρ : Dev nD → PrngReg)

/-- Where each window's block lies at a grid point: batch `t / 8`, times from `t % 8` blocks on. -/
theorem idx : ∀ t : Fin cfg0.N,
    win0_0.index t 0 = t.val / 8 ∧ win0_0.index t 1 = 0 ∧ win0_0.index t 2 = t.val % 8
    ∧ win0_1.index t 0 = 0 ∧ win0_1.index t 1 = 0
    ∧ win0_2.index t 0 = t.val / 8 ∧ win0_2.index t 1 = 0 ∧ win0_2.index t 2 = t.val % 8 :=
  (by decide +kernel : ∀ t : Fin grid0.N, _)

/-- The batch of a grid point. -/
abbrev bt (t : Fin cfg0.N) : Fin 8 := ⟨t.val / 8, by have h : t.val < 64 := t.isLt; omega⟩
/-- The time that is column `b` of the point's block. -/
abbrev tm (t : Fin cfg0.N) (b : Fin 512) : Fin 4096 := ⟨t.val % 8 * 512 + b.val, by have := b.isLt; omega⟩

theorem blk0 (c : Dev nD) (t : Fin cfg0.N) (a : Fin 8) (b : Fin 512) :
    iblk m c 0 t (ix3 0 a b) = m ((c : Thread nD τ).loc main_arg0) (ix3 (bt t) (tm t b) a) := by
  have h : iblk m c 0 t (ix3 0 a b) = V m c main_v0 (ix3 (bt t) a (tm t b)) := by
    show V m c main_v0 _ = _
    refine congrArg (V m c main_v0) ?_
    blk_ext [idx t]
  rw [h]
  simp only [V, List.flatten, List.append_eq, List.cons_append, List.nil_append, List.append_nil, hostOps0, StableHlo.TRef.binary, StableHlo.TRef.unary, StableHlo.TRef.nullary, StableHlo.TRef.ternary, StableHlo.TRef.toBuf, StableHlo.TRef.ofBuf, cast_eq]
  after_results_simp
  pointwise

/-- The matrix the host builds has a one on and above the diagonal, and zeros below. -/
theorem blk1 (c : Dev nD) (t : Fin cfg0.N) (p q : Fin 512) :
    iblk m c 1 t (ix2 p q) = if p.val ≤ q.val then (1 : EReal) else 0 := by
  have h : iblk m c 1 t (ix2 p q) = V m c main_v8 (ix2 p q) := by
    show V m c main_v8 _ = _
    refine congrArg (V m c main_v8) ?_
    blk_ext [idx t]
  rw [h]
  simp only [V, List.flatten, List.append_eq, List.cons_append, List.nil_append, List.append_nil, hostOps0, StableHlo.TRef.binary, StableHlo.TRef.unary, StableHlo.TRef.nullary, StableHlo.TRef.ternary, StableHlo.TRef.toBuf, StableHlo.TRef.ofBuf, cast_eq]
  after_results_simp
  pointwise
  have hp := p.isLt
  have hq := q.isLt
  exact bit_le p.val q.val (by omega) (by omega)

/-! ## The sums, point by point -/

/-- The argument, as a function of an index. -/
abbrev X (c : Dev nD) : S8x4096x8.Idx → EReal := m ((c : Thread nD τ).loc main_arg0)

/-- A point's sums, where the carried ones are the sums before its block. -/
theorem step (c : Dev nD) (hlt : ∀ i, X m c i ≠ ⊤) (t : Fin cfg0.N) (v : Vec Ideal S8x1 .f32) (a : Fin 8) (q : Fin 512)
    (hv : v (ix2 a 0) = ∑ i ∈ Finset.range (t.val % 8 * 512), at_ (X m c) (bt t) a i) :
    k0_pay2 (iblk m c 0 t) (iblk m c 1 t) v (ix2 a q) = ∑ i ∈ Finset.range (t.val % 8 * 512 + q.val + 1), at_ (X m c) (bt t) a i := by
  have e : ∀ p : Fin 512, at_ (X m c) (bt t) a (t.val % 8 * 512 + p.val) = X m c (ix3 (bt t) (tm t p) a) := fun p => by
    have hp := p.isLt
    unfold at_
    rw [dif_pos (by omega)]
  rw [pay2_at _ _ _ (fun p => at_ (X m c) (bt t) a (t.val % 8 * 512 + p.val)) (fun p => if p.val ≤ q.val then 1 else 0) a q
      (fun p => (blk0 m c t a p).trans (e p).symm) (fun p => blk1 m c t p q),
    three _ _ q.val (fun p => by rw [e]; exact hlt _) (fun p => rfl), hv]
  exact extend (at_ (X m c) (bt t) a) (t.val % 8 * 512) q.val q.isLt

theorem sum_none (f : ℕ → EReal) (k : ℕ) (h : k = 0) : (0 : EReal) = ∑ i ∈ Finset.range k, f i := by
  subst h
  rfl

/-- What the point before a block that is not its row's first leaves is the sums before the block. -/
theorem prev (c : Dev nD) (t : Fin cfg0.N) (h0 : ¬t.val % 8 = 0) (a : Fin 8) (z : EReal)
    (h : z = ∑ i ∈ Finset.range ((t.val - 1) % 8 * 512 + 512), at_ (X m c) (bt ⟨t.val - 1, Nat.lt_of_le_of_lt (Nat.sub_le _ _) t.isLt⟩) a i) :
    z = ∑ i ∈ Finset.range (t.val % 8 * 512), at_ (X m c) (bt t) a i := by
  have e1 : (t.val - 1) % 8 * 512 + 512 = t.val % 8 * 512 := by omega
  have e2 : bt ⟨t.val - 1, Nat.lt_of_le_of_lt (Nat.sub_le _ _) t.isLt⟩ = bt t := Fin.ext (by show (t.val - 1) / 8 = t.val / 8; omega)
  rw [h, e1, e2]

/-- After each point the carried sums are those up to the end of its block. -/
theorem carry (c : Dev nD) (hlt : ∀ i, X m c i ≠ ⊤) (n : ℕ) : ∀ (hn : n < cfg0.N) (a : Fin 8) (l : Fin 128),
    (outsAt0 m c n hn).2 (ix2 a l) = ∑ i ∈ Finset.range (n % 8 * 512 + 512), at_ (X m c) (bt ⟨n, hn⟩) a i := by
  induction n using Nat.strong_induction_on with
  | _ n ih =>
    intro hn a l
    by_cases h0 : n % 8 = 0
    · rw [show outsAt0 m c n hn = _ from outsAt0_A m c ⟨n, hn⟩ h0]
      dsimp only
      rw [sout_A, pay4_at]
      exact step m c hlt ⟨n, hn⟩ _ a 511 (sum_none _ _ (by show n % 8 * 512 = 0; omega))
    · rw [show outsAt0 m c n hn = _ from outsAt0_B m c ⟨n, hn⟩ h0]
      dsimp only
      rw [sout_B, pay4_at]
      exact step m c hlt ⟨n, hn⟩ _ a 511 (prev m c ⟨n, hn⟩ h0 a _ (ih (n - 1) (by omega) _ a 0))

/-- Each point's output block is the sums up to each of its entries. -/
theorem out_at (c : Dev nD) (hlt : ∀ i, X m c i ≠ ⊤) (t : Fin cfg0.N) (a : Fin 8) (q : Fin 512) :
    (outsAt0 m c t.val t.isLt).1 (ix3 0 a q) = ∑ i ∈ Finset.range (t.val % 8 * 512 + q.val + 1), at_ (X m c) (bt t) a i := by
  by_cases h0 : t.val % 8 = 0
  · rw [outsAt0_A m c t h0]
    dsimp only
    rw [out_A, pay3_at]
    exact step m c hlt t _ a q (sum_none _ _ (by omega))
  · rw [outsAt0_B m c t h0]
    dsimp only
    rw [out_B, pay3_at]
    exact step m c hlt t _ a q (prev m c t h0 a _ (carry m c hlt (t.val - 1) _ a 0))

theorem emb2 (t : Fin cfg0.N) (a : Fin 8) (b : Fin 512) :
    (win0_2.blk t).view.emb (ix3 0 a b) = ix3 (bt t) a (tm t b) := by blk_ext [idx t]

open Cert.Reference6Ideal.Read in
/-- The result array ends at the reference's, where no entry of the argument is infinity. -/
theorem final2 (c : Dev nD) (hlt : ∀ i, X m c i ≠ ⊤) : (dats m 0 c).arrAt 2 cfg0.N = val_main_v1 (F := Ideal) (X m c) := by
  refine (dats m 0 c).arrAt_eq_of_covers 2 _ (by decide +kernel) fun t hf y => ?_
  blk_simp
  rw [after0_2]
  idx_vars y
  obtain rfl : y0 = 0 := Subsingleton.elim _ _
  erw [emb2]
  rw [out_at m c hlt t y1 y2]
  exact (Cert.Reference6Ideal.Scan.res_at (X m c) (bt t) y1 (tm t y2) _ rfl).symm

end Cert.Kernel6Ideal.ScanValue

end
-- ==== Proof.ScanClaim.lean ====
module

public import proofs.«01_k».proof.Defs
public import proofs.«01_k».proof.Proof.Scan
public import proofs.«01_k».proof.Proof.Gen.Kernel6.Frame
public import proofs.«01_k».proof.Proof.Gen.Pre_logf_below_inf
public import Idealize.ShloMosaic.Lib.ReduceAll

@[expose] public section

set_option maxRecDepth 16384

noncomputable section

/-! # The prefix sum over time: the claims -/

namespace Cert.Proof.Scan

open Idealize.ShloMosaic Idealize.ShloMosaic.TcCoe Idealize.SL.Sem

/-- The kernel leaves its arguments and its counters as the claim says. -/
theorem frame_k : Cert.quiescent_Kernel6 := fun m ρ _ => Cert.Kernel6.Gen.frame m ρ
/-- So does its ideal reading, -/
theorem frame_ki : Cert.quiescent_Kernel6Ideal := fun m ρ _ => Cert.Kernel6Ideal.Gen.frame m ρ
/-- the same under the claim's precondition, -/
theorem frame_ki_pre [Cert.Pre_logf_below_inf.Facts] : Cert.quiescent_Kernel6Ideal_pre_logf_below_inf := fun m ρ _ => Cert.Kernel6Ideal.Gen.frame m ρ
/-- and so does the reference. -/
theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)
/-- the same under the claim's precondition. -/
theorem frame_ri_pre [Cert.Pre_logf_below_inf.Facts] : Cert.quiescent_Reference6Ideal_pre_logf_below_inf := fun m ρ _ => frame_ri m ρ trivial

/-- The ideal pass rewrote nothing. -/
theorem preserves : Cert.preserves_Kernel6_Kernel6Ideal := trivial

/-- An entry that tests below a bound has not the top value. -/
theorem ne_top_of_test {s : Shape} {x y : FVec Ideal s .f32} {i : s.Idx} (h : cmpf .olt x y i = 1#1) : x i ≠ (⊤ : EReal) := by
  have h' : BitVec.ofBool (decide ((x i : EReal) < y i)) = 1#1 := h
  intro e
  rw [decide_eq_false (fun hn => absurd (e ▸ hn) not_top_lt)] at h'
  exact absurd h' (by decide)

open Cert.Kernel6Ideal in
/-- The precondition says that no entry is infinity. -/
theorem args_lt [Cert.Pre_logf_below_inf.Facts] (m : (ℓ : Loc nD τ sig) → Buf (Elt Ideal) ℓ) (hp : Cert.Pre_Kernel6Ideal_logf_below_inf m) (c : Dev nD) :
    ∀ i, Cert.Kernel6Ideal.ScanValue.X m c i ≠ ⊤ := by
  have e := congrFun (hp c) (Shape.Idx.first Cert.Pre_logf_below_inf.Facts.h_S_)
  have hs : Subsingleton Cert.Pre_logf_below_inf.S_.Idx := ⟨fun x y => funext fun q => q.elim0⟩
  simp only [Cert.Pre_logf_below_inf.fn] at e
  exact fun i => ne_top_of_test (Host.reduce_andi_all _ _ _ _ _ e i)

/-- Over the extended reals the kernel and the reference end with the same result, where no entry is infinity. -/
theorem algebraic [Cert.Pre_logf_below_inf.Facts] : Cert.algebraic_Kernel6Ideal_Reference6Ideal_pre_logf_below_inf := by
  intro m ρ m' ρ' hp hag
  refine ⟨fun c => Cert.Reference6Ideal.Read.val_main_v1 (F := Ideal) (Cert.Kernel6Ideal.ScanValue.X m c), ?_, ?_⟩
  · exact (θ_run Cert.Kernel6Ideal.defs _ _).mono (fun r h c => ⟨(h c).1.trans (Cert.Kernel6Ideal.ScanValue.final2 m c (args_lt m hp c)), (h c).2⟩)
      (Cert.Kernel6Ideal.Value.run_blocks (F := Ideal) m ρ)
  · refine (θ_run Cert.Reference6Ideal.defs _ _).mono (fun r h c => ?_) (Cert.Reference6Ideal.Value.run (F := Ideal) m' ρ')
    have h0 := hag c
    beta_reduce
    unfold Cert.Kernel6Ideal.ScanValue.X
    rw [← h0]
    exact ⟨(h c).1.trans (Cert.Reference6Ideal.Read.val_main_v1_eq _), (h c).2⟩

end Cert.Proof.Scan

end
-- ==== Proof.Scan9Ref.lean ====
module

public import proofs.«01_k».proof.Proof.Gen.Reference9Ideal.Read
public import proofs.«01_k».proof.Proof.ScanSum
public import Idealize.ShloMosaic.Lib.Pipeline.ValueKit

@[expose] public section

set_option maxRecDepth 16384

noncomputable section

/-! # The reference of the sample batch's prefix sum, on the padded rows -/

namespace Cert.Reference9Ideal.Scan9

open Cert.Reference9Ideal Cert.Reference9Ideal.Gen Cert.Reference9Ideal.Read Idealize.ShloMosaic Idealize.ShloMosaic.TcCoe
open Cert.Sums

/-- The pad's value is zero. -/
theorem zero_int : (FloatOps.sitofp .f32 (0#32) : Ideal .f32) = (0 : EReal) := by
  show (((0#32 : BitVec 32).toInt : ℝ) : EReal) = 0
  norm_num

/-- A padded row's entry: the argument's within the row, zero past it. -/
theorem pad_at (x : S32x8x8.Idx → EReal) (b : Fin 32) (j : Fin 128) (a : Fin 8) :
    val_main_v0 (F := Ideal) x (ix3 b j a) = if h : j.val < 8 then x (ix3 b ⟨j.val, h⟩ a) else 0 := by
  pointwise [val_main_v0, val_main_call0_v0, val_main_c]
  rw [zero_int]

/-- The reference's result at a time is the sum of the padded row up to that time. -/
theorem res_at (x : S32x8x8.Idx → EReal) (b : Fin 32) (a : Fin 8) (j : Fin 128) :
    val_main_v2 (F := Ideal) x (ix3 b a j) = ∑ i ∈ Finset.range (j.val + 1), at_ (val_main_v0 (F := Ideal) x) b a i := by
  have z0 : val_main_call1_call0_v0 (F := Ideal) (Shape.Idx.first h_S_) = (0 : EReal) := by
    simp only [val_main_call1_call0_v0_apply, val_main_call1_call0_cst_apply]
    exact zero_bits
  rw [val_main_v2_apply]
  generalize hx : val_main_v0 (F := Ideal) x = w
  unfold val_main_v1 Host.reduceWindowAdd
  rw [hx]
  have e : idx_main_v2 (ix3 b a j) = ix3 b j a := funext fun d => match d with
    | ⟨0, _⟩ => rfl
    | ⟨1, _⟩ => rfl
    | ⟨2, _⟩ => rfl
  rw [e]
  show Ideal.hostReduceWindowAdd _ _ _ _ _ w (val_main_call1_call0_v0 (F := Ideal) (Shape.Idx.first h_S_)) (ix3 b j a) = _
  rw [z0]
  exact running (by rfl) w _ b a j

end Cert.Reference9Ideal.Scan9

end
-- ==== Proof.Scan9.lean ====
module

public import proofs.«01_k».proof.Proof.Gen.Kernel9Ideal.Value
public import proofs.«01_k».proof.Proof.Scan9Ref
public import Idealize.ShloMosaic.Lib.Pipeline.ValueKit
public import Idealize.ShloMosaic.Lib.Pipeline.ReadBack

@[expose] public section

set_option maxRecDepth 16384

noncomputable section

/-! # The sample batch's prefix sum: what its result array ends holding

A grid point does one whole batch entry, its eight times padded to 128, so nothing is carried from point to point. -/

namespace Cert.Kernel9Ideal.Scan9

open Cert.Kernel9Ideal Cert.Kernel9Ideal.Gen Idealize.ShloMosaic Idealize.ShloMosaic.TcCoe Idealize.SL.Sem
open Idealize.ShloMosaic.Pipeline (Dat)
open Cert.Sums Cert.Reference9Ideal.Read Cert.Reference9Ideal.Scan9

/-- The carried sums start at zero. -/
theorem zero_at (j : S8x128.Idx) : k0_pay1 (F := Ideal) j = (0 : EReal) := by
  idx_vars j
  pointwise [k0_pay1]

/-- A point stores its block's sums on top of zero. -/
theorem stored (c : Dev nD) (i : grid0.Coords) (arg2 : Memref sig .tc .vmem S1x8x128 .f32) (harg2 : arg2.IsWhole)
    (arg3 : Memref sig .tc .vmem S128x128 .bf16) (harg3 : arg3.IsWhole) (arg4 : Memref sig .tc .vmem S1x8x128 .f32) (harg4 : arg4.IsWhole)
    (arg5 : Memref sig .tc .vmem S8x128 .f32) (harg5 : arg5.IsWhole) (hc : cond0_0 i)
    (x0 : Vec Ideal S1x8x128 .f32) (x1 : Vec Ideal S128x128 .bf16) :
    out0_A_2 c i arg2 harg2 arg3 harg3 arg4 harg4 arg5 harg5 hc x0 x1 = k0_pay3 x0 x1 (fun _ => (0 : EReal)) := by
  unfold out0_A_2
  rw [View.read_writes_eq_canon _ _ _ (cover0_A_2 c i arg2 harg2 arg3 harg3 arg4 harg4 arg5 harg5 hc x0 x1)]
  unfold kernelRun0_A
  dsimp only
  sl_unfold_words
  rw [View.canon_unit_zero hz3, rdFill _ _ _ _ zero_at]
  simp only [View.readAt_eq_ld, harg2.read_unread, harg3.read_unread, View.ld_unit_zero (S := S1x8x128) hz3, View.ld_unit_zero (S := S128x128) hz2]
  rfl

/-- A block's sums at an entry, from its row and the triangle's column. -/
theorem sums_at (x0 : Vec Ideal S1x8x128 .f32) (x1 : Vec Ideal S128x128 .bf16) (X T : Fin 128 → EReal) (a : Fin 8) (q : Fin 128)
    (hX : ∀ p, x0 (ix3 0 a p) = X p) (hT : ∀ p, x1 (ix2 p q) = T p) :
    k0_pay3 x0 x1 (fun _ => (0 : EReal)) (ix3 0 a q)
      = (∑ p, X p * T p) + (∑ p, (X p - X p) * T p) + (∑ p, ((X p - X p) - (X p - X p)) * T p) := by
  have e : k0_pay3 x0 x1 (fun _ => (0 : EReal)) (ix3 0 a q) = k0_pay2 x0 x1 (fun _ => (0 : EReal)) (ix2 a q) := by
    unfold k0_pay3
    generalize k0_pay2 x0 x1 (fun _ => (0 : EReal)) = w
    pointwise
  rw [e]
  pointwise [k0_pay2]
  simp only [hX, hT, add_zero]
  refine congrArg (fun z => (∑ p, X p * T p) + (∑ p, (X p - X p) * T p) + z) (Finset.sum_congr rfl fun p _ => ?_)
  rw [dif_neg (by omega), dif_neg (by omega)]
  simp only [show ∀ h : 16 + a.val - 8 - 8 < 8, (⟨16 + a.val - 8 - 8, h⟩ : Fin 8) = a from fun h => Fin.ext (by simp; omega)]
  rw [hX]

variable (m : (ℓ : Loc nD τ sig) → Buf (Elt Ideal) ℓ) (ρ : Dev nD → PrngReg)

/-- Where each window's block lies at a grid point: its batch entry. -/
theorem idx : ∀ t : Fin cfg0.N,
    win0_0.index t 0 = t.val ∧ win0_0.index t 1 = 0 ∧ win0_0.index t 2 = 0
    ∧ win0_1.index t 0 = 0 ∧ win0_1.index t 1 = 0
    ∧ win0_2.index t 0 = t.val ∧ win0_2.index t 1 = 0 ∧ win0_2.index t 2 = 0 :=
  (by decide +kernel : ∀ t : Fin grid0.N, _)

/-- The batch entry of a grid point. -/
abbrev bt (t : Fin cfg0.N) : Fin 32 := ⟨t.val, t.isLt⟩

/-- The argument, as a function of an index. -/
abbrev X (c : Dev nD) : S32x8x8.Idx → EReal := m ((c : Thread nD τ).loc main_arg0)

/-- A point's block is the reference's padded row, turned. -/
theorem blk0 (c : Dev nD) (t : Fin cfg0.N) (a : Fin 8) (b : Fin 128) :
    iblk m c 0 t (ix3 0 a b) = val_main_v0 (F := Ideal) (X m c) (ix3 (bt t) b a) := by
  have h : iblk m c 0 t (ix3 0 a b) = V m c main_v1 (ix3 (bt t) a b) := by
    show V m c main_v1 _ = _
    refine congrArg (V m c main_v1) ?_
    blk_ext [idx t]
  rw [h, pad_at]
  simp only [V, List.flatten, List.append_eq, List.cons_append, List.nil_append, List.append_nil, hostOps0, hostOps0_1, hostOps0_2, StableHlo.TRef.binary, StableHlo.TRef.unary, StableHlo.TRef.nullary, StableHlo.TRef.ternary, StableHlo.TRef.toBuf, StableHlo.TRef.ofBuf, cast_eq]
  after_results_simp
  pointwise
  rw [zero_int]
  rfl

/-- The matrix the host builds has a one on and above the diagonal, and zeros below. -/
theorem blk1 (c : Dev nD) (t : Fin cfg0.N) (p q : Fin 128) :
    iblk m c 1 t (ix2 p q) = if p.val ≤ q.val then (1 : EReal) else 0 := by
  have h : iblk m c 1 t (ix2 p q) = V m c main_v9 (ix2 p q) := by
    show V m c main_v9 _ = _
    refine congrArg (V m c main_v9) ?_
    blk_ext [idx t]
  rw [h]
  simp only [V, List.flatten, List.append_eq, List.cons_append, List.nil_append, List.append_nil, hostOps0, hostOps0_1, hostOps0_2, StableHlo.TRef.binary, StableHlo.TRef.unary, StableHlo.TRef.nullary, StableHlo.TRef.ternary, StableHlo.TRef.toBuf, StableHlo.TRef.ofBuf, cast_eq]
  after_results_simp
  pointwise
  have hp := p.isLt
  have hq := q.isLt
  exact bit_le p.val q.val (by omega) (by omega)

/-- Where the argument is below infinity, so are the padded rows. -/
theorem pad_lt (x : S32x8x8.Idx → EReal) (hlt : ∀ i, x i ≠ ⊤) (b : Fin 32) (j : Fin 128) (a : Fin 8) :
    val_main_v0 (F := Ideal) x (ix3 b j a) ≠ ⊤ := by
  rw [pad_at]
  split
  · exact hlt _
  · exact EReal.zero_ne_top

/-- Each point's output block is the padded row's sums up to each of its entries. -/
theorem out_at (c : Dev nD) (hlt : ∀ i, X m c i ≠ ⊤) (t : Fin cfg0.N) (a : Fin 8) (q : Fin 128) :
    outsAt0 m c t (ix3 0 a q) = ∑ i ∈ Finset.range (q.val + 1), at_ (val_main_v0 (F := Ideal) (X m c)) (bt t) a i := by
  have e : ∀ p : Fin 128, at_ (val_main_v0 (F := Ideal) (X m c)) (bt t) a (0 + p.val) = val_main_v0 (F := Ideal) (X m c) (ix3 (bt t) p a) := fun p => by
    have hp := p.isLt
    unfold at_
    rw [dif_pos (by omega)]
    exact congrArg (fun p' => val_main_v0 (F := Ideal) (X m c) (ix3 (bt t) p' a)) (Fin.ext (Nat.zero_add _))
  unfold outsAt0
  rw [stored, sums_at _ _ (fun p => at_ (val_main_v0 (F := Ideal) (X m c)) (bt t) a (0 + p.val)) (fun p => if p.val ≤ q.val then 1 else 0) a q
      (fun p => (blk0 m c t a p).trans (e p).symm) (fun p => blk1 m c t p q),
    three _ _ q.val (fun p => by rw [e]; exact pad_lt _ hlt _ _ _) (fun p => rfl)]
  have s := extend (at_ (val_main_v0 (F := Ideal) (X m c)) (bt t) a) 0 q.val q.isLt
  rwa [Finset.range_zero, Finset.sum_empty, add_zero, Nat.zero_add] at s

theorem emb2 (t : Fin cfg0.N) (a : Fin 8) (b : Fin 128) : (win0_2.blk t).view.emb (ix3 0 a b) = ix3 (bt t) a b := by blk_ext [idx t]

/-- The result array ends at the reference's, where no entry of the argument is infinity. -/
theorem final2 (c : Dev nD) (hlt : ∀ i, X m c i ≠ ⊤) : (dats m 0 c).arrAt 2 cfg0.N = val_main_v2 (F := Ideal) (X m c) := by
  refine (dats m 0 c).arrAt_eq_of_covers 2 _ (by decide +kernel) fun t hf y => ?_
  blk_simp
  rw [after0_2]
  idx_vars y
  obtain rfl : y0 = 0 := Subsingleton.elim _ _
  erw [emb2]
  rw [out_at m c hlt t y1 y2]
  exact (res_at (X m c) (bt t) y1 y2).symm

end Cert.Kernel9Ideal.Scan9

end
-- ==== Proof.Scan9Claim.lean ====
module

public import proofs.«01_k».proof.Defs
public import proofs.«01_k».proof.Proof.Scan9
public import proofs.«01_k».proof.Proof.ScanClaim
public import proofs.«01_k».proof.Proof.Gen.Kernel9.Frame
public import proofs.«01_k».proof.Proof.Gen.Pre_sample_logf_below_inf

@[expose] public section

set_option maxRecDepth 16384

noncomputable section

/-! # The sample batch's prefix sum: the claims -/

namespace Cert.Proof.Scan9

open Idealize.ShloMosaic Idealize.ShloMosaic.TcCoe Idealize.SL.Sem

/-- The kernel leaves its arguments and its counters as the claim says. -/
theorem frame_k : Cert.quiescent_Kernel9 := fun m ρ _ => Cert.Kernel9.Gen.frame m ρ
/-- So does its ideal reading, -/
theorem frame_ki : Cert.quiescent_Kernel9Ideal := fun m ρ _ => Cert.Kernel9Ideal.Gen.frame m ρ
/-- the same under the claim's precondition, -/
theorem frame_ki_pre [Cert.Pre_sample_logf_below_inf.Facts] : Cert.quiescent_Kernel9Ideal_pre_sample_logf_below_inf := fun m ρ _ => Cert.Kernel9Ideal.Gen.frame m ρ
/-- and so does the reference. -/
theorem frame_ri : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)
/-- the same under the claim's precondition. -/
theorem frame_ri_pre [Cert.Pre_sample_logf_below_inf.Facts] : Cert.quiescent_Reference9Ideal_pre_sample_logf_below_inf := fun m ρ _ => frame_ri m ρ trivial

/-- The ideal pass rewrote nothing. -/
theorem preserves : Cert.preserves_Kernel9_Kernel9Ideal := trivial

open Cert.Kernel9Ideal in
/-- The precondition says that no entry is infinity. -/
theorem args_lt [Cert.Pre_sample_logf_below_inf.Facts] (m : (ℓ : Loc nD τ sig) → Buf (Elt Ideal) ℓ) (hp : Cert.Pre_Kernel9Ideal_sample_logf_below_inf m)
    (c : Dev nD) : ∀ i, Cert.Kernel9Ideal.Scan9.X m c i ≠ ⊤ := by
  have e := congrFun (hp c) (Shape.Idx.first Cert.Pre_sample_logf_below_inf.Facts.h_S_)
  have hs : Subsingleton Cert.Pre_sample_logf_below_inf.S_.Idx := ⟨fun x y => funext fun q => q.elim0⟩
  simp only [Cert.Pre_sample_logf_below_inf.fn] at e
  exact fun i => Cert.Proof.Scan.ne_top_of_test (Host.reduce_andi_all _ _ _ _ _ e i)

/-- Over the extended reals the kernel and the reference end with the same result, where no entry is infinity. -/
theorem algebraic [Cert.Pre_sample_logf_below_inf.Facts] : Cert.algebraic_Kernel9Ideal_Reference9Ideal_pre_sample_logf_below_inf := by
  intro m ρ m' ρ' hp hag
  refine ⟨fun c => Cert.Reference9Ideal.Read.val_main_v2 (F := Ideal) (Cert.Kernel9Ideal.Scan9.X m c), ?_, ?_⟩
  · exact (θ_run Cert.Kernel9Ideal.defs _ _).mono (fun r h c => ⟨(h c).1.trans (Cert.Kernel9Ideal.Scan9.final2 m c (args_lt m hp c)), (h c).2⟩)
      (Cert.Kernel9Ideal.Value.run_blocks (F := Ideal) m ρ)
  · refine (θ_run Cert.Reference9Ideal.defs _ _).mono (fun r h c => ?_) (Cert.Reference9Ideal.Value.run (F := Ideal) m' ρ')
    have h0 := hag c
    beta_reduce
    unfold Cert.Kernel9Ideal.Scan9.X
    rw [← h0]
    exact ⟨(h c).1.trans (Cert.Reference9Ideal.Read.val_main_v2_eq _), (h c).2⟩

end Cert.Proof.Scan9

end
-- ==== Proof.Split.lean ====
module

public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

/-! # The split of the interleaved gate and up weights: what its two result arrays end holding -/

namespace Cert.Kernel7Ideal.SplitValue

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block lies at a grid point: expert `t / 4`, columns from `t % 4` blocks on. -/
theorem idx : ∀ t : Fin cfg0.N,
    win0_0.index t 0 = t.val / 4 ∧ win0_0.index t 1 = 0 ∧ win0_0.index t 2 = t.val % 4
    ∧ win0_1.index t 0 = 0 ∧ win0_1.index t 1 = 0
    ∧ win0_2.index t 0 = t.val / 4 ∧ win0_2.index t 1 = 0 ∧ win0_2.index t 2 = t.val % 4
    ∧ win0_3.index t 0 = t.val / 4 ∧ win0_3.index t 1 = 0 ∧ win0_3.index t 2 = t.val % 4 :=
  (by decide +kernel : ∀ t : Fin grid0.N, _)

/-- The expert of a grid point. -/
abbrev ex (t : Fin cfg0.N) : Fin 32 := ⟨t.val / 4, by have h : t.val < 128 := t.isLt; omega⟩
/-- The column of the whole weight that is column `b` of the point's block. -/
abbrev col (t : Fin cfg0.N) (b : Fin 512) : Fin 2048 := ⟨t.val % 4 * 512 + b.val, by have := b.isLt; omega⟩
/-- The column of a result that is column `b` of the point's block. -/
abbrev hcol (t : Fin cfg0.N) (b : Fin 256) : Fin 1024 := ⟨t.val % 4 * 256 + b.val, by have := b.isLt; omega⟩

theorem blk0 (c : Dev nD) (t : Fin cfg0.N) (a : Fin 1024) (b : Fin 512) :
    iblk m c 0 t (ix3 0 a b) = m ((c : Thread nD τ).loc main_arg0) (ix3 (ex t) a (col t b)) := by
  blk_ext [iblk, V, idx t]

/-- The column to which column `p` of a block goes: the even ones to the first half, the odd ones to the second. -/
def dest (p : ℕ) : ℕ := if p % 2 = 0 then p / 2 else 256 + p / 2

/-- The matrix the host builds has a one where the column is the row's destination, and zeros elsewhere. -/
theorem blk1 (c : Dev nD) (t : Fin cfg0.N) (p q : Fin 512) :
    iblk m c 1 t (ix2 p q) = if dest p.val = q.val then (1 : EReal) else 0 := by
  have h : iblk m c 1 t (ix2 p q) = V m c main_v14 (ix2 p q) := by
    show V m c main_v14 _ = _
    refine congrArg (V m c main_v14) ?_
    blk_ext [idx t]
  rw [h]
  simp only [V, List.flatten, List.append_eq, List.cons_append, List.nil_append, List.append_nil, hostOps0, hostOps0_1,
    hostOps0_2, hostOps0_3, hostOps0_4, hostOps0_5, hostOps0_6, hostOps0_7, hostOps0_8, StableHlo.TRef.binary, StableHlo.TRef.unary, StableHlo.TRef.nullary, StableHlo.TRef.ternary, StableHlo.TRef.toBuf, StableHlo.TRef.ofBuf, cast_eq]
  after_results_simp
  pointwise
  refine (congrArg (fun z => FloatOps.uitofp (F := Ideal) .bf16 (IntOp.cmpi .eq z (BitVec.ofNat 32 q.val)))
    (?_ : _ = BitVec.ofNat 32 (dest p.val))).trans ?_
  · clear h
    revert p
    decide +kernel
  · have hp : dest p.val < 512 := by unfold dest; have := p.isLt; split <;> omega
    have hq := q.isLt
    by_cases e : dest p.val = q.val
    · rw [if_pos e, e]
      rw [show IntOp.cmpi .eq (BitVec.ofNat 32 q.val) (BitVec.ofNat 32 q.val) = 1#1 from by simp [IntOp.cmpi]]
      show (((1#1 : BitVec 1).toNat : ℝ) : EReal) = 1
      norm_num
    · rw [if_neg e]
      have hne : BitVec.ofNat 32 (dest p.val) ≠ BitVec.ofNat 32 q.val := fun h' => e (by
        have := congrArg BitVec.toNat h'
        simp only [BitVec.toNat_ofNat] at this
        omega)
      rw [show IntOp.cmpi .eq (BitVec.ofNat 32 (dest p.val)) (BitVec.ofNat 32 q.val) = 0#1 from by simp [IntOp.cmpi, beq_eq_false_iff_ne.mpr hne]]
      show (((0#1 : BitVec 1).toNat : ℝ) : EReal) = 0
      norm_num

/-- So a row times the matrix has, at a column's destination, that column of the row. -/
theorem pick (X W : Fin 512 → EReal) (p q : Fin 512) (h : dest p.val = q.val)
    (hW : ∀ x : Fin 512, W x = if dest x.val = q.val then 1 else 0) : ∑ x, X x * W x = X p := by
  rw [Finset.sum_eq_single p, hW, if_pos h, mul_one]
  · intro x _ hx
    rw [hW, if_neg, mul_zero]
    intro hq
    refine hx (Fin.ext ?_)
    have h1 := x.isLt
    have h2 := p.isLt
    have h3 := q.isLt
    unfold dest at h hq
    split at h <;> split at hq <;> omega
  · intro hn
    exact absurd (Finset.mem_univ _) hn

theorem emb2 (t : Fin cfg0.N) (a : Fin 1024) (b : Fin 256) :
    (win0_2.blk t).view.emb (ix3 0 a b) = ix3 (ex t) a (hcol t b) := by blk_ext [idx t]
theorem emb3 (t : Fin cfg0.N) (a : Fin 1024) (b : Fin 256) :
    (win0_3.blk t).view.emb (ix3 0 a b) = ix3 (ex t) a (hcol t b) := by blk_ext [idx t]

section
open Cert.Reference7Ideal.Read

/-- The first result array ends at the even columns. -/
theorem final2 (c : Dev nD) : (dats m 0 c).arrAt 2 cfg0.N
    = val_main_v1 (F := Ideal) (m ((c : Thread nD τ).loc main_arg0)) := by
  refine (dats m 0 c).arrAt_eq_of_covers 2 _ (by decide +kernel) fun t hf y => ?_
  blk_simp
  rw [after0_2]
  frame_out
  idx_vars y
  obtain rfl : y0 = 0 := Subsingleton.elim _ _
  erw [emb2]
  pointwise [k0_pay2, k0_pay1, val_main_v1, val_main_v0]
  refine (pick (fun x => iblk m c 0 t (ix3 0 y1 x)) (fun x => iblk m c 1 t (ix2 x _)) ⟨2 * y2.val, by have := y2.isLt; omega⟩ _ ?_
    fun x => blk1 m c t x _).trans ((blk0 m c t y1 _).trans ?_)
  · show dest (2 * y2.val) = y2.val
    unfold dest
    split <;> omega
  · refine congrArg (fun z => m ((c : Thread nD τ).loc main_arg0) (ix3 (ex t) y1 z)) (Fin.ext ?_)
    show t.val % 4 * 512 + 2 * y2.val = 2 * (t.val % 4 * 256 + y2.val)
    omega

/-- The second ends at the odd ones. -/
theorem final3 (c : Dev nD) : (dats m 0 c).arrAt 3 cfg0.N
    = val_main_v3 (F := Ideal) (m ((c : Thread nD τ).loc main_arg0)) := by
  refine (dats m 0 c).arrAt_eq_of_covers 3 _ (by decide +kernel) fun t hf y => ?_
  blk_simp
  rw [after0_3]
  frame_out
  idx_vars y
  obtain rfl : y0 = 0 := Subsingleton.elim _ _
  erw [emb3]
  pointwise [k0_pay3, k0_pay1, val_main_v3, val_main_v2]
  refine (pick (fun x => iblk m c 0 t (ix3 0 y1 x)) (fun x => iblk m c 1 t (ix2 x _)) ⟨2 * y2.val + 1, by have := y2.isLt; omega⟩ _ ?_
    fun x => blk1 m c t x _).trans ((blk0 m c t y1 _).trans ?_)
  · show dest (2 * y2.val + 1) = 256 + y2.val
    unfold dest
    split <;> omega
  · refine congrArg (fun z => m ((c : Thread nD τ).loc main_arg0) (ix3 (ex t) y1 z)) (Fin.ext ?_)
    show t.val % 4 * 512 + (2 * y2.val + 1) = 1 + 2 * (t.val % 4 * 256 + y2.val)
    omega

end

end Cert.Kernel7Ideal.SplitValue

end
-- ==== Proof.SplitClaim.lean ====
module

public import proofs.«01_k».proof.Defs
public import proofs.«01_k».proof.Proof.Split
public import proofs.«01_k».proof.Proof.Gen.Kernel7.Frame

@[expose] public section

set_option maxRecDepth 16384

noncomputable section

/-! # The split of the interleaved weights: the claims -/

namespace Cert.Proof.Split

open Idealize.ShloMosaic Idealize.ShloMosaic.TcCoe Idealize.SL.Sem

/-- The kernel leaves its arguments and its counters as the claim says. -/
theorem frame_k : Cert.quiescent_Kernel7 := fun m ρ _ => Cert.Kernel7.Gen.frame m ρ
/-- So does its ideal reading, -/
theorem frame_ki : Cert.quiescent_Kernel7Ideal := fun m ρ _ => Cert.Kernel7Ideal.Gen.frame m ρ
/-- and so does the reference. -/
theorem frame_ri : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- The ideal pass rewrote nothing. -/
theorem preserves : Cert.preserves_Kernel7_Kernel7Ideal := trivial

/-- Over the extended reals the kernel and the reference end with the same results. -/
theorem algebraic : Cert.algebraic_Kernel7Ideal_Reference7Ideal := by
  intro m ρ m' ρ' _ hag
  refine ⟨fun c => Cert.Reference7Ideal.Read.val_main_v1 (F := Ideal) (m ((c.tc : Thread Cert.Kernel7Ideal.nD Cert.Kernel7Ideal.τ).loc Cert.Kernel7Ideal.main_arg0)),
    fun c => Cert.Reference7Ideal.Read.val_main_v3 (F := Ideal) (m ((c.tc : Thread Cert.Kernel7Ideal.nD Cert.Kernel7Ideal.τ).loc Cert.Kernel7Ideal.main_arg0)), ?_, ?_⟩
  · exact (θ_run Cert.Kernel7Ideal.defs _ _).mono (fun r h c => ⟨(h c).1.trans (Cert.Kernel7Ideal.SplitValue.final2 m c),
      (h c).2.1.trans (Cert.Kernel7Ideal.SplitValue.final3 m c), (h c).2.2⟩) (Cert.Kernel7Ideal.Value.run_blocks (F := Ideal) m ρ)
  · refine (θ_run Cert.Reference7Ideal.defs _ _).mono (fun r h c => ?_) (Cert.Reference7Ideal.Value.run (F := Ideal) m' ρ')
    have h0 := hag c
    beta_reduce
    rw [← h0]
    exact ⟨(h c).1.trans (Cert.Reference7Ideal.Read.val_main_v1_eq _), (h c).2.1.trans (Cert.Reference7Ideal.Read.val_main_v3_eq _), (h c).2.2⟩

end Cert.Proof.Split

end
-- ==== Proof.Out8.lean ====
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

/-! # The out projection of the sample batch: one grid point, whose blocks are the whole arrays -/

namespace Cert.Kernel8Ideal.OutValue

open Cert.Kernel8Ideal Cert.Kernel8Ideal.Gen Idealize.ShloMosaic Idealize.ShloMosaic.TcCoe Idealize.SL.Sem
open Idealize.ShloMosaic.Pipeline (Dat)
open Cert.Reference8Ideal.Read

variable (m : (ℓ : Loc nD τ sig) → Buf (Elt Ideal) ℓ) (ρ : Dev nD → PrngReg)

/-- Every window's block lies at the start of its array, there being one grid point. -/
theorem idx : ∀ t : Fin cfg0.N,
    (∀ k, win0_0.index t k = 0) ∧ (∀ k, win0_1.index t k = 0) ∧ (∀ k, win0_2.index t k = 0)
    ∧ (∀ k, win0_3.index t k = 0) ∧ (∀ k, win0_4.index t k = 0) ∧ (∀ k, win0_5.index t k = 0)
    ∧ (∀ k, win0_6.index t k = 0) ∧ (∀ k, win0_7.index t k = 0) ∧ (∀ k, win0_8.index t k = 0)
    ∧ (∀ k, win0_9.index t k = 0) ∧ (∀ k, win0_10.index t k = 0) ∧ (∀ k, win0_11.index t k = 0)
    ∧ (∀ k, win0_12.index t k = 0) ∧ (∀ k, win0_13.index t k = 0) :=
  (by decide +kernel : ∀ t : Fin grid0.N, _)

/-- The five operands that are blocked by rows: each block is the whole argument. -/
theorem rows (c : Dev nD) (t : Fin cfg0.N) :
    (∀ a b, iblk m c 0 t (ix2 a b) = m ((c : Thread nD τ).loc main_arg0) (ix2 a b))
    ∧ (∀ a b, iblk m c 1 t (ix2 a b) = m ((c : Thread nD τ).loc main_arg1) (ix2 a b))
    ∧ (∀ a b, iblk m c 2 t (ix2 a b) = m ((c : Thread nD τ).loc main_arg2) (ix2 a b))
    ∧ (∀ a b, iblk m c 3 t (ix2 a b) = m ((c : Thread nD τ).loc main_arg3) (ix2 a b))
    ∧ (∀ a b, iblk m c 4 t (ix2 a b) = m ((c : Thread nD τ).loc main_arg4) (ix2 a b)) := by
  refine ⟨fun a b => ?_, fun a b => ?_, fun a b => ?_, fun a b => ?_, fun a b => ?_⟩ <;> blk_ext [iblk, V, idx t]

/-- What the host lines leave for the six weight operands: the arguments without their leading axis, the router's padded
to 128 lanes. -/
theorem host (c : Dev nD) :
    (∀ a b, V m c main_v7 (ix2 a b) = m ((c : Thread nD τ).loc main_arg5) (ix3 0 a b))
    ∧ (∀ a b, V m c main_v9 (ix2 a b) = m ((c : Thread nD τ).loc main_arg6) (ix3 0 a b))
    ∧ (∀ a b, V m c main_v11 (ix2 a b) = m ((c : Thread nD τ).loc main_arg7) (ix3 0 a b))
    ∧ (∀ a b, V m c main_v13 (ix2 a b) = m ((c : Thread nD τ).loc main_arg8) (ix2 0 b))
    ∧ (∀ a b, V m c main_v2 (ix2 a b) = val_main_v27 (F := Ideal) (m ((c : Thread nD τ).loc main_arg9)) (ix2 a b))
    ∧ (∀ a b, V m c main_v5 (ix2 a b) = val_main_v29 (F := Ideal) (m ((c : Thread nD τ).loc main_arg10)) (ix1 b)) := by
  refine ⟨fun a b => ?_, fun a b => ?_, fun a b => ?_, fun a b => ?_, fun a b => ?_, fun a b => ?_⟩ <;>
  · simp only [V, List.flatten, List.append_eq, List.cons_append, List.nil_append, List.append_nil, hostOps0,
    hostOps0_1,
      hostOps0_2, hostOps0_3, hostOps0_4, StableHlo.TRef.binary, StableHlo.TRef.unary, StableHlo.TRef.toBuf,
      StableHlo.TRef.ofBuf, cast_eq]
    after_results_simp
    pointwise [val_main_v27, val_main_v29, val_main_v26, val_main_v28, val_main_call0_v0, val_main_call1_v0, val_main_c,
      val_main_c_2]
    try rfl

/-- The weight operands' blocks are those arrays whole: the merge's, the output's and the norm's, -/
theorem weights (c : Dev nD) (t : Fin cfg0.N) :
    (∀ a b, iblk m c 5 t (ix2 a b) = m ((c : Thread nD τ).loc main_arg5) (ix3 0 a b))
    ∧ (∀ a b, iblk m c 6 t (ix2 a b) = m ((c : Thread nD τ).loc main_arg6) (ix3 0 a b))
    ∧ (∀ a b, iblk m c 7 t (ix2 a b) = m ((c : Thread nD τ).loc main_arg7) (ix3 0 a b))
    ∧ (∀ a b, iblk m c 8 t (ix2 a b) = m ((c : Thread nD τ).loc main_arg8) (ix2 0 b)) := by
  obtain ⟨h5, h6, h7, h8, -⟩ := host m c
  refine ⟨fun a b => .trans ?_ (h5 a b), fun a b => .trans ?_ (h6 a b), fun a b => .trans ?_ (h7 a b),
    fun a b => .trans ?_ (h8 a b)⟩
  · exact congrArg (V m c main_v7) (by blk_ext [idx t] : (win0_5.blk t).view.emb (ix2 a b) = ix2 a b)
  · exact congrArg (V m c main_v9) (by blk_ext [idx t] : (win0_6.blk t).view.emb (ix2 a b) = ix2 a b)
  · exact congrArg (V m c main_v11) (by blk_ext [idx t] : (win0_7.blk t).view.emb (ix2 a b) = ix2 a b)
  · exact congrArg (V m c main_v13) (by blk_ext [idx t] : (win0_8.blk t).view.emb (ix2 a b) = ix2 a b)

/-- and the router's. -/
theorem router (c : Dev nD) (t : Fin cfg0.N) :
    (∀ a b, iblk m c 9 t (ix2 a b) = val_main_v27 (F := Ideal) (m ((c : Thread nD τ).loc main_arg9)) (ix2 a b))
    ∧ (∀ a b, iblk m c 10 t (ix2 a b) = val_main_v29 (F := Ideal) (m ((c : Thread nD τ).loc main_arg10)) (ix1 b)) := by
  obtain ⟨-, -, -, -, h9, h10⟩ := host m c
  refine ⟨fun a b => .trans ?_ (h9 a b), fun a b => .trans ?_ (h10 a b)⟩
  · exact congrArg (V m c main_v2) (by blk_ext [idx t] : (win0_9.blk t).view.emb (ix2 a b) = ix2 a b)
  · exact congrArg (V m c main_v5) (by blk_ext [idx t] : (win0_10.blk t).view.emb (ix2 a b) = ix2 a b)

theorem emb11 (t : Fin cfg0.N) (a : Fin 256) (b : Fin 1024) : (win0_11.blk t).view.emb (ix2 a b) = ix2 a b := by
  blk_ext [idx t]
theorem emb12 (t : Fin cfg0.N) (a : Fin 256) (b : Fin 1024) : (win0_12.blk t).view.emb (ix2 a b) = ix2 a b := by
  blk_ext [idx t]
theorem emb13 (t : Fin cfg0.N) (a : Fin 256) (b : Fin 128) : (win0_13.blk t).view.emb (ix2 a b) = ix2 a b := by
  blk_ext [idx t]

/-- The first result array ends at the reference's residual sum. -/
theorem final11 (c : Dev nD) : (dats m 0 c).arrAt 11 cfg0.N
    = val_main_v11 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  refine (dats m 0 c).arrAt_eq_of_covers 11 _ (by decide +kernel) fun t hf y => ?_
  obtain ⟨r0, r1, r2, r3, r4⟩ := rows m c t
  obtain ⟨w5, w6, w7, w8⟩ := weights m c t
  blk_simp
  rw [after0_11]
  frame_out
  idx_vars y
  erw [emb11]
  pointwise [k0_pay3, val_main_v11, val_main_v10, val_main_v9, val_main_v8, val_main_v7, val_main_v6, val_main_v5,
    val_main_v4, val_main_v3, val_main_v2, val_main_v1, val_main_v0]
  simp only [r0, r1, r2, r3, r4, w5, w6, w7]

/-- The second ends at its root-mean-square norm. -/
theorem final12 (c : Dev nD) : (dats m 0 c).arrAt 12 cfg0.N
    = val_main_v25 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) := by
  refine (dats m 0 c).arrAt_eq_of_covers 12 _ (by decide +kernel) fun t hf y => ?_
  obtain ⟨r0, r1, r2, r3, r4⟩ := rows m c t
  obtain ⟨w5, w6, w7, w8⟩ := weights m c t
  blk_simp
  rw [after0_12]
  frame_out
  idx_vars y
  erw [emb12]
  pointwise [k0_pay6, k0_pay7, k0_pay1, k0_pay5, k0_pay4, k0_pay3, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0,
    val_main_cst, val_main_cst_0, val_main_cst_1]
  simp only [r0, r1, r2, r3, r4, w5, w6, w7, w8]

/-- The third ends at the router's product of the norm, its lanes past the experts at zero. -/
theorem final13 (c : Dev nD) : (dats m 0 c).arrAt 13 cfg0.N
    = val_main_v33 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) := by
  refine (dats m 0 c).arrAt_eq_of_covers 13 _ (by decide +kernel) fun t hf y => ?_
  obtain ⟨r0, r1, r2, r3, r4⟩ := rows m c t
  obtain ⟨w5, w6, w7, w8⟩ := weights m c t
  obtain ⟨w9, w10⟩ := router m c t
  blk_simp
  rw [after0_13]
  frame_out
  idx_vars y
  erw [emb13]
  pointwise [k0_pay6, k0_pay7, k0_pay2, k0_pay1, k0_pay5, k0_pay4, k0_pay3, val_main_v33,
    val_main_v32, val_main_v31, val_main_v30, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1]
  simp only [r0, r1, r2, r3, r4, w5, w6, w7, w8, w9, w10]

end Cert.Kernel8Ideal.OutValue

end
-- ==== Proof.OutClaim8.lean ====
module

public import proofs.«01_k».proof.Defs
public import proofs.«01_k».proof.Proof.Out8
public import proofs.«01_k».proof.Proof.Gen.Kernel8.Frame

@[expose] public section

set_option maxRecDepth 16384

noncomputable section

/-! # The out projection of the sample batch: the claims -/

namespace Cert.Proof.Out8

open Idealize.ShloMosaic Idealize.ShloMosaic.TcCoe Idealize.SL.Sem
open Cert.Kernel8Ideal Cert.Kernel8Ideal.OutValue
open Cert.Reference8Ideal.Read (val_main_v11 val_main_v25 val_main_v33 val_main_v11_eq val_main_v25_eq val_main_v33_eq)

/-- The kernel leaves its arguments and its counters as the claim says. -/
theorem frame_k : Cert.quiescent_Kernel8 := fun m ρ _ => Cert.Kernel8.Gen.frame m ρ
/-- So does its ideal reading, -/
theorem frame_ki : Cert.quiescent_Kernel8Ideal := fun m ρ _ => Cert.Kernel8Ideal.Gen.frame m ρ
/-- and so does the reference. -/
theorem frame_ri : Cert.quiescent_Reference8Ideal := fun m ρ _ =>
  (θ_run Cert.Reference8Ideal.defs _ _).mono (fun r h => ⟨fun c => (h c).2.2.2,
      Idealize.ShloMosaic.sem_eq_zero_of_no_sems (by decide) r.2⟩)
    (Cert.Reference8Ideal.Value.run (F := Ideal) m ρ)

/-- The ideal pass rewrote nothing. -/
theorem preserves : Cert.preserves_Kernel8_Kernel8Ideal := trivial

/-- Over the extended reals the kernel and the reference end with the same results. -/
theorem algebraic : Cert.algebraic_Kernel8Ideal_Reference8Ideal := by
  intro m ρ m' ρ' _ hag
  refine ⟨_, _, _, (θ_run Cert.Kernel8Ideal.defs _ _).mono (fun r h c => ⟨(h c).1.trans (final11 m c),
    (h c).2.1.trans (final12 m c), (h c).2.2.1.trans (final13 m c), (h c).2.2.2⟩) (Value.run_blocks (F := Ideal) m ρ), ?_⟩
  refine (θ_run Cert.Reference8Ideal.defs _ _).mono (fun r h c => ?_) (Cert.Reference8Ideal.Value.run (F := Ideal) m' ρ')
  obtain ⟨h0, h1, h2, h3, h4, h5, h6, h7, h8, h9, h10⟩ := hag c
  beta_reduce
  rw [← h0, ← h1, ← h2, ← h3, ← h4, ← h5, ← h6, ← h7, ← h8, ← h9, ← h10]
  exact ⟨(h c).1.trans (val_main_v11_eq _ _ _ _ _ _ _ _), (h c).2.1.trans (val_main_v25_eq _ _ _ _ _ _ _ _ _),
    (h c).2.2.1.trans (val_main_v33_eq _ _ _ _ _ _ _ _ _ _ _), (h c).2.2.2⟩

end Cert.Proof.Out8

end
-- ==== Proof.lean ====
/- The proof of everything this directory claims, put together from the modules that prove each call's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Pre_fox_args_finite
public import proofs.«01_k».proof.Proof.Gen.Pre_prompt_args_finite
public import proofs.«01_k».proof.Proof.Gen.Pre_sample_args_finite
public import proofs.«01_k».proof.Proof.Gen.Pre_experts_in_range
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.FoxClaim
public import proofs.«01_k».proof.Proof.ProjClaim2
public import proofs.«01_k».proof.Proof.ProjClaim3
public import proofs.«01_k».proof.Proof.OutClaim
public import proofs.«01_k».proof.Proof.Gen.Reference5Ideal.Run
public import proofs.«01_k».proof.Proof.Gen.Reference5Ideal.Read
public import proofs.«01_k».proof.Proof.FfnClaim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_logf_below_inf
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_sample_logf_below_inf
public import proofs.«01_k».proof.Proof.Gen.Reference8Ideal
public import proofs.«01_k».proof.Proof.Gen.Reference8Ideal.Run
public import proofs.«01_k».proof.Proof.Gen.Reference8Ideal.Read
public import proofs.«01_k».proof.Proof.ScanClaim
public import proofs.«01_k».proof.Proof.Scan9Claim
public import proofs.«01_k».proof.Proof.SplitClaim
public import proofs.«01_k».proof.Proof.OutClaim8
public import Idealize.ShloMosaic.Adequacy
public import Idealize.ShloMosaic.Init

@[expose] public section

noncomputable section

namespace Cert.Proof

open Idealize.ShloMosaic Idealize.SL.Sem

/-- Everything claimed holds: the frames of the nine calls and of their references, and that each call computes what its
reference computes. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_fox_args_finite.Gen.facts, Cert.Pre_prompt_args_finite.Gen.facts, Cert.Pre_sample_args_finite.Gen.facts, Cert.Pre_experts_in_range.Gen.facts, Cert.Pre_logf_below_inf.Gen.facts, Cert.Pre_sample_logf_below_inf.Gen.facts,
  Fox.frame_k, Fox.frame_ki, Fox.frame_ki_pre, Fox.frame_ri, Fox.frame_ri_pre,
  Proj2.frame_k, Proj2.frame_ki, Proj2.frame_ki_pre, Proj2.frame_ri, Proj2.frame_ri_pre,
  Proj3.frame_k, Proj3.frame_ki, Proj3.frame_ki_pre, Proj3.frame_ri, Proj3.frame_ri_pre,
  Out.frame_k, Out.frame_ki, Out.frame_ri,
  Experts.frame_k, Experts.frame_ki, Experts.frame_ri,
  Scan.frame_k, Scan.frame_ki, Scan.frame_ki_pre, Scan.frame_ri, Scan.frame_ri_pre,
  Split.frame_k, Split.frame_ki, Split.frame_ri,
  Out8.frame_k, Out8.frame_ki, Out8.frame_ri,
  Scan9.frame_k, Scan9.frame_ki, Scan9.frame_ki_pre, Scan9.frame_ri, Scan9.frame_ri_pre,
  Fox.preserves, Fox.algebraic,
  Proj2.preserves, Proj2.algebraic, Proj3.preserves, Proj3.algebraic, Out.preserves, Out.algebraic,
  Experts.preserves, Experts.algebraic, Scan.preserves, Scan.algebraic, Split.preserves, Split.algebraic,
  Out8.preserves, Out8.algebraic, Scan9.preserves, Scan9.algebraic⟩

end Cert.Proof

end
